-- ==== Defs.lean ====
def Pre_Kernel [hPre_idx_in_table : Cert.Pre_idx_in_table.Facts] (m : (ℓ : Loc Cert.Kernel.nD Cert.Kernel.τ Cert.Kernel.sig) → Buf (Elt Bits) ℓ) : Prop :=
  ∀ c : Dev Cert.Kernel.nD,
    (Cert.Pre_idx_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_idx_in_table : Cert.Pre_idx_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "pad" .f32 0x7149F2CA#32 ⊤
  ∧ IdealRules.named_const.Statement Cert.KernelIdeal.κ "inv_log" .f32 0x3DB1E30A#32 (((Real.log 100001)⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_idx_in_table : Cert.Pre_idx_in_table.Facts) (hPre_inputs_ok : Cert.Pre_inputs_ok.Facts),
    quiescent_Kernel (hKernel := hKernel) (hPre_idx_in_table := hPre_idx_in_table)
    ∧ quiescent_KernelIdeal (hKernelIdeal := hKernelIdeal) (hPre_idx_in_table := hPre_idx_in_table)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_idx_in_table.lean ====
abbrev S100000x64 : Shape := ⟨2, ![100000, 64]⟩
abbrev S4096x64 : Shape := ⟨2, ![4096, 64]⟩
abbrev S4096x1 : Shape := ⟨2, ![4096, 1]⟩
abbrev S100000 : Shape := ⟨1, ![100000]⟩
abbrev S_ : Shape := ⟨0, ![]⟩

class Facts : Prop where
  bcast_S_S4096x1 : S_.BroadcastsInDim S4096x1 (![] : Fin 0 → Fin S4096x1.rank)

variable [Facts]

def fn {F : FTy → Type} [FloatOps F] (main_arg0 : FVec F S100000x64 .f32) (main_arg1 : FVec F S4096x64 .f32) (main_arg2 : IVec S4096x1 32) (main_arg3 : FVec F S100000 .f32) : IVec S4096x1 1 :=
  let main_c : IVec S_ 32 := constantI S_ 32 0#32
  let main_v0 : IVec S4096x1 32 := broadcastInDim S4096x1 ![] bcast_S_S4096x1 main_c
  let main_v1 : IVec S4096x1 1 := cmpi .sge main_arg2 main_v0
  let main_c_0 : IVec S_ 32 := constantI S_ 32 100000#32
  let main_v2 : IVec S4096x1 32 := broadcastInDim S4096x1 ![] bcast_S_S4096x1 main_c_0
  let main_v3 : IVec S4096x1 1 := cmpi .slt main_arg2 main_v2
  let main_v4 : IVec S4096x1 1 := andi main_v1 main_v3
  main_v4
-- ==== Pre_inputs_ok.lean ====
abbrev S100000x64 : Shape := ⟨2, ![100000, 64]⟩
abbrev S4096x64 : Shape := ⟨2, ![4096, 64]⟩
abbrev S4096x1 : Shape := ⟨2, ![4096, 1]⟩
abbrev S100000 : Shape := ⟨1, ![100000]⟩
abbrev S_ : Shape := ⟨0, ![]⟩

class Facts : Prop where
  bcast_S_S4096x1 : S_.BroadcastsInDim S4096x1 (![] : Fin 0 → Fin S4096x1.rank)
  bcast_S_S100000 : S_.BroadcastsInDim S100000 (![] : Fin 0 → Fin S100000.rank)
  bcast_S_S100000x64 : S_.BroadcastsInDim S100000x64 (![] : Fin 0 → Fin S100000x64.rank)
  bcast_S_S4096x64 : S_.BroadcastsInDim S4096x64 (![] : Fin 0 → Fin S4096x64.rank)

variable [Facts]

def fn {F : FTy → Type} [FloatOps F] (main_arg0 : FVec F S100000x64 .f32) (main_arg1 : FVec F S4096x64 .f32) (main_arg2 : IVec S4096x1 32) (main_arg3 : FVec F S100000 .f32) : IVec S4096x1 1 × IVec S100000 1 × IVec S100000x64 1 × IVec S4096x64 1 :=
  let main_c : IVec S_ 32 := constantI S_ 32 0#32
  let main_v0 : IVec S4096x1 32 := broadcastInDim S4096x1 ![] bcast_S_S4096x1 main_c
  let main_v1 : IVec S4096x1 1 := cmpi .sge main_arg2 main_v0
  let main_c_0 : IVec S_ 32 := constantI S_ 32 100000#32
  let main_v2 : IVec S4096x1 32 := broadcastInDim S4096x1 ![] bcast_S_S4096x1 main_c_0
  let main_v3 : IVec S4096x1 1 := cmpi .slt main_arg2 main_v2
  let main_v4 : IVec S4096x1 1 := andi main_v1 main_v3
  let main_cst : FVec F S_ .f32 := constant S_ .f32 0x00000000#32
  let main_v5 : FVec F S100000 .f32 := broadcastInDim S100000 ![] bcast_S_S100000 main_cst
  let main_v6 : IVec S100000 1 := cmpf .oeq main_arg3 main_v5
  let main_v7 : FVec F S100000x64 .f32 := Host.absf main_arg0
  let main_cst_1 : FVec F S_ .f32 := constant S_ .f32 0x7F800000#32
  let main_v8 : FVec F S100000x64 .f32 := broadcastInDim S100000x64 ![] bcast_S_S100000x64 main_cst_1
  let main_v9 : IVec S100000x64 1 := cmpf .olt main_v7 main_v8
  let main_v10 : FVec F S4096x64 .f32 := Host.absf main_arg1
  let main_cst_2 : FVec F S_ .f32 := constant S_ .f32 0x7F800000#32
  let main_v11 : FVec F S4096x64 .f32 := broadcastInDim S4096x64 ![] bcast_S_S4096x64 main_cst_2
  let main_v12 : IVec S4096x64 1 := cmpf .olt main_v10 main_v11
  (main_v4, main_v6, main_v9, main_v12)
-- ==== Kernel.lean ====
abbrev S100000x64 : Shape := ⟨2, ![100000, 64]⟩
abbrev S4096x64 : Shape := ⟨2, ![4096, 64]⟩
abbrev S4096x1 : Shape := ⟨2, ![4096, 1]⟩
abbrev S100000 : Shape := ⟨1, ![100000]⟩
abbrev S_ : Shape := ⟨0, ![]⟩
abbrev S1 : Shape := ⟨1, ![1]⟩
abbrev S2 : Shape := ⟨1, ![2]⟩
abbrev S1000 : Shape := ⟨1, ![1000]⟩
abbrev S1024 : Shape := ⟨1, ![1024]⟩
abbrev S4096 : Shape := ⟨1, ![4096]⟩
abbrev S1024x64 : Shape := ⟨2, ![1024, 64]⟩
abbrev S160 : Shape := ⟨1, ![160]⟩
abbrev S32 : Shape := ⟨1, ![32]⟩
abbrev S128 : Shape := ⟨1, ![128]⟩
abbrev S16 : Shape := ⟨1, ![16]⟩
abbrev S1x64 : Shape := ⟨2, ![1, 64]⟩
abbrev S1x1024 : Shape := ⟨2, ![1, 1024]⟩
abbrev S1024x1 : Shape := ⟨2, ![1024, 1]⟩
abbrev S1024x1024 : Shape := ⟨2, ![1024, 1024]⟩

abbrev nBuf : Table → Nat
  | .hbm => 321
  | .local .tc .vmem => 11
  | .local .scVector .vmem => 1
  | _ => 0

abbrev hbmTy0_0 (i : Nat) : BufTy := match i % 128 with
  | 0 => ⟨S100000x64, .f32⟩
  | 1 => ⟨S4096x64, .f32⟩
  | 2 => ⟨S4096x1, .i32⟩
  | 3 => ⟨S100000, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1, .f32⟩
  | 19 => ⟨S1, .f32⟩
  | 20 => ⟨S1, .i32⟩
  | 21 => ⟨S_, .i32⟩
  | 22 => ⟨S1, .i32⟩
  | 23 => ⟨S_, .i32⟩
  | 24 => ⟨S1000, .i64⟩
  | 25 => ⟨S_, .i64⟩
  | 26 => ⟨S1000, .i64⟩
  | 27 => ⟨S1000, .i64⟩
  | 28 => ⟨S_, .i64⟩
  | 29 => ⟨S1000, .i64⟩
  | 30 => ⟨S1000, .i64⟩
  | 31 => ⟨S1000, .i32⟩
  | 32 => ⟨S1000, .i32⟩
  | 33 => ⟨S_, .i32⟩
  | 34 => ⟨S_, .i32⟩
  | 35 => ⟨S_, .i32⟩
  | 36 => ⟨S1000, .i32⟩
  | 37 => ⟨S1000, .i32⟩
  | 38 => ⟨S1000, .i32⟩
  | 39 => ⟨S1000, .i32⟩
  | 40 => ⟨S1000, .i32⟩
  | 41 => ⟨S_, .i32⟩
  | 42 => ⟨S1000, .i32⟩
  | 43 => ⟨S1000, .i32⟩
  | 44 => ⟨S_, .i32⟩
  | 45 => ⟨S1000, .i32⟩
  | 46 => ⟨S1000, .i32⟩
  | 47 => ⟨S1000, .i32⟩
  | 48 => ⟨S1000, .i32⟩
  | 49 => ⟨S1000, .i32⟩
  | 50 => ⟨S_, .i32⟩
  | 51 => ⟨S1000, .i32⟩
  | 52 => ⟨S1000, .i32⟩
  | 53 => ⟨S_, .i32⟩
  | 54 => ⟨S1000, .i32⟩
  | 55 => ⟨S1000, .i32⟩
  | 56 => ⟨S1000, .i32⟩
  | 57 => ⟨S1000, .i32⟩
  | 58 => ⟨S1000, .i32⟩
  | 59 => ⟨S_, .i32⟩
  | 60 => ⟨S1000, .i32⟩
  | 61 => ⟨S1000, .i32⟩
  | 62 => ⟨S_, .i32⟩
  | 63 => ⟨S1000, .i32⟩
  | 64 => ⟨S1000, .i32⟩
  | 65 => ⟨S1000, .i32⟩
  | 66 => ⟨S1000, .i32⟩
  | 67 => ⟨S1000, .i32⟩
  | 68 => ⟨S_, .i32⟩
  | 69 => ⟨S1000, .i32⟩
  | 70 => ⟨S1000, .i32⟩
  | 71 => ⟨S_, .i32⟩
  | 72 => ⟨S1000, .i32⟩
  | 73 => ⟨S1000, .i32⟩
  | 74 => ⟨S1000, .i32⟩
  | 75 => ⟨S1000, .i32⟩
  | 76 => ⟨S1000, .i32⟩
  | 77 => ⟨S1000, .i32⟩
  | 78 => ⟨S1000, .i32⟩
  | 79 => ⟨S1000, .i32⟩
  | 80 => ⟨S_, .i32⟩
  | 81 => ⟨S1000, .i32⟩
  | 82 => ⟨S1000, .i32⟩
  | 83 => ⟨S1000, .i32⟩
  | 84 => ⟨S_, .i32⟩
  | 85 => ⟨S1000, .i32⟩
  | 86 => ⟨S1000, .i32⟩
  | 87 => ⟨S_, .i32⟩
  | 88 => ⟨S1000, .i32⟩
  | 89 => ⟨S1000, .i32⟩
  | 90 => ⟨S1000, .i32⟩
  | 91 => ⟨S1000, .i32⟩
  | 92 => ⟨S1000, .i32⟩
  | 93 => ⟨S_, .i32⟩
  | 94 => ⟨S1000, .i32⟩
  | 95 => ⟨S1000, .i32⟩
  | 96 => ⟨S_, .i32⟩
  | 97 => ⟨S1000, .i32⟩
  | 98 => ⟨S1000, .i32⟩
  | 99 => ⟨S1000, .i32⟩
  | 100 => ⟨S1000, .i32⟩
  | 101 => ⟨S1000, .i32⟩
  | 102 => ⟨S_, .i32⟩
  | 103 => ⟨S1000, .i32⟩
  | 104 => ⟨S1000, .i32⟩
  | 105 => ⟨S_, .i32⟩
  | 106 => ⟨S1000, .i32⟩
  | 107 => ⟨S1000, .i32⟩
  | 108 => ⟨S1000, .i32⟩
  | 109 => ⟨S1000, .i32⟩
  | 110 => ⟨S1000, .i32⟩
  | 111 => ⟨S_, .i32⟩
  | 112 => ⟨S1000, .i32⟩
  | 113 => ⟨S1000, .i32⟩
  | 114 => ⟨S_, .i32⟩
  | 115 => ⟨S1000, .i32⟩
  | 116 => ⟨S1000, .i32⟩
  | 117 => ⟨S1000, .i32⟩
  | 118 => ⟨S1000, .i32⟩
  | 119 => ⟨S1000, .i32⟩
  | 120 => ⟨S1000, .i32⟩
  | 121 => ⟨S1000, .i32⟩
  | 122 => ⟨S1000, .i32⟩
  | 123 => ⟨S_, .i32⟩
  | 124 => ⟨S1000, .i32⟩
  | 125 => ⟨S1000, .i32⟩
  | 126 => ⟨S1000, .i32⟩
  | 127 => ⟨S_, .i32⟩
  | _ => ⟨S100000x64, .f32⟩

abbrev hbmTy0_1 (i : Nat) : BufTy := match i % 128 with
  | 0 => ⟨S1000, .i32⟩
  | 1 => ⟨S1000, .i32⟩
  | 2 => ⟨S_, .i32⟩
  | 3 => ⟨S1000, .i32⟩
  | 4 => ⟨S1000, .i32⟩
  | 5 => ⟨S1000, .i32⟩
  | 6 => ⟨S1000, .i32⟩
  | 7 => ⟨S1000, .i32⟩
  | 8 => ⟨S_, .i32⟩
  | 9 => ⟨S1000, .i32⟩
  | 10 => ⟨S1000, .i32⟩
  | 11 => ⟨S_, .i32⟩
  | 12 => ⟨S1000, .i32⟩
  | 13 => ⟨S1000, .i32⟩
  | 14 => ⟨S1000, .i32⟩
  | 15 => ⟨S1000, .i32⟩
  | 16 => ⟨S1000, .i32⟩
  | 17 => ⟨S_, .i32⟩
  | 18 => ⟨S1000, .i32⟩
  | 19 => ⟨S1000, .i32⟩
  | 20 => ⟨S_, .i32⟩
  | 21 => ⟨S1000, .i32⟩
  | 22 => ⟨S1000, .i32⟩
  | 23 => ⟨S1000, .i32⟩
  | 24 => ⟨S1000, .i32⟩
  | 25 => ⟨S1000, .i32⟩
  | 26 => ⟨S_, .i32⟩
  | 27 => ⟨S1000, .i32⟩
  | 28 => ⟨S1000, .i32⟩
  | 29 => ⟨S_, .i32⟩
  | 30 => ⟨S1000, .i32⟩
  | 31 => ⟨S1000, .i32⟩
  | 32 => ⟨S1000, .i32⟩
  | 33 => ⟨S1000, .i32⟩
  | 34 => ⟨S1000, .i32⟩
  | 35 => ⟨S1000, .i32⟩
  | 36 => ⟨S1000, .i32⟩
  | 37 => ⟨S1000, .i32⟩
  | 38 => ⟨S_, .i32⟩
  | 39 => ⟨S1000, .i32⟩
  | 40 => ⟨S1000, .i32⟩
  | 41 => ⟨S1000, .i32⟩
  | 42 => ⟨S_, .i32⟩
  | 43 => ⟨S1000, .i32⟩
  | 44 => ⟨S1000, .i32⟩
  | 45 => ⟨S_, .i32⟩
  | 46 => ⟨S1000, .i32⟩
  | 47 => ⟨S1000, .i32⟩
  | 48 => ⟨S1000, .i32⟩
  | 49 => ⟨S1000, .i32⟩
  | 50 => ⟨S1000, .i32⟩
  | 51 => ⟨S_, .i32⟩
  | 52 => ⟨S1000, .i32⟩
  | 53 => ⟨S1000, .i32⟩
  | 54 => ⟨S_, .i32⟩
  | 55 => ⟨S1000, .i32⟩
  | 56 => ⟨S1000, .i32⟩
  | 57 => ⟨S1000, .i32⟩
  | 58 => ⟨S1000, .i32⟩
  | 59 => ⟨S1000, .i32⟩
  | 60 => ⟨S_, .i32⟩
  | 61 => ⟨S1000, .i32⟩
  | 62 => ⟨S1000, .i32⟩
  | 63 => ⟨S_, .i32⟩
  | 64 => ⟨S1000, .i32⟩
  | 65 => ⟨S1000, .i32⟩
  | 66 => ⟨S1000, .i32⟩
  | 67 => ⟨S1000, .i32⟩
  | 68 => ⟨S1000, .i32⟩
  | 69 => ⟨S_, .i32⟩
  | 70 => ⟨S1000, .i32⟩
  | 71 => ⟨S1000, .i32⟩
  | 72 => ⟨S_, .i32⟩
  | 73 => ⟨S1000, .i32⟩
  | 74 => ⟨S1000, .i32⟩
  | 75 => ⟨S1000, .i32⟩
  | 76 => ⟨S1000, .i32⟩
  | 77 => ⟨S1000, .i32⟩
  | 78 => ⟨S1000, .i32⟩
  | 79 => ⟨S1000, .i32⟩
  | 80 => ⟨S1000, .i32⟩
  | 81 => ⟨S_, .i32⟩
  | 82 => ⟨S1000, .i32⟩
  | 83 => ⟨S1000, .i32⟩
  | 84 => ⟨S1000, .i32⟩
  | 85 => ⟨S_, .i32⟩
  | 86 => ⟨S1000, .i32⟩
  | 87 => ⟨S1000, .i32⟩
  | 88 => ⟨S_, .i32⟩
  | 89 => ⟨S1000, .i32⟩
  | 90 => ⟨S1000, .i32⟩
  | 91 => ⟨S1000, .i32⟩
  | 92 => ⟨S1000, .i32⟩
  | 93 => ⟨S1000, .i32⟩
  | 94 => ⟨S_, .i32⟩
  | 95 => ⟨S1000, .i32⟩
  | 96 => ⟨S1000, .i32⟩
  | 97 => ⟨S_, .i32⟩
  | 98 => ⟨S1000, .i32⟩
  | 99 => ⟨S1000, .i32⟩
  | 100 => ⟨S1000, .i32⟩
  | 101 => ⟨S1000, .i32⟩
  | 102 => ⟨S1000, .i32⟩
  | 103 => ⟨S_, .i32⟩
  | 104 => ⟨S1000, .i32⟩
  | 105 => ⟨S1000, .i32⟩
  | 106 => ⟨S_, .i32⟩
  | 107 => ⟨S1000, .i32⟩
  | 108 => ⟨S1000, .i32⟩
  | 109 => ⟨S1000, .i32⟩
  | 110 => ⟨S1000, .i32⟩
  | 111 => ⟨S1000, .i32⟩
  | 112 => ⟨S_, .i32⟩
  | 113 => ⟨S1000, .i32⟩
  | 114 => ⟨S1000, .i32⟩
  | 115 => ⟨S_, .i32⟩
  | 116 => ⟨S1000, .i32⟩
  | 117 => ⟨S1000, .i32⟩
  | 118 => ⟨S1000, .i32⟩
  | 119 => ⟨S1000, .i32⟩
  | 120 => ⟨S1000, .i32⟩
  | 121 => ⟨S1000, .i32⟩
  | 122 => ⟨S1000, .i32⟩
  | 123 => ⟨S1000, .i32⟩
  | 124 => ⟨S_, .i32⟩
  | 125 => ⟨S1000, .i32⟩
  | 126 => ⟨S1000, .i32⟩
  | 127 => ⟨S1000, .i32⟩
  | _ => ⟨S100000x64, .f32⟩

abbrev hbmTy0_2 (i : Nat) : BufTy := match i % 128 with
  | 0 => ⟨S_, .i32⟩
  | 1 => ⟨S1000, .i32⟩
  | 2 => ⟨S1000, .i32⟩
  | 3 => ⟨S_, .i32⟩
  | 4 => ⟨S1000, .i32⟩
  | 5 => ⟨S1000, .i32⟩
  | 6 => ⟨S1000, .f32⟩
  | 7 => ⟨S_, .f32⟩
  | 8 => ⟨S1000, .f32⟩
  | 9 => ⟨S1000, .f32⟩
  | 10 => ⟨S1, .f32⟩
  | 11 => ⟨S1000, .f32⟩
  | 12 => ⟨S1000, .f32⟩
  | 13 => ⟨S1000, .f32⟩
  | 14 => ⟨S1000, .f32⟩
  | 15 => ⟨S1000, .f32⟩
  | 16 => ⟨S1000, .f32⟩
  | 17 => ⟨S_, .f32⟩
  | 18 => ⟨S_, .f32⟩
  | 19 => ⟨S1000, .f32⟩
  | 20 => ⟨S1000, .f32⟩
  | 21 => ⟨S1000, .f32⟩
  | 22 => ⟨S1000, .f32⟩
  | 23 => ⟨S1000, .i32⟩
  | 24 => ⟨S_, .i32⟩
  | 25 => ⟨S1000, .i32⟩
  | 26 => ⟨S1000, .i32⟩
  | 27 => ⟨S_, .i32⟩
  | 28 => ⟨S_, .i32⟩
  | 29 => ⟨S_, .i32⟩
  | 30 => ⟨S1000, .i32⟩
  | 31 => ⟨S1000, .i32⟩
  | 32 => ⟨S_, .i32⟩
  | 33 => ⟨S1000, .i32⟩
  | 34 => ⟨S1000, .i32⟩
  | 35 => ⟨S1000, .f32⟩
  | 36 => ⟨S_, .f32⟩
  | 37 => ⟨S1000, .f32⟩
  | 38 => ⟨S1000, .f32⟩
  | 39 => ⟨S1000, .f32⟩
  | 40 => ⟨S_, .f32⟩
  | 41 => ⟨S1000, .f32⟩
  | 42 => ⟨S1000, .f32⟩
  | 43 => ⟨S1000, .f32⟩
  | 44 => ⟨S1000, .f32⟩
  | 45 => ⟨S_, .f32⟩
  | 46 => ⟨S_, .f32⟩
  | 47 => ⟨S1000, .f32⟩
  | 48 => ⟨S1000, .f32⟩
  | 49 => ⟨S_, .f32⟩
  | 50 => ⟨S1000, .f32⟩
  | 51 => ⟨S1000, .f32⟩
  | 52 => ⟨S1000, .f32⟩
  | 53 => ⟨S_, .i32⟩
  | 54 => ⟨S_, .i32⟩
  | 55 => ⟨S1024, .i32⟩
  | 56 => ⟨S_, .i32⟩
  | 57 => ⟨S_, .f32⟩
  | 58 => ⟨S1024, .f32⟩
  | 59 => ⟨S4096, .i32⟩
  | 60 => ⟨S1024x64, .f32⟩
  | 61 => ⟨S4096x64, .f32⟩
  | 62 => ⟨S1x1024, .i32⟩
  | 63 => ⟨S1x1024, .f32⟩
  | 64 => ⟨S4096x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (nBuf tb) → BufTy
  | .hbm, ⟨i, _⟩ => hbmTy i
  | .local .tc .vmem, ⟨0, _⟩ => ⟨S1024x64, .f32⟩
  | .local .tc .vmem, ⟨1, _⟩ => ⟨S1024x64, .f32⟩
  | .local .tc .vmem, ⟨2, _⟩ => ⟨S1024x64, .f32⟩
  | .local .tc .vmem, ⟨3, _⟩ => ⟨S1024x64, .f32⟩
  | .local .tc .vmem, ⟨4, _⟩ => ⟨S1024x64, .f32⟩
  | .local .tc .vmem, ⟨5, _⟩ => ⟨S1024x1, .i32⟩
  | .local .tc .vmem, ⟨6, _⟩ => ⟨S1024x1, .i32⟩
  | .local .tc .vmem, ⟨7, _⟩ => ⟨S1x1024, .i32⟩
  | .local .tc .vmem, ⟨8, _⟩ => ⟨S1x1024, .f32⟩
  | .local .tc .vmem, ⟨9, _⟩ => ⟨S1024x1, .f32⟩
  | .local .tc .vmem, ⟨10, _⟩ => ⟨S1024x1, .f32⟩
  | .local .scVector .vmem, ⟨0, _⟩ => ⟨S160, .i32⟩
  | _, _ => ⟨S100000x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_c_0 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_call0_v0 : Ref sig .tc := ⟨.hbm, 33, rfl⟩
abbrev main_call0_call0_c : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_c_0 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_c_1 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_call0_v12 : Ref sig .tc := ⟨.hbm, 48, rfl⟩
abbrev main_call0_call0_v13 : Ref sig .tc := ⟨.hbm, 49, rfl⟩
abbrev main_call0_call0_c_2 : Ref sig .tc := ⟨.hbm, 50, rfl⟩
abbrev main_call0_call0_v14 : Ref sig .tc := ⟨.hbm, 51, rfl⟩
abbrev main_call0_call0_v15 : Ref sig .tc := ⟨.hbm, 52, rfl⟩
abbrev main_call0_call0_c_3 : Ref sig .tc := ⟨.hbm, 53, rfl⟩
abbrev main_call0_call0_v16 : Ref sig .tc := ⟨.hbm, 54, rfl⟩
abbrev main_call0_call0_v17 : Ref sig .tc := ⟨.hbm, 55, rfl⟩
abbrev main_call0_call0_v18 : Ref sig .tc := ⟨.hbm, 56, rfl⟩
abbrev main_call0_call0_v19 : Ref sig .tc := ⟨.hbm, 57, rfl⟩
abbrev main_call0_call0_v20 : Ref sig .tc := ⟨.hbm, 58, rfl⟩
abbrev main_call0_call0_c_4 : Ref sig .tc := ⟨.hbm, 59, rfl⟩
abbrev main_call0_call0_v21 : Ref sig .tc := ⟨.hbm, 60, rfl⟩
abbrev main_call0_call0_v22 : Ref sig .tc := ⟨.hbm, 61, rfl⟩
abbrev main_call0_call0_c_5 : Ref sig .tc := ⟨.hbm, 62, rfl⟩
abbrev main_call0_call0_v23 : Ref sig .tc := ⟨.hbm, 63, rfl⟩
abbrev main_call0_call0_v24 : Ref sig .tc := ⟨.hbm, 64, rfl⟩
abbrev main_call0_call0_v25 : Ref sig .tc := ⟨.hbm, 65, rfl⟩
abbrev main_call0_call0_v26 : Ref sig .tc := ⟨.hbm, 66, rfl⟩
abbrev main_call0_call0_v27 : Ref sig .tc := ⟨.hbm, 67, rfl⟩
abbrev main_call0_call0_c_6 : Ref sig .tc := ⟨.hbm, 68, rfl⟩
abbrev main_call0_call0_v28 : Ref sig .tc := ⟨.hbm, 69, rfl⟩
abbrev main_call0_call0_v29 : Ref sig .tc := ⟨.hbm, 70, rfl⟩
abbrev main_call0_call0_c_7 : Ref sig .tc := ⟨.hbm, 71, rfl⟩
abbrev main_call0_call0_v30 : Ref sig .tc := ⟨.hbm, 72, rfl⟩
abbrev main_call0_call0_v31 : Ref sig .tc := ⟨.hbm, 73, rfl⟩
abbrev main_call0_call0_v32 : Ref sig .tc := ⟨.hbm, 74, rfl⟩
abbrev main_call0_call0_v33 : Ref sig .tc := ⟨.hbm, 75, rfl⟩
abbrev main_call0_call0_v34 : Ref sig .tc := ⟨.hbm, 76, rfl⟩
abbrev main_call0_call0_v35 : Ref sig .tc := ⟨.hbm, 77, rfl⟩
abbrev main_call0_call0_v36 : Ref sig .tc := ⟨.hbm, 78, rfl⟩
abbrev main_call0_call0_v37 : Ref sig .tc := ⟨.hbm, 79, rfl⟩
abbrev main_call0_call0_c_8 : Ref sig .tc := ⟨.hbm, 80, rfl⟩
abbrev main_call0_call0_v38 : Ref sig .tc := ⟨.hbm, 81, rfl⟩
abbrev main_call0_call0_v39 : Ref sig .tc := ⟨.hbm, 82, rfl⟩
abbrev main_call0_call0_v40 : Ref sig .tc := ⟨.hbm, 83, rfl⟩
abbrev main_call0_call0_c_9 : Ref sig .tc := ⟨.hbm, 84, rfl⟩
abbrev main_call0_call0_v41 : Ref sig .tc := ⟨.hbm, 85, rfl⟩
abbrev main_call0_call0_v42 : Ref sig .tc := ⟨.hbm, 86, rfl⟩
abbrev main_call0_call0_c_10 : Ref sig .tc := ⟨.hbm, 87, rfl⟩
abbrev main_call0_call0_v43 : Ref sig .tc := ⟨.hbm, 88, rfl⟩
abbrev main_call0_call0_v44 : Ref sig .tc := ⟨.hbm, 89, rfl⟩
abbrev main_call0_call0_v45 : Ref sig .tc := ⟨.hbm, 90, rfl⟩
abbrev main_call0_call0_v46 : Ref sig .tc := ⟨.hbm, 91, rfl⟩
abbrev main_call0_call0_v47 : Ref sig .tc := ⟨.hbm, 92, rfl⟩
abbrev main_call0_call0_c_11 : Ref sig .tc := ⟨.hbm, 93, rfl⟩
abbrev main_call0_call0_v48 : Ref sig .tc := ⟨.hbm, 94, rfl⟩
abbrev main_call0_call0_v49 : Ref sig .tc := ⟨.hbm, 95, rfl⟩
abbrev main_call0_call0_c_12 : Ref sig .tc := ⟨.hbm, 96, rfl⟩
abbrev main_call0_call0_v50 : Ref sig .tc := ⟨.hbm, 97, rfl⟩
abbrev main_call0_call0_v51 : Ref sig .tc := ⟨.hbm, 98, rfl⟩
abbrev main_call0_call0_v52 : Ref sig .tc := ⟨.hbm, 99, rfl⟩
abbrev main_call0_call0_v53 : Ref sig .tc := ⟨.hbm, 100, rfl⟩
abbrev main_call0_call0_v54 : Ref sig .tc := ⟨.hbm, 101, rfl⟩
abbrev main_call0_call0_c_13 : Ref sig .tc := ⟨.hbm, 102, rfl⟩
abbrev main_call0_call0_v55 : Ref sig .tc := ⟨.hbm, 103, rfl⟩
abbrev main_call0_call0_v56 : Ref sig .tc := ⟨.hbm, 104, rfl⟩
abbrev main_call0_call0_c_14 : Ref sig .tc := ⟨.hbm, 105, rfl⟩
abbrev main_call0_call0_v57 : Ref sig .tc := ⟨.hbm, 106, rfl⟩
abbrev main_call0_call0_v58 : Ref sig .tc := ⟨.hbm, 107, rfl⟩
abbrev main_call0_call0_v59 : Ref sig .tc := ⟨.hbm, 108, rfl⟩
abbrev main_call0_call0_v60 : Ref sig .tc := ⟨.hbm, 109, rfl⟩
abbrev main_call0_call0_v61 : Ref sig .tc := ⟨.hbm, 110, rfl⟩
abbrev main_call0_call0_c_15 : Ref sig .tc := ⟨.hbm, 111, rfl⟩
abbrev main_call0_call0_v62 : Ref sig .tc := ⟨.hbm, 112, rfl⟩
abbrev main_call0_call0_v63 : Ref sig .tc := ⟨.hbm, 113, rfl⟩
abbrev main_call0_call0_c_16 : Ref sig .tc := ⟨.hbm, 114, rfl⟩
abbrev main_call0_call0_v64 : Ref sig .tc := ⟨.hbm, 115, rfl⟩
abbrev main_call0_call0_v65 : Ref sig .tc := ⟨.hbm, 116, rfl⟩
abbrev main_call0_call0_v66 : Ref sig .tc := ⟨.hbm, 117, rfl⟩
abbrev main_call0_call0_v67 : Ref sig .tc := ⟨.hbm, 118, rfl⟩
abbrev main_call0_call0_v68 : Ref sig .tc := ⟨.hbm, 119, rfl⟩
abbrev main_call0_call0_v69 : Ref sig .tc := ⟨.hbm, 120, rfl⟩
abbrev main_call0_call0_v70 : Ref sig .tc := ⟨.hbm, 121, rfl⟩
abbrev main_call0_call0_v71 : Ref sig .tc := ⟨.hbm, 122, rfl⟩
abbrev main_call0_call0_c_17 : Ref sig .tc := ⟨.hbm, 123, rfl⟩
abbrev main_call0_call0_v72 : Ref sig .tc := ⟨.hbm, 124, rfl⟩
abbrev main_call0_call0_v73 : Ref sig .tc := ⟨.hbm, 125, rfl⟩
abbrev main_call0_call0_v74 : Ref sig .tc := ⟨.hbm, 126, rfl⟩
abbrev main_call0_call0_c_18 : Ref sig .tc := ⟨.hbm, 127, rfl⟩
abbrev main_call0_call0_v75 : Ref sig .tc := ⟨.hbm, 128, rfl⟩
abbrev main_call0_call0_v76 : Ref sig .tc := ⟨.hbm, 129, rfl⟩
abbrev main_call0_call0_c_19 : Ref sig .tc := ⟨.hbm, 130, rfl⟩
abbrev main_call0_call0_v77 : Ref sig .tc := ⟨.hbm, 131, rfl⟩
abbrev main_call0_call0_v78 : Ref sig .tc := ⟨.hbm, 132, rfl⟩
abbrev main_call0_call0_v79 : Ref sig .tc := ⟨.hbm, 133, rfl⟩
abbrev main_call0_call0_v80 : Ref sig .tc := ⟨.hbm, 134, rfl⟩
abbrev main_call0_call0_v81 : Ref sig .tc := ⟨.hbm, 135, rfl⟩
abbrev main_call0_call0_c_20 : Ref sig .tc := ⟨.hbm, 136, rfl⟩
abbrev main_call0_call0_v82 : Ref sig .tc := ⟨.hbm, 137, rfl⟩
abbrev main_call0_call0_v83 : Ref sig .tc := ⟨.hbm, 138, rfl⟩
abbrev main_call0_call0_c_21 : Ref sig .tc := ⟨.hbm, 139, rfl⟩
abbrev main_call0_call0_v84 : Ref sig .tc := ⟨.hbm, 140, rfl⟩
abbrev main_call0_call0_v85 : Ref sig .tc := ⟨.hbm, 141, rfl⟩
abbrev main_call0_call0_v86 : Ref sig .tc := ⟨.hbm, 142, rfl⟩
abbrev main_call0_call0_v87 : Ref sig .tc := ⟨.hbm, 143, rfl⟩
abbrev main_call0_call0_v88 : Ref sig .tc := ⟨.hbm, 144, rfl⟩
abbrev main_call0_call0_c_22 : Ref sig .tc := ⟨.hbm, 145, rfl⟩
abbrev main_call0_call0_v89 : Ref sig .tc := ⟨.hbm, 146, rfl⟩
abbrev main_call0_call0_v90 : Ref sig .tc := ⟨.hbm, 147, rfl⟩
abbrev main_call0_call0_c_23 : Ref sig .tc := ⟨.hbm, 148, rfl⟩
abbrev main_call0_call0_v91 : Ref sig .tc := ⟨.hbm, 149, rfl⟩
abbrev main_call0_call0_v92 : Ref sig .tc := ⟨.hbm, 150, rfl⟩
abbrev main_call0_call0_v93 : Ref sig .tc := ⟨.hbm, 151, rfl⟩
abbrev main_call0_call0_v94 : Ref sig .tc := ⟨.hbm, 152, rfl⟩
abbrev main_call0_call0_v95 : Ref sig .tc := ⟨.hbm, 153, rfl⟩
abbrev main_call0_call0_c_24 : Ref sig .tc := ⟨.hbm, 154, rfl⟩
abbrev main_call0_call0_v96 : Ref sig .tc := ⟨.hbm, 155, rfl⟩
abbrev main_call0_call0_v97 : Ref sig .tc := ⟨.hbm, 156, rfl⟩
abbrev main_call0_call0_c_25 : Ref sig .tc := ⟨.hbm, 157, rfl⟩
abbrev main_call0_call0_v98 : Ref sig .tc := ⟨.hbm, 158, rfl⟩
abbrev main_call0_call0_v99 : Ref sig .tc := ⟨.hbm, 159, rfl⟩
abbrev main_call0_call0_v100 : Ref sig .tc := ⟨.hbm, 160, rfl⟩
abbrev main_call0_call0_v101 : Ref sig .tc := ⟨.hbm, 161, rfl⟩
abbrev main_call0_call0_v102 : Ref sig .tc := ⟨.hbm, 162, rfl⟩
abbrev main_call0_call0_v103 : Ref sig .tc := ⟨.hbm, 163, rfl⟩
abbrev main_call0_call0_v104 : Ref sig .tc := ⟨.hbm, 164, rfl⟩
abbrev main_call0_call0_v105 : Ref sig .tc := ⟨.hbm, 165, rfl⟩
abbrev main_call0_call0_c_26 : Ref sig .tc := ⟨.hbm, 166, rfl⟩
abbrev main_call0_call0_v106 : Ref sig .tc := ⟨.hbm, 167, rfl⟩
abbrev main_call0_call0_v107 : Ref sig .tc := ⟨.hbm, 168, rfl⟩
abbrev main_call0_call0_v108 : Ref sig .tc := ⟨.hbm, 169, rfl⟩
abbrev main_call0_call0_c_27 : Ref sig .tc := ⟨.hbm, 170, rfl⟩
abbrev main_call0_call0_v109 : Ref sig .tc := ⟨.hbm, 171, rfl⟩
abbrev main_call0_call0_v110 : Ref sig .tc := ⟨.hbm, 172, rfl⟩
abbrev main_call0_call0_c_28 : Ref sig .tc := ⟨.hbm, 173, rfl⟩
abbrev main_call0_call0_v111 : Ref sig .tc := ⟨.hbm, 174, rfl⟩
abbrev main_call0_call0_v112 : Ref sig .tc := ⟨.hbm, 175, rfl⟩
abbrev main_call0_call0_v113 : Ref sig .tc := ⟨.hbm, 176, rfl⟩
abbrev main_call0_call0_v114 : Ref sig .tc := ⟨.hbm, 177, rfl⟩
abbrev main_call0_call0_v115 : Ref sig .tc := ⟨.hbm, 178, rfl⟩
abbrev main_call0_call0_c_29 : Ref sig .tc := ⟨.hbm, 179, rfl⟩
abbrev main_call0_call0_v116 : Ref sig .tc := ⟨.hbm, 180, rfl⟩
abbrev main_call0_call0_v117 : Ref sig .tc := ⟨.hbm, 181, rfl⟩
abbrev main_call0_call0_c_30 : Ref sig .tc := ⟨.hbm, 182, rfl⟩
abbrev main_call0_call0_v118 : Ref sig .tc := ⟨.hbm, 183, rfl⟩
abbrev main_call0_call0_v119 : Ref sig .tc := ⟨.hbm, 184, rfl⟩
abbrev main_call0_call0_v120 : Ref sig .tc := ⟨.hbm, 185, rfl⟩
abbrev main_call0_call0_v121 : Ref sig .tc := ⟨.hbm, 186, rfl⟩
abbrev main_call0_call0_v122 : Ref sig .tc := ⟨.hbm, 187, rfl⟩
abbrev main_call0_call0_c_31 : Ref sig .tc := ⟨.hbm, 188, rfl⟩
abbrev main_call0_call0_v123 : Ref sig .tc := ⟨.hbm, 189, rfl⟩
abbrev main_call0_call0_v124 : Ref sig .tc := ⟨.hbm, 190, rfl⟩
abbrev main_call0_call0_c_32 : Ref sig .tc := ⟨.hbm, 191, rfl⟩
abbrev main_call0_call0_v125 : Ref sig .tc := ⟨.hbm, 192, rfl⟩
abbrev main_call0_call0_v126 : Ref sig .tc := ⟨.hbm, 193, rfl⟩
abbrev main_call0_call0_v127 : Ref sig .tc := ⟨.hbm, 194, rfl⟩
abbrev main_call0_call0_v128 : Ref sig .tc := ⟨.hbm, 195, rfl⟩
abbrev main_call0_call0_v129 : Ref sig .tc := ⟨.hbm, 196, rfl⟩
abbrev main_call0_call0_c_33 : Ref sig .tc := ⟨.hbm, 197, rfl⟩
abbrev main_call0_call0_v130 : Ref sig .tc := ⟨.hbm, 198, rfl⟩
abbrev main_call0_call0_v131 : Ref sig .tc := ⟨.hbm, 199, rfl⟩
abbrev main_call0_call0_c_34 : Ref sig .tc := ⟨.hbm, 200, rfl⟩
abbrev main_call0_call0_v132 : Ref sig .tc := ⟨.hbm, 201, rfl⟩
abbrev main_call0_call0_v133 : Ref sig .tc := ⟨.hbm, 202, rfl⟩
abbrev main_call0_call0_v134 : Ref sig .tc := ⟨.hbm, 203, rfl⟩
abbrev main_call0_call0_v135 : Ref sig .tc := ⟨.hbm, 204, rfl⟩
abbrev main_call0_call0_v136 : Ref sig .tc := ⟨.hbm, 205, rfl⟩
abbrev main_call0_call0_v137 : Ref sig .tc := ⟨.hbm, 206, rfl⟩
abbrev main_call0_call0_v138 : Ref sig .tc := ⟨.hbm, 207, rfl⟩
abbrev main_call0_call0_v139 : Ref sig .tc := ⟨.hbm, 208, rfl⟩
abbrev main_call0_call0_c_35 : Ref sig .tc := ⟨.hbm, 209, rfl⟩
abbrev main_call0_call0_v140 : Ref sig .tc := ⟨.hbm, 210, rfl⟩
abbrev main_call0_call0_v141 : Ref sig .tc := ⟨.hbm, 211, rfl⟩
abbrev main_call0_call0_v142 : Ref sig .tc := ⟨.hbm, 212, rfl⟩
abbrev main_call0_call0_c_36 : Ref sig .tc := ⟨.hbm, 213, rfl⟩
abbrev main_call0_call0_v143 : Ref sig .tc := ⟨.hbm, 214, rfl⟩
abbrev main_call0_call0_v144 : Ref sig .tc := ⟨.hbm, 215, rfl⟩
abbrev main_call0_call0_c_37 : Ref sig .tc := ⟨.hbm, 216, rfl⟩
abbrev main_call0_call0_v145 : Ref sig .tc := ⟨.hbm, 217, rfl⟩
abbrev main_call0_call0_v146 : Ref sig .tc := ⟨.hbm, 218, rfl⟩
abbrev main_call0_call0_v147 : Ref sig .tc := ⟨.hbm, 219, rfl⟩
abbrev main_call0_call0_v148 : Ref sig .tc := ⟨.hbm, 220, rfl⟩
abbrev main_call0_call0_v149 : Ref sig .tc := ⟨.hbm, 221, rfl⟩
abbrev main_call0_call0_c_38 : Ref sig .tc := ⟨.hbm, 222, rfl⟩
abbrev main_call0_call0_v150 : Ref sig .tc := ⟨.hbm, 223, rfl⟩
abbrev main_call0_call0_v151 : Ref sig .tc := ⟨.hbm, 224, rfl⟩
abbrev main_call0_call0_c_39 : Ref sig .tc := ⟨.hbm, 225, rfl⟩
abbrev main_call0_call0_v152 : Ref sig .tc := ⟨.hbm, 226, rfl⟩
abbrev main_call0_call0_v153 : Ref sig .tc := ⟨.hbm, 227, rfl⟩
abbrev main_call0_call0_v154 : Ref sig .tc := ⟨.hbm, 228, rfl⟩
abbrev main_call0_call0_v155 : Ref sig .tc := ⟨.hbm, 229, rfl⟩
abbrev main_call0_call0_v156 : Ref sig .tc := ⟨.hbm, 230, rfl⟩
abbrev main_call0_call0_c_40 : Ref sig .tc := ⟨.hbm, 231, rfl⟩
abbrev main_call0_call0_v157 : Ref sig .tc := ⟨.hbm, 232, rfl⟩
abbrev main_call0_call0_v158 : Ref sig .tc := ⟨.hbm, 233, rfl⟩
abbrev main_call0_call0_c_41 : Ref sig .tc := ⟨.hbm, 234, rfl⟩
abbrev main_call0_call0_v159 : Ref sig .tc := ⟨.hbm, 235, rfl⟩
abbrev main_call0_call0_v160 : Ref sig .tc := ⟨.hbm, 236, rfl⟩
abbrev main_call0_call0_v161 : Ref sig .tc := ⟨.hbm, 237, rfl⟩
abbrev main_call0_call0_v162 : Ref sig .tc := ⟨.hbm, 238, rfl⟩
abbrev main_call0_call0_v163 : Ref sig .tc := ⟨.hbm, 239, rfl⟩
abbrev main_call0_call0_c_42 : Ref sig .tc := ⟨.hbm, 240, rfl⟩
abbrev main_call0_call0_v164 : Ref sig .tc := ⟨.hbm, 241, rfl⟩
abbrev main_call0_call0_v165 : Ref sig .tc := ⟨.hbm, 242, rfl⟩
abbrev main_call0_call0_c_43 : Ref sig .tc := ⟨.hbm, 243, rfl⟩
abbrev main_call0_call0_v166 : Ref sig .tc := ⟨.hbm, 244, rfl⟩
abbrev main_call0_call0_v167 : Ref sig .tc := ⟨.hbm, 245, rfl⟩
abbrev main_call0_call0_v168 : Ref sig .tc := ⟨.hbm, 246, rfl⟩
abbrev main_call0_call0_v169 : Ref sig .tc := ⟨.hbm, 247, rfl⟩
abbrev main_call0_call0_v170 : Ref sig .tc := ⟨.hbm, 248, rfl⟩
abbrev main_call0_v15_0 : Ref sig .tc := ⟨.hbm, 249, rfl⟩
abbrev main_call0_call0_v172 : Ref sig .tc := ⟨.hbm, 250, rfl⟩
abbrev main_call0_call0_v173 : Ref sig .tc := ⟨.hbm, 251, rfl⟩
abbrev main_call0_call0_c_44 : Ref sig .tc := ⟨.hbm, 252, rfl⟩
abbrev main_call0_call0_v174 : Ref sig .tc := ⟨.hbm, 253, rfl⟩
abbrev main_call0_v15_1 : Ref sig .tc := ⟨.hbm, 254, rfl⟩
abbrev main_call0_v16 : Ref sig .tc := ⟨.hbm, 255, rfl⟩
abbrev main_call0_c_1 : Ref sig .tc := ⟨.hbm, 256, rfl⟩
abbrev main_call0_v17 : Ref sig .tc := ⟨.hbm, 257, rfl⟩
abbrev main_call0_v18 : Ref sig .tc := ⟨.hbm, 258, rfl⟩
abbrev main_call0_c_2 : Ref sig .tc := ⟨.hbm, 259, rfl⟩
abbrev main_call0_v19 : Ref sig .tc := ⟨.hbm, 260, rfl⟩
abbrev main_call0_v20 : Ref sig .tc := ⟨.hbm, 261, rfl⟩
abbrev main_call0_v21 : Ref sig .tc := ⟨.hbm, 262, rfl⟩
abbrev main_call0_cst : Ref sig .tc := ⟨.hbm, 263, rfl⟩
abbrev main_call0_v22 : Ref sig .tc := ⟨.hbm, 264, rfl⟩
abbrev main_call0_v23 : Ref sig .tc := ⟨.hbm, 265, rfl⟩
abbrev main_call0_v24 : Ref sig .tc := ⟨.hbm, 266, rfl⟩
abbrev main_call0_v25 : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_v7 : Ref sig .tc := ⟨.hbm, 272, rfl⟩
abbrev main_cst_3 : Ref sig .tc := ⟨.hbm, 273, rfl⟩
abbrev main_v8 : Ref sig .tc := ⟨.hbm, 274, rfl⟩
abbrev main_v9 : Ref sig .tc := ⟨.hbm, 275, rfl⟩
abbrev main_v10 : Ref sig .tc := ⟨.hbm, 276, rfl⟩
abbrev main_v11 : Ref sig .tc := ⟨.hbm, 277, rfl⟩
abbrev main_v12 : Ref sig .tc := ⟨.hbm, 278, rfl⟩
abbrev main_v13 : Ref sig .tc := ⟨.hbm, 279, rfl⟩
abbrev main_c_4 : Ref sig .tc := ⟨.hbm, 280, rfl⟩
abbrev main_v14 : Ref sig .tc := ⟨.hbm, 281, rfl⟩
abbrev main_v15 : Ref sig .tc := ⟨.hbm, 282, rfl⟩
abbrev main_c_5 : Ref sig .tc := ⟨.hbm, 283, rfl⟩
abbrev main_c_6 : Ref sig .tc := ⟨.hbm, 284, rfl⟩
abbrev main_call1_v0 : Ref sig .tc := ⟨.hbm, 285, rfl⟩
abbrev main_call1_v1 : Ref sig .tc := ⟨.hbm, 286, rfl⟩
abbrev main_call1_v2 : Ref sig .tc := ⟨.hbm, 287, rfl⟩
abbrev main_call1_v3 : Ref sig .tc := ⟨.hbm, 288, rfl⟩
abbrev main_call1_v4 : Ref sig .tc := ⟨.hbm, 289, rfl⟩
abbrev main_v16 : Ref sig .tc := ⟨.hbm, 290, rfl⟩
abbrev main_v17 : Ref sig .tc := ⟨.hbm, 291, rfl⟩
abbrev main_cst_7 : Ref sig .tc := ⟨.hbm, 292, rfl⟩
abbrev main_v18 : Ref sig .tc := ⟨.hbm, 293, rfl⟩
abbrev main_v19 : Ref sig .tc := ⟨.hbm, 294, rfl⟩
abbrev main_v20 : Ref sig .tc := ⟨.hbm, 295, rfl⟩
abbrev main_cst_8 : Ref sig .tc := ⟨.hbm, 296, rfl⟩
abbrev main_v21 : Ref sig .tc := ⟨.hbm, 297, rfl⟩
abbrev main_v22 : Ref sig .tc := ⟨.hbm, 298, rfl⟩
abbrev main_v23 : Ref sig .tc := ⟨.hbm, 299, rfl⟩
abbrev main_v24 : Ref sig .tc := ⟨.hbm, 300, rfl⟩
abbrev main_cst_9 : Ref sig .tc := ⟨.hbm, 301, rfl⟩
abbrev main_v25 : Ref sig .tc := ⟨.hbm, 302, rfl⟩
abbrev main_v26 : Ref sig .tc := ⟨.hbm, 303, rfl⟩
abbrev main_v27 : Ref sig .tc := ⟨.hbm, 304, rfl⟩
abbrev main_cst_10 : Ref sig .tc := ⟨.hbm, 305, rfl⟩
abbrev main_v28 : Ref sig .tc := ⟨.hbm, 306, rfl⟩
abbrev main_v29 : Ref sig .tc := ⟨.hbm, 307, rfl⟩
abbrev main_v30 : Ref sig .tc := ⟨.hbm, 308, rfl⟩
abbrev main_c_11 : Ref sig .tc := ⟨.hbm, 309, rfl⟩
abbrev main_call2_v0 : Ref sig .tc := ⟨.hbm, 310, rfl⟩
abbrev main_v31 : Ref sig .tc := ⟨.hbm, 311, rfl⟩
abbrev main_c_12 : Ref sig .tc := ⟨.hbm, 312, rfl⟩
abbrev main_call3_v0 : Ref sig .tc := ⟨.hbm, 313, rfl⟩
abbrev main_v32 : Ref sig .tc := ⟨.hbm, 314, rfl⟩
abbrev main_v33 : Ref sig .tc := ⟨.hbm, 315, rfl⟩
abbrev main_v34_0 : Ref sig .tc := ⟨.hbm, 316, rfl⟩
abbrev main_v34_1 : Ref sig .tc := ⟨.hbm, 317, rfl⟩
abbrev main_v35 : Ref sig .tc := ⟨.hbm, 318, rfl⟩
abbrev main_v36 : Ref sig .tc := ⟨.hbm, 319, rfl⟩
abbrev main_v37 : Ref sig .tc := ⟨.hbm, 320, rfl⟩
abbrev main_arg0_scv : Ref sig .scVector := ⟨.hbm, 0, rfl⟩
abbrev main_v31_scv : Ref sig .scVector := ⟨.hbm, 311, rfl⟩
abbrev main_v33_scv : Ref sig .scVector := ⟨.hbm, 315, rfl⟩
abbrev main_v34_0_scv : Ref sig .scVector := ⟨.hbm, 316, rfl⟩
abbrev main_v34_1_scv : Ref sig .scVector := ⟨.hbm, 317, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg6_1 : Ref sig .tc := ⟨.vmem, 10, rfl⟩
abbrev cc0_scratch0 : Ref sig .scVector := ⟨.vmem, 0, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem6_0 : DmaSem sig := 12
abbrev cc1_sem6_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  ![v3.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v4 : BitVec 32 := Scalar.addi v2 c0_i32
  let c0_i32_0 : BitVec 32 := 0#32
  ![v4.toNat, 0]
def k0_off4 (v8 : BitVec 32) : Fin 2 → Nat :=
  let c0_i32_1 : BitVec 32 := 0#32
  ![v8.toNat, 0]

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32 : BitVec 32 := 1#32
  let v11 : BitVec 32 := Scalar.addi v2 c1_i32
  let c0_i32_3 : BitVec 32 := 0#32
  ![v11.toNat, 0]
def k0_off6 (v15 : BitVec 32) : Fin 2 → Nat :=
  let c0_i32_4 : BitVec 32 := 0#32
  ![v15.toNat, 0]

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_5 : BitVec 32 := 2#32
  let v18 : BitVec 32 := Scalar.addi v2 c2_i32_5
  let c0_i32_7 : BitVec 32 := 0#32
  ![v18.toNat, 0]
def k0_off8 (v22 : BitVec 32) : Fin 2 → Nat :=
  let c0_i32_8 : BitVec 32 := 0#32
  ![v22.toNat, 0]

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32 : BitVec 32 := 3#32
  let v25 : BitVec 32 := Scalar.addi v2 c3_i32
  let c0_i32_10 : BitVec 32 := 0#32
  ![v25.toNat, 0]
def k0_off10 (v29 : BitVec 32) : Fin 2 → Nat :=
  let c0_i32_11 : BitVec 32 := 0#32
  ![v29.toNat, 0]

def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32 : BitVec 32 := 4#32
  let v32 : BitVec 32 := Scalar.addi v2 c4_i32
  let c0_i32_13 : BitVec 32 := 0#32
  ![v32.toNat, 0]
def k0_off12 (v36 : BitVec 32) : Fin 2 → Nat :=
  let c0_i32_14 : BitVec 32 := 0#32
  ![v36.toNat, 0]

def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c5_i32 : BitVec 32 := 5#32
  let v39 : BitVec 32 := Scalar.addi v2 c5_i32
  let c0_i32_16 : BitVec 32 := 0#32
  ![v39.toNat, 0]
def k0_off14 (v43 : BitVec 32) : Fin 2 → Nat :=
  let c0_i32_17 : BitVec 32 := 0#32
  ![v43.toNat, 0]

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c6_i32 : BitVec 32 := 6#32
  let v46 : BitVec 32 := Scalar.addi v2 c6_i32
  let c0_i32_19 : BitVec 32 := 0#32
  ![v46.toNat, 0]
def k0_off16 (v50 : BitVec 32) : Fin 2 → Nat :=
  let c0_i32_20 : BitVec 32 := 0#32
  ![v50.toNat, 0]

def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c7_i32 : BitVec 32 := 7#32
  let v53 : BitVec 32 := Scalar.addi v2 c7_i32
  let c0_i32_22 : BitVec 32 := 0#32
  ![v53.toNat, 0]
def k0_off18 (v57 : BitVec 32) : Fin 2 → Nat :=
  let c0_i32_23 : BitVec 32 := 0#32
  ![v57.toNat, 0]

def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32 : BitVec 32 := 8#32
  let v60 : BitVec 32 := Scalar.addi v2 c8_i32
  let c0_i32_25 : BitVec 32 := 0#32
  ![v60.toNat, 0]
def k0_off20 (v64 : BitVec 32) : Fin 2 → Nat :=
  let c0_i32_26 : BitVec 32 := 0#32
  ![v64.toNat, 0]

def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c9_i32 : BitVec 32 := 9#32
  let v67 : BitVec 32 := Scalar.addi v2 c9_i32
  let c0_i32_28 : BitVec 32 := 0#32
  ![v67.toNat, 0]
def k0_off22 (v71 : BitVec 32) : Fin 2 → Nat :=
  let c0_i32_29 : BitVec 32 := 0#32
  ![v71.toNat, 0]

def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c10_i32 : BitVec 32 := 10#32
  let v74 : BitVec 32 := Scalar.addi v2 c10_i32
  let c0_i32_31 : BitVec 32 := 0#32
  ![v74.toNat, 0]
def k0_off24 (v78 : BitVec 32) : Fin 2 → Nat :=
  let c0_i32_32 : BitVec 32 := 0#32
  ![v78.toNat, 0]

def k0_off25 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c11_i32 : BitVec 32 := 11#32
  let v81 : BitVec 32 := Scalar.addi v2 c11_i32
  let c0_i32_34 : BitVec 32 := 0#32
  ![v81.toNat, 0]
def k0_off26 (v85 : BitVec 32) : Fin 2 → Nat :=
  let c0_i32_35 : BitVec 32 := 0#32
  ![v85.toNat, 0]

def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c12_i32 : BitVec 32 := 12#32
  let v88 : BitVec 32 := Scalar.addi v2 c12_i32
  let c0_i32_37 : BitVec 32 := 0#32
  ![v88.toNat, 0]
def k0_off28 (v92 : BitVec 32) : Fin 2 → Nat :=
  let c0_i32_38 : BitVec 32 := 0#32
  ![v92.toNat, 0]

def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c13_i32 : BitVec 32 := 13#32
  let v95 : BitVec 32 := Scalar.addi v2 c13_i32
  let c0_i32_40 : BitVec 32 := 0#32
  ![v95.toNat, 0]
def k0_off30 (v99 : BitVec 32) : Fin 2 → Nat :=
  let c0_i32_41 : BitVec 32 := 0#32
  ![v99.toNat, 0]

def k0_off31 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c14_i32 : BitVec 32 := 14#32
  let v102 : BitVec 32 := Scalar.addi v2 c14_i32
  let c0_i32_43 : BitVec 32 := 0#32
  ![v102.toNat, 0]
def k0_off32 (v106 : BitVec 32) : Fin 2 → Nat :=
  let c0_i32_44 : BitVec 32 := 0#32
  ![v106.toNat, 0]

def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c15_i32 : BitVec 32 := 15#32
  let v109 : BitVec 32 := Scalar.addi v2 c15_i32
  let c0_i32_46 : BitVec 32 := 0#32
  ![v109.toNat, 0]
def k0_off34 (v113 : BitVec 32) : Fin 2 → Nat :=
  let c0_i32_47 : BitVec 32 := 0#32
  ![v113.toNat, 0]

def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v116 : BitVec 32 := Scalar.addi v2 c16_i32
  let c0_i32_48 : BitVec 32 := 0#32
  ![v116.toNat, 0]
def k0_off36 (v120 : BitVec 32) : Fin 2 → Nat :=
  let c0_i32_49 : BitVec 32 := 0#32
  ![v120.toNat, 0]

def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c17_i32 : BitVec 32 := 17#32
  let v123 : BitVec 32 := Scalar.addi v2 c17_i32
  let c0_i32_51 : BitVec 32 := 0#32
  ![v123.toNat, 0]
def k0_off38 (v127 : BitVec 32) : Fin 2 → Nat :=
  let c0_i32_52 : BitVec 32 := 0#32
  ![v127.toNat, 0]

def k0_off39 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c18_i32 : BitVec 32 := 18#32
  let v130 : BitVec 32 := Scalar.addi v2 c18_i32
  let c0_i32_54 : BitVec 32 := 0#32
  ![v130.toNat, 0]
def k0_off40 (v134 : BitVec 32) : Fin 2 → Nat :=
  let c0_i32_55 : BitVec 32 := 0#32
  ![v134.toNat, 0]

def k0_off41 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c19_i32 : BitVec 32 := 19#32
  let v137 : BitVec 32 := Scalar.addi v2 c19_i32
  let c0_i32_57 : BitVec 32 := 0#32
  ![v137.toNat, 0]
def k0_off42 (v141 : BitVec 32) : Fin 2 → Nat :=
  let c0_i32_58 : BitVec 32 := 0#32
  ![v141.toNat, 0]

def k0_off43 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c20_i32 : BitVec 32 := 20#32
  let v144 : BitVec 32 := Scalar.addi v2 c20_i32
  let c0_i32_60 : BitVec 32 := 0#32
  ![v144.toNat, 0]
def k0_off44 (v148 : BitVec 32) : Fin 2 → Nat :=
  let c0_i32_61 : BitVec 32 := 0#32
  ![v148.toNat, 0]

def k0_off45 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c21_i32 : BitVec 32 := 21#32
  let v151 : BitVec 32 := Scalar.addi v2 c21_i32
  let c0_i32_63 : BitVec 32 := 0#32
  ![v151.toNat, 0]
def k0_off46 (v155 : BitVec 32) : Fin 2 → Nat :=
  let c0_i32_64 : BitVec 32 := 0#32
  ![v155.toNat, 0]

def k0_off47 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c22_i32 : BitVec 32 := 22#32
  let v158 : BitVec 32 := Scalar.addi v2 c22_i32
  let c0_i32_66 : BitVec 32 := 0#32
  ![v158.toNat, 0]
def k0_off48 (v162 : BitVec 32) : Fin 2 → Nat :=
  let c0_i32_67 : BitVec 32 := 0#32
  ![v162.toNat, 0]

def k0_off49 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c23_i32 : BitVec 32 := 23#32
  let v165 : BitVec 32 := Scalar.addi v2 c23_i32
  let c0_i32_69 : BitVec 32 := 0#32
  ![v165.toNat, 0]
def k0_off50 (v169 : BitVec 32) : Fin 2 → Nat :=
  let c0_i32_70 : BitVec 32 := 0#32
  ![v169.toNat, 0]

def k0_off51 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v172 : BitVec 32 := Scalar.addi v2 c24_i32
  let c0_i32_72 : BitVec 32 := 0#32
  ![v172.toNat, 0]
def k0_off52 (v176 : BitVec 32) : Fin 2 → Nat :=
  let c0_i32_73 : BitVec 32 := 0#32
  ![v176.toNat, 0]

def k0_off53 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c25_i32 : BitVec 32 := 25#32
  let v179 : BitVec 32 := Scalar.addi v2 c25_i32
  let c0_i32_75 : BitVec 32 := 0#32
  ![v179.toNat, 0]
def k0_off54 (v183 : BitVec 32) : Fin 2 → Nat :=
  let c0_i32_76 : BitVec 32 := 0#32
  ![v183.toNat, 0]

def k0_off55 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32 : BitVec 32 := 26#32
  let v186 : BitVec 32 := Scalar.addi v2 c26_i32
  let c0_i32_78 : BitVec 32 := 0#32
  ![v186.toNat, 0]
def k0_off56 (v190 : BitVec 32) : Fin 2 → Nat :=
  let c0_i32_79 : BitVec 32 := 0#32
  ![v190.toNat, 0]

def k0_off57 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c27_i32 : BitVec 32 := 27#32
  let v193 : BitVec 32 := Scalar.addi v2 c27_i32
  let c0_i32_81 : BitVec 32 := 0#32
  ![v193.toNat, 0]
def k0_off58 (v197 : BitVec 32) : Fin 2 → Nat :=
  let c0_i32_82 : BitVec 32 := 0#32
  ![v197.toNat, 0]

def k0_off59 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32 : BitVec 32 := 28#32
  let v200 : BitVec 32 := Scalar.addi v2 c28_i32
  let c0_i32_84 : BitVec 32 := 0#32
  ![v200.toNat, 0]
def k0_off60 (v204 : BitVec 32) : Fin 2 → Nat :=
  let c0_i32_85 : BitVec 32 := 0#32
  ![v204.toNat, 0]

def k0_off61 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c29_i32 : BitVec 32 := 29#32
  let v207 : BitVec 32 := Scalar.addi v2 c29_i32
  let c0_i32_87 : BitVec 32 := 0#32
  ![v207.toNat, 0]
def k0_off62 (v211 : BitVec 32) : Fin 2 → Nat :=
  let c0_i32_88 : BitVec 32 := 0#32
  ![v211.toNat, 0]

def k0_off63 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v214 : BitVec 32 := Scalar.addi v2 c30_i32
  let c0_i32_90 : BitVec 32 := 0#32
  ![v214.toNat, 0]
def k0_off64 (v218 : BitVec 32) : Fin 2 → Nat :=
  let c0_i32_91 : BitVec 32 := 0#32
  ![v218.toNat, 0]

def k0_off65 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c31_i32 : BitVec 32 := 31#32
  let v221 : BitVec 32 := Scalar.addi v2 c31_i32
  let c0_i32_93 : BitVec 32 := 0#32
  ![v221.toNat, 0]
def k0_off66 (v225 : BitVec 32) : Fin 2 → Nat :=
  let c0_i32_94 : BitVec 32 := 0#32
  ![v225.toNat, 0]

def k0_off67 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c0_i32_95 : BitVec 32 := 0#32
  let v228 : BitVec 32 := Scalar.addi v3 c0_i32_95
  let c0_i32_96 : BitVec 32 := 0#32
  ![v228.toNat, 0]
def k0_off68 (v232 : BitVec 32) : Fin 2 → Nat :=
  let c0_i32_97 : BitVec 32 := 0#32
  ![v232.toNat, 0]

def k0_off69 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c1_i32_98 : BitVec 32 := 1#32
  let v235 : BitVec 32 := Scalar.addi v3 c1_i32_98
  let c0_i32_100 : BitVec 32 := 0#32
  ![v235.toNat, 0]
def k0_off70 (v239 : BitVec 32) : Fin 2 → Nat :=
  let c0_i32_101 : BitVec 32 := 0#32
  ![v239.toNat, 0]

def k0_off71 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c2_i32_102 : BitVec 32 := 2#32
  let v242 : BitVec 32 := Scalar.addi v3 c2_i32_102
  let c0_i32_104 : BitVec 32 := 0#32
  ![v242.toNat, 0]
def k0_off72 (v246 : BitVec 32) : Fin 2 → Nat :=
  let c0_i32_105 : BitVec 32 := 0#32
  ![v246.toNat, 0]

def k0_off73 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c3_i32_106 : BitVec 32 := 3#32
  let v249 : BitVec 32 := Scalar.addi v3 c3_i32_106
  let c0_i32_108 : BitVec 32 := 0#32
  ![v249.toNat, 0]
def k0_off74 (v253 : BitVec 32) : Fin 2 → Nat :=
  let c0_i32_109 : BitVec 32 := 0#32
  ![v253.toNat, 0]

def k0_off75 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c4_i32_110 : BitVec 32 := 4#32
  let v256 : BitVec 32 := Scalar.addi v3 c4_i32_110
  let c0_i32_112 : BitVec 32 := 0#32
  ![v256.toNat, 0]
def k0_off76 (v260 : BitVec 32) : Fin 2 → Nat :=
  let c0_i32_113 : BitVec 32 := 0#32
  ![v260.toNat, 0]

def k0_off77 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c5_i32_114 : BitVec 32 := 5#32
  let v263 : BitVec 32 := Scalar.addi v3 c5_i32_114
  let c0_i32_116 : BitVec 32 := 0#32
  ![v263.toNat, 0]
def k0_off78 (v267 : BitVec 32) : Fin 2 → Nat :=
  let c0_i32_117 : BitVec 32 := 0#32
  ![v267.toNat, 0]

def k0_off79 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c6_i32_118 : BitVec 32 := 6#32
  let v270 : BitVec 32 := Scalar.addi v3 c6_i32_118
  let c0_i32_120 : BitVec 32 := 0#32
  ![v270.toNat, 0]
def k0_off80 (v274 : BitVec 32) : Fin 2 → Nat :=
  let c0_i32_121 : BitVec 32 := 0#32
  ![v274.toNat, 0]

def k0_off81 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c7_i32_122 : BitVec 32 := 7#32
  let v277 : BitVec 32 := Scalar.addi v3 c7_i32_122
  let c0_i32_124 : BitVec 32 := 0#32
  ![v277.toNat, 0]
def k0_off82 (v281 : BitVec 32) : Fin 2 → Nat :=
  let c0_i32_125 : BitVec 32 := 0#32
  ![v281.toNat, 0]

def k0_off83 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c8_i32_126 : BitVec 32 := 8#32
  let v284 : BitVec 32 := Scalar.addi v3 c8_i32_126
  let c0_i32_128 : BitVec 32 := 0#32
  ![v284.toNat, 0]
def k0_off84 (v288 : BitVec 32) : Fin 2 → Nat :=
  let c0_i32_129 : BitVec 32 := 0#32
  ![v288.toNat, 0]

def k0_off85 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c9_i32_130 : BitVec 32 := 9#32
  let v291 : BitVec 32 := Scalar.addi v3 c9_i32_130
  let c0_i32_132 : BitVec 32 := 0#32
  ![v291.toNat, 0]
def k0_off86 (v295 : BitVec 32) : Fin 2 → Nat :=
  let c0_i32_133 : BitVec 32 := 0#32
  ![v295.toNat, 0]

def k0_off87 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c10_i32_134 : BitVec 32 := 10#32
  let v298 : BitVec 32 := Scalar.addi v3 c10_i32_134
  let c0_i32_136 : BitVec 32 := 0#32
  ![v298.toNat, 0]
def k0_off88 (v302 : BitVec 32) : Fin 2 → Nat :=
  let c0_i32_137 : BitVec 32 := 0#32
  ![v302.toNat, 0]

def k0_off89 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c11_i32_138 : BitVec 32 := 11#32
  let v305 : BitVec 32 := Scalar.addi v3 c11_i32_138
  let c0_i32_140 : BitVec 32 := 0#32
  ![v305.toNat, 0]
def k0_off90 (v309 : BitVec 32) : Fin 2 → Nat :=
  let c0_i32_141 : BitVec 32 := 0#32
  ![v309.toNat, 0]

def k0_off91 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c12_i32_142 : BitVec 32 := 12#32
  let v312 : BitVec 32 := Scalar.addi v3 c12_i32_142
  let c0_i32_144 : BitVec 32 := 0#32
  ![v312.toNat, 0]
def k0_off92 (v316 : BitVec 32) : Fin 2 → Nat :=
  let c0_i32_145 : BitVec 32 := 0#32
  ![v316.toNat, 0]

def k0_off93 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c13_i32_146 : BitVec 32 := 13#32
  let v319 : BitVec 32 := Scalar.addi v3 c13_i32_146
  let c0_i32_148 : BitVec 32 := 0#32
  ![v319.toNat, 0]
def k0_off94 (v323 : BitVec 32) : Fin 2 → Nat :=
  let c0_i32_149 : BitVec 32 := 0#32
  ![v323.toNat, 0]

def k0_off95 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c14_i32_150 : BitVec 32 := 14#32
  let v326 : BitVec 32 := Scalar.addi v3 c14_i32_150
  let c0_i32_152 : BitVec 32 := 0#32
  ![v326.toNat, 0]
def k0_off96 (v330 : BitVec 32) : Fin 2 → Nat :=
  let c0_i32_153 : BitVec 32 := 0#32
  ![v330.toNat, 0]

def k0_off97 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c15_i32_154 : BitVec 32 := 15#32
  let v333 : BitVec 32 := Scalar.addi v3 c15_i32_154
  let c0_i32_156 : BitVec 32 := 0#32
  ![v333.toNat, 0]
def k0_off98 (v337 : BitVec 32) : Fin 2 → Nat :=
  let c0_i32_157 : BitVec 32 := 0#32
  ![v337.toNat, 0]

def k0_off99 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c16_i32_158 : BitVec 32 := 16#32
  let v340 : BitVec 32 := Scalar.addi v3 c16_i32_158
  let c0_i32_159 : BitVec 32 := 0#32
  ![v340.toNat, 0]
def k0_off100 (v344 : BitVec 32) : Fin 2 → Nat :=
  let c0_i32_160 : BitVec 32 := 0#32
  ![v344.toNat, 0]

def k0_off101 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c17_i32_161 : BitVec 32 := 17#32
  let v347 : BitVec 32 := Scalar.addi v3 c17_i32_161
  let c0_i32_163 : BitVec 32 := 0#32
  ![v347.toNat, 0]
def k0_off102 (v351 : BitVec 32) : Fin 2 → Nat :=
  let c0_i32_164 : BitVec 32 := 0#32
  ![v351.toNat, 0]

def k0_off103 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c18_i32_165 : BitVec 32 := 18#32
  let v354 : BitVec 32 := Scalar.addi v3 c18_i32_165
  let c0_i32_167 : BitVec 32 := 0#32
  ![v354.toNat, 0]
def k0_off104 (v358 : BitVec 32) : Fin 2 → Nat :=
  let c0_i32_168 : BitVec 32 := 0#32
  ![v358.toNat, 0]

def k0_off105 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c19_i32_169 : BitVec 32 := 19#32
  let v361 : BitVec 32 := Scalar.addi v3 c19_i32_169
  let c0_i32_171 : BitVec 32 := 0#32
  ![v361.toNat, 0]
def k0_off106 (v365 : BitVec 32) : Fin 2 → Nat :=
  let c0_i32_172 : BitVec 32 := 0#32
  ![v365.toNat, 0]

def k0_off107 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c20_i32_173 : BitVec 32 := 20#32
  let v368 : BitVec 32 := Scalar.addi v3 c20_i32_173
  let c0_i32_175 : BitVec 32 := 0#32
  ![v368.toNat, 0]
def k0_off108 (v372 : BitVec 32) : Fin 2 → Nat :=
  let c0_i32_176 : BitVec 32 := 0#32
  ![v372.toNat, 0]

def k0_off109 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c21_i32_177 : BitVec 32 := 21#32
  let v375 : BitVec 32 := Scalar.addi v3 c21_i32_177
  let c0_i32_179 : BitVec 32 := 0#32
  ![v375.toNat, 0]
def k0_off110 (v379 : BitVec 32) : Fin 2 → Nat :=
  let c0_i32_180 : BitVec 32 := 0#32
  ![v379.toNat, 0]

def k0_off111 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c22_i32_181 : BitVec 32 := 22#32
  let v382 : BitVec 32 := Scalar.addi v3 c22_i32_181
  let c0_i32_183 : BitVec 32 := 0#32
  ![v382.toNat, 0]
def k0_off112 (v386 : BitVec 32) : Fin 2 → Nat :=
  let c0_i32_184 : BitVec 32 := 0#32
  ![v386.toNat, 0]

def k0_off113 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c23_i32_185 : BitVec 32 := 23#32
  let v389 : BitVec 32 := Scalar.addi v3 c23_i32_185
  let c0_i32_187 : BitVec 32 := 0#32
  ![v389.toNat, 0]
def k0_off114 (v393 : BitVec 32) : Fin 2 → Nat :=
  let c0_i32_188 : BitVec 32 := 0#32
  ![v393.toNat, 0]

def k0_off115 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c24_i32_189 : BitVec 32 := 24#32
  let v396 : BitVec 32 := Scalar.addi v3 c24_i32_189
  let c0_i32_191 : BitVec 32 := 0#32
  ![v396.toNat, 0]
def k0_off116 (v400 : BitVec 32) : Fin 2 → Nat :=
  let c0_i32_192 : BitVec 32 := 0#32
  ![v400.toNat, 0]

def k0_off117 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c25_i32_193 : BitVec 32 := 25#32
  let v403 : BitVec 32 := Scalar.addi v3 c25_i32_193
  let c0_i32_195 : BitVec 32 := 0#32
  ![v403.toNat, 0]
def k0_off118 (v407 : BitVec 32) : Fin 2 → Nat :=
  let c0_i32_196 : BitVec 32 := 0#32
  ![v407.toNat, 0]

def k0_off119 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c26_i32_197 : BitVec 32 := 26#32
  let v410 : BitVec 32 := Scalar.addi v3 c26_i32_197
  let c0_i32_199 : BitVec 32 := 0#32
  ![v410.toNat, 0]
def k0_off120 (v414 : BitVec 32) : Fin 2 → Nat :=
  let c0_i32_200 : BitVec 32 := 0#32
  ![v414.toNat, 0]

def k0_off121 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c27_i32_201 : BitVec 32 := 27#32
  let v417 : BitVec 32 := Scalar.addi v3 c27_i32_201
  let c0_i32_203 : BitVec 32 := 0#32
  ![v417.toNat, 0]
def k0_off122 (v421 : BitVec 32) : Fin 2 → Nat :=
  let c0_i32_204 : BitVec 32 := 0#32
  ![v421.toNat, 0]

def k0_off123 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c28_i32_205 : BitVec 32 := 28#32
  let v424 : BitVec 32 := Scalar.addi v3 c28_i32_205
  let c0_i32_207 : BitVec 32 := 0#32
  ![v424.toNat, 0]
def k0_off124 (v428 : BitVec 32) : Fin 2 → Nat :=
  let c0_i32_208 : BitVec 32 := 0#32
  ![v428.toNat, 0]

def k0_off125 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c29_i32_209 : BitVec 32 := 29#32
  let v431 : BitVec 32 := Scalar.addi v3 c29_i32_209
  let c0_i32_211 : BitVec 32 := 0#32
  ![v431.toNat, 0]
def k0_off126 (v435 : BitVec 32) : Fin 2 → Nat :=
  let c0_i32_212 : BitVec 32 := 0#32
  ![v435.toNat, 0]

def k0_off127 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c30_i32_213 : BitVec 32 := 30#32
  let v438 : BitVec 32 := Scalar.addi v3 c30_i32_213
  let c0_i32_215 : BitVec 32 := 0#32
  ![v438.toNat, 0]
def k0_off128 (v442 : BitVec 32) : Fin 2 → Nat :=
  let c0_i32_216 : BitVec 32 := 0#32
  ![v442.toNat, 0]

def k0_off129 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c31_i32_217 : BitVec 32 := 31#32
  let v445 : BitVec 32 := Scalar.addi v3 c31_i32_217
  let c0_i32_219 : BitVec 32 := 0#32
  ![v445.toNat, 0]
def k0_off130 (v449 : BitVec 32) : Fin 2 → Nat :=
  let c0_i32_220 : BitVec 32 := 0#32
  ![v449.toNat, 0]

def k0_off131 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c32_i32_221 : BitVec 32 := 32#32
  let v452 : BitVec 32 := Scalar.addi v3 c32_i32_221
  let c0_i32_222 : BitVec 32 := 0#32
  ![v452.toNat, 0]
def k0_off132 (v456 : BitVec 32) : Fin 2 → Nat :=
  let c0_i32_223 : BitVec 32 := 0#32
  ![v456.toNat, 0]

def k0_off133 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c33_i32 : BitVec 32 := 33#32
  let v459 : BitVec 32 := Scalar.addi v3 c33_i32
  let c0_i32_225 : BitVec 32 := 0#32
  ![v459.toNat, 0]
def k0_off134 (v463 : BitVec 32) : Fin 2 → Nat :=
  let c0_i32_226 : BitVec 32 := 0#32
  ![v463.toNat, 0]

def k0_off135 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c34_i32 : BitVec 32 := 34#32
  let v466 : BitVec 32 := Scalar.addi v3 c34_i32
  let c0_i32_228 : BitVec 32 := 0#32
  ![v466.toNat, 0]
def k0_off136 (v470 : BitVec 32) : Fin 2 → Nat :=
  let c0_i32_229 : BitVec 32 := 0#32
  ![v470.toNat, 0]

def k0_off137 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c35_i32 : BitVec 32 := 35#32
  let v473 : BitVec 32 := Scalar.addi v3 c35_i32
  let c0_i32_231 : BitVec 32 := 0#32
  ![v473.toNat, 0]
def k0_off138 (v477 : BitVec 32) : Fin 2 → Nat :=
  let c0_i32_232 : BitVec 32 := 0#32
  ![v477.toNat, 0]

def k0_off139 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c36_i32 : BitVec 32 := 36#32
  let v480 : BitVec 32 := Scalar.addi v3 c36_i32
  let c0_i32_234 : BitVec 32 := 0#32
  ![v480.toNat, 0]
def k0_off140 (v484 : BitVec 32) : Fin 2 → Nat :=
  let c0_i32_235 : BitVec 32 := 0#32
  ![v484.toNat, 0]

def k0_off141 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c37_i32 : BitVec 32 := 37#32
  let v487 : BitVec 32 := Scalar.addi v3 c37_i32
  let c0_i32_237 : BitVec 32 := 0#32
  ![v487.toNat, 0]
def k0_off142 (v491 : BitVec 32) : Fin 2 → Nat :=
  let c0_i32_238 : BitVec 32 := 0#32
  ![v491.toNat, 0]

def k0_off143 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c38_i32 : BitVec 32 := 38#32
  let v494 : BitVec 32 := Scalar.addi v3 c38_i32
  let c0_i32_240 : BitVec 32 := 0#32
  ![v494.toNat, 0]
def k0_off144 (v498 : BitVec 32) : Fin 2 → Nat :=
  let c0_i32_241 : BitVec 32 := 0#32
  ![v498.toNat, 0]

def k0_off145 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c39_i32 : BitVec 32 := 39#32
  let v501 : BitVec 32 := Scalar.addi v3 c39_i32
  let c0_i32_243 : BitVec 32 := 0#32
  ![v501.toNat, 0]
def k0_off146 (v505 : BitVec 32) : Fin 2 → Nat :=
  let c0_i32_244 : BitVec 32 := 0#32
  ![v505.toNat, 0]

def k0_off147 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c40_i32 : BitVec 32 := 40#32
  let v508 : BitVec 32 := Scalar.addi v3 c40_i32
  let c0_i32_246 : BitVec 32 := 0#32
  ![v508.toNat, 0]
def k0_off148 (v512 : BitVec 32) : Fin 2 → Nat :=
  let c0_i32_247 : BitVec 32 := 0#32
  ![v512.toNat, 0]

def k0_off149 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c41_i32 : BitVec 32 := 41#32
  let v515 : BitVec 32 := Scalar.addi v3 c41_i32
  let c0_i32_249 : BitVec 32 := 0#32
  ![v515.toNat, 0]
def k0_off150 (v519 : BitVec 32) : Fin 2 → Nat :=
  let c0_i32_250 : BitVec 32 := 0#32
  ![v519.toNat, 0]

def k0_off151 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c42_i32 : BitVec 32 := 42#32
  let v522 : BitVec 32 := Scalar.addi v3 c42_i32
  let c0_i32_252 : BitVec 32 := 0#32
  ![v522.toNat, 0]
def k0_off152 (v526 : BitVec 32) : Fin 2 → Nat :=
  let c0_i32_253 : BitVec 32 := 0#32
  ![v526.toNat, 0]

def k0_off153 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c43_i32 : BitVec 32 := 43#32
  let v529 : BitVec 32 := Scalar.addi v3 c43_i32
  let c0_i32_255 : BitVec 32 := 0#32
  ![v529.toNat, 0]
def k0_off154 (v533 : BitVec 32) : Fin 2 → Nat :=
  let c0_i32_256 : BitVec 32 := 0#32
  ![v533.toNat, 0]

def k0_off155 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c44_i32 : BitVec 32 := 44#32
  let v536 : BitVec 32 := Scalar.addi v3 c44_i32
  let c0_i32_258 : BitVec 32 := 0#32
  ![v536.toNat, 0]
def k0_off156 (v540 : BitVec 32) : Fin 2 → Nat :=
  let c0_i32_259 : BitVec 32 := 0#32
  ![v540.toNat, 0]

def k0_off157 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c45_i32 : BitVec 32 := 45#32
  let v543 : BitVec 32 := Scalar.addi v3 c45_i32
  let c0_i32_261 : BitVec 32 := 0#32
  ![v543.toNat, 0]
def k0_off158 (v547 : BitVec 32) : Fin 2 → Nat :=
  let c0_i32_262 : BitVec 32 := 0#32
  ![v547.toNat, 0]

def k0_off159 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c46_i32 : BitVec 32 := 46#32
  let v550 : BitVec 32 := Scalar.addi v3 c46_i32
  let c0_i32_264 : BitVec 32 := 0#32
  ![v550.toNat, 0]
def k0_off160 (v554 : BitVec 32) : Fin 2 → Nat :=
  let c0_i32_265 : BitVec 32 := 0#32
  ![v554.toNat, 0]

def k0_off161 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c47_i32 : BitVec 32 := 47#32
  let v557 : BitVec 32 := Scalar.addi v3 c47_i32
  let c0_i32_267 : BitVec 32 := 0#32
  ![v557.toNat, 0]
def k0_off162 (v561 : BitVec 32) : Fin 2 → Nat :=
  let c0_i32_268 : BitVec 32 := 0#32
  ![v561.toNat, 0]

def k0_off163 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c48_i32 : BitVec 32 := 48#32
  let v564 : BitVec 32 := Scalar.addi v3 c48_i32
  let c0_i32_269 : BitVec 32 := 0#32
  ![v564.toNat, 0]
def k0_off164 (v568 : BitVec 32) : Fin 2 → Nat :=
  let c0_i32_270 : BitVec 32 := 0#32
  ![v568.toNat, 0]

def k0_off165 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c49_i32 : BitVec 32 := 49#32
  let v571 : BitVec 32 := Scalar.addi v3 c49_i32
  let c0_i32_272 : BitVec 32 := 0#32
  ![v571.toNat, 0]
def k0_off166 (v575 : BitVec 32) : Fin 2 → Nat :=
  let c0_i32_273 : BitVec 32 := 0#32
  ![v575.toNat, 0]

def k0_off167 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c50_i32 : BitVec 32 := 50#32
  let v578 : BitVec 32 := Scalar.addi v3 c50_i32
  let c0_i32_275 : BitVec 32 := 0#32
  ![v578.toNat, 0]
def k0_off168 (v582 : BitVec 32) : Fin 2 → Nat :=
  let c0_i32_276 : BitVec 32 := 0#32
  ![v582.toNat, 0]

def k0_off169 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c51_i32 : BitVec 32 := 51#32
  let v585 : BitVec 32 := Scalar.addi v3 c51_i32
  let c0_i32_278 : BitVec 32 := 0#32
  ![v585.toNat, 0]
def k0_off170 (v589 : BitVec 32) : Fin 2 → Nat :=
  let c0_i32_279 : BitVec 32 := 0#32
  ![v589.toNat, 0]

def k0_off171 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c52_i32 : BitVec 32 := 52#32
  let v592 : BitVec 32 := Scalar.addi v3 c52_i32
  let c0_i32_281 : BitVec 32 := 0#32
  ![v592.toNat, 0]
def k0_off172 (v596 : BitVec 32) : Fin 2 → Nat :=
  let c0_i32_282 : BitVec 32 := 0#32
  ![v596.toNat, 0]

def k0_off173 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c53_i32 : BitVec 32 := 53#32
  let v599 : BitVec 32 := Scalar.addi v3 c53_i32
  let c0_i32_284 : BitVec 32 := 0#32
  ![v599.toNat, 0]
def k0_off174 (v603 : BitVec 32) : Fin 2 → Nat :=
  let c0_i32_285 : BitVec 32 := 0#32
  ![v603.toNat, 0]

def k0_off175 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c54_i32 : BitVec 32 := 54#32
  let v606 : BitVec 32 := Scalar.addi v3 c54_i32
  let c0_i32_287 : BitVec 32 := 0#32
  ![v606.toNat, 0]
def k0_off176 (v610 : BitVec 32) : Fin 2 → Nat :=
  let c0_i32_288 : BitVec 32 := 0#32
  ![v610.toNat, 0]

def k0_off177 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c55_i32 : BitVec 32 := 55#32
  let v613 : BitVec 32 := Scalar.addi v3 c55_i32
  let c0_i32_290 : BitVec 32 := 0#32
  ![v613.toNat, 0]
def k0_off178 (v617 : BitVec 32) : Fin 2 → Nat :=
  let c0_i32_291 : BitVec 32 := 0#32
  ![v617.toNat, 0]

def k0_off179 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c56_i32 : BitVec 32 := 56#32
  let v620 : BitVec 32 := Scalar.addi v3 c56_i32
  let c0_i32_293 : BitVec 32 := 0#32
  ![v620.toNat, 0]
def k0_off180 (v624 : BitVec 32) : Fin 2 → Nat :=
  let c0_i32_294 : BitVec 32 := 0#32
  ![v624.toNat, 0]

def k0_off181 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c57_i32 : BitVec 32 := 57#32
  let v627 : BitVec 32 := Scalar.addi v3 c57_i32
  let c0_i32_296 : BitVec 32 := 0#32
  ![v627.toNat, 0]
def k0_off182 (v631 : BitVec 32) : Fin 2 → Nat :=
  let c0_i32_297 : BitVec 32 := 0#32
  ![v631.toNat, 0]

def k0_off183 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c58_i32 : BitVec 32 := 58#32
  let v634 : BitVec 32 := Scalar.addi v3 c58_i32
  let c0_i32_299 : BitVec 32 := 0#32
  ![v634.toNat, 0]
def k0_off184 (v638 : BitVec 32) : Fin 2 → Nat :=
  let c0_i32_300 : BitVec 32 := 0#32
  ![v638.toNat, 0]

def k0_off185 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c59_i32 : BitVec 32 := 59#32
  let v641 : BitVec 32 := Scalar.addi v3 c59_i32
  let c0_i32_302 : BitVec 32 := 0#32
  ![v641.toNat, 0]
def k0_off186 (v645 : BitVec 32) : Fin 2 → Nat :=
  let c0_i32_303 : BitVec 32 := 0#32
  ![v645.toNat, 0]

def k0_off187 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c60_i32 : BitVec 32 := 60#32
  let v648 : BitVec 32 := Scalar.addi v3 c60_i32
  let c0_i32_305 : BitVec 32 := 0#32
  ![v648.toNat, 0]
def k0_off188 (v652 : BitVec 32) : Fin 2 → Nat :=
  let c0_i32_306 : BitVec 32 := 0#32
  ![v652.toNat, 0]

def k0_off189 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c61_i32 : BitVec 32 := 61#32
  let v655 : BitVec 32 := Scalar.addi v3 c61_i32
  let c0_i32_308 : BitVec 32 := 0#32
  ![v655.toNat, 0]
def k0_off190 (v659 : BitVec 32) : Fin 2 → Nat :=
  let c0_i32_309 : BitVec 32 := 0#32
  ![v659.toNat, 0]

def k0_off191 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c62_i32 : BitVec 32 := 62#32
  let v662 : BitVec 32 := Scalar.addi v3 c62_i32
  let c0_i32_311 : BitVec 32 := 0#32
  ![v662.toNat, 0]
def k0_off192 (v666 : BitVec 32) : Fin 2 → Nat :=
  let c0_i32_312 : BitVec 32 := 0#32
  ![v666.toNat, 0]

def k0_off193 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c63_i32 : BitVec 32 := 63#32
  let v669 : BitVec 32 := Scalar.addi v3 c63_i32
  let c0_i32_314 : BitVec 32 := 0#32
  ![v669.toNat, 0]
def k0_off194 (v673 : BitVec 32) : Fin 2 → Nat :=
  let c0_i32_315 : BitVec 32 := 0#32
  ![v673.toNat, 0]

def k0_off195 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c64_i32 : BitVec 32 := 64#32
  let v676 : BitVec 32 := Scalar.addi v3 c64_i32
  let c0_i32_316 : BitVec 32 := 0#32
  ![v676.toNat, 0]
def k0_off196 (v680 : BitVec 32) : Fin 2 → Nat :=
  let c0_i32_317 : BitVec 32 := 0#32
  ![v680.toNat, 0]

def k0_off197 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c65_i32 : BitVec 32 := 65#32
  let v683 : BitVec 32 := Scalar.addi v3 c65_i32
  let c0_i32_319 : BitVec 32 := 0#32
  ![v683.toNat, 0]
def k0_off198 (v687 : BitVec 32) : Fin 2 → Nat :=
  let c0_i32_320 : BitVec 32 := 0#32
  ![v687.toNat, 0]

def k0_off199 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c66_i32 : BitVec 32 := 66#32
  let v690 : BitVec 32 := Scalar.addi v3 c66_i32
  let c0_i32_322 : BitVec 32 := 0#32
  ![v690.toNat, 0]
def k0_off200 (v694 : BitVec 32) : Fin 2 → Nat :=
  let c0_i32_323 : BitVec 32 := 0#32
  ![v694.toNat, 0]

def k0_off201 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c67_i32 : BitVec 32 := 67#32
  let v697 : BitVec 32 := Scalar.addi v3 c67_i32
  let c0_i32_325 : BitVec 32 := 0#32
  ![v697.toNat, 0]
def k0_off202 (v701 : BitVec 32) : Fin 2 → Nat :=
  let c0_i32_326 : BitVec 32 := 0#32
  ![v701.toNat, 0]

def k0_off203 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c68_i32 : BitVec 32 := 68#32
  let v704 : BitVec 32 := Scalar.addi v3 c68_i32
  let c0_i32_328 : BitVec 32 := 0#32
  ![v704.toNat, 0]
def k0_off204 (v708 : BitVec 32) : Fin 2 → Nat :=
  let c0_i32_329 : BitVec 32 := 0#32
  ![v708.toNat, 0]

def k0_off205 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c69_i32 : BitVec 32 := 69#32
  let v711 : BitVec 32 := Scalar.addi v3 c69_i32
  let c0_i32_331 : BitVec 32 := 0#32
  ![v711.toNat, 0]
def k0_off206 (v715 : BitVec 32) : Fin 2 → Nat :=
  let c0_i32_332 : BitVec 32 := 0#32
  ![v715.toNat, 0]

def k0_off207 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c70_i32 : BitVec 32 := 70#32
  let v718 : BitVec 32 := Scalar.addi v3 c70_i32
  let c0_i32_334 : BitVec 32 := 0#32
  ![v718.toNat, 0]
def k0_off208 (v722 : BitVec 32) : Fin 2 → Nat :=
  let c0_i32_335 : BitVec 32 := 0#32
  ![v722.toNat, 0]

def k0_off209 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c71_i32 : BitVec 32 := 71#32
  let v725 : BitVec 32 := Scalar.addi v3 c71_i32
  let c0_i32_337 : BitVec 32 := 0#32
  ![v725.toNat, 0]
def k0_off210 (v729 : BitVec 32) : Fin 2 → Nat :=
  let c0_i32_338 : BitVec 32 := 0#32
  ![v729.toNat, 0]

def k0_off211 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c72_i32 : BitVec 32 := 72#32
  let v732 : BitVec 32 := Scalar.addi v3 c72_i32
  let c0_i32_340 : BitVec 32 := 0#32
  ![v732.toNat, 0]
def k0_off212 (v736 : BitVec 32) : Fin 2 → Nat :=
  let c0_i32_341 : BitVec 32 := 0#32
  ![v736.toNat, 0]

def k0_off213 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c73_i32 : BitVec 32 := 73#32
  let v739 : BitVec 32 := Scalar.addi v3 c73_i32
  let c0_i32_343 : BitVec 32 := 0#32
  ![v739.toNat, 0]
def k0_off214 (v743 : BitVec 32) : Fin 2 → Nat :=
  let c0_i32_344 : BitVec 32 := 0#32
  ![v743.toNat, 0]

def k0_off215 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c74_i32 : BitVec 32 := 74#32
  let v746 : BitVec 32 := Scalar.addi v3 c74_i32
  let c0_i32_346 : BitVec 32 := 0#32
  ![v746.toNat, 0]
def k0_off216 (v750 : BitVec 32) : Fin 2 → Nat :=
  let c0_i32_347 : BitVec 32 := 0#32
  ![v750.toNat, 0]

def k0_off217 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c75_i32 : BitVec 32 := 75#32
  let v753 : BitVec 32 := Scalar.addi v3 c75_i32
  let c0_i32_349 : BitVec 32 := 0#32
  ![v753.toNat, 0]
def k0_off218 (v757 : BitVec 32) : Fin 2 → Nat :=
  let c0_i32_350 : BitVec 32 := 0#32
  ![v757.toNat, 0]

def k0_off219 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c76_i32 : BitVec 32 := 76#32
  let v760 : BitVec 32 := Scalar.addi v3 c76_i32
  let c0_i32_352 : BitVec 32 := 0#32
  ![v760.toNat, 0]
def k0_off220 (v764 : BitVec 32) : Fin 2 → Nat :=
  let c0_i32_353 : BitVec 32 := 0#32
  ![v764.toNat, 0]

def k0_off221 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c77_i32 : BitVec 32 := 77#32
  let v767 : BitVec 32 := Scalar.addi v3 c77_i32
  let c0_i32_355 : BitVec 32 := 0#32
  ![v767.toNat, 0]
def k0_off222 (v771 : BitVec 32) : Fin 2 → Nat :=
  let c0_i32_356 : BitVec 32 := 0#32
  ![v771.toNat, 0]

def k0_off223 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c78_i32 : BitVec 32 := 78#32
  let v774 : BitVec 32 := Scalar.addi v3 c78_i32
  let c0_i32_358 : BitVec 32 := 0#32
  ![v774.toNat, 0]
def k0_off224 (v778 : BitVec 32) : Fin 2 → Nat :=
  let c0_i32_359 : BitVec 32 := 0#32
  ![v778.toNat, 0]

def k0_off225 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c79_i32 : BitVec 32 := 79#32
  let v781 : BitVec 32 := Scalar.addi v3 c79_i32
  let c0_i32_361 : BitVec 32 := 0#32
  ![v781.toNat, 0]
def k0_off226 (v785 : BitVec 32) : Fin 2 → Nat :=
  let c0_i32_362 : BitVec 32 := 0#32
  ![v785.toNat, 0]

def k0_off227 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c80_i32 : BitVec 32 := 80#32
  let v788 : BitVec 32 := Scalar.addi v3 c80_i32
  let c0_i32_363 : BitVec 32 := 0#32
  ![v788.toNat, 0]
def k0_off228 (v792 : BitVec 32) : Fin 2 → Nat :=
  let c0_i32_364 : BitVec 32 := 0#32
  ![v792.toNat, 0]

def k0_off229 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c81_i32 : BitVec 32 := 81#32
  let v795 : BitVec 32 := Scalar.addi v3 c81_i32
  let c0_i32_366 : BitVec 32 := 0#32
  ![v795.toNat, 0]
def k0_off230 (v799 : BitVec 32) : Fin 2 → Nat :=
  let c0_i32_367 : BitVec 32 := 0#32
  ![v799.toNat, 0]

def k0_off231 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c82_i32 : BitVec 32 := 82#32
  let v802 : BitVec 32 := Scalar.addi v3 c82_i32
  let c0_i32_369 : BitVec 32 := 0#32
  ![v802.toNat, 0]
def k0_off232 (v806 : BitVec 32) : Fin 2 → Nat :=
  let c0_i32_370 : BitVec 32 := 0#32
  ![v806.toNat, 0]

def k0_off233 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c83_i32 : BitVec 32 := 83#32
  let v809 : BitVec 32 := Scalar.addi v3 c83_i32
  let c0_i32_372 : BitVec 32 := 0#32
  ![v809.toNat, 0]
def k0_off234 (v813 : BitVec 32) : Fin 2 → Nat :=
  let c0_i32_373 : BitVec 32 := 0#32
  ![v813.toNat, 0]

def k0_off235 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c84_i32 : BitVec 32 := 84#32
  let v816 : BitVec 32 := Scalar.addi v3 c84_i32
  let c0_i32_375 : BitVec 32 := 0#32
  ![v816.toNat, 0]
def k0_off236 (v820 : BitVec 32) : Fin 2 → Nat :=
  let c0_i32_376 : BitVec 32 := 0#32
  ![v820.toNat, 0]

def k0_off237 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c85_i32 : BitVec 32 := 85#32
  let v823 : BitVec 32 := Scalar.addi v3 c85_i32
  let c0_i32_378 : BitVec 32 := 0#32
  ![v823.toNat, 0]
def k0_off238 (v827 : BitVec 32) : Fin 2 → Nat :=
  let c0_i32_379 : BitVec 32 := 0#32
  ![v827.toNat, 0]

def k0_off239 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c86_i32 : BitVec 32 := 86#32
  let v830 : BitVec 32 := Scalar.addi v3 c86_i32
  let c0_i32_381 : BitVec 32 := 0#32
  ![v830.toNat, 0]
def k0_off240 (v834 : BitVec 32) : Fin 2 → Nat :=
  let c0_i32_382 : BitVec 32 := 0#32
  ![v834.toNat, 0]

def k0_off241 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c87_i32 : BitVec 32 := 87#32
  let v837 : BitVec 32 := Scalar.addi v3 c87_i32
  let c0_i32_384 : BitVec 32 := 0#32
  ![v837.toNat, 0]
def k0_off242 (v841 : BitVec 32) : Fin 2 → Nat :=
  let c0_i32_385 : BitVec 32 := 0#32
  ![v841.toNat, 0]

def k0_off243 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c88_i32 : BitVec 32 := 88#32
  let v844 : BitVec 32 := Scalar.addi v3 c88_i32
  let c0_i32_387 : BitVec 32 := 0#32
  ![v844.toNat, 0]
def k0_off244 (v848 : BitVec 32) : Fin 2 → Nat :=
  let c0_i32_388 : BitVec 32 := 0#32
  ![v848.toNat, 0]

def k0_off245 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c89_i32 : BitVec 32 := 89#32
  let v851 : BitVec 32 := Scalar.addi v3 c89_i32
  let c0_i32_390 : BitVec 32 := 0#32
  ![v851.toNat, 0]
def k0_off246 (v855 : BitVec 32) : Fin 2 → Nat :=
  let c0_i32_391 : BitVec 32 := 0#32
  ![v855.toNat, 0]

def k0_off247 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c90_i32 : BitVec 32 := 90#32
  let v858 : BitVec 32 := Scalar.addi v3 c90_i32
  let c0_i32_393 : BitVec 32 := 0#32
  ![v858.toNat, 0]
def k0_off248 (v862 : BitVec 32) : Fin 2 → Nat :=
  let c0_i32_394 : BitVec 32 := 0#32
  ![v862.toNat, 0]

def k0_off249 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c91_i32 : BitVec 32 := 91#32
  let v865 : BitVec 32 := Scalar.addi v3 c91_i32
  let c0_i32_396 : BitVec 32 := 0#32
  ![v865.toNat, 0]
def k0_off250 (v869 : BitVec 32) : Fin 2 → Nat :=
  let c0_i32_397 : BitVec 32 := 0#32
  ![v869.toNat, 0]

def k0_off251 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c92_i32 : BitVec 32 := 92#32
  let v872 : BitVec 32 := Scalar.addi v3 c92_i32
  let c0_i32_399 : BitVec 32 := 0#32
  ![v872.toNat, 0]
def k0_off252 (v876 : BitVec 32) : Fin 2 → Nat :=
  let c0_i32_400 : BitVec 32 := 0#32
  ![v876.toNat, 0]

def k0_off253 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c93_i32 : BitVec 32 := 93#32
  let v879 : BitVec 32 := Scalar.addi v3 c93_i32
  let c0_i32_402 : BitVec 32 := 0#32
  ![v879.toNat, 0]
def k0_off254 (v883 : BitVec 32) : Fin 2 → Nat :=
  let c0_i32_403 : BitVec 32 := 0#32
  ![v883.toNat, 0]

def k0_off255 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c94_i32 : BitVec 32 := 94#32
  let v886 : BitVec 32 := Scalar.addi v3 c94_i32
  let c0_i32_405 : BitVec 32 := 0#32
  ![v886.toNat, 0]
def k0_off256 (v890 : BitVec 32) : Fin 2 → Nat :=
  let c0_i32_406 : BitVec 32 := 0#32
  ![v890.toNat, 0]

def k0_off257 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c95_i32 : BitVec 32 := 95#32
  let v893 : BitVec 32 := Scalar.addi v3 c95_i32
  let c0_i32_408 : BitVec 32 := 0#32
  ![v893.toNat, 0]
def k0_off258 (v897 : BitVec 32) : Fin 2 → Nat :=
  let c0_i32_409 : BitVec 32 := 0#32
  ![v897.toNat, 0]

def k0_off259 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c96_i32 : BitVec 32 := 96#32
  let v900 : BitVec 32 := Scalar.addi v3 c96_i32
  let c0_i32_410 : BitVec 32 := 0#32
  ![v900.toNat, 0]
def k0_off260 (v904 : BitVec 32) : Fin 2 → Nat :=
  let c0_i32_411 : BitVec 32 := 0#32
  ![v904.toNat, 0]

def k0_off261 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c97_i32 : BitVec 32 := 97#32
  let v907 : BitVec 32 := Scalar.addi v3 c97_i32
  let c0_i32_413 : BitVec 32 := 0#32
  ![v907.toNat, 0]
def k0_off262 (v911 : BitVec 32) : Fin 2 → Nat :=
  let c0_i32_414 : BitVec 32 := 0#32
  ![v911.toNat, 0]

def k0_off263 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c98_i32 : BitVec 32 := 98#32
  let v914 : BitVec 32 := Scalar.addi v3 c98_i32
  let c0_i32_416 : BitVec 32 := 0#32
  ![v914.toNat, 0]
def k0_off264 (v918 : BitVec 32) : Fin 2 → Nat :=
  let c0_i32_417 : BitVec 32 := 0#32
  ![v918.toNat, 0]

def k0_off265 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c99_i32 : BitVec 32 := 99#32
  let v921 : BitVec 32 := Scalar.addi v3 c99_i32
  let c0_i32_419 : BitVec 32 := 0#32
  ![v921.toNat, 0]
def k0_off266 (v925 : BitVec 32) : Fin 2 → Nat :=
  let c0_i32_420 : BitVec 32 := 0#32
  ![v925.toNat, 0]

def k0_off267 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c100_i32 : BitVec 32 := 100#32
  let v928 : BitVec 32 := Scalar.addi v3 c100_i32
  let c0_i32_422 : BitVec 32 := 0#32
  ![v928.toNat, 0]
def k0_off268 (v932 : BitVec 32) : Fin 2 → Nat :=
  let c0_i32_423 : BitVec 32 := 0#32
  ![v932.toNat, 0]

def k0_off269 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c101_i32 : BitVec 32 := 101#32
  let v935 : BitVec 32 := Scalar.addi v3 c101_i32
  let c0_i32_425 : BitVec 32 := 0#32
  ![v935.toNat, 0]
def k0_off270 (v939 : BitVec 32) : Fin 2 → Nat :=
  let c0_i32_426 : BitVec 32 := 0#32
  ![v939.toNat, 0]

def k0_off271 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c102_i32 : BitVec 32 := 102#32
  let v942 : BitVec 32 := Scalar.addi v3 c102_i32
  let c0_i32_428 : BitVec 32 := 0#32
  ![v942.toNat, 0]
def k0_off272 (v946 : BitVec 32) : Fin 2 → Nat :=
  let c0_i32_429 : BitVec 32 := 0#32
  ![v946.toNat, 0]

def k0_off273 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c103_i32 : BitVec 32 := 103#32
  let v949 : BitVec 32 := Scalar.addi v3 c103_i32
  let c0_i32_431 : BitVec 32 := 0#32
  ![v949.toNat, 0]
def k0_off274 (v953 : BitVec 32) : Fin 2 → Nat :=
  let c0_i32_432 : BitVec 32 := 0#32
  ![v953.toNat, 0]

def k0_off275 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c104_i32 : BitVec 32 := 104#32
  let v956 : BitVec 32 := Scalar.addi v3 c104_i32
  let c0_i32_434 : BitVec 32 := 0#32
  ![v956.toNat, 0]
def k0_off276 (v960 : BitVec 32) : Fin 2 → Nat :=
  let c0_i32_435 : BitVec 32 := 0#32
  ![v960.toNat, 0]

def k0_off277 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c105_i32 : BitVec 32 := 105#32
  let v963 : BitVec 32 := Scalar.addi v3 c105_i32
  let c0_i32_437 : BitVec 32 := 0#32
  ![v963.toNat, 0]
def k0_off278 (v967 : BitVec 32) : Fin 2 → Nat :=
  let c0_i32_438 : BitVec 32 := 0#32
  ![v967.toNat, 0]

def k0_off279 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c106_i32 : BitVec 32 := 106#32
  let v970 : BitVec 32 := Scalar.addi v3 c106_i32
  let c0_i32_440 : BitVec 32 := 0#32
  ![v970.toNat, 0]
def k0_off280 (v974 : BitVec 32) : Fin 2 → Nat :=
  let c0_i32_441 : BitVec 32 := 0#32
  ![v974.toNat, 0]

def k0_off281 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c107_i32 : BitVec 32 := 107#32
  let v977 : BitVec 32 := Scalar.addi v3 c107_i32
  let c0_i32_443 : BitVec 32 := 0#32
  ![v977.toNat, 0]
def k0_off282 (v981 : BitVec 32) : Fin 2 → Nat :=
  let c0_i32_444 : BitVec 32 := 0#32
  ![v981.toNat, 0]

def k0_off283 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c108_i32 : BitVec 32 := 108#32
  let v984 : BitVec 32 := Scalar.addi v3 c108_i32
  let c0_i32_446 : BitVec 32 := 0#32
  ![v984.toNat, 0]
def k0_off284 (v988 : BitVec 32) : Fin 2 → Nat :=
  let c0_i32_447 : BitVec 32 := 0#32
  ![v988.toNat, 0]

def k0_off285 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c109_i32 : BitVec 32 := 109#32
  let v991 : BitVec 32 := Scalar.addi v3 c109_i32
  let c0_i32_449 : BitVec 32 := 0#32
  ![v991.toNat, 0]
def k0_off286 (v995 : BitVec 32) : Fin 2 → Nat :=
  let c0_i32_450 : BitVec 32 := 0#32
  ![v995.toNat, 0]

def k0_off287 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c110_i32 : BitVec 32 := 110#32
  let v998 : BitVec 32 := Scalar.addi v3 c110_i32
  let c0_i32_452 : BitVec 32 := 0#32
  ![v998.toNat, 0]
def k0_off288 (v1002 : BitVec 32) : Fin 2 → Nat :=
  let c0_i32_453 : BitVec 32 := 0#32
  ![v1002.toNat, 0]

def k0_off289 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c111_i32 : BitVec 32 := 111#32
  let v1005 : BitVec 32 := Scalar.addi v3 c111_i32
  let c0_i32_455 : BitVec 32 := 0#32
  ![v1005.toNat, 0]
def k0_off290 (v1009 : BitVec 32) : Fin 2 → Nat :=
  let c0_i32_456 : BitVec 32 := 0#32
  ![v1009.toNat, 0]

def k0_off291 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c112_i32 : BitVec 32 := 112#32
  let v1012 : BitVec 32 := Scalar.addi v3 c112_i32
  let c0_i32_457 : BitVec 32 := 0#32
  ![v1012.toNat, 0]
def k0_off292 (v1016 : BitVec 32) : Fin 2 → Nat :=
  let c0_i32_458 : BitVec 32 := 0#32
  ![v1016.toNat, 0]

def k0_off293 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c113_i32 : BitVec 32 := 113#32
  let v1019 : BitVec 32 := Scalar.addi v3 c113_i32
  let c0_i32_460 : BitVec 32 := 0#32
  ![v1019.toNat, 0]
def k0_off294 (v1023 : BitVec 32) : Fin 2 → Nat :=
  let c0_i32_461 : BitVec 32 := 0#32
  ![v1023.toNat, 0]

def k0_off295 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c114_i32 : BitVec 32 := 114#32
  let v1026 : BitVec 32 := Scalar.addi v3 c114_i32
  let c0_i32_463 : BitVec 32 := 0#32
  ![v1026.toNat, 0]
def k0_off296 (v1030 : BitVec 32) : Fin 2 → Nat :=
  let c0_i32_464 : BitVec 32 := 0#32
  ![v1030.toNat, 0]

def k0_off297 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c115_i32 : BitVec 32 := 115#32
  let v1033 : BitVec 32 := Scalar.addi v3 c115_i32
  let c0_i32_466 : BitVec 32 := 0#32
  ![v1033.toNat, 0]
def k0_off298 (v1037 : BitVec 32) : Fin 2 → Nat :=
  let c0_i32_467 : BitVec 32 := 0#32
  ![v1037.toNat, 0]

def k0_off299 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c116_i32 : BitVec 32 := 116#32
  let v1040 : BitVec 32 := Scalar.addi v3 c116_i32
  let c0_i32_469 : BitVec 32 := 0#32
  ![v1040.toNat, 0]
def k0_off300 (v1044 : BitVec 32) : Fin 2 → Nat :=
  let c0_i32_470 : BitVec 32 := 0#32
  ![v1044.toNat, 0]

def k0_off301 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c117_i32 : BitVec 32 := 117#32
  let v1047 : BitVec 32 := Scalar.addi v3 c117_i32
  let c0_i32_472 : BitVec 32 := 0#32
  ![v1047.toNat, 0]
def k0_off302 (v1051 : BitVec 32) : Fin 2 → Nat :=
  let c0_i32_473 : BitVec 32 := 0#32
  ![v1051.toNat, 0]

def k0_off303 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c118_i32 : BitVec 32 := 118#32
  let v1054 : BitVec 32 := Scalar.addi v3 c118_i32
  let c0_i32_475 : BitVec 32 := 0#32
  ![v1054.toNat, 0]
def k0_off304 (v1058 : BitVec 32) : Fin 2 → Nat :=
  let c0_i32_476 : BitVec 32 := 0#32
  ![v1058.toNat, 0]

def k0_off305 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c119_i32 : BitVec 32 := 119#32
  let v1061 : BitVec 32 := Scalar.addi v3 c119_i32
  let c0_i32_478 : BitVec 32 := 0#32
  ![v1061.toNat, 0]
def k0_off306 (v1065 : BitVec 32) : Fin 2 → Nat :=
  let c0_i32_479 : BitVec 32 := 0#32
  ![v1065.toNat, 0]

def k0_off307 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c120_i32 : BitVec 32 := 120#32
  let v1068 : BitVec 32 := Scalar.addi v3 c120_i32
  let c0_i32_481 : BitVec 32 := 0#32
  ![v1068.toNat, 0]
def k0_off308 (v1072 : BitVec 32) : Fin 2 → Nat :=
  let c0_i32_482 : BitVec 32 := 0#32
  ![v1072.toNat, 0]

def k0_off309 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c121_i32 : BitVec 32 := 121#32
  let v1075 : BitVec 32 := Scalar.addi v3 c121_i32
  let c0_i32_484 : BitVec 32 := 0#32
  ![v1075.toNat, 0]
def k0_off310 (v1079 : BitVec 32) : Fin 2 → Nat :=
  let c0_i32_485 : BitVec 32 := 0#32
  ![v1079.toNat, 0]

def k0_off311 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c122_i32 : BitVec 32 := 122#32
  let v1082 : BitVec 32 := Scalar.addi v3 c122_i32
  let c0_i32_487 : BitVec 32 := 0#32
  ![v1082.toNat, 0]
def k0_off312 (v1086 : BitVec 32) : Fin 2 → Nat :=
  let c0_i32_488 : BitVec 32 := 0#32
  ![v1086.toNat, 0]

def k0_off313 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c123_i32 : BitVec 32 := 123#32
  let v1089 : BitVec 32 := Scalar.addi v3 c123_i32
  let c0_i32_490 : BitVec 32 := 0#32
  ![v1089.toNat, 0]
def k0_off314 (v1093 : BitVec 32) : Fin 2 → Nat :=
  let c0_i32_491 : BitVec 32 := 0#32
  ![v1093.toNat, 0]

def k0_off315 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c124_i32 : BitVec 32 := 124#32
  let v1096 : BitVec 32 := Scalar.addi v3 c124_i32
  let c0_i32_493 : BitVec 32 := 0#32
  ![v1096.toNat, 0]
def k0_off316 (v1100 : BitVec 32) : Fin 2 → Nat :=
  let c0_i32_494 : BitVec 32 := 0#32
  ![v1100.toNat, 0]

def k0_off317 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c125_i32 : BitVec 32 := 125#32
  let v1103 : BitVec 32 := Scalar.addi v3 c125_i32
  let c0_i32_496 : BitVec 32 := 0#32
  ![v1103.toNat, 0]
def k0_off318 (v1107 : BitVec 32) : Fin 2 → Nat :=
  let c0_i32_497 : BitVec 32 := 0#32
  ![v1107.toNat, 0]

def k0_off319 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c126_i32 : BitVec 32 := 126#32
  let v1110 : BitVec 32 := Scalar.addi v3 c126_i32
  let c0_i32_499 : BitVec 32 := 0#32
  ![v1110.toNat, 0]
def k0_off320 (v1114 : BitVec 32) : Fin 2 → Nat :=
  let c0_i32_500 : BitVec 32 := 0#32
  ![v1114.toNat, 0]

def k0_off321 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c127_i32 : BitVec 32 := 127#32
  let v1117 : BitVec 32 := Scalar.addi v3 c127_i32
  let c0_i32_502 : BitVec 32 := 0#32
  ![v1117.toNat, 0]
def k0_off322 (v1121 : BitVec 32) : Fin 2 → Nat :=
  let c0_i32_503 : BitVec 32 := 0#32
  ![v1121.toNat, 0]

def k0_chk160 (v1121 : BitVec 32) : Prop :=
  (∀ a, (k0_off322 v1121) a + S1x64.size a ≤ S100000x64.size a)
theorem k0_off322_inb : ∀ (v1121 : BitVec 32) (k0_hw160 : k0_chk160 v1121), ∀ a, (k0_off322 v1121) a + S1x64.size a ≤ S100000x64.size a := fun v1121 k0_hw160 => k0_hw160

def k0_off323 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v4 : BitVec 32 := Scalar.addi v2 c0_i32
  let c0_i32_504 : BitVec 32 := 0#32
  ![v4.toNat, 0]
def k0_off324 (v8 : BitVec 32) : Fin 2 → Nat :=
  let c0_i32_505 : BitVec 32 := 0#32
  ![v8.toNat, 0]

def k0_chk1 (v8 : BitVec 32) : Prop :=
  (∀ a, (k0_off4 v8) a + S1x64.size a ≤ S100000x64.size a) ∧
  (∀ a, (k0_off324 v8) a + S1x64.size a ≤ S100000x64.size a)
theorem k0_off4_inb : ∀ (v8 : BitVec 32) (k0_hw1 : k0_chk1 v8), ∀ a, (k0_off4 v8) a + S1x64.size a ≤ S100000x64.size a := fun v8 k0_hw1 => k0_hw1.1
theorem k0_off324_inb : ∀ (v8 : BitVec 32) (k0_hw1 : k0_chk1 v8), ∀ a, (k0_off324 v8) a + S1x64.size a ≤ S100000x64.size a := fun v8 k0_hw1 => k0_hw1.2

def k0_off325 (v15 : BitVec 32) : Fin 2 → Nat :=
  let c0_i32_507 : BitVec 32 := 0#32
  ![v15.toNat, 0]

def k0_chk2 (v15 : BitVec 32) : Prop :=
  (∀ a, (k0_off6 v15) a + S1x64.size a ≤ S100000x64.size a) ∧
  (∀ a, (k0_off325 v15) a + S1x64.size a ≤ S100000x64.size a)
theorem k0_off6_inb : ∀ (v15 : BitVec 32) (k0_hw2 : k0_chk2 v15), ∀ a, (k0_off6 v15) a + S1x64.size a ≤ S100000x64.size a := fun v15 k0_hw2 => k0_hw2.1
theorem k0_off325_inb : ∀ (v15 : BitVec 32) (k0_hw2 : k0_chk2 v15), ∀ a, (k0_off325 v15) a + S1x64.size a ≤ S100000x64.size a := fun v15 k0_hw2 => k0_hw2.2

def k0_off326 (v22 : BitVec 32) : Fin 2 → Nat :=
  let c0_i32_509 : BitVec 32 := 0#32
  ![v22.toNat, 0]

def k0_chk3 (v22 : BitVec 32) : Prop :=
  (∀ a, (k0_off8 v22) a + S1x64.size a ≤ S100000x64.size a) ∧
  (∀ a, (k0_off326 v22) a + S1x64.size a ≤ S100000x64.size a)
theorem k0_off8_inb : ∀ (v22 : BitVec 32) (k0_hw3 : k0_chk3 v22), ∀ a, (k0_off8 v22) a + S1x64.size a ≤ S100000x64.size a := fun v22 k0_hw3 => k0_hw3.1
theorem k0_off326_inb : ∀ (v22 : BitVec 32) (k0_hw3 : k0_chk3 v22), ∀ a, (k0_off326 v22) a + S1x64.size a ≤ S100000x64.size a := fun v22 k0_hw3 => k0_hw3.2

def k0_off327 (v29 : BitVec 32) : Fin 2 → Nat :=
  let c0_i32_511 : BitVec 32 := 0#32
  ![v29.toNat, 0]

def k0_chk4 (v29 : BitVec 32) : Prop :=
  (∀ a, (k0_off10 v29) a + S1x64.size a ≤ S100000x64.size a) ∧
  (∀ a, (k0_off327 v29) a + S1x64.size a ≤ S100000x64.size a)
theorem k0_off10_inb : ∀ (v29 : BitVec 32) (k0_hw4 : k0_chk4 v29), ∀ a, (k0_off10 v29) a + S1x64.size a ≤ S100000x64.size a := fun v29 k0_hw4 => k0_hw4.1
theorem k0_off327_inb : ∀ (v29 : BitVec 32) (k0_hw4 : k0_chk4 v29), ∀ a, (k0_off327 v29) a + S1x64.size a ≤ S100000x64.size a := fun v29 k0_hw4 => k0_hw4.2

def k0_off328 (v36 : BitVec 32) : Fin 2 → Nat :=
  let c0_i32_513 : BitVec 32 := 0#32
  ![v36.toNat, 0]

def k0_chk5 (v36 : BitVec 32) : Prop :=
  (∀ a, (k0_off12 v36) a + S1x64.size a ≤ S100000x64.size a) ∧
  (∀ a, (k0_off328 v36) a + S1x64.size a ≤ S100000x64.size a)
theorem k0_off12_inb : ∀ (v36 : BitVec 32) (k0_hw5 : k0_chk5 v36), ∀ a, (k0_off12 v36) a + S1x64.size a ≤ S100000x64.size a := fun v36 k0_hw5 => k0_hw5.1
theorem k0_off328_inb : ∀ (v36 : BitVec 32) (k0_hw5 : k0_chk5 v36), ∀ a, (k0_off328 v36) a + S1x64.size a ≤ S100000x64.size a := fun v36 k0_hw5 => k0_hw5.2

def k0_off329 (v43 : BitVec 32) : Fin 2 → Nat :=
  let c0_i32_515 : BitVec 32 := 0#32
  ![v43.toNat, 0]

def k0_chk6 (v43 : BitVec 32) : Prop :=
  (∀ a, (k0_off14 v43) a + S1x64.size a ≤ S100000x64.size a) ∧
  (∀ a, (k0_off329 v43) a + S1x64.size a ≤ S100000x64.size a)
theorem k0_off14_inb : ∀ (v43 : BitVec 32) (k0_hw6 : k0_chk6 v43), ∀ a, (k0_off14 v43) a + S1x64.size a ≤ S100000x64.size a := fun v43 k0_hw6 => k0_hw6.1
theorem k0_off329_inb : ∀ (v43 : BitVec 32) (k0_hw6 : k0_chk6 v43), ∀ a, (k0_off329 v43) a + S1x64.size a ≤ S100000x64.size a := fun v43 k0_hw6 => k0_hw6.2

def k0_off330 (v50 : BitVec 32) : Fin 2 → Nat :=
  let c0_i32_517 : BitVec 32 := 0#32
  ![v50.toNat, 0]

def k0_chk7 (v50 : BitVec 32) : Prop :=
  (∀ a, (k0_off16 v50) a + S1x64.size a ≤ S100000x64.size a) ∧
  (∀ a, (k0_off330 v50) a + S1x64.size a ≤ S100000x64.size a)
theorem k0_off16_inb : ∀ (v50 : BitVec 32) (k0_hw7 : k0_chk7 v50), ∀ a, (k0_off16 v50) a + S1x64.size a ≤ S100000x64.size a := fun v50 k0_hw7 => k0_hw7.1
theorem k0_off330_inb : ∀ (v50 : BitVec 32) (k0_hw7 : k0_chk7 v50), ∀ a, (k0_off330 v50) a + S1x64.size a ≤ S100000x64.size a := fun v50 k0_hw7 => k0_hw7.2

def k0_off331 (v57 : BitVec 32) : Fin 2 → Nat :=
  let c0_i32_519 : BitVec 32 := 0#32
  ![v57.toNat, 0]

def k0_chk8 (v57 : BitVec 32) : Prop :=
  (∀ a, (k0_off18 v57) a + S1x64.size a ≤ S100000x64.size a) ∧
  (∀ a, (k0_off331 v57) a + S1x64.size a ≤ S100000x64.size a)
theorem k0_off18_inb : ∀ (v57 : BitVec 32) (k0_hw8 : k0_chk8 v57), ∀ a, (k0_off18 v57) a + S1x64.size a ≤ S100000x64.size a := fun v57 k0_hw8 => k0_hw8.1
theorem k0_off331_inb : ∀ (v57 : BitVec 32) (k0_hw8 : k0_chk8 v57), ∀ a, (k0_off331 v57) a + S1x64.size a ≤ S100000x64.size a := fun v57 k0_hw8 => k0_hw8.2

def k0_off332 (v64 : BitVec 32) : Fin 2 → Nat :=
  let c0_i32_521 : BitVec 32 := 0#32
  ![v64.toNat, 0]

def k0_chk9 (v64 : BitVec 32) : Prop :=
  (∀ a, (k0_off20 v64) a + S1x64.size a ≤ S100000x64.size a) ∧
  (∀ a, (k0_off332 v64) a + S1x64.size a ≤ S100000x64.size a)
theorem k0_off20_inb : ∀ (v64 : BitVec 32) (k0_hw9 : k0_chk9 v64), ∀ a, (k0_off20 v64) a + S1x64.size a ≤ S100000x64.size a := fun v64 k0_hw9 => k0_hw9.1
theorem k0_off332_inb : ∀ (v64 : BitVec 32) (k0_hw9 : k0_chk9 v64), ∀ a, (k0_off332 v64) a + S1x64.size a ≤ S100000x64.size a := fun v64 k0_hw9 => k0_hw9.2

def k0_off333 (v71 : BitVec 32) : Fin 2 → Nat :=
  let c0_i32_523 : BitVec 32 := 0#32
  ![v71.toNat, 0]

def k0_chk10 (v71 : BitVec 32) : Prop :=
  (∀ a, (k0_off22 v71) a + S1x64.size a ≤ S100000x64.size a) ∧
  (∀ a, (k0_off333 v71) a + S1x64.size a ≤ S100000x64.size a)
theorem k0_off22_inb : ∀ (v71 : BitVec 32) (k0_hw10 : k0_chk10 v71), ∀ a, (k0_off22 v71) a + S1x64.size a ≤ S100000x64.size a := fun v71 k0_hw10 => k0_hw10.1
theorem k0_off333_inb : ∀ (v71 : BitVec 32) (k0_hw10 : k0_chk10 v71), ∀ a, (k0_off333 v71) a + S1x64.size a ≤ S100000x64.size a := fun v71 k0_hw10 => k0_hw10.2

def k0_off334 (v78 : BitVec 32) : Fin 2 → Nat :=
  let c0_i32_525 : BitVec 32 := 0#32
  ![v78.toNat, 0]

def k0_chk11 (v78 : BitVec 32) : Prop :=
  (∀ a, (k0_off24 v78) a + S1x64.size a ≤ S100000x64.size a) ∧
  (∀ a, (k0_off334 v78) a + S1x64.size a ≤ S100000x64.size a)
theorem k0_off24_inb : ∀ (v78 : BitVec 32) (k0_hw11 : k0_chk11 v78), ∀ a, (k0_off24 v78) a + S1x64.size a ≤ S100000x64.size a := fun v78 k0_hw11 => k0_hw11.1
theorem k0_off334_inb : ∀ (v78 : BitVec 32) (k0_hw11 : k0_chk11 v78), ∀ a, (k0_off334 v78) a + S1x64.size a ≤ S100000x64.size a := fun v78 k0_hw11 => k0_hw11.2

def k0_off335 (v85 : BitVec 32) : Fin 2 → Nat :=
  let c0_i32_527 : BitVec 32 := 0#32
  ![v85.toNat, 0]

def k0_chk12 (v85 : BitVec 32) : Prop :=
  (∀ a, (k0_off26 v85) a + S1x64.size a ≤ S100000x64.size a) ∧
  (∀ a, (k0_off335 v85) a + S1x64.size a ≤ S100000x64.size a)
theorem k0_off26_inb : ∀ (v85 : BitVec 32) (k0_hw12 : k0_chk12 v85), ∀ a, (k0_off26 v85) a + S1x64.size a ≤ S100000x64.size a := fun v85 k0_hw12 => k0_hw12.1
theorem k0_off335_inb : ∀ (v85 : BitVec 32) (k0_hw12 : k0_chk12 v85), ∀ a, (k0_off335 v85) a + S1x64.size a ≤ S100000x64.size a := fun v85 k0_hw12 => k0_hw12.2

def k0_off336 (v92 : BitVec 32) : Fin 2 → Nat :=
  let c0_i32_529 : BitVec 32 := 0#32
  ![v92.toNat, 0]

def k0_chk13 (v92 : BitVec 32) : Prop :=
  (∀ a, (k0_off28 v92) a + S1x64.size a ≤ S100000x64.size a) ∧
  (∀ a, (k0_off336 v92) a + S1x64.size a ≤ S100000x64.size a)
theorem k0_off28_inb : ∀ (v92 : BitVec 32) (k0_hw13 : k0_chk13 v92), ∀ a, (k0_off28 v92) a + S1x64.size a ≤ S100000x64.size a := fun v92 k0_hw13 => k0_hw13.1
theorem k0_off336_inb : ∀ (v92 : BitVec 32) (k0_hw13 : k0_chk13 v92), ∀ a, (k0_off336 v92) a + S1x64.size a ≤ S100000x64.size a := fun v92 k0_hw13 => k0_hw13.2

def k0_off337 (v99 : BitVec 32) : Fin 2 → Nat :=
  let c0_i32_531 : BitVec 32 := 0#32
  ![v99.toNat, 0]

def k0_chk14 (v99 : BitVec 32) : Prop :=
  (∀ a, (k0_off30 v99) a + S1x64.size a ≤ S100000x64.size a) ∧
  (∀ a, (k0_off337 v99) a + S1x64.size a ≤ S100000x64.size a)
theorem k0_off30_inb : ∀ (v99 : BitVec 32) (k0_hw14 : k0_chk14 v99), ∀ a, (k0_off30 v99) a + S1x64.size a ≤ S100000x64.size a := fun v99 k0_hw14 => k0_hw14.1
theorem k0_off337_inb : ∀ (v99 : BitVec 32) (k0_hw14 : k0_chk14 v99), ∀ a, (k0_off337 v99) a + S1x64.size a ≤ S100000x64.size a := fun v99 k0_hw14 => k0_hw14.2

def k0_off338 (v106 : BitVec 32) : Fin 2 → Nat :=
  let c0_i32_533 : BitVec 32 := 0#32
  ![v106.toNat, 0]

def k0_chk15 (v106 : BitVec 32) : Prop :=
  (∀ a, (k0_off32 v106) a + S1x64.size a ≤ S100000x64.size a) ∧
  (∀ a, (k0_off338 v106) a + S1x64.size a ≤ S100000x64.size a)
theorem k0_off32_inb : ∀ (v106 : BitVec 32) (k0_hw15 : k0_chk15 v106), ∀ a, (k0_off32 v106) a + S1x64.size a ≤ S100000x64.size a := fun v106 k0_hw15 => k0_hw15.1
theorem k0_off338_inb : ∀ (v106 : BitVec 32) (k0_hw15 : k0_chk15 v106), ∀ a, (k0_off338 v106) a + S1x64.size a ≤ S100000x64.size a := fun v106 k0_hw15 => k0_hw15.2

def k0_off339 (v113 : BitVec 32) : Fin 2 → Nat :=
  let c0_i32_535 : BitVec 32 := 0#32
  ![v113.toNat, 0]

def k0_chk16 (v113 : BitVec 32) : Prop :=
  (∀ a, (k0_off34 v113) a + S1x64.size a ≤ S100000x64.size a) ∧
  (∀ a, (k0_off339 v113) a + S1x64.size a ≤ S100000x64.size a)
theorem k0_off34_inb : ∀ (v113 : BitVec 32) (k0_hw16 : k0_chk16 v113), ∀ a, (k0_off34 v113) a + S1x64.size a ≤ S100000x64.size a := fun v113 k0_hw16 => k0_hw16.1
theorem k0_off339_inb : ∀ (v113 : BitVec 32) (k0_hw16 : k0_chk16 v113), ∀ a, (k0_off339 v113) a + S1x64.size a ≤ S100000x64.size a := fun v113 k0_hw16 => k0_hw16.2

def k0_off340 (v120 : BitVec 32) : Fin 2 → Nat :=
  let c0_i32_537 : BitVec 32 := 0#32
  ![v120.toNat, 0]

def k0_chk17 (v120 : BitVec 32) : Prop :=
  (∀ a, (k0_off36 v120) a + S1x64.size a ≤ S100000x64.size a) ∧
  (∀ a, (k0_off340 v120) a + S1x64.size a ≤ S100000x64.size a)
theorem k0_off36_inb : ∀ (v120 : BitVec 32) (k0_hw17 : k0_chk17 v120), ∀ a, (k0_off36 v120) a + S1x64.size a ≤ S100000x64.size a := fun v120 k0_hw17 => k0_hw17.1
theorem k0_off340_inb : ∀ (v120 : BitVec 32) (k0_hw17 : k0_chk17 v120), ∀ a, (k0_off340 v120) a + S1x64.size a ≤ S100000x64.size a := fun v120 k0_hw17 => k0_hw17.2

def k0_off341 (v127 : BitVec 32) : Fin 2 → Nat :=
  let c0_i32_539 : BitVec 32 := 0#32
  ![v127.toNat, 0]

def k0_chk18 (v127 : BitVec 32) : Prop :=
  (∀ a, (k0_off38 v127) a + S1x64.size a ≤ S100000x64.size a) ∧
  (∀ a, (k0_off341 v127) a + S1x64.size a ≤ S100000x64.size a)
theorem k0_off38_inb : ∀ (v127 : BitVec 32) (k0_hw18 : k0_chk18 v127), ∀ a, (k0_off38 v127) a + S1x64.size a ≤ S100000x64.size a := fun v127 k0_hw18 => k0_hw18.1
theorem k0_off341_inb : ∀ (v127 : BitVec 32) (k0_hw18 : k0_chk18 v127), ∀ a, (k0_off341 v127) a + S1x64.size a ≤ S100000x64.size a := fun v127 k0_hw18 => k0_hw18.2

def k0_off342 (v134 : BitVec 32) : Fin 2 → Nat :=
  let c0_i32_541 : BitVec 32 := 0#32
  ![v134.toNat, 0]

def k0_chk19 (v134 : BitVec 32) : Prop :=
  (∀ a, (k0_off40 v134) a + S1x64.size a ≤ S100000x64.size a) ∧
  (∀ a, (k0_off342 v134) a + S1x64.size a ≤ S100000x64.size a)
theorem k0_off40_inb : ∀ (v134 : BitVec 32) (k0_hw19 : k0_chk19 v134), ∀ a, (k0_off40 v134) a + S1x64.size a ≤ S100000x64.size a := fun v134 k0_hw19 => k0_hw19.1
theorem k0_off342_inb : ∀ (v134 : BitVec 32) (k0_hw19 : k0_chk19 v134), ∀ a, (k0_off342 v134) a + S1x64.size a ≤ S100000x64.size a := fun v134 k0_hw19 => k0_hw19.2

def k0_off343 (v141 : BitVec 32) : Fin 2 → Nat :=
  let c0_i32_543 : BitVec 32 := 0#32
  ![v141.toNat, 0]

def k0_chk20 (v141 : BitVec 32) : Prop :=
  (∀ a, (k0_off42 v141) a + S1x64.size a ≤ S100000x64.size a) ∧
  (∀ a, (k0_off343 v141) a + S1x64.size a ≤ S100000x64.size a)
theorem k0_off42_inb : ∀ (v141 : BitVec 32) (k0_hw20 : k0_chk20 v141), ∀ a, (k0_off42 v141) a + S1x64.size a ≤ S100000x64.size a := fun v141 k0_hw20 => k0_hw20.1
theorem k0_off343_inb : ∀ (v141 : BitVec 32) (k0_hw20 : k0_chk20 v141), ∀ a, (k0_off343 v141) a + S1x64.size a ≤ S100000x64.size a := fun v141 k0_hw20 => k0_hw20.2

def k0_off344 (v148 : BitVec 32) : Fin 2 → Nat :=
  let c0_i32_545 : BitVec 32 := 0#32
  ![v148.toNat, 0]

def k0_chk21 (v148 : BitVec 32) : Prop :=
  (∀ a, (k0_off44 v148) a + S1x64.size a ≤ S100000x64.size a) ∧
  (∀ a, (k0_off344 v148) a + S1x64.size a ≤ S100000x64.size a)
theorem k0_off44_inb : ∀ (v148 : BitVec 32) (k0_hw21 : k0_chk21 v148), ∀ a, (k0_off44 v148) a + S1x64.size a ≤ S100000x64.size a := fun v148 k0_hw21 => k0_hw21.1
theorem k0_off344_inb : ∀ (v148 : BitVec 32) (k0_hw21 : k0_chk21 v148), ∀ a, (k0_off344 v148) a + S1x64.size a ≤ S100000x64.size a := fun v148 k0_hw21 => k0_hw21.2

def k0_off345 (v155 : BitVec 32) : Fin 2 → Nat :=
  let c0_i32_547 : BitVec 32 := 0#32
  ![v155.toNat, 0]

def k0_chk22 (v155 : BitVec 32) : Prop :=
  (∀ a, (k0_off46 v155) a + S1x64.size a ≤ S100000x64.size a) ∧
  (∀ a, (k0_off345 v155) a + S1x64.size a ≤ S100000x64.size a)
theorem k0_off46_inb : ∀ (v155 : BitVec 32) (k0_hw22 : k0_chk22 v155), ∀ a, (k0_off46 v155) a + S1x64.size a ≤ S100000x64.size a := fun v155 k0_hw22 => k0_hw22.1
theorem k0_off345_inb : ∀ (v155 : BitVec 32) (k0_hw22 : k0_chk22 v155), ∀ a, (k0_off345 v155) a + S1x64.size a ≤ S100000x64.size a := fun v155 k0_hw22 => k0_hw22.2

def k0_off346 (v162 : BitVec 32) : Fin 2 → Nat :=
  let c0_i32_549 : BitVec 32 := 0#32
  ![v162.toNat, 0]

def k0_chk23 (v162 : BitVec 32) : Prop :=
  (∀ a, (k0_off48 v162) a + S1x64.size a ≤ S100000x64.size a) ∧
  (∀ a, (k0_off346 v162) a + S1x64.size a ≤ S100000x64.size a)
theorem k0_off48_inb : ∀ (v162 : BitVec 32) (k0_hw23 : k0_chk23 v162), ∀ a, (k0_off48 v162) a + S1x64.size a ≤ S100000x64.size a := fun v162 k0_hw23 => k0_hw23.1
theorem k0_off346_inb : ∀ (v162 : BitVec 32) (k0_hw23 : k0_chk23 v162), ∀ a, (k0_off346 v162) a + S1x64.size a ≤ S100000x64.size a := fun v162 k0_hw23 => k0_hw23.2

def k0_off347 (v169 : BitVec 32) : Fin 2 → Nat :=
  let c0_i32_551 : BitVec 32 := 0#32
  ![v169.toNat, 0]

def k0_chk24 (v169 : BitVec 32) : Prop :=
  (∀ a, (k0_off50 v169) a + S1x64.size a ≤ S100000x64.size a) ∧
  (∀ a, (k0_off347 v169) a + S1x64.size a ≤ S100000x64.size a)
theorem k0_off50_inb : ∀ (v169 : BitVec 32) (k0_hw24 : k0_chk24 v169), ∀ a, (k0_off50 v169) a + S1x64.size a ≤ S100000x64.size a := fun v169 k0_hw24 => k0_hw24.1
theorem k0_off347_inb : ∀ (v169 : BitVec 32) (k0_hw24 : k0_chk24 v169), ∀ a, (k0_off347 v169) a + S1x64.size a ≤ S100000x64.size a := fun v169 k0_hw24 => k0_hw24.2

def k0_off348 (v176 : BitVec 32) : Fin 2 → Nat :=
  let c0_i32_553 : BitVec 32 := 0#32
  ![v176.toNat, 0]

def k0_chk25 (v176 : BitVec 32) : Prop :=
  (∀ a, (k0_off52 v176) a + S1x64.size a ≤ S100000x64.size a) ∧
  (∀ a, (k0_off348 v176) a + S1x64.size a ≤ S100000x64.size a)
theorem k0_off52_inb : ∀ (v176 : BitVec 32) (k0_hw25 : k0_chk25 v176), ∀ a, (k0_off52 v176) a + S1x64.size a ≤ S100000x64.size a := fun v176 k0_hw25 => k0_hw25.1
theorem k0_off348_inb : ∀ (v176 : BitVec 32) (k0_hw25 : k0_chk25 v176), ∀ a, (k0_off348 v176) a + S1x64.size a ≤ S100000x64.size a := fun v176 k0_hw25 => k0_hw25.2

def k0_off349 (v183 : BitVec 32) : Fin 2 → Nat :=
  let c0_i32_555 : BitVec 32 := 0#32
  ![v183.toNat, 0]

def k0_chk26 (v183 : BitVec 32) : Prop :=
  (∀ a, (k0_off54 v183) a + S1x64.size a ≤ S100000x64.size a) ∧
  (∀ a, (k0_off349 v183) a + S1x64.size a ≤ S100000x64.size a)
theorem k0_off54_inb : ∀ (v183 : BitVec 32) (k0_hw26 : k0_chk26 v183), ∀ a, (k0_off54 v183) a + S1x64.size a ≤ S100000x64.size a := fun v183 k0_hw26 => k0_hw26.1
theorem k0_off349_inb : ∀ (v183 : BitVec 32) (k0_hw26 : k0_chk26 v183), ∀ a, (k0_off349 v183) a + S1x64.size a ≤ S100000x64.size a := fun v183 k0_hw26 => k0_hw26.2

def k0_off350 (v190 : BitVec 32) : Fin 2 → Nat :=
  let c0_i32_557 : BitVec 32 := 0#32
  ![v190.toNat, 0]

def k0_chk27 (v190 : BitVec 32) : Prop :=
  (∀ a, (k0_off56 v190) a + S1x64.size a ≤ S100000x64.size a) ∧
  (∀ a, (k0_off350 v190) a + S1x64.size a ≤ S100000x64.size a)
theorem k0_off56_inb : ∀ (v190 : BitVec 32) (k0_hw27 : k0_chk27 v190), ∀ a, (k0_off56 v190) a + S1x64.size a ≤ S100000x64.size a := fun v190 k0_hw27 => k0_hw27.1
theorem k0_off350_inb : ∀ (v190 : BitVec 32) (k0_hw27 : k0_chk27 v190), ∀ a, (k0_off350 v190) a + S1x64.size a ≤ S100000x64.size a := fun v190 k0_hw27 => k0_hw27.2

def k0_off351 (v197 : BitVec 32) : Fin 2 → Nat :=
  let c0_i32_559 : BitVec 32 := 0#32
  ![v197.toNat, 0]

def k0_chk28 (v197 : BitVec 32) : Prop :=
  (∀ a, (k0_off58 v197) a + S1x64.size a ≤ S100000x64.size a) ∧
  (∀ a, (k0_off351 v197) a + S1x64.size a ≤ S100000x64.size a)
theorem k0_off58_inb : ∀ (v197 : BitVec 32) (k0_hw28 : k0_chk28 v197), ∀ a, (k0_off58 v197) a + S1x64.size a ≤ S100000x64.size a := fun v197 k0_hw28 => k0_hw28.1
theorem k0_off351_inb : ∀ (v197 : BitVec 32) (k0_hw28 : k0_chk28 v197), ∀ a, (k0_off351 v197) a + S1x64.size a ≤ S100000x64.size a := fun v197 k0_hw28 => k0_hw28.2

def k0_off352 (v204 : BitVec 32) : Fin 2 → Nat :=
  let c0_i32_561 : BitVec 32 := 0#32
  ![v204.toNat, 0]

def k0_chk29 (v204 : BitVec 32) : Prop :=
  (∀ a, (k0_off60 v204) a + S1x64.size a ≤ S100000x64.size a) ∧
  (∀ a, (k0_off352 v204) a + S1x64.size a ≤ S100000x64.size a)
theorem k0_off60_inb : ∀ (v204 : BitVec 32) (k0_hw29 : k0_chk29 v204), ∀ a, (k0_off60 v204) a + S1x64.size a ≤ S100000x64.size a := fun v204 k0_hw29 => k0_hw29.1
theorem k0_off352_inb : ∀ (v204 : BitVec 32) (k0_hw29 : k0_chk29 v204), ∀ a, (k0_off352 v204) a + S1x64.size a ≤ S100000x64.size a := fun v204 k0_hw29 => k0_hw29.2

def k0_off353 (v211 : BitVec 32) : Fin 2 → Nat :=
  let c0_i32_563 : BitVec 32 := 0#32
  ![v211.toNat, 0]

def k0_chk30 (v211 : BitVec 32) : Prop :=
  (∀ a, (k0_off62 v211) a + S1x64.size a ≤ S100000x64.size a) ∧
  (∀ a, (k0_off353 v211) a + S1x64.size a ≤ S100000x64.size a)
theorem k0_off62_inb : ∀ (v211 : BitVec 32) (k0_hw30 : k0_chk30 v211), ∀ a, (k0_off62 v211) a + S1x64.size a ≤ S100000x64.size a := fun v211 k0_hw30 => k0_hw30.1
theorem k0_off353_inb : ∀ (v211 : BitVec 32) (k0_hw30 : k0_chk30 v211), ∀ a, (k0_off353 v211) a + S1x64.size a ≤ S100000x64.size a := fun v211 k0_hw30 => k0_hw30.2

def k0_off354 (v218 : BitVec 32) : Fin 2 → Nat :=
  let c0_i32_565 : BitVec 32 := 0#32
  ![v218.toNat, 0]

def k0_chk31 (v218 : BitVec 32) : Prop :=
  (∀ a, (k0_off64 v218) a + S1x64.size a ≤ S100000x64.size a) ∧
  (∀ a, (k0_off354 v218) a + S1x64.size a ≤ S100000x64.size a)
theorem k0_off64_inb : ∀ (v218 : BitVec 32) (k0_hw31 : k0_chk31 v218), ∀ a, (k0_off64 v218) a + S1x64.size a ≤ S100000x64.size a := fun v218 k0_hw31 => k0_hw31.1
theorem k0_off354_inb : ∀ (v218 : BitVec 32) (k0_hw31 : k0_chk31 v218), ∀ a, (k0_off354 v218) a + S1x64.size a ≤ S100000x64.size a := fun v218 k0_hw31 => k0_hw31.2

def k0_off355 (v225 : BitVec 32) : Fin 2 → Nat :=
  let c0_i32_567 : BitVec 32 := 0#32
  ![v225.toNat, 0]

def k0_chk32 (v225 : BitVec 32) : Prop :=
  (∀ a, (k0_off66 v225) a + S1x64.size a ≤ S100000x64.size a) ∧
  (∀ a, (k0_off355 v225) a + S1x64.size a ≤ S100000x64.size a)
theorem k0_off66_inb : ∀ (v225 : BitVec 32) (k0_hw32 : k0_chk32 v225), ∀ a, (k0_off66 v225) a + S1x64.size a ≤ S100000x64.size a := fun v225 k0_hw32 => k0_hw32.1
theorem k0_off355_inb : ∀ (v225 : BitVec 32) (k0_hw32 : k0_chk32 v225), ∀ a, (k0_off355 v225) a + S1x64.size a ≤ S100000x64.size a := fun v225 k0_hw32 => k0_hw32.2

def k0_off356 (i : grid0.Coords) (c0_i32_95 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let v228 : BitVec 32 := Scalar.addi v3 c0_i32_95
  let c0_i32_568 : BitVec 32 := 0#32
  ![v228.toNat, 0]
def k0_off357 (v232 : BitVec 32) : Fin 2 → Nat :=
  let c0_i32_569 : BitVec 32 := 0#32
  ![v232.toNat, 0]

def k0_chk33 (v232 : BitVec 32) : Prop :=
  (∀ a, (k0_off68 v232) a + S1x64.size a ≤ S100000x64.size a) ∧
  (∀ a, (k0_off357 v232) a + S1x64.size a ≤ S100000x64.size a)
theorem k0_off68_inb : ∀ (v232 : BitVec 32) (k0_hw33 : k0_chk33 v232), ∀ a, (k0_off68 v232) a + S1x64.size a ≤ S100000x64.size a := fun v232 k0_hw33 => k0_hw33.1
theorem k0_off357_inb : ∀ (v232 : BitVec 32) (k0_hw33 : k0_chk33 v232), ∀ a, (k0_off357 v232) a + S1x64.size a ≤ S100000x64.size a := fun v232 k0_hw33 => k0_hw33.2

def k0_off358 (v239 : BitVec 32) : Fin 2 → Nat :=
  let c0_i32_571 : BitVec 32 := 0#32
  ![v239.toNat, 0]

def k0_chk34 (v239 : BitVec 32) : Prop :=
  (∀ a, (k0_off70 v239) a + S1x64.size a ≤ S100000x64.size a) ∧
  (∀ a, (k0_off358 v239) a + S1x64.size a ≤ S100000x64.size a)
theorem k0_off70_inb : ∀ (v239 : BitVec 32) (k0_hw34 : k0_chk34 v239), ∀ a, (k0_off70 v239) a + S1x64.size a ≤ S100000x64.size a := fun v239 k0_hw34 => k0_hw34.1
theorem k0_off358_inb : ∀ (v239 : BitVec 32) (k0_hw34 : k0_chk34 v239), ∀ a, (k0_off358 v239) a + S1x64.size a ≤ S100000x64.size a := fun v239 k0_hw34 => k0_hw34.2

def k0_off359 (v246 : BitVec 32) : Fin 2 → Nat :=
  let c0_i32_573 : BitVec 32 := 0#32
  ![v246.toNat, 0]

def k0_chk35 (v246 : BitVec 32) : Prop :=
  (∀ a, (k0_off72 v246) a + S1x64.size a ≤ S100000x64.size a) ∧
  (∀ a, (k0_off359 v246) a + S1x64.size a ≤ S100000x64.size a)
theorem k0_off72_inb : ∀ (v246 : BitVec 32) (k0_hw35 : k0_chk35 v246), ∀ a, (k0_off72 v246) a + S1x64.size a ≤ S100000x64.size a := fun v246 k0_hw35 => k0_hw35.1
theorem k0_off359_inb : ∀ (v246 : BitVec 32) (k0_hw35 : k0_chk35 v246), ∀ a, (k0_off359 v246) a + S1x64.size a ≤ S100000x64.size a := fun v246 k0_hw35 => k0_hw35.2

def k0_off360 (v253 : BitVec 32) : Fin 2 → Nat :=
  let c0_i32_575 : BitVec 32 := 0#32
  ![v253.toNat, 0]

def k0_chk36 (v253 : BitVec 32) : Prop :=
  (∀ a, (k0_off74 v253) a + S1x64.size a ≤ S100000x64.size a) ∧
  (∀ a, (k0_off360 v253) a + S1x64.size a ≤ S100000x64.size a)
theorem k0_off74_inb : ∀ (v253 : BitVec 32) (k0_hw36 : k0_chk36 v253), ∀ a, (k0_off74 v253) a + S1x64.size a ≤ S100000x64.size a := fun v253 k0_hw36 => k0_hw36.1
theorem k0_off360_inb : ∀ (v253 : BitVec 32) (k0_hw36 : k0_chk36 v253), ∀ a, (k0_off360 v253) a + S1x64.size a ≤ S100000x64.size a := fun v253 k0_hw36 => k0_hw36.2

def k0_off361 (v260 : BitVec 32) : Fin 2 → Nat :=
  let c0_i32_577 : BitVec 32 := 0#32
  ![v260.toNat, 0]

def k0_chk37 (v260 : BitVec 32) : Prop :=
  (∀ a, (k0_off76 v260) a + S1x64.size a ≤ S100000x64.size a) ∧
  (∀ a, (k0_off361 v260) a + S1x64.size a ≤ S100000x64.size a)
theorem k0_off76_inb : ∀ (v260 : BitVec 32) (k0_hw37 : k0_chk37 v260), ∀ a, (k0_off76 v260) a + S1x64.size a ≤ S100000x64.size a := fun v260 k0_hw37 => k0_hw37.1
theorem k0_off361_inb : ∀ (v260 : BitVec 32) (k0_hw37 : k0_chk37 v260), ∀ a, (k0_off361 v260) a + S1x64.size a ≤ S100000x64.size a := fun v260 k0_hw37 => k0_hw37.2

def k0_off362 (v267 : BitVec 32) : Fin 2 → Nat :=
  let c0_i32_579 : BitVec 32 := 0#32
  ![v267.toNat, 0]

def k0_chk38 (v267 : BitVec 32) : Prop :=
  (∀ a, (k0_off78 v267) a + S1x64.size a ≤ S100000x64.size a) ∧
  (∀ a, (k0_off362 v267) a + S1x64.size a ≤ S100000x64.size a)
theorem k0_off78_inb : ∀ (v267 : BitVec 32) (k0_hw38 : k0_chk38 v267), ∀ a, (k0_off78 v267) a + S1x64.size a ≤ S100000x64.size a := fun v267 k0_hw38 => k0_hw38.1
theorem k0_off362_inb : ∀ (v267 : BitVec 32) (k0_hw38 : k0_chk38 v267), ∀ a, (k0_off362 v267) a + S1x64.size a ≤ S100000x64.size a := fun v267 k0_hw38 => k0_hw38.2

def k0_off363 (v274 : BitVec 32) : Fin 2 → Nat :=
  let c0_i32_581 : BitVec 32 := 0#32
  ![v274.toNat, 0]

def k0_chk39 (v274 : BitVec 32) : Prop :=
  (∀ a, (k0_off80 v274) a + S1x64.size a ≤ S100000x64.size a) ∧
  (∀ a, (k0_off363 v274) a + S1x64.size a ≤ S100000x64.size a)
theorem k0_off80_inb : ∀ (v274 : BitVec 32) (k0_hw39 : k0_chk39 v274), ∀ a, (k0_off80 v274) a + S1x64.size a ≤ S100000x64.size a := fun v274 k0_hw39 => k0_hw39.1
theorem k0_off363_inb : ∀ (v274 : BitVec 32) (k0_hw39 : k0_chk39 v274), ∀ a, (k0_off363 v274) a + S1x64.size a ≤ S100000x64.size a := fun v274 k0_hw39 => k0_hw39.2

def k0_off364 (v281 : BitVec 32) : Fin 2 → Nat :=
  let c0_i32_583 : BitVec 32 := 0#32
  ![v281.toNat, 0]

def k0_chk40 (v281 : BitVec 32) : Prop :=
  (∀ a, (k0_off82 v281) a + S1x64.size a ≤ S100000x64.size a) ∧
  (∀ a, (k0_off364 v281) a + S1x64.size a ≤ S100000x64.size a)
theorem k0_off82_inb : ∀ (v281 : BitVec 32) (k0_hw40 : k0_chk40 v281), ∀ a, (k0_off82 v281) a + S1x64.size a ≤ S100000x64.size a := fun v281 k0_hw40 => k0_hw40.1
theorem k0_off364_inb : ∀ (v281 : BitVec 32) (k0_hw40 : k0_chk40 v281), ∀ a, (k0_off364 v281) a + S1x64.size a ≤ S100000x64.size a := fun v281 k0_hw40 => k0_hw40.2

def k0_off365 (v288 : BitVec 32) : Fin 2 → Nat :=
  let c0_i32_585 : BitVec 32 := 0#32
  ![v288.toNat, 0]

def k0_chk41 (v288 : BitVec 32) : Prop :=
  (∀ a, (k0_off84 v288) a + S1x64.size a ≤ S100000x64.size a) ∧
  (∀ a, (k0_off365 v288) a + S1x64.size a ≤ S100000x64.size a)
theorem k0_off84_inb : ∀ (v288 : BitVec 32) (k0_hw41 : k0_chk41 v288), ∀ a, (k0_off84 v288) a + S1x64.size a ≤ S100000x64.size a := fun v288 k0_hw41 => k0_hw41.1
theorem k0_off365_inb : ∀ (v288 : BitVec 32) (k0_hw41 : k0_chk41 v288), ∀ a, (k0_off365 v288) a + S1x64.size a ≤ S100000x64.size a := fun v288 k0_hw41 => k0_hw41.2

def k0_off366 (v295 : BitVec 32) : Fin 2 → Nat :=
  let c0_i32_587 : BitVec 32 := 0#32
  ![v295.toNat, 0]

def k0_chk42 (v295 : BitVec 32) : Prop :=
  (∀ a, (k0_off86 v295) a + S1x64.size a ≤ S100000x64.size a) ∧
  (∀ a, (k0_off366 v295) a + S1x64.size a ≤ S100000x64.size a)
theorem k0_off86_inb : ∀ (v295 : BitVec 32) (k0_hw42 : k0_chk42 v295), ∀ a, (k0_off86 v295) a + S1x64.size a ≤ S100000x64.size a := fun v295 k0_hw42 => k0_hw42.1
theorem k0_off366_inb : ∀ (v295 : BitVec 32) (k0_hw42 : k0_chk42 v295), ∀ a, (k0_off366 v295) a + S1x64.size a ≤ S100000x64.size a := fun v295 k0_hw42 => k0_hw42.2

def k0_off367 (v302 : BitVec 32) : Fin 2 → Nat :=
  let c0_i32_589 : BitVec 32 := 0#32
  ![v302.toNat, 0]

def k0_chk43 (v302 : BitVec 32) : Prop :=
  (∀ a, (k0_off88 v302) a + S1x64.size a ≤ S100000x64.size a) ∧
  (∀ a, (k0_off367 v302) a + S1x64.size a ≤ S100000x64.size a)
theorem k0_off88_inb : ∀ (v302 : BitVec 32) (k0_hw43 : k0_chk43 v302), ∀ a, (k0_off88 v302) a + S1x64.size a ≤ S100000x64.size a := fun v302 k0_hw43 => k0_hw43.1
theorem k0_off367_inb : ∀ (v302 : BitVec 32) (k0_hw43 : k0_chk43 v302), ∀ a, (k0_off367 v302) a + S1x64.size a ≤ S100000x64.size a := fun v302 k0_hw43 => k0_hw43.2

def k0_off368 (v309 : BitVec 32) : Fin 2 → Nat :=
  let c0_i32_591 : BitVec 32 := 0#32
  ![v309.toNat, 0]

def k0_chk44 (v309 : BitVec 32) : Prop :=
  (∀ a, (k0_off90 v309) a + S1x64.size a ≤ S100000x64.size a) ∧
  (∀ a, (k0_off368 v309) a + S1x64.size a ≤ S100000x64.size a)
theorem k0_off90_inb : ∀ (v309 : BitVec 32) (k0_hw44 : k0_chk44 v309), ∀ a, (k0_off90 v309) a + S1x64.size a ≤ S100000x64.size a := fun v309 k0_hw44 => k0_hw44.1
theorem k0_off368_inb : ∀ (v309 : BitVec 32) (k0_hw44 : k0_chk44 v309), ∀ a, (k0_off368 v309) a + S1x64.size a ≤ S100000x64.size a := fun v309 k0_hw44 => k0_hw44.2

def k0_off369 (v316 : BitVec 32) : Fin 2 → Nat :=
  let c0_i32_593 : BitVec 32 := 0#32
  ![v316.toNat, 0]

def k0_chk45 (v316 : BitVec 32) : Prop :=
  (∀ a, (k0_off92 v316) a + S1x64.size a ≤ S100000x64.size a) ∧
  (∀ a, (k0_off369 v316) a + S1x64.size a ≤ S100000x64.size a)
theorem k0_off92_inb : ∀ (v316 : BitVec 32) (k0_hw45 : k0_chk45 v316), ∀ a, (k0_off92 v316) a + S1x64.size a ≤ S100000x64.size a := fun v316 k0_hw45 => k0_hw45.1
theorem k0_off369_inb : ∀ (v316 : BitVec 32) (k0_hw45 : k0_chk45 v316), ∀ a, (k0_off369 v316) a + S1x64.size a ≤ S100000x64.size a := fun v316 k0_hw45 => k0_hw45.2

def k0_off370 (v323 : BitVec 32) : Fin 2 → Nat :=
  let c0_i32_595 : BitVec 32 := 0#32
  ![v323.toNat, 0]

def k0_chk46 (v323 : BitVec 32) : Prop :=
  (∀ a, (k0_off94 v323) a + S1x64.size a ≤ S100000x64.size a) ∧
  (∀ a, (k0_off370 v323) a + S1x64.size a ≤ S100000x64.size a)
theorem k0_off94_inb : ∀ (v323 : BitVec 32) (k0_hw46 : k0_chk46 v323), ∀ a, (k0_off94 v323) a + S1x64.size a ≤ S100000x64.size a := fun v323 k0_hw46 => k0_hw46.1
theorem k0_off370_inb : ∀ (v323 : BitVec 32) (k0_hw46 : k0_chk46 v323), ∀ a, (k0_off370 v323) a + S1x64.size a ≤ S100000x64.size a := fun v323 k0_hw46 => k0_hw46.2

def k0_off371 (v330 : BitVec 32) : Fin 2 → Nat :=
  let c0_i32_597 : BitVec 32 := 0#32
  ![v330.toNat, 0]

def k0_chk47 (v330 : BitVec 32) : Prop :=
  (∀ a, (k0_off96 v330) a + S1x64.size a ≤ S100000x64.size a) ∧
  (∀ a, (k0_off371 v330) a + S1x64.size a ≤ S100000x64.size a)
theorem k0_off96_inb : ∀ (v330 : BitVec 32) (k0_hw47 : k0_chk47 v330), ∀ a, (k0_off96 v330) a + S1x64.size a ≤ S100000x64.size a := fun v330 k0_hw47 => k0_hw47.1
theorem k0_off371_inb : ∀ (v330 : BitVec 32) (k0_hw47 : k0_chk47 v330), ∀ a, (k0_off371 v330) a + S1x64.size a ≤ S100000x64.size a := fun v330 k0_hw47 => k0_hw47.2

def k0_off372 (v337 : BitVec 32) : Fin 2 → Nat :=
  let c0_i32_599 : BitVec 32 := 0#32
  ![v337.toNat, 0]

def k0_chk48 (v337 : BitVec 32) : Prop :=
  (∀ a, (k0_off98 v337) a + S1x64.size a ≤ S100000x64.size a) ∧
  (∀ a, (k0_off372 v337) a + S1x64.size a ≤ S100000x64.size a)
theorem k0_off98_inb : ∀ (v337 : BitVec 32) (k0_hw48 : k0_chk48 v337), ∀ a, (k0_off98 v337) a + S1x64.size a ≤ S100000x64.size a := fun v337 k0_hw48 => k0_hw48.1
theorem k0_off372_inb : ∀ (v337 : BitVec 32) (k0_hw48 : k0_chk48 v337), ∀ a, (k0_off372 v337) a + S1x64.size a ≤ S100000x64.size a := fun v337 k0_hw48 => k0_hw48.2

def k0_off373 (v344 : BitVec 32) : Fin 2 → Nat :=
  let c0_i32_601 : BitVec 32 := 0#32
  ![v344.toNat, 0]

def k0_chk49 (v344 : BitVec 32) : Prop :=
  (∀ a, (k0_off100 v344) a + S1x64.size a ≤ S100000x64.size a) ∧
  (∀ a, (k0_off373 v344) a + S1x64.size a ≤ S100000x64.size a)
theorem k0_off100_inb : ∀ (v344 : BitVec 32) (k0_hw49 : k0_chk49 v344), ∀ a, (k0_off100 v344) a + S1x64.size a ≤ S100000x64.size a := fun v344 k0_hw49 => k0_hw49.1
theorem k0_off373_inb : ∀ (v344 : BitVec 32) (k0_hw49 : k0_chk49 v344), ∀ a, (k0_off373 v344) a + S1x64.size a ≤ S100000x64.size a := fun v344 k0_hw49 => k0_hw49.2

def k0_off374 (v351 : BitVec 32) : Fin 2 → Nat :=
  let c0_i32_603 : BitVec 32 := 0#32
  ![v351.toNat, 0]

def k0_chk50 (v351 : BitVec 32) : Prop :=
  (∀ a, (k0_off102 v351) a + S1x64.size a ≤ S100000x64.size a) ∧
  (∀ a, (k0_off374 v351) a + S1x64.size a ≤ S100000x64.size a)
theorem k0_off102_inb : ∀ (v351 : BitVec 32) (k0_hw50 : k0_chk50 v351), ∀ a, (k0_off102 v351) a + S1x64.size a ≤ S100000x64.size a := fun v351 k0_hw50 => k0_hw50.1
theorem k0_off374_inb : ∀ (v351 : BitVec 32) (k0_hw50 : k0_chk50 v351), ∀ a, (k0_off374 v351) a + S1x64.size a ≤ S100000x64.size a := fun v351 k0_hw50 => k0_hw50.2

def k0_off375 (v358 : BitVec 32) : Fin 2 → Nat :=
  let c0_i32_605 : BitVec 32 := 0#32
  ![v358.toNat, 0]

def k0_chk51 (v358 : BitVec 32) : Prop :=
  (∀ a, (k0_off104 v358) a + S1x64.size a ≤ S100000x64.size a) ∧
  (∀ a, (k0_off375 v358) a + S1x64.size a ≤ S100000x64.size a)
theorem k0_off104_inb : ∀ (v358 : BitVec 32) (k0_hw51 : k0_chk51 v358), ∀ a, (k0_off104 v358) a + S1x64.size a ≤ S100000x64.size a := fun v358 k0_hw51 => k0_hw51.1
theorem k0_off375_inb : ∀ (v358 : BitVec 32) (k0_hw51 : k0_chk51 v358), ∀ a, (k0_off375 v358) a + S1x64.size a ≤ S100000x64.size a := fun v358 k0_hw51 => k0_hw51.2

def k0_off376 (v365 : BitVec 32) : Fin 2 → Nat :=
  let c0_i32_607 : BitVec 32 := 0#32
  ![v365.toNat, 0]

def k0_chk52 (v365 : BitVec 32) : Prop :=
  (∀ a, (k0_off106 v365) a + S1x64.size a ≤ S100000x64.size a) ∧
  (∀ a, (k0_off376 v365) a + S1x64.size a ≤ S100000x64.size a)
theorem k0_off106_inb : ∀ (v365 : BitVec 32) (k0_hw52 : k0_chk52 v365), ∀ a, (k0_off106 v365) a + S1x64.size a ≤ S100000x64.size a := fun v365 k0_hw52 => k0_hw52.1
theorem k0_off376_inb : ∀ (v365 : BitVec 32) (k0_hw52 : k0_chk52 v365), ∀ a, (k0_off376 v365) a + S1x64.size a ≤ S100000x64.size a := fun v365 k0_hw52 => k0_hw52.2

def k0_off377 (v372 : BitVec 32) : Fin 2 → Nat :=
  let c0_i32_609 : BitVec 32 := 0#32
  ![v372.toNat, 0]

def k0_chk53 (v372 : BitVec 32) : Prop :=
  (∀ a, (k0_off108 v372) a + S1x64.size a ≤ S100000x64.size a) ∧
  (∀ a, (k0_off377 v372) a + S1x64.size a ≤ S100000x64.size a)
theorem k0_off108_inb : ∀ (v372 : BitVec 32) (k0_hw53 : k0_chk53 v372), ∀ a, (k0_off108 v372) a + S1x64.size a ≤ S100000x64.size a := fun v372 k0_hw53 => k0_hw53.1
theorem k0_off377_inb : ∀ (v372 : BitVec 32) (k0_hw53 : k0_chk53 v372), ∀ a, (k0_off377 v372) a + S1x64.size a ≤ S100000x64.size a := fun v372 k0_hw53 => k0_hw53.2

def k0_off378 (v379 : BitVec 32) : Fin 2 → Nat :=
  let c0_i32_611 : BitVec 32 := 0#32
  ![v379.toNat, 0]

def k0_chk54 (v379 : BitVec 32) : Prop :=
  (∀ a, (k0_off110 v379) a + S1x64.size a ≤ S100000x64.size a) ∧
  (∀ a, (k0_off378 v379) a + S1x64.size a ≤ S100000x64.size a)
theorem k0_off110_inb : ∀ (v379 : BitVec 32) (k0_hw54 : k0_chk54 v379), ∀ a, (k0_off110 v379) a + S1x64.size a ≤ S100000x64.size a := fun v379 k0_hw54 => k0_hw54.1
theorem k0_off378_inb : ∀ (v379 : BitVec 32) (k0_hw54 : k0_chk54 v379), ∀ a, (k0_off378 v379) a + S1x64.size a ≤ S100000x64.size a := fun v379 k0_hw54 => k0_hw54.2

def k0_off379 (v386 : BitVec 32) : Fin 2 → Nat :=
  let c0_i32_613 : BitVec 32 := 0#32
  ![v386.toNat, 0]

def k0_chk55 (v386 : BitVec 32) : Prop :=
  (∀ a, (k0_off112 v386) a + S1x64.size a ≤ S100000x64.size a) ∧
  (∀ a, (k0_off379 v386) a + S1x64.size a ≤ S100000x64.size a)
theorem k0_off112_inb : ∀ (v386 : BitVec 32) (k0_hw55 : k0_chk55 v386), ∀ a, (k0_off112 v386) a + S1x64.size a ≤ S100000x64.size a := fun v386 k0_hw55 => k0_hw55.1
theorem k0_off379_inb : ∀ (v386 : BitVec 32) (k0_hw55 : k0_chk55 v386), ∀ a, (k0_off379 v386) a + S1x64.size a ≤ S100000x64.size a := fun v386 k0_hw55 => k0_hw55.2

def k0_off380 (v393 : BitVec 32) : Fin 2 → Nat :=
  let c0_i32_615 : BitVec 32 := 0#32
  ![v393.toNat, 0]

def k0_chk56 (v393 : BitVec 32) : Prop :=
  (∀ a, (k0_off114 v393) a + S1x64.size a ≤ S100000x64.size a) ∧
  (∀ a, (k0_off380 v393) a + S1x64.size a ≤ S100000x64.size a)
theorem k0_off114_inb : ∀ (v393 : BitVec 32) (k0_hw56 : k0_chk56 v393), ∀ a, (k0_off114 v393) a + S1x64.size a ≤ S100000x64.size a := fun v393 k0_hw56 => k0_hw56.1
theorem k0_off380_inb : ∀ (v393 : BitVec 32) (k0_hw56 : k0_chk56 v393), ∀ a, (k0_off380 v393) a + S1x64.size a ≤ S100000x64.size a := fun v393 k0_hw56 => k0_hw56.2

def k0_off381 (v400 : BitVec 32) : Fin 2 → Nat :=
  let c0_i32_617 : BitVec 32 := 0#32
  ![v400.toNat, 0]

def k0_chk57 (v400 : BitVec 32) : Prop :=
  (∀ a, (k0_off116 v400) a + S1x64.size a ≤ S100000x64.size a) ∧
  (∀ a, (k0_off381 v400) a + S1x64.size a ≤ S100000x64.size a)
theorem k0_off116_inb : ∀ (v400 : BitVec 32) (k0_hw57 : k0_chk57 v400), ∀ a, (k0_off116 v400) a + S1x64.size a ≤ S100000x64.size a := fun v400 k0_hw57 => k0_hw57.1
theorem k0_off381_inb : ∀ (v400 : BitVec 32) (k0_hw57 : k0_chk57 v400), ∀ a, (k0_off381 v400) a + S1x64.size a ≤ S100000x64.size a := fun v400 k0_hw57 => k0_hw57.2

def k0_off382 (v407 : BitVec 32) : Fin 2 → Nat :=
  let c0_i32_619 : BitVec 32 := 0#32
  ![v407.toNat, 0]

def k0_chk58 (v407 : BitVec 32) : Prop :=
  (∀ a, (k0_off118 v407) a + S1x64.size a ≤ S100000x64.size a) ∧
  (∀ a, (k0_off382 v407) a + S1x64.size a ≤ S100000x64.size a)
theorem k0_off118_inb : ∀ (v407 : BitVec 32) (k0_hw58 : k0_chk58 v407), ∀ a, (k0_off118 v407) a + S1x64.size a ≤ S100000x64.size a := fun v407 k0_hw58 => k0_hw58.1
theorem k0_off382_inb : ∀ (v407 : BitVec 32) (k0_hw58 : k0_chk58 v407), ∀ a, (k0_off382 v407) a + S1x64.size a ≤ S100000x64.size a := fun v407 k0_hw58 => k0_hw58.2

def k0_off383 (v414 : BitVec 32) : Fin 2 → Nat :=
  let c0_i32_621 : BitVec 32 := 0#32
  ![v414.toNat, 0]

def k0_chk59 (v414 : BitVec 32) : Prop :=
  (∀ a, (k0_off120 v414) a + S1x64.size a ≤ S100000x64.size a) ∧
  (∀ a, (k0_off383 v414) a + S1x64.size a ≤ S100000x64.size a)
theorem k0_off120_inb : ∀ (v414 : BitVec 32) (k0_hw59 : k0_chk59 v414), ∀ a, (k0_off120 v414) a + S1x64.size a ≤ S100000x64.size a := fun v414 k0_hw59 => k0_hw59.1
theorem k0_off383_inb : ∀ (v414 : BitVec 32) (k0_hw59 : k0_chk59 v414), ∀ a, (k0_off383 v414) a + S1x64.size a ≤ S100000x64.size a := fun v414 k0_hw59 => k0_hw59.2

def k0_off384 (v421 : BitVec 32) : Fin 2 → Nat :=
  let c0_i32_623 : BitVec 32 := 0#32
  ![v421.toNat, 0]

def k0_chk60 (v421 : BitVec 32) : Prop :=
  (∀ a, (k0_off122 v421) a + S1x64.size a ≤ S100000x64.size a) ∧
  (∀ a, (k0_off384 v421) a + S1x64.size a ≤ S100000x64.size a)
theorem k0_off122_inb : ∀ (v421 : BitVec 32) (k0_hw60 : k0_chk60 v421), ∀ a, (k0_off122 v421) a + S1x64.size a ≤ S100000x64.size a := fun v421 k0_hw60 => k0_hw60.1
theorem k0_off384_inb : ∀ (v421 : BitVec 32) (k0_hw60 : k0_chk60 v421), ∀ a, (k0_off384 v421) a + S1x64.size a ≤ S100000x64.size a := fun v421 k0_hw60 => k0_hw60.2

def k0_off385 (v428 : BitVec 32) : Fin 2 → Nat :=
  let c0_i32_625 : BitVec 32 := 0#32
  ![v428.toNat, 0]

def k0_chk61 (v428 : BitVec 32) : Prop :=
  (∀ a, (k0_off124 v428) a + S1x64.size a ≤ S100000x64.size a) ∧
  (∀ a, (k0_off385 v428) a + S1x64.size a ≤ S100000x64.size a)
theorem k0_off124_inb : ∀ (v428 : BitVec 32) (k0_hw61 : k0_chk61 v428), ∀ a, (k0_off124 v428) a + S1x64.size a ≤ S100000x64.size a := fun v428 k0_hw61 => k0_hw61.1
theorem k0_off385_inb : ∀ (v428 : BitVec 32) (k0_hw61 : k0_chk61 v428), ∀ a, (k0_off385 v428) a + S1x64.size a ≤ S100000x64.size a := fun v428 k0_hw61 => k0_hw61.2

def k0_off386 (v435 : BitVec 32) : Fin 2 → Nat :=
  let c0_i32_627 : BitVec 32 := 0#32
  ![v435.toNat, 0]

def k0_chk62 (v435 : BitVec 32) : Prop :=
  (∀ a, (k0_off126 v435) a + S1x64.size a ≤ S100000x64.size a) ∧
  (∀ a, (k0_off386 v435) a + S1x64.size a ≤ S100000x64.size a)
theorem k0_off126_inb : ∀ (v435 : BitVec 32) (k0_hw62 : k0_chk62 v435), ∀ a, (k0_off126 v435) a + S1x64.size a ≤ S100000x64.size a := fun v435 k0_hw62 => k0_hw62.1
theorem k0_off386_inb : ∀ (v435 : BitVec 32) (k0_hw62 : k0_chk62 v435), ∀ a, (k0_off386 v435) a + S1x64.size a ≤ S100000x64.size a := fun v435 k0_hw62 => k0_hw62.2

def k0_off387 (v442 : BitVec 32) : Fin 2 → Nat :=
  let c0_i32_629 : BitVec 32 := 0#32
  ![v442.toNat, 0]

def k0_chk63 (v442 : BitVec 32) : Prop :=
  (∀ a, (k0_off128 v442) a + S1x64.size a ≤ S100000x64.size a) ∧
  (∀ a, (k0_off387 v442) a + S1x64.size a ≤ S100000x64.size a)
theorem k0_off128_inb : ∀ (v442 : BitVec 32) (k0_hw63 : k0_chk63 v442), ∀ a, (k0_off128 v442) a + S1x64.size a ≤ S100000x64.size a := fun v442 k0_hw63 => k0_hw63.1
theorem k0_off387_inb : ∀ (v442 : BitVec 32) (k0_hw63 : k0_chk63 v442), ∀ a, (k0_off387 v442) a + S1x64.size a ≤ S100000x64.size a := fun v442 k0_hw63 => k0_hw63.2

def k0_off388 (v449 : BitVec 32) : Fin 2 → Nat :=
  let c0_i32_631 : BitVec 32 := 0#32
  ![v449.toNat, 0]

def k0_chk64 (v449 : BitVec 32) : Prop :=
  (∀ a, (k0_off130 v449) a + S1x64.size a ≤ S100000x64.size a) ∧
  (∀ a, (k0_off388 v449) a + S1x64.size a ≤ S100000x64.size a)
theorem k0_off130_inb : ∀ (v449 : BitVec 32) (k0_hw64 : k0_chk64 v449), ∀ a, (k0_off130 v449) a + S1x64.size a ≤ S100000x64.size a := fun v449 k0_hw64 => k0_hw64.1
theorem k0_off388_inb : ∀ (v449 : BitVec 32) (k0_hw64 : k0_chk64 v449), ∀ a, (k0_off388 v449) a + S1x64.size a ≤ S100000x64.size a := fun v449 k0_hw64 => k0_hw64.2

def k0_off389 (v456 : BitVec 32) : Fin 2 → Nat :=
  let c0_i32_633 : BitVec 32 := 0#32
  ![v456.toNat, 0]

def k0_chk65 (v456 : BitVec 32) : Prop :=
  (∀ a, (k0_off132 v456) a + S1x64.size a ≤ S100000x64.size a) ∧
  (∀ a, (k0_off389 v456) a + S1x64.size a ≤ S100000x64.size a)
theorem k0_off132_inb : ∀ (v456 : BitVec 32) (k0_hw65 : k0_chk65 v456), ∀ a, (k0_off132 v456) a + S1x64.size a ≤ S100000x64.size a := fun v456 k0_hw65 => k0_hw65.1
theorem k0_off389_inb : ∀ (v456 : BitVec 32) (k0_hw65 : k0_chk65 v456), ∀ a, (k0_off389 v456) a + S1x64.size a ≤ S100000x64.size a := fun v456 k0_hw65 => k0_hw65.2

def k0_off390 (v463 : BitVec 32) : Fin 2 → Nat :=
  let c0_i32_635 : BitVec 32 := 0#32
  ![v463.toNat, 0]

def k0_chk66 (v463 : BitVec 32) : Prop :=
  (∀ a, (k0_off134 v463) a + S1x64.size a ≤ S100000x64.size a) ∧
  (∀ a, (k0_off390 v463) a + S1x64.size a ≤ S100000x64.size a)
theorem k0_off134_inb : ∀ (v463 : BitVec 32) (k0_hw66 : k0_chk66 v463), ∀ a, (k0_off134 v463) a + S1x64.size a ≤ S100000x64.size a := fun v463 k0_hw66 => k0_hw66.1
theorem k0_off390_inb : ∀ (v463 : BitVec 32) (k0_hw66 : k0_chk66 v463), ∀ a, (k0_off390 v463) a + S1x64.size a ≤ S100000x64.size a := fun v463 k0_hw66 => k0_hw66.2

def k0_off391 (v470 : BitVec 32) : Fin 2 → Nat :=
  let c0_i32_637 : BitVec 32 := 0#32
  ![v470.toNat, 0]

def k0_chk67 (v470 : BitVec 32) : Prop :=
  (∀ a, (k0_off136 v470) a + S1x64.size a ≤ S100000x64.size a) ∧
  (∀ a, (k0_off391 v470) a + S1x64.size a ≤ S100000x64.size a)
theorem k0_off136_inb : ∀ (v470 : BitVec 32) (k0_hw67 : k0_chk67 v470), ∀ a, (k0_off136 v470) a + S1x64.size a ≤ S100000x64.size a := fun v470 k0_hw67 => k0_hw67.1
theorem k0_off391_inb : ∀ (v470 : BitVec 32) (k0_hw67 : k0_chk67 v470), ∀ a, (k0_off391 v470) a + S1x64.size a ≤ S100000x64.size a := fun v470 k0_hw67 => k0_hw67.2

def k0_off392 (v477 : BitVec 32) : Fin 2 → Nat :=
  let c0_i32_639 : BitVec 32 := 0#32
  ![v477.toNat, 0]

def k0_chk68 (v477 : BitVec 32) : Prop :=
  (∀ a, (k0_off138 v477) a + S1x64.size a ≤ S100000x64.size a) ∧
  (∀ a, (k0_off392 v477) a + S1x64.size a ≤ S100000x64.size a)
theorem k0_off138_inb : ∀ (v477 : BitVec 32) (k0_hw68 : k0_chk68 v477), ∀ a, (k0_off138 v477) a + S1x64.size a ≤ S100000x64.size a := fun v477 k0_hw68 => k0_hw68.1
theorem k0_off392_inb : ∀ (v477 : BitVec 32) (k0_hw68 : k0_chk68 v477), ∀ a, (k0_off392 v477) a + S1x64.size a ≤ S100000x64.size a := fun v477 k0_hw68 => k0_hw68.2

def k0_off393 (v484 : BitVec 32) : Fin 2 → Nat :=
  let c0_i32_641 : BitVec 32 := 0#32
  ![v484.toNat, 0]

def k0_chk69 (v484 : BitVec 32) : Prop :=
  (∀ a, (k0_off140 v484) a + S1x64.size a ≤ S100000x64.size a) ∧
  (∀ a, (k0_off393 v484) a + S1x64.size a ≤ S100000x64.size a)
theorem k0_off140_inb : ∀ (v484 : BitVec 32) (k0_hw69 : k0_chk69 v484), ∀ a, (k0_off140 v484) a + S1x64.size a ≤ S100000x64.size a := fun v484 k0_hw69 => k0_hw69.1
theorem k0_off393_inb : ∀ (v484 : BitVec 32) (k0_hw69 : k0_chk69 v484), ∀ a, (k0_off393 v484) a + S1x64.size a ≤ S100000x64.size a := fun v484 k0_hw69 => k0_hw69.2

def k0_off394 (v491 : BitVec 32) : Fin 2 → Nat :=
  let c0_i32_643 : BitVec 32 := 0#32
  ![v491.toNat, 0]

def k0_chk70 (v491 : BitVec 32) : Prop :=
  (∀ a, (k0_off142 v491) a + S1x64.size a ≤ S100000x64.size a) ∧
  (∀ a, (k0_off394 v491) a + S1x64.size a ≤ S100000x64.size a)
theorem k0_off142_inb : ∀ (v491 : BitVec 32) (k0_hw70 : k0_chk70 v491), ∀ a, (k0_off142 v491) a + S1x64.size a ≤ S100000x64.size a := fun v491 k0_hw70 => k0_hw70.1
theorem k0_off394_inb : ∀ (v491 : BitVec 32) (k0_hw70 : k0_chk70 v491), ∀ a, (k0_off394 v491) a + S1x64.size a ≤ S100000x64.size a := fun v491 k0_hw70 => k0_hw70.2

def k0_off395 (v498 : BitVec 32) : Fin 2 → Nat :=
  let c0_i32_645 : BitVec 32 := 0#32
  ![v498.toNat, 0]

def k0_chk71 (v498 : BitVec 32) : Prop :=
  (∀ a, (k0_off144 v498) a + S1x64.size a ≤ S100000x64.size a) ∧
  (∀ a, (k0_off395 v498) a + S1x64.size a ≤ S100000x64.size a)
theorem k0_off144_inb : ∀ (v498 : BitVec 32) (k0_hw71 : k0_chk71 v498), ∀ a, (k0_off144 v498) a + S1x64.size a ≤ S100000x64.size a := fun v498 k0_hw71 => k0_hw71.1
theorem k0_off395_inb : ∀ (v498 : BitVec 32) (k0_hw71 : k0_chk71 v498), ∀ a, (k0_off395 v498) a + S1x64.size a ≤ S100000x64.size a := fun v498 k0_hw71 => k0_hw71.2

def k0_off396 (v505 : BitVec 32) : Fin 2 → Nat :=
  let c0_i32_647 : BitVec 32 := 0#32
  ![v505.toNat, 0]

def k0_chk72 (v505 : BitVec 32) : Prop :=
  (∀ a, (k0_off146 v505) a + S1x64.size a ≤ S100000x64.size a) ∧
  (∀ a, (k0_off396 v505) a + S1x64.size a ≤ S100000x64.size a)
theorem k0_off146_inb : ∀ (v505 : BitVec 32) (k0_hw72 : k0_chk72 v505), ∀ a, (k0_off146 v505) a + S1x64.size a ≤ S100000x64.size a := fun v505 k0_hw72 => k0_hw72.1
theorem k0_off396_inb : ∀ (v505 : BitVec 32) (k0_hw72 : k0_chk72 v505), ∀ a, (k0_off396 v505) a + S1x64.size a ≤ S100000x64.size a := fun v505 k0_hw72 => k0_hw72.2

def k0_off397 (v512 : BitVec 32) : Fin 2 → Nat :=
  let c0_i32_649 : BitVec 32 := 0#32
  ![v512.toNat, 0]

def k0_chk73 (v512 : BitVec 32) : Prop :=
  (∀ a, (k0_off148 v512) a + S1x64.size a ≤ S100000x64.size a) ∧
  (∀ a, (k0_off397 v512) a + S1x64.size a ≤ S100000x64.size a)
theorem k0_off148_inb : ∀ (v512 : BitVec 32) (k0_hw73 : k0_chk73 v512), ∀ a, (k0_off148 v512) a + S1x64.size a ≤ S100000x64.size a := fun v512 k0_hw73 => k0_hw73.1
theorem k0_off397_inb : ∀ (v512 : BitVec 32) (k0_hw73 : k0_chk73 v512), ∀ a, (k0_off397 v512) a + S1x64.size a ≤ S100000x64.size a := fun v512 k0_hw73 => k0_hw73.2

def k0_off398 (v519 : BitVec 32) : Fin 2 → Nat :=
  let c0_i32_651 : BitVec 32 := 0#32
  ![v519.toNat, 0]

def k0_chk74 (v519 : BitVec 32) : Prop :=
  (∀ a, (k0_off150 v519) a + S1x64.size a ≤ S100000x64.size a) ∧
  (∀ a, (k0_off398 v519) a + S1x64.size a ≤ S100000x64.size a)
theorem k0_off150_inb : ∀ (v519 : BitVec 32) (k0_hw74 : k0_chk74 v519), ∀ a, (k0_off150 v519) a + S1x64.size a ≤ S100000x64.size a := fun v519 k0_hw74 => k0_hw74.1
theorem k0_off398_inb : ∀ (v519 : BitVec 32) (k0_hw74 : k0_chk74 v519), ∀ a, (k0_off398 v519) a + S1x64.size a ≤ S100000x64.size a := fun v519 k0_hw74 => k0_hw74.2

def k0_off399 (v526 : BitVec 32) : Fin 2 → Nat :=
  let c0_i32_653 : BitVec 32 := 0#32
  ![v526.toNat, 0]

def k0_chk75 (v526 : BitVec 32) : Prop :=
  (∀ a, (k0_off152 v526) a + S1x64.size a ≤ S100000x64.size a) ∧
  (∀ a, (k0_off399 v526) a + S1x64.size a ≤ S100000x64.size a)
theorem k0_off152_inb : ∀ (v526 : BitVec 32) (k0_hw75 : k0_chk75 v526), ∀ a, (k0_off152 v526) a + S1x64.size a ≤ S100000x64.size a := fun v526 k0_hw75 => k0_hw75.1
theorem k0_off399_inb : ∀ (v526 : BitVec 32) (k0_hw75 : k0_chk75 v526), ∀ a, (k0_off399 v526) a + S1x64.size a ≤ S100000x64.size a := fun v526 k0_hw75 => k0_hw75.2

def k0_off400 (v533 : BitVec 32) : Fin 2 → Nat :=
  let c0_i32_655 : BitVec 32 := 0#32
  ![v533.toNat, 0]

def k0_chk76 (v533 : BitVec 32) : Prop :=
  (∀ a, (k0_off154 v533) a + S1x64.size a ≤ S100000x64.size a) ∧
  (∀ a, (k0_off400 v533) a + S1x64.size a ≤ S100000x64.size a)
theorem k0_off154_inb : ∀ (v533 : BitVec 32) (k0_hw76 : k0_chk76 v533), ∀ a, (k0_off154 v533) a + S1x64.size a ≤ S100000x64.size a := fun v533 k0_hw76 => k0_hw76.1
theorem k0_off400_inb : ∀ (v533 : BitVec 32) (k0_hw76 : k0_chk76 v533), ∀ a, (k0_off400 v533) a + S1x64.size a ≤ S100000x64.size a := fun v533 k0_hw76 => k0_hw76.2

def k0_off401 (v540 : BitVec 32) : Fin 2 → Nat :=
  let c0_i32_657 : BitVec 32 := 0#32
  ![v540.toNat, 0]

def k0_chk77 (v540 : BitVec 32) : Prop :=
  (∀ a, (k0_off156 v540) a + S1x64.size a ≤ S100000x64.size a) ∧
  (∀ a, (k0_off401 v540) a + S1x64.size a ≤ S100000x64.size a)
theorem k0_off156_inb : ∀ (v540 : BitVec 32) (k0_hw77 : k0_chk77 v540), ∀ a, (k0_off156 v540) a + S1x64.size a ≤ S100000x64.size a := fun v540 k0_hw77 => k0_hw77.1
theorem k0_off401_inb : ∀ (v540 : BitVec 32) (k0_hw77 : k0_chk77 v540), ∀ a, (k0_off401 v540) a + S1x64.size a ≤ S100000x64.size a := fun v540 k0_hw77 => k0_hw77.2

def k0_off402 (v547 : BitVec 32) : Fin 2 → Nat :=
  let c0_i32_659 : BitVec 32 := 0#32
  ![v547.toNat, 0]

def k0_chk78 (v547 : BitVec 32) : Prop :=
  (∀ a, (k0_off158 v547) a + S1x64.size a ≤ S100000x64.size a) ∧
  (∀ a, (k0_off402 v547) a + S1x64.size a ≤ S100000x64.size a)
theorem k0_off158_inb : ∀ (v547 : BitVec 32) (k0_hw78 : k0_chk78 v547), ∀ a, (k0_off158 v547) a + S1x64.size a ≤ S100000x64.size a := fun v547 k0_hw78 => k0_hw78.1
theorem k0_off402_inb : ∀ (v547 : BitVec 32) (k0_hw78 : k0_chk78 v547), ∀ a, (k0_off402 v547) a + S1x64.size a ≤ S100000x64.size a := fun v547 k0_hw78 => k0_hw78.2

def k0_off403 (v554 : BitVec 32) : Fin 2 → Nat :=
  let c0_i32_661 : BitVec 32 := 0#32
  ![v554.toNat, 0]

def k0_chk79 (v554 : BitVec 32) : Prop :=
  (∀ a, (k0_off160 v554) a + S1x64.size a ≤ S100000x64.size a) ∧
  (∀ a, (k0_off403 v554) a + S1x64.size a ≤ S100000x64.size a)
theorem k0_off160_inb : ∀ (v554 : BitVec 32) (k0_hw79 : k0_chk79 v554), ∀ a, (k0_off160 v554) a + S1x64.size a ≤ S100000x64.size a := fun v554 k0_hw79 => k0_hw79.1
theorem k0_off403_inb : ∀ (v554 : BitVec 32) (k0_hw79 : k0_chk79 v554), ∀ a, (k0_off403 v554) a + S1x64.size a ≤ S100000x64.size a := fun v554 k0_hw79 => k0_hw79.2

def k0_off404 (v561 : BitVec 32) : Fin 2 → Nat :=
  let c0_i32_663 : BitVec 32 := 0#32
  ![v561.toNat, 0]

def k0_chk80 (v561 : BitVec 32) : Prop :=
  (∀ a, (k0_off162 v561) a + S1x64.size a ≤ S100000x64.size a) ∧
  (∀ a, (k0_off404 v561) a + S1x64.size a ≤ S100000x64.size a)
theorem k0_off162_inb : ∀ (v561 : BitVec 32) (k0_hw80 : k0_chk80 v561), ∀ a, (k0_off162 v561) a + S1x64.size a ≤ S100000x64.size a := fun v561 k0_hw80 => k0_hw80.1
theorem k0_off404_inb : ∀ (v561 : BitVec 32) (k0_hw80 : k0_chk80 v561), ∀ a, (k0_off404 v561) a + S1x64.size a ≤ S100000x64.size a := fun v561 k0_hw80 => k0_hw80.2

def k0_off405 (v568 : BitVec 32) : Fin 2 → Nat :=
  let c0_i32_665 : BitVec 32 := 0#32
  ![v568.toNat, 0]

def k0_chk81 (v568 : BitVec 32) : Prop :=
  (∀ a, (k0_off164 v568) a + S1x64.size a ≤ S100000x64.size a) ∧
  (∀ a, (k0_off405 v568) a + S1x64.size a ≤ S100000x64.size a)
theorem k0_off164_inb : ∀ (v568 : BitVec 32) (k0_hw81 : k0_chk81 v568), ∀ a, (k0_off164 v568) a + S1x64.size a ≤ S100000x64.size a := fun v568 k0_hw81 => k0_hw81.1
theorem k0_off405_inb : ∀ (v568 : BitVec 32) (k0_hw81 : k0_chk81 v568), ∀ a, (k0_off405 v568) a + S1x64.size a ≤ S100000x64.size a := fun v568 k0_hw81 => k0_hw81.2

def k0_off406 (v575 : BitVec 32) : Fin 2 → Nat :=
  let c0_i32_667 : BitVec 32 := 0#32
  ![v575.toNat, 0]

def k0_chk82 (v575 : BitVec 32) : Prop :=
  (∀ a, (k0_off166 v575) a + S1x64.size a ≤ S100000x64.size a) ∧
  (∀ a, (k0_off406 v575) a + S1x64.size a ≤ S100000x64.size a)
theorem k0_off166_inb : ∀ (v575 : BitVec 32) (k0_hw82 : k0_chk82 v575), ∀ a, (k0_off166 v575) a + S1x64.size a ≤ S100000x64.size a := fun v575 k0_hw82 => k0_hw82.1
theorem k0_off406_inb : ∀ (v575 : BitVec 32) (k0_hw82 : k0_chk82 v575), ∀ a, (k0_off406 v575) a + S1x64.size a ≤ S100000x64.size a := fun v575 k0_hw82 => k0_hw82.2

def k0_off407 (v582 : BitVec 32) : Fin 2 → Nat :=
  let c0_i32_669 : BitVec 32 := 0#32
  ![v582.toNat, 0]

def k0_chk83 (v582 : BitVec 32) : Prop :=
  (∀ a, (k0_off168 v582) a + S1x64.size a ≤ S100000x64.size a) ∧
  (∀ a, (k0_off407 v582) a + S1x64.size a ≤ S100000x64.size a)
theorem k0_off168_inb : ∀ (v582 : BitVec 32) (k0_hw83 : k0_chk83 v582), ∀ a, (k0_off168 v582) a + S1x64.size a ≤ S100000x64.size a := fun v582 k0_hw83 => k0_hw83.1
theorem k0_off407_inb : ∀ (v582 : BitVec 32) (k0_hw83 : k0_chk83 v582), ∀ a, (k0_off407 v582) a + S1x64.size a ≤ S100000x64.size a := fun v582 k0_hw83 => k0_hw83.2

def k0_off408 (v589 : BitVec 32) : Fin 2 → Nat :=
  let c0_i32_671 : BitVec 32 := 0#32
  ![v589.toNat, 0]

def k0_chk84 (v589 : BitVec 32) : Prop :=
  (∀ a, (k0_off170 v589) a + S1x64.size a ≤ S100000x64.size a) ∧
  (∀ a, (k0_off408 v589) a + S1x64.size a ≤ S100000x64.size a)
theorem k0_off170_inb : ∀ (v589 : BitVec 32) (k0_hw84 : k0_chk84 v589), ∀ a, (k0_off170 v589) a + S1x64.size a ≤ S100000x64.size a := fun v589 k0_hw84 => k0_hw84.1
theorem k0_off408_inb : ∀ (v589 : BitVec 32) (k0_hw84 : k0_chk84 v589), ∀ a, (k0_off408 v589) a + S1x64.size a ≤ S100000x64.size a := fun v589 k0_hw84 => k0_hw84.2

def k0_off409 (v596 : BitVec 32) : Fin 2 → Nat :=
  let c0_i32_673 : BitVec 32 := 0#32
  ![v596.toNat, 0]

def k0_chk85 (v596 : BitVec 32) : Prop :=
  (∀ a, (k0_off172 v596) a + S1x64.size a ≤ S100000x64.size a) ∧
  (∀ a, (k0_off409 v596) a + S1x64.size a ≤ S100000x64.size a)
theorem k0_off172_inb : ∀ (v596 : BitVec 32) (k0_hw85 : k0_chk85 v596), ∀ a, (k0_off172 v596) a + S1x64.size a ≤ S100000x64.size a := fun v596 k0_hw85 => k0_hw85.1
theorem k0_off409_inb : ∀ (v596 : BitVec 32) (k0_hw85 : k0_chk85 v596), ∀ a, (k0_off409 v596) a + S1x64.size a ≤ S100000x64.size a := fun v596 k0_hw85 => k0_hw85.2

def k0_off410 (v603 : BitVec 32) : Fin 2 → Nat :=
  let c0_i32_675 : BitVec 32 := 0#32
  ![v603.toNat, 0]

def k0_chk86 (v603 : BitVec 32) : Prop :=
  (∀ a, (k0_off174 v603) a + S1x64.size a ≤ S100000x64.size a) ∧
  (∀ a, (k0_off410 v603) a + S1x64.size a ≤ S100000x64.size a)
theorem k0_off174_inb : ∀ (v603 : BitVec 32) (k0_hw86 : k0_chk86 v603), ∀ a, (k0_off174 v603) a + S1x64.size a ≤ S100000x64.size a := fun v603 k0_hw86 => k0_hw86.1
theorem k0_off410_inb : ∀ (v603 : BitVec 32) (k0_hw86 : k0_chk86 v603), ∀ a, (k0_off410 v603) a + S1x64.size a ≤ S100000x64.size a := fun v603 k0_hw86 => k0_hw86.2

def k0_off411 (v610 : BitVec 32) : Fin 2 → Nat :=
  let c0_i32_677 : BitVec 32 := 0#32
  ![v610.toNat, 0]

def k0_chk87 (v610 : BitVec 32) : Prop :=
  (∀ a, (k0_off176 v610) a + S1x64.size a ≤ S100000x64.size a) ∧
  (∀ a, (k0_off411 v610) a + S1x64.size a ≤ S100000x64.size a)
theorem k0_off176_inb : ∀ (v610 : BitVec 32) (k0_hw87 : k0_chk87 v610), ∀ a, (k0_off176 v610) a + S1x64.size a ≤ S100000x64.size a := fun v610 k0_hw87 => k0_hw87.1
theorem k0_off411_inb : ∀ (v610 : BitVec 32) (k0_hw87 : k0_chk87 v610), ∀ a, (k0_off411 v610) a + S1x64.size a ≤ S100000x64.size a := fun v610 k0_hw87 => k0_hw87.2

def k0_off412 (v617 : BitVec 32) : Fin 2 → Nat :=
  let c0_i32_679 : BitVec 32 := 0#32
  ![v617.toNat, 0]

def k0_chk88 (v617 : BitVec 32) : Prop :=
  (∀ a, (k0_off178 v617) a + S1x64.size a ≤ S100000x64.size a) ∧
  (∀ a, (k0_off412 v617) a + S1x64.size a ≤ S100000x64.size a)
theorem k0_off178_inb : ∀ (v617 : BitVec 32) (k0_hw88 : k0_chk88 v617), ∀ a, (k0_off178 v617) a + S1x64.size a ≤ S100000x64.size a := fun v617 k0_hw88 => k0_hw88.1
theorem k0_off412_inb : ∀ (v617 : BitVec 32) (k0_hw88 : k0_chk88 v617), ∀ a, (k0_off412 v617) a + S1x64.size a ≤ S100000x64.size a := fun v617 k0_hw88 => k0_hw88.2

def k0_off413 (v624 : BitVec 32) : Fin 2 → Nat :=
  let c0_i32_681 : BitVec 32 := 0#32
  ![v624.toNat, 0]

def k0_chk89 (v624 : BitVec 32) : Prop :=
  (∀ a, (k0_off180 v624) a + S1x64.size a ≤ S100000x64.size a) ∧
  (∀ a, (k0_off413 v624) a + S1x64.size a ≤ S100000x64.size a)
theorem k0_off180_inb : ∀ (v624 : BitVec 32) (k0_hw89 : k0_chk89 v624), ∀ a, (k0_off180 v624) a + S1x64.size a ≤ S100000x64.size a := fun v624 k0_hw89 => k0_hw89.1
theorem k0_off413_inb : ∀ (v624 : BitVec 32) (k0_hw89 : k0_chk89 v624), ∀ a, (k0_off413 v624) a + S1x64.size a ≤ S100000x64.size a := fun v624 k0_hw89 => k0_hw89.2

def k0_off414 (v631 : BitVec 32) : Fin 2 → Nat :=
  let c0_i32_683 : BitVec 32 := 0#32
  ![v631.toNat, 0]

def k0_chk90 (v631 : BitVec 32) : Prop :=
  (∀ a, (k0_off182 v631) a + S1x64.size a ≤ S100000x64.size a) ∧
  (∀ a, (k0_off414 v631) a + S1x64.size a ≤ S100000x64.size a)
theorem k0_off182_inb : ∀ (v631 : BitVec 32) (k0_hw90 : k0_chk90 v631), ∀ a, (k0_off182 v631) a + S1x64.size a ≤ S100000x64.size a := fun v631 k0_hw90 => k0_hw90.1
theorem k0_off414_inb : ∀ (v631 : BitVec 32) (k0_hw90 : k0_chk90 v631), ∀ a, (k0_off414 v631) a + S1x64.size a ≤ S100000x64.size a := fun v631 k0_hw90 => k0_hw90.2

def k0_off415 (v638 : BitVec 32) : Fin 2 → Nat :=
  let c0_i32_685 : BitVec 32 := 0#32
  ![v638.toNat, 0]

def k0_chk91 (v638 : BitVec 32) : Prop :=
  (∀ a, (k0_off184 v638) a + S1x64.size a ≤ S100000x64.size a) ∧
  (∀ a, (k0_off415 v638) a + S1x64.size a ≤ S100000x64.size a)
theorem k0_off184_inb : ∀ (v638 : BitVec 32) (k0_hw91 : k0_chk91 v638), ∀ a, (k0_off184 v638) a + S1x64.size a ≤ S100000x64.size a := fun v638 k0_hw91 => k0_hw91.1
theorem k0_off415_inb : ∀ (v638 : BitVec 32) (k0_hw91 : k0_chk91 v638), ∀ a, (k0_off415 v638) a + S1x64.size a ≤ S100000x64.size a := fun v638 k0_hw91 => k0_hw91.2

def k0_off416 (v645 : BitVec 32) : Fin 2 → Nat :=
  let c0_i32_687 : BitVec 32 := 0#32
  ![v645.toNat, 0]

def k0_chk92 (v645 : BitVec 32) : Prop :=
  (∀ a, (k0_off186 v645) a + S1x64.size a ≤ S100000x64.size a) ∧
  (∀ a, (k0_off416 v645) a + S1x64.size a ≤ S100000x64.size a)
theorem k0_off186_inb : ∀ (v645 : BitVec 32) (k0_hw92 : k0_chk92 v645), ∀ a, (k0_off186 v645) a + S1x64.size a ≤ S100000x64.size a := fun v645 k0_hw92 => k0_hw92.1
theorem k0_off416_inb : ∀ (v645 : BitVec 32) (k0_hw92 : k0_chk92 v645), ∀ a, (k0_off416 v645) a + S1x64.size a ≤ S100000x64.size a := fun v645 k0_hw92 => k0_hw92.2

def k0_off417 (v652 : BitVec 32) : Fin 2 → Nat :=
  let c0_i32_689 : BitVec 32 := 0#32
  ![v652.toNat, 0]

def k0_chk93 (v652 : BitVec 32) : Prop :=
  (∀ a, (k0_off188 v652) a + S1x64.size a ≤ S100000x64.size a) ∧
  (∀ a, (k0_off417 v652) a + S1x64.size a ≤ S100000x64.size a)
theorem k0_off188_inb : ∀ (v652 : BitVec 32) (k0_hw93 : k0_chk93 v652), ∀ a, (k0_off188 v652) a + S1x64.size a ≤ S100000x64.size a := fun v652 k0_hw93 => k0_hw93.1
theorem k0_off417_inb : ∀ (v652 : BitVec 32) (k0_hw93 : k0_chk93 v652), ∀ a, (k0_off417 v652) a + S1x64.size a ≤ S100000x64.size a := fun v652 k0_hw93 => k0_hw93.2

def k0_off418 (v659 : BitVec 32) : Fin 2 → Nat :=
  let c0_i32_691 : BitVec 32 := 0#32
  ![v659.toNat, 0]

def k0_chk94 (v659 : BitVec 32) : Prop :=
  (∀ a, (k0_off190 v659) a + S1x64.size a ≤ S100000x64.size a) ∧
  (∀ a, (k0_off418 v659) a + S1x64.size a ≤ S100000x64.size a)
theorem k0_off190_inb : ∀ (v659 : BitVec 32) (k0_hw94 : k0_chk94 v659), ∀ a, (k0_off190 v659) a + S1x64.size a ≤ S100000x64.size a := fun v659 k0_hw94 => k0_hw94.1
theorem k0_off418_inb : ∀ (v659 : BitVec 32) (k0_hw94 : k0_chk94 v659), ∀ a, (k0_off418 v659) a + S1x64.size a ≤ S100000x64.size a := fun v659 k0_hw94 => k0_hw94.2

def k0_off419 (v666 : BitVec 32) : Fin 2 → Nat :=
  let c0_i32_693 : BitVec 32 := 0#32
  ![v666.toNat, 0]

def k0_chk95 (v666 : BitVec 32) : Prop :=
  (∀ a, (k0_off192 v666) a + S1x64.size a ≤ S100000x64.size a) ∧
  (∀ a, (k0_off419 v666) a + S1x64.size a ≤ S100000x64.size a)
theorem k0_off192_inb : ∀ (v666 : BitVec 32) (k0_hw95 : k0_chk95 v666), ∀ a, (k0_off192 v666) a + S1x64.size a ≤ S100000x64.size a := fun v666 k0_hw95 => k0_hw95.1
theorem k0_off419_inb : ∀ (v666 : BitVec 32) (k0_hw95 : k0_chk95 v666), ∀ a, (k0_off419 v666) a + S1x64.size a ≤ S100000x64.size a := fun v666 k0_hw95 => k0_hw95.2

def k0_off420 (v673 : BitVec 32) : Fin 2 → Nat :=
  let c0_i32_695 : BitVec 32 := 0#32
  ![v673.toNat, 0]

def k0_chk96 (v673 : BitVec 32) : Prop :=
  (∀ a, (k0_off194 v673) a + S1x64.size a ≤ S100000x64.size a) ∧
  (∀ a, (k0_off420 v673) a + S1x64.size a ≤ S100000x64.size a)
theorem k0_off194_inb : ∀ (v673 : BitVec 32) (k0_hw96 : k0_chk96 v673), ∀ a, (k0_off194 v673) a + S1x64.size a ≤ S100000x64.size a := fun v673 k0_hw96 => k0_hw96.1
theorem k0_off420_inb : ∀ (v673 : BitVec 32) (k0_hw96 : k0_chk96 v673), ∀ a, (k0_off420 v673) a + S1x64.size a ≤ S100000x64.size a := fun v673 k0_hw96 => k0_hw96.2

def k0_off421 (v680 : BitVec 32) : Fin 2 → Nat :=
  let c0_i32_697 : BitVec 32 := 0#32
  ![v680.toNat, 0]

def k0_chk97 (v680 : BitVec 32) : Prop :=
  (∀ a, (k0_off196 v680) a + S1x64.size a ≤ S100000x64.size a) ∧
  (∀ a, (k0_off421 v680) a + S1x64.size a ≤ S100000x64.size a)
theorem k0_off196_inb : ∀ (v680 : BitVec 32) (k0_hw97 : k0_chk97 v680), ∀ a, (k0_off196 v680) a + S1x64.size a ≤ S100000x64.size a := fun v680 k0_hw97 => k0_hw97.1
theorem k0_off421_inb : ∀ (v680 : BitVec 32) (k0_hw97 : k0_chk97 v680), ∀ a, (k0_off421 v680) a + S1x64.size a ≤ S100000x64.size a := fun v680 k0_hw97 => k0_hw97.2

def k0_off422 (v687 : BitVec 32) : Fin 2 → Nat :=
  let c0_i32_699 : BitVec 32 := 0#32
  ![v687.toNat, 0]

def k0_chk98 (v687 : BitVec 32) : Prop :=
  (∀ a, (k0_off198 v687) a + S1x64.size a ≤ S100000x64.size a) ∧
  (∀ a, (k0_off422 v687) a + S1x64.size a ≤ S100000x64.size a)
theorem k0_off198_inb : ∀ (v687 : BitVec 32) (k0_hw98 : k0_chk98 v687), ∀ a, (k0_off198 v687) a + S1x64.size a ≤ S100000x64.size a := fun v687 k0_hw98 => k0_hw98.1
theorem k0_off422_inb : ∀ (v687 : BitVec 32) (k0_hw98 : k0_chk98 v687), ∀ a, (k0_off422 v687) a + S1x64.size a ≤ S100000x64.size a := fun v687 k0_hw98 => k0_hw98.2

def k0_off423 (v694 : BitVec 32) : Fin 2 → Nat :=
  let c0_i32_701 : BitVec 32 := 0#32
  ![v694.toNat, 0]

def k0_chk99 (v694 : BitVec 32) : Prop :=
  (∀ a, (k0_off200 v694) a + S1x64.size a ≤ S100000x64.size a) ∧
  (∀ a, (k0_off423 v694) a + S1x64.size a ≤ S100000x64.size a)
theorem k0_off200_inb : ∀ (v694 : BitVec 32) (k0_hw99 : k0_chk99 v694), ∀ a, (k0_off200 v694) a + S1x64.size a ≤ S100000x64.size a := fun v694 k0_hw99 => k0_hw99.1
theorem k0_off423_inb : ∀ (v694 : BitVec 32) (k0_hw99 : k0_chk99 v694), ∀ a, (k0_off423 v694) a + S1x64.size a ≤ S100000x64.size a := fun v694 k0_hw99 => k0_hw99.2

def k0_off424 (v701 : BitVec 32) : Fin 2 → Nat :=
  let c0_i32_703 : BitVec 32 := 0#32
  ![v701.toNat, 0]

def k0_chk100 (v701 : BitVec 32) : Prop :=
  (∀ a, (k0_off202 v701) a + S1x64.size a ≤ S100000x64.size a) ∧
  (∀ a, (k0_off424 v701) a + S1x64.size a ≤ S100000x64.size a)
theorem k0_off202_inb : ∀ (v701 : BitVec 32) (k0_hw100 : k0_chk100 v701), ∀ a, (k0_off202 v701) a + S1x64.size a ≤ S100000x64.size a := fun v701 k0_hw100 => k0_hw100.1
theorem k0_off424_inb : ∀ (v701 : BitVec 32) (k0_hw100 : k0_chk100 v701), ∀ a, (k0_off424 v701) a + S1x64.size a ≤ S100000x64.size a := fun v701 k0_hw100 => k0_hw100.2

def k0_off425 (v708 : BitVec 32) : Fin 2 → Nat :=
  let c0_i32_705 : BitVec 32 := 0#32
  ![v708.toNat, 0]

def k0_chk101 (v708 : BitVec 32) : Prop :=
  (∀ a, (k0_off204 v708) a + S1x64.size a ≤ S100000x64.size a) ∧
  (∀ a, (k0_off425 v708) a + S1x64.size a ≤ S100000x64.size a)
theorem k0_off204_inb : ∀ (v708 : BitVec 32) (k0_hw101 : k0_chk101 v708), ∀ a, (k0_off204 v708) a + S1x64.size a ≤ S100000x64.size a := fun v708 k0_hw101 => k0_hw101.1
theorem k0_off425_inb : ∀ (v708 : BitVec 32) (k0_hw101 : k0_chk101 v708), ∀ a, (k0_off425 v708) a + S1x64.size a ≤ S100000x64.size a := fun v708 k0_hw101 => k0_hw101.2

def k0_off426 (v715 : BitVec 32) : Fin 2 → Nat :=
  let c0_i32_707 : BitVec 32 := 0#32
  ![v715.toNat, 0]

def k0_chk102 (v715 : BitVec 32) : Prop :=
  (∀ a, (k0_off206 v715) a + S1x64.size a ≤ S100000x64.size a) ∧
  (∀ a, (k0_off426 v715) a + S1x64.size a ≤ S100000x64.size a)
theorem k0_off206_inb : ∀ (v715 : BitVec 32) (k0_hw102 : k0_chk102 v715), ∀ a, (k0_off206 v715) a + S1x64.size a ≤ S100000x64.size a := fun v715 k0_hw102 => k0_hw102.1
theorem k0_off426_inb : ∀ (v715 : BitVec 32) (k0_hw102 : k0_chk102 v715), ∀ a, (k0_off426 v715) a + S1x64.size a ≤ S100000x64.size a := fun v715 k0_hw102 => k0_hw102.2

def k0_off427 (v722 : BitVec 32) : Fin 2 → Nat :=
  let c0_i32_709 : BitVec 32 := 0#32
  ![v722.toNat, 0]

def k0_chk103 (v722 : BitVec 32) : Prop :=
  (∀ a, (k0_off208 v722) a + S1x64.size a ≤ S100000x64.size a) ∧
  (∀ a, (k0_off427 v722) a + S1x64.size a ≤ S100000x64.size a)
theorem k0_off208_inb : ∀ (v722 : BitVec 32) (k0_hw103 : k0_chk103 v722), ∀ a, (k0_off208 v722) a + S1x64.size a ≤ S100000x64.size a := fun v722 k0_hw103 => k0_hw103.1
theorem k0_off427_inb : ∀ (v722 : BitVec 32) (k0_hw103 : k0_chk103 v722), ∀ a, (k0_off427 v722) a + S1x64.size a ≤ S100000x64.size a := fun v722 k0_hw103 => k0_hw103.2

def k0_off428 (v729 : BitVec 32) : Fin 2 → Nat :=
  let c0_i32_711 : BitVec 32 := 0#32
  ![v729.toNat, 0]

def k0_chk104 (v729 : BitVec 32) : Prop :=
  (∀ a, (k0_off210 v729) a + S1x64.size a ≤ S100000x64.size a) ∧
  (∀ a, (k0_off428 v729) a + S1x64.size a ≤ S100000x64.size a)
theorem k0_off210_inb : ∀ (v729 : BitVec 32) (k0_hw104 : k0_chk104 v729), ∀ a, (k0_off210 v729) a + S1x64.size a ≤ S100000x64.size a := fun v729 k0_hw104 => k0_hw104.1
theorem k0_off428_inb : ∀ (v729 : BitVec 32) (k0_hw104 : k0_chk104 v729), ∀ a, (k0_off428 v729) a + S1x64.size a ≤ S100000x64.size a := fun v729 k0_hw104 => k0_hw104.2

def k0_off429 (v736 : BitVec 32) : Fin 2 → Nat :=
  let c0_i32_713 : BitVec 32 := 0#32
  ![v736.toNat, 0]

def k0_chk105 (v736 : BitVec 32) : Prop :=
  (∀ a, (k0_off212 v736) a + S1x64.size a ≤ S100000x64.size a) ∧
  (∀ a, (k0_off429 v736) a + S1x64.size a ≤ S100000x64.size a)
theorem k0_off212_inb : ∀ (v736 : BitVec 32) (k0_hw105 : k0_chk105 v736), ∀ a, (k0_off212 v736) a + S1x64.size a ≤ S100000x64.size a := fun v736 k0_hw105 => k0_hw105.1
theorem k0_off429_inb : ∀ (v736 : BitVec 32) (k0_hw105 : k0_chk105 v736), ∀ a, (k0_off429 v736) a + S1x64.size a ≤ S100000x64.size a := fun v736 k0_hw105 => k0_hw105.2

def k0_off430 (v743 : BitVec 32) : Fin 2 → Nat :=
  let c0_i32_715 : BitVec 32 := 0#32
  ![v743.toNat, 0]

def k0_chk106 (v743 : BitVec 32) : Prop :=
  (∀ a, (k0_off214 v743) a + S1x64.size a ≤ S100000x64.size a) ∧
  (∀ a, (k0_off430 v743) a + S1x64.size a ≤ S100000x64.size a)
theorem k0_off214_inb : ∀ (v743 : BitVec 32) (k0_hw106 : k0_chk106 v743), ∀ a, (k0_off214 v743) a + S1x64.size a ≤ S100000x64.size a := fun v743 k0_hw106 => k0_hw106.1
theorem k0_off430_inb : ∀ (v743 : BitVec 32) (k0_hw106 : k0_chk106 v743), ∀ a, (k0_off430 v743) a + S1x64.size a ≤ S100000x64.size a := fun v743 k0_hw106 => k0_hw106.2

def k0_off431 (v750 : BitVec 32) : Fin 2 → Nat :=
  let c0_i32_717 : BitVec 32 := 0#32
  ![v750.toNat, 0]

def k0_chk107 (v750 : BitVec 32) : Prop :=
  (∀ a, (k0_off216 v750) a + S1x64.size a ≤ S100000x64.size a) ∧
  (∀ a, (k0_off431 v750) a + S1x64.size a ≤ S100000x64.size a)
theorem k0_off216_inb : ∀ (v750 : BitVec 32) (k0_hw107 : k0_chk107 v750), ∀ a, (k0_off216 v750) a + S1x64.size a ≤ S100000x64.size a := fun v750 k0_hw107 => k0_hw107.1
theorem k0_off431_inb : ∀ (v750 : BitVec 32) (k0_hw107 : k0_chk107 v750), ∀ a, (k0_off431 v750) a + S1x64.size a ≤ S100000x64.size a := fun v750 k0_hw107 => k0_hw107.2

def k0_off432 (v757 : BitVec 32) : Fin 2 → Nat :=
  let c0_i32_719 : BitVec 32 := 0#32
  ![v757.toNat, 0]

def k0_chk108 (v757 : BitVec 32) : Prop :=
  (∀ a, (k0_off218 v757) a + S1x64.size a ≤ S100000x64.size a) ∧
  (∀ a, (k0_off432 v757) a + S1x64.size a ≤ S100000x64.size a)
theorem k0_off218_inb : ∀ (v757 : BitVec 32) (k0_hw108 : k0_chk108 v757), ∀ a, (k0_off218 v757) a + S1x64.size a ≤ S100000x64.size a := fun v757 k0_hw108 => k0_hw108.1
theorem k0_off432_inb : ∀ (v757 : BitVec 32) (k0_hw108 : k0_chk108 v757), ∀ a, (k0_off432 v757) a + S1x64.size a ≤ S100000x64.size a := fun v757 k0_hw108 => k0_hw108.2

def k0_off433 (v764 : BitVec 32) : Fin 2 → Nat :=
  let c0_i32_721 : BitVec 32 := 0#32
  ![v764.toNat, 0]

def k0_chk109 (v764 : BitVec 32) : Prop :=
  (∀ a, (k0_off220 v764) a + S1x64.size a ≤ S100000x64.size a) ∧
  (∀ a, (k0_off433 v764) a + S1x64.size a ≤ S100000x64.size a)
theorem k0_off220_inb : ∀ (v764 : BitVec 32) (k0_hw109 : k0_chk109 v764), ∀ a, (k0_off220 v764) a + S1x64.size a ≤ S100000x64.size a := fun v764 k0_hw109 => k0_hw109.1
theorem k0_off433_inb : ∀ (v764 : BitVec 32) (k0_hw109 : k0_chk109 v764), ∀ a, (k0_off433 v764) a + S1x64.size a ≤ S100000x64.size a := fun v764 k0_hw109 => k0_hw109.2

def k0_off434 (v771 : BitVec 32) : Fin 2 → Nat :=
  let c0_i32_723 : BitVec 32 := 0#32
  ![v771.toNat, 0]

def k0_chk110 (v771 : BitVec 32) : Prop :=
  (∀ a, (k0_off222 v771) a + S1x64.size a ≤ S100000x64.size a) ∧
  (∀ a, (k0_off434 v771) a + S1x64.size a ≤ S100000x64.size a)
theorem k0_off222_inb : ∀ (v771 : BitVec 32) (k0_hw110 : k0_chk110 v771), ∀ a, (k0_off222 v771) a + S1x64.size a ≤ S100000x64.size a := fun v771 k0_hw110 => k0_hw110.1
theorem k0_off434_inb : ∀ (v771 : BitVec 32) (k0_hw110 : k0_chk110 v771), ∀ a, (k0_off434 v771) a + S1x64.size a ≤ S100000x64.size a := fun v771 k0_hw110 => k0_hw110.2

def k0_off435 (v778 : BitVec 32) : Fin 2 → Nat :=
  let c0_i32_725 : BitVec 32 := 0#32
  ![v778.toNat, 0]

def k0_chk111 (v778 : BitVec 32) : Prop :=
  (∀ a, (k0_off224 v778) a + S1x64.size a ≤ S100000x64.size a) ∧
  (∀ a, (k0_off435 v778) a + S1x64.size a ≤ S100000x64.size a)
theorem k0_off224_inb : ∀ (v778 : BitVec 32) (k0_hw111 : k0_chk111 v778), ∀ a, (k0_off224 v778) a + S1x64.size a ≤ S100000x64.size a := fun v778 k0_hw111 => k0_hw111.1
theorem k0_off435_inb : ∀ (v778 : BitVec 32) (k0_hw111 : k0_chk111 v778), ∀ a, (k0_off435 v778) a + S1x64.size a ≤ S100000x64.size a := fun v778 k0_hw111 => k0_hw111.2

def k0_off436 (v785 : BitVec 32) : Fin 2 → Nat :=
  let c0_i32_727 : BitVec 32 := 0#32
  ![v785.toNat, 0]

def k0_chk112 (v785 : BitVec 32) : Prop :=
  (∀ a, (k0_off226 v785) a + S1x64.size a ≤ S100000x64.size a) ∧
  (∀ a, (k0_off436 v785) a + S1x64.size a ≤ S100000x64.size a)
theorem k0_off226_inb : ∀ (v785 : BitVec 32) (k0_hw112 : k0_chk112 v785), ∀ a, (k0_off226 v785) a + S1x64.size a ≤ S100000x64.size a := fun v785 k0_hw112 => k0_hw112.1
theorem k0_off436_inb : ∀ (v785 : BitVec 32) (k0_hw112 : k0_chk112 v785), ∀ a, (k0_off436 v785) a + S1x64.size a ≤ S100000x64.size a := fun v785 k0_hw112 => k0_hw112.2

def k0_off437 (v792 : BitVec 32) : Fin 2 → Nat :=
  let c0_i32_729 : BitVec 32 := 0#32
  ![v792.toNat, 0]

def k0_chk113 (v792 : BitVec 32) : Prop :=
  (∀ a, (k0_off228 v792) a + S1x64.size a ≤ S100000x64.size a) ∧
  (∀ a, (k0_off437 v792) a + S1x64.size a ≤ S100000x64.size a)
theorem k0_off228_inb : ∀ (v792 : BitVec 32) (k0_hw113 : k0_chk113 v792), ∀ a, (k0_off228 v792) a + S1x64.size a ≤ S100000x64.size a := fun v792 k0_hw113 => k0_hw113.1
theorem k0_off437_inb : ∀ (v792 : BitVec 32) (k0_hw113 : k0_chk113 v792), ∀ a, (k0_off437 v792) a + S1x64.size a ≤ S100000x64.size a := fun v792 k0_hw113 => k0_hw113.2

def k0_off438 (v799 : BitVec 32) : Fin 2 → Nat :=
  let c0_i32_731 : BitVec 32 := 0#32
  ![v799.toNat, 0]

def k0_chk114 (v799 : BitVec 32) : Prop :=
  (∀ a, (k0_off230 v799) a + S1x64.size a ≤ S100000x64.size a) ∧
  (∀ a, (k0_off438 v799) a + S1x64.size a ≤ S100000x64.size a)
theorem k0_off230_inb : ∀ (v799 : BitVec 32) (k0_hw114 : k0_chk114 v799), ∀ a, (k0_off230 v799) a + S1x64.size a ≤ S100000x64.size a := fun v799 k0_hw114 => k0_hw114.1
theorem k0_off438_inb : ∀ (v799 : BitVec 32) (k0_hw114 : k0_chk114 v799), ∀ a, (k0_off438 v799) a + S1x64.size a ≤ S100000x64.size a := fun v799 k0_hw114 => k0_hw114.2

def k0_off439 (v806 : BitVec 32) : Fin 2 → Nat :=
  let c0_i32_733 : BitVec 32 := 0#32
  ![v806.toNat, 0]

def k0_chk115 (v806 : BitVec 32) : Prop :=
  (∀ a, (k0_off232 v806) a + S1x64.size a ≤ S100000x64.size a) ∧
  (∀ a, (k0_off439 v806) a + S1x64.size a ≤ S100000x64.size a)
theorem k0_off232_inb : ∀ (v806 : BitVec 32) (k0_hw115 : k0_chk115 v806), ∀ a, (k0_off232 v806) a + S1x64.size a ≤ S100000x64.size a := fun v806 k0_hw115 => k0_hw115.1
theorem k0_off439_inb : ∀ (v806 : BitVec 32) (k0_hw115 : k0_chk115 v806), ∀ a, (k0_off439 v806) a + S1x64.size a ≤ S100000x64.size a := fun v806 k0_hw115 => k0_hw115.2

def k0_off440 (v813 : BitVec 32) : Fin 2 → Nat :=
  let c0_i32_735 : BitVec 32 := 0#32
  ![v813.toNat, 0]

def k0_chk116 (v813 : BitVec 32) : Prop :=
  (∀ a, (k0_off234 v813) a + S1x64.size a ≤ S100000x64.size a) ∧
  (∀ a, (k0_off440 v813) a + S1x64.size a ≤ S100000x64.size a)
theorem k0_off234_inb : ∀ (v813 : BitVec 32) (k0_hw116 : k0_chk116 v813), ∀ a, (k0_off234 v813) a + S1x64.size a ≤ S100000x64.size a := fun v813 k0_hw116 => k0_hw116.1
theorem k0_off440_inb : ∀ (v813 : BitVec 32) (k0_hw116 : k0_chk116 v813), ∀ a, (k0_off440 v813) a + S1x64.size a ≤ S100000x64.size a := fun v813 k0_hw116 => k0_hw116.2

def k0_off441 (v820 : BitVec 32) : Fin 2 → Nat :=
  let c0_i32_737 : BitVec 32 := 0#32
  ![v820.toNat, 0]

def k0_chk117 (v820 : BitVec 32) : Prop :=
  (∀ a, (k0_off236 v820) a + S1x64.size a ≤ S100000x64.size a) ∧
  (∀ a, (k0_off441 v820) a + S1x64.size a ≤ S100000x64.size a)
theorem k0_off236_inb : ∀ (v820 : BitVec 32) (k0_hw117 : k0_chk117 v820), ∀ a, (k0_off236 v820) a + S1x64.size a ≤ S100000x64.size a := fun v820 k0_hw117 => k0_hw117.1
theorem k0_off441_inb : ∀ (v820 : BitVec 32) (k0_hw117 : k0_chk117 v820), ∀ a, (k0_off441 v820) a + S1x64.size a ≤ S100000x64.size a := fun v820 k0_hw117 => k0_hw117.2

def k0_off442 (v827 : BitVec 32) : Fin 2 → Nat :=
  let c0_i32_739 : BitVec 32 := 0#32
  ![v827.toNat, 0]

def k0_chk118 (v827 : BitVec 32) : Prop :=
  (∀ a, (k0_off238 v827) a + S1x64.size a ≤ S100000x64.size a) ∧
  (∀ a, (k0_off442 v827) a + S1x64.size a ≤ S100000x64.size a)
theorem k0_off238_inb : ∀ (v827 : BitVec 32) (k0_hw118 : k0_chk118 v827), ∀ a, (k0_off238 v827) a + S1x64.size a ≤ S100000x64.size a := fun v827 k0_hw118 => k0_hw118.1
theorem k0_off442_inb : ∀ (v827 : BitVec 32) (k0_hw118 : k0_chk118 v827), ∀ a, (k0_off442 v827) a + S1x64.size a ≤ S100000x64.size a := fun v827 k0_hw118 => k0_hw118.2

def k0_off443 (v834 : BitVec 32) : Fin 2 → Nat :=
  let c0_i32_741 : BitVec 32 := 0#32
  ![v834.toNat, 0]

def k0_chk119 (v834 : BitVec 32) : Prop :=
  (∀ a, (k0_off240 v834) a + S1x64.size a ≤ S100000x64.size a) ∧
  (∀ a, (k0_off443 v834) a + S1x64.size a ≤ S100000x64.size a)
theorem k0_off240_inb : ∀ (v834 : BitVec 32) (k0_hw119 : k0_chk119 v834), ∀ a, (k0_off240 v834) a + S1x64.size a ≤ S100000x64.size a := fun v834 k0_hw119 => k0_hw119.1
theorem k0_off443_inb : ∀ (v834 : BitVec 32) (k0_hw119 : k0_chk119 v834), ∀ a, (k0_off443 v834) a + S1x64.size a ≤ S100000x64.size a := fun v834 k0_hw119 => k0_hw119.2

def k0_off444 (v841 : BitVec 32) : Fin 2 → Nat :=
  let c0_i32_743 : BitVec 32 := 0#32
  ![v841.toNat, 0]

def k0_chk120 (v841 : BitVec 32) : Prop :=
  (∀ a, (k0_off242 v841) a + S1x64.size a ≤ S100000x64.size a) ∧
  (∀ a, (k0_off444 v841) a + S1x64.size a ≤ S100000x64.size a)
theorem k0_off242_inb : ∀ (v841 : BitVec 32) (k0_hw120 : k0_chk120 v841), ∀ a, (k0_off242 v841) a + S1x64.size a ≤ S100000x64.size a := fun v841 k0_hw120 => k0_hw120.1
theorem k0_off444_inb : ∀ (v841 : BitVec 32) (k0_hw120 : k0_chk120 v841), ∀ a, (k0_off444 v841) a + S1x64.size a ≤ S100000x64.size a := fun v841 k0_hw120 => k0_hw120.2

def k0_off445 (v848 : BitVec 32) : Fin 2 → Nat :=
  let c0_i32_745 : BitVec 32 := 0#32
  ![v848.toNat, 0]

def k0_chk121 (v848 : BitVec 32) : Prop :=
  (∀ a, (k0_off244 v848) a + S1x64.size a ≤ S100000x64.size a) ∧
  (∀ a, (k0_off445 v848) a + S1x64.size a ≤ S100000x64.size a)
theorem k0_off244_inb : ∀ (v848 : BitVec 32) (k0_hw121 : k0_chk121 v848), ∀ a, (k0_off244 v848) a + S1x64.size a ≤ S100000x64.size a := fun v848 k0_hw121 => k0_hw121.1
theorem k0_off445_inb : ∀ (v848 : BitVec 32) (k0_hw121 : k0_chk121 v848), ∀ a, (k0_off445 v848) a + S1x64.size a ≤ S100000x64.size a := fun v848 k0_hw121 => k0_hw121.2

def k0_off446 (v855 : BitVec 32) : Fin 2 → Nat :=
  let c0_i32_747 : BitVec 32 := 0#32
  ![v855.toNat, 0]

def k0_chk122 (v855 : BitVec 32) : Prop :=
  (∀ a, (k0_off246 v855) a + S1x64.size a ≤ S100000x64.size a) ∧
  (∀ a, (k0_off446 v855) a + S1x64.size a ≤ S100000x64.size a)
theorem k0_off246_inb : ∀ (v855 : BitVec 32) (k0_hw122 : k0_chk122 v855), ∀ a, (k0_off246 v855) a + S1x64.size a ≤ S100000x64.size a := fun v855 k0_hw122 => k0_hw122.1
theorem k0_off446_inb : ∀ (v855 : BitVec 32) (k0_hw122 : k0_chk122 v855), ∀ a, (k0_off446 v855) a + S1x64.size a ≤ S100000x64.size a := fun v855 k0_hw122 => k0_hw122.2

def k0_off447 (v862 : BitVec 32) : Fin 2 → Nat :=
  let c0_i32_749 : BitVec 32 := 0#32
  ![v862.toNat, 0]

def k0_chk123 (v862 : BitVec 32) : Prop :=
  (∀ a, (k0_off248 v862) a + S1x64.size a ≤ S100000x64.size a) ∧
  (∀ a, (k0_off447 v862) a + S1x64.size a ≤ S100000x64.size a)
theorem k0_off248_inb : ∀ (v862 : BitVec 32) (k0_hw123 : k0_chk123 v862), ∀ a, (k0_off248 v862) a + S1x64.size a ≤ S100000x64.size a := fun v862 k0_hw123 => k0_hw123.1
theorem k0_off447_inb : ∀ (v862 : BitVec 32) (k0_hw123 : k0_chk123 v862), ∀ a, (k0_off447 v862) a + S1x64.size a ≤ S100000x64.size a := fun v862 k0_hw123 => k0_hw123.2

def k0_off448 (v869 : BitVec 32) : Fin 2 → Nat :=
  let c0_i32_751 : BitVec 32 := 0#32
  ![v869.toNat, 0]

def k0_chk124 (v869 : BitVec 32) : Prop :=
  (∀ a, (k0_off250 v869) a + S1x64.size a ≤ S100000x64.size a) ∧
  (∀ a, (k0_off448 v869) a + S1x64.size a ≤ S100000x64.size a)
theorem k0_off250_inb : ∀ (v869 : BitVec 32) (k0_hw124 : k0_chk124 v869), ∀ a, (k0_off250 v869) a + S1x64.size a ≤ S100000x64.size a := fun v869 k0_hw124 => k0_hw124.1
theorem k0_off448_inb : ∀ (v869 : BitVec 32) (k0_hw124 : k0_chk124 v869), ∀ a, (k0_off448 v869) a + S1x64.size a ≤ S100000x64.size a := fun v869 k0_hw124 => k0_hw124.2

def k0_off449 (v876 : BitVec 32) : Fin 2 → Nat :=
  let c0_i32_753 : BitVec 32 := 0#32
  ![v876.toNat, 0]

def k0_chk125 (v876 : BitVec 32) : Prop :=
  (∀ a, (k0_off252 v876) a + S1x64.size a ≤ S100000x64.size a) ∧
  (∀ a, (k0_off449 v876) a + S1x64.size a ≤ S100000x64.size a)
theorem k0_off252_inb : ∀ (v876 : BitVec 32) (k0_hw125 : k0_chk125 v876), ∀ a, (k0_off252 v876) a + S1x64.size a ≤ S100000x64.size a := fun v876 k0_hw125 => k0_hw125.1
theorem k0_off449_inb : ∀ (v876 : BitVec 32) (k0_hw125 : k0_chk125 v876), ∀ a, (k0_off449 v876) a + S1x64.size a ≤ S100000x64.size a := fun v876 k0_hw125 => k0_hw125.2

def k0_off450 (v883 : BitVec 32) : Fin 2 → Nat :=
  let c0_i32_755 : BitVec 32 := 0#32
  ![v883.toNat, 0]

def k0_chk126 (v883 : BitVec 32) : Prop :=
  (∀ a, (k0_off254 v883) a + S1x64.size a ≤ S100000x64.size a) ∧
  (∀ a, (k0_off450 v883) a + S1x64.size a ≤ S100000x64.size a)
theorem k0_off254_inb : ∀ (v883 : BitVec 32) (k0_hw126 : k0_chk126 v883), ∀ a, (k0_off254 v883) a + S1x64.size a ≤ S100000x64.size a := fun v883 k0_hw126 => k0_hw126.1
theorem k0_off450_inb : ∀ (v883 : BitVec 32) (k0_hw126 : k0_chk126 v883), ∀ a, (k0_off450 v883) a + S1x64.size a ≤ S100000x64.size a := fun v883 k0_hw126 => k0_hw126.2

def k0_off451 (v890 : BitVec 32) : Fin 2 → Nat :=
  let c0_i32_757 : BitVec 32 := 0#32
  ![v890.toNat, 0]

def k0_chk127 (v890 : BitVec 32) : Prop :=
  (∀ a, (k0_off256 v890) a + S1x64.size a ≤ S100000x64.size a) ∧
  (∀ a, (k0_off451 v890) a + S1x64.size a ≤ S100000x64.size a)
theorem k0_off256_inb : ∀ (v890 : BitVec 32) (k0_hw127 : k0_chk127 v890), ∀ a, (k0_off256 v890) a + S1x64.size a ≤ S100000x64.size a := fun v890 k0_hw127 => k0_hw127.1
theorem k0_off451_inb : ∀ (v890 : BitVec 32) (k0_hw127 : k0_chk127 v890), ∀ a, (k0_off451 v890) a + S1x64.size a ≤ S100000x64.size a := fun v890 k0_hw127 => k0_hw127.2

def k0_off452 (v897 : BitVec 32) : Fin 2 → Nat :=
  let c0_i32_759 : BitVec 32 := 0#32
  ![v897.toNat, 0]

def k0_chk128 (v897 : BitVec 32) : Prop :=
  (∀ a, (k0_off258 v897) a + S1x64.size a ≤ S100000x64.size a) ∧
  (∀ a, (k0_off452 v897) a + S1x64.size a ≤ S100000x64.size a)
theorem k0_off258_inb : ∀ (v897 : BitVec 32) (k0_hw128 : k0_chk128 v897), ∀ a, (k0_off258 v897) a + S1x64.size a ≤ S100000x64.size a := fun v897 k0_hw128 => k0_hw128.1
theorem k0_off452_inb : ∀ (v897 : BitVec 32) (k0_hw128 : k0_chk128 v897), ∀ a, (k0_off452 v897) a + S1x64.size a ≤ S100000x64.size a := fun v897 k0_hw128 => k0_hw128.2

def k0_off453 (v904 : BitVec 32) : Fin 2 → Nat :=
  let c0_i32_761 : BitVec 32 := 0#32
  ![v904.toNat, 0]

def k0_chk129 (v904 : BitVec 32) : Prop :=
  (∀ a, (k0_off260 v904) a + S1x64.size a ≤ S100000x64.size a) ∧
  (∀ a, (k0_off453 v904) a + S1x64.size a ≤ S100000x64.size a)
theorem k0_off260_inb : ∀ (v904 : BitVec 32) (k0_hw129 : k0_chk129 v904), ∀ a, (k0_off260 v904) a + S1x64.size a ≤ S100000x64.size a := fun v904 k0_hw129 => k0_hw129.1
theorem k0_off453_inb : ∀ (v904 : BitVec 32) (k0_hw129 : k0_chk129 v904), ∀ a, (k0_off453 v904) a + S1x64.size a ≤ S100000x64.size a := fun v904 k0_hw129 => k0_hw129.2

def k0_off454 (v911 : BitVec 32) : Fin 2 → Nat :=
  let c0_i32_763 : BitVec 32 := 0#32
  ![v911.toNat, 0]

def k0_chk130 (v911 : BitVec 32) : Prop :=
  (∀ a, (k0_off262 v911) a + S1x64.size a ≤ S100000x64.size a) ∧
  (∀ a, (k0_off454 v911) a + S1x64.size a ≤ S100000x64.size a)
theorem k0_off262_inb : ∀ (v911 : BitVec 32) (k0_hw130 : k0_chk130 v911), ∀ a, (k0_off262 v911) a + S1x64.size a ≤ S100000x64.size a := fun v911 k0_hw130 => k0_hw130.1
theorem k0_off454_inb : ∀ (v911 : BitVec 32) (k0_hw130 : k0_chk130 v911), ∀ a, (k0_off454 v911) a + S1x64.size a ≤ S100000x64.size a := fun v911 k0_hw130 => k0_hw130.2

def k0_off455 (v918 : BitVec 32) : Fin 2 → Nat :=
  let c0_i32_765 : BitVec 32 := 0#32
  ![v918.toNat, 0]

def k0_chk131 (v918 : BitVec 32) : Prop :=
  (∀ a, (k0_off264 v918) a + S1x64.size a ≤ S100000x64.size a) ∧
  (∀ a, (k0_off455 v918) a + S1x64.size a ≤ S100000x64.size a)
theorem k0_off264_inb : ∀ (v918 : BitVec 32) (k0_hw131 : k0_chk131 v918), ∀ a, (k0_off264 v918) a + S1x64.size a ≤ S100000x64.size a := fun v918 k0_hw131 => k0_hw131.1
theorem k0_off455_inb : ∀ (v918 : BitVec 32) (k0_hw131 : k0_chk131 v918), ∀ a, (k0_off455 v918) a + S1x64.size a ≤ S100000x64.size a := fun v918 k0_hw131 => k0_hw131.2

def k0_off456 (v925 : BitVec 32) : Fin 2 → Nat :=
  let c0_i32_767 : BitVec 32 := 0#32
  ![v925.toNat, 0]

def k0_chk132 (v925 : BitVec 32) : Prop :=
  (∀ a, (k0_off266 v925) a + S1x64.size a ≤ S100000x64.size a) ∧
  (∀ a, (k0_off456 v925) a + S1x64.size a ≤ S100000x64.size a)
theorem k0_off266_inb : ∀ (v925 : BitVec 32) (k0_hw132 : k0_chk132 v925), ∀ a, (k0_off266 v925) a + S1x64.size a ≤ S100000x64.size a := fun v925 k0_hw132 => k0_hw132.1
theorem k0_off456_inb : ∀ (v925 : BitVec 32) (k0_hw132 : k0_chk132 v925), ∀ a, (k0_off456 v925) a + S1x64.size a ≤ S100000x64.size a := fun v925 k0_hw132 => k0_hw132.2

def k0_off457 (v932 : BitVec 32) : Fin 2 → Nat :=
  let c0_i32_769 : BitVec 32 := 0#32
  ![v932.toNat, 0]

def k0_chk133 (v932 : BitVec 32) : Prop :=
  (∀ a, (k0_off268 v932) a + S1x64.size a ≤ S100000x64.size a) ∧
  (∀ a, (k0_off457 v932) a + S1x64.size a ≤ S100000x64.size a)
theorem k0_off268_inb : ∀ (v932 : BitVec 32) (k0_hw133 : k0_chk133 v932), ∀ a, (k0_off268 v932) a + S1x64.size a ≤ S100000x64.size a := fun v932 k0_hw133 => k0_hw133.1
theorem k0_off457_inb : ∀ (v932 : BitVec 32) (k0_hw133 : k0_chk133 v932), ∀ a, (k0_off457 v932) a + S1x64.size a ≤ S100000x64.size a := fun v932 k0_hw133 => k0_hw133.2

def k0_off458 (v939 : BitVec 32) : Fin 2 → Nat :=
  let c0_i32_771 : BitVec 32 := 0#32
  ![v939.toNat, 0]

def k0_chk134 (v939 : BitVec 32) : Prop :=
  (∀ a, (k0_off270 v939) a + S1x64.size a ≤ S100000x64.size a) ∧
  (∀ a, (k0_off458 v939) a + S1x64.size a ≤ S100000x64.size a)
theorem k0_off270_inb : ∀ (v939 : BitVec 32) (k0_hw134 : k0_chk134 v939), ∀ a, (k0_off270 v939) a + S1x64.size a ≤ S100000x64.size a := fun v939 k0_hw134 => k0_hw134.1
theorem k0_off458_inb : ∀ (v939 : BitVec 32) (k0_hw134 : k0_chk134 v939), ∀ a, (k0_off458 v939) a + S1x64.size a ≤ S100000x64.size a := fun v939 k0_hw134 => k0_hw134.2

def k0_off459 (v946 : BitVec 32) : Fin 2 → Nat :=
  let c0_i32_773 : BitVec 32 := 0#32
  ![v946.toNat, 0]

def k0_chk135 (v946 : BitVec 32) : Prop :=
  (∀ a, (k0_off272 v946) a + S1x64.size a ≤ S100000x64.size a) ∧
  (∀ a, (k0_off459 v946) a + S1x64.size a ≤ S100000x64.size a)
theorem k0_off272_inb : ∀ (v946 : BitVec 32) (k0_hw135 : k0_chk135 v946), ∀ a, (k0_off272 v946) a + S1x64.size a ≤ S100000x64.size a := fun v946 k0_hw135 => k0_hw135.1
theorem k0_off459_inb : ∀ (v946 : BitVec 32) (k0_hw135 : k0_chk135 v946), ∀ a, (k0_off459 v946) a + S1x64.size a ≤ S100000x64.size a := fun v946 k0_hw135 => k0_hw135.2

def k0_off460 (v953 : BitVec 32) : Fin 2 → Nat :=
  let c0_i32_775 : BitVec 32 := 0#32
  ![v953.toNat, 0]

def k0_chk136 (v953 : BitVec 32) : Prop :=
  (∀ a, (k0_off274 v953) a + S1x64.size a ≤ S100000x64.size a) ∧
  (∀ a, (k0_off460 v953) a + S1x64.size a ≤ S100000x64.size a)
theorem k0_off274_inb : ∀ (v953 : BitVec 32) (k0_hw136 : k0_chk136 v953), ∀ a, (k0_off274 v953) a + S1x64.size a ≤ S100000x64.size a := fun v953 k0_hw136 => k0_hw136.1
theorem k0_off460_inb : ∀ (v953 : BitVec 32) (k0_hw136 : k0_chk136 v953), ∀ a, (k0_off460 v953) a + S1x64.size a ≤ S100000x64.size a := fun v953 k0_hw136 => k0_hw136.2

def k0_off461 (v960 : BitVec 32) : Fin 2 → Nat :=
  let c0_i32_777 : BitVec 32 := 0#32
  ![v960.toNat, 0]

def k0_chk137 (v960 : BitVec 32) : Prop :=
  (∀ a, (k0_off276 v960) a + S1x64.size a ≤ S100000x64.size a) ∧
  (∀ a, (k0_off461 v960) a + S1x64.size a ≤ S100000x64.size a)
theorem k0_off276_inb : ∀ (v960 : BitVec 32) (k0_hw137 : k0_chk137 v960), ∀ a, (k0_off276 v960) a + S1x64.size a ≤ S100000x64.size a := fun v960 k0_hw137 => k0_hw137.1
theorem k0_off461_inb : ∀ (v960 : BitVec 32) (k0_hw137 : k0_chk137 v960), ∀ a, (k0_off461 v960) a + S1x64.size a ≤ S100000x64.size a := fun v960 k0_hw137 => k0_hw137.2

def k0_off462 (v967 : BitVec 32) : Fin 2 → Nat :=
  let c0_i32_779 : BitVec 32 := 0#32
  ![v967.toNat, 0]

def k0_chk138 (v967 : BitVec 32) : Prop :=
  (∀ a, (k0_off278 v967) a + S1x64.size a ≤ S100000x64.size a) ∧
  (∀ a, (k0_off462 v967) a + S1x64.size a ≤ S100000x64.size a)
theorem k0_off278_inb : ∀ (v967 : BitVec 32) (k0_hw138 : k0_chk138 v967), ∀ a, (k0_off278 v967) a + S1x64.size a ≤ S100000x64.size a := fun v967 k0_hw138 => k0_hw138.1
theorem k0_off462_inb : ∀ (v967 : BitVec 32) (k0_hw138 : k0_chk138 v967), ∀ a, (k0_off462 v967) a + S1x64.size a ≤ S100000x64.size a := fun v967 k0_hw138 => k0_hw138.2

def k0_off463 (v974 : BitVec 32) : Fin 2 → Nat :=
  let c0_i32_781 : BitVec 32 := 0#32
  ![v974.toNat, 0]

def k0_chk139 (v974 : BitVec 32) : Prop :=
  (∀ a, (k0_off280 v974) a + S1x64.size a ≤ S100000x64.size a) ∧
  (∀ a, (k0_off463 v974) a + S1x64.size a ≤ S100000x64.size a)
theorem k0_off280_inb : ∀ (v974 : BitVec 32) (k0_hw139 : k0_chk139 v974), ∀ a, (k0_off280 v974) a + S1x64.size a ≤ S100000x64.size a := fun v974 k0_hw139 => k0_hw139.1
theorem k0_off463_inb : ∀ (v974 : BitVec 32) (k0_hw139 : k0_chk139 v974), ∀ a, (k0_off463 v974) a + S1x64.size a ≤ S100000x64.size a := fun v974 k0_hw139 => k0_hw139.2

def k0_off464 (v981 : BitVec 32) : Fin 2 → Nat :=
  let c0_i32_783 : BitVec 32 := 0#32
  ![v981.toNat, 0]

def k0_chk140 (v981 : BitVec 32) : Prop :=
  (∀ a, (k0_off282 v981) a + S1x64.size a ≤ S100000x64.size a) ∧
  (∀ a, (k0_off464 v981) a + S1x64.size a ≤ S100000x64.size a)
theorem k0_off282_inb : ∀ (v981 : BitVec 32) (k0_hw140 : k0_chk140 v981), ∀ a, (k0_off282 v981) a + S1x64.size a ≤ S100000x64.size a := fun v981 k0_hw140 => k0_hw140.1
theorem k0_off464_inb : ∀ (v981 : BitVec 32) (k0_hw140 : k0_chk140 v981), ∀ a, (k0_off464 v981) a + S1x64.size a ≤ S100000x64.size a := fun v981 k0_hw140 => k0_hw140.2

def k0_off465 (v988 : BitVec 32) : Fin 2 → Nat :=
  let c0_i32_785 : BitVec 32 := 0#32
  ![v988.toNat, 0]

def k0_chk141 (v988 : BitVec 32) : Prop :=
  (∀ a, (k0_off284 v988) a + S1x64.size a ≤ S100000x64.size a) ∧
  (∀ a, (k0_off465 v988) a + S1x64.size a ≤ S100000x64.size a)
theorem k0_off284_inb : ∀ (v988 : BitVec 32) (k0_hw141 : k0_chk141 v988), ∀ a, (k0_off284 v988) a + S1x64.size a ≤ S100000x64.size a := fun v988 k0_hw141 => k0_hw141.1
theorem k0_off465_inb : ∀ (v988 : BitVec 32) (k0_hw141 : k0_chk141 v988), ∀ a, (k0_off465 v988) a + S1x64.size a ≤ S100000x64.size a := fun v988 k0_hw141 => k0_hw141.2

def k0_off466 (v995 : BitVec 32) : Fin 2 → Nat :=
  let c0_i32_787 : BitVec 32 := 0#32
  ![v995.toNat, 0]

def k0_chk142 (v995 : BitVec 32) : Prop :=
  (∀ a, (k0_off286 v995) a + S1x64.size a ≤ S100000x64.size a) ∧
  (∀ a, (k0_off466 v995) a + S1x64.size a ≤ S100000x64.size a)
theorem k0_off286_inb : ∀ (v995 : BitVec 32) (k0_hw142 : k0_chk142 v995), ∀ a, (k0_off286 v995) a + S1x64.size a ≤ S100000x64.size a := fun v995 k0_hw142 => k0_hw142.1
theorem k0_off466_inb : ∀ (v995 : BitVec 32) (k0_hw142 : k0_chk142 v995), ∀ a, (k0_off466 v995) a + S1x64.size a ≤ S100000x64.size a := fun v995 k0_hw142 => k0_hw142.2

def k0_off467 (v1002 : BitVec 32) : Fin 2 → Nat :=
  let c0_i32_789 : BitVec 32 := 0#32
  ![v1002.toNat, 0]

def k0_chk143 (v1002 : BitVec 32) : Prop :=
  (∀ a, (k0_off288 v1002) a + S1x64.size a ≤ S100000x64.size a) ∧
  (∀ a, (k0_off467 v1002) a + S1x64.size a ≤ S100000x64.size a)
theorem k0_off288_inb : ∀ (v1002 : BitVec 32) (k0_hw143 : k0_chk143 v1002), ∀ a, (k0_off288 v1002) a + S1x64.size a ≤ S100000x64.size a := fun v1002 k0_hw143 => k0_hw143.1
theorem k0_off467_inb : ∀ (v1002 : BitVec 32) (k0_hw143 : k0_chk143 v1002), ∀ a, (k0_off467 v1002) a + S1x64.size a ≤ S100000x64.size a := fun v1002 k0_hw143 => k0_hw143.2

def k0_off468 (v1009 : BitVec 32) : Fin 2 → Nat :=
  let c0_i32_791 : BitVec 32 := 0#32
  ![v1009.toNat, 0]

def k0_chk144 (v1009 : BitVec 32) : Prop :=
  (∀ a, (k0_off290 v1009) a + S1x64.size a ≤ S100000x64.size a) ∧
  (∀ a, (k0_off468 v1009) a + S1x64.size a ≤ S100000x64.size a)
theorem k0_off290_inb : ∀ (v1009 : BitVec 32) (k0_hw144 : k0_chk144 v1009), ∀ a, (k0_off290 v1009) a + S1x64.size a ≤ S100000x64.size a := fun v1009 k0_hw144 => k0_hw144.1
theorem k0_off468_inb : ∀ (v1009 : BitVec 32) (k0_hw144 : k0_chk144 v1009), ∀ a, (k0_off468 v1009) a + S1x64.size a ≤ S100000x64.size a := fun v1009 k0_hw144 => k0_hw144.2

def k0_off469 (v1016 : BitVec 32) : Fin 2 → Nat :=
  let c0_i32_793 : BitVec 32 := 0#32
  ![v1016.toNat, 0]

def k0_chk145 (v1016 : BitVec 32) : Prop :=
  (∀ a, (k0_off292 v1016) a + S1x64.size a ≤ S100000x64.size a) ∧
  (∀ a, (k0_off469 v1016) a + S1x64.size a ≤ S100000x64.size a)
theorem k0_off292_inb : ∀ (v1016 : BitVec 32) (k0_hw145 : k0_chk145 v1016), ∀ a, (k0_off292 v1016) a + S1x64.size a ≤ S100000x64.size a := fun v1016 k0_hw145 => k0_hw145.1
theorem k0_off469_inb : ∀ (v1016 : BitVec 32) (k0_hw145 : k0_chk145 v1016), ∀ a, (k0_off469 v1016) a + S1x64.size a ≤ S100000x64.size a := fun v1016 k0_hw145 => k0_hw145.2

def k0_off470 (v1023 : BitVec 32) : Fin 2 → Nat :=
  let c0_i32_795 : BitVec 32 := 0#32
  ![v1023.toNat, 0]

def k0_chk146 (v1023 : BitVec 32) : Prop :=
  (∀ a, (k0_off294 v1023) a + S1x64.size a ≤ S100000x64.size a) ∧
  (∀ a, (k0_off470 v1023) a + S1x64.size a ≤ S100000x64.size a)
theorem k0_off294_inb : ∀ (v1023 : BitVec 32) (k0_hw146 : k0_chk146 v1023), ∀ a, (k0_off294 v1023) a + S1x64.size a ≤ S100000x64.size a := fun v1023 k0_hw146 => k0_hw146.1
theorem k0_off470_inb : ∀ (v1023 : BitVec 32) (k0_hw146 : k0_chk146 v1023), ∀ a, (k0_off470 v1023) a + S1x64.size a ≤ S100000x64.size a := fun v1023 k0_hw146 => k0_hw146.2

def k0_off471 (v1030 : BitVec 32) : Fin 2 → Nat :=
  let c0_i32_797 : BitVec 32 := 0#32
  ![v1030.toNat, 0]

def k0_chk147 (v1030 : BitVec 32) : Prop :=
  (∀ a, (k0_off296 v1030) a + S1x64.size a ≤ S100000x64.size a) ∧
  (∀ a, (k0_off471 v1030) a + S1x64.size a ≤ S100000x64.size a)
theorem k0_off296_inb : ∀ (v1030 : BitVec 32) (k0_hw147 : k0_chk147 v1030), ∀ a, (k0_off296 v1030) a + S1x64.size a ≤ S100000x64.size a := fun v1030 k0_hw147 => k0_hw147.1
theorem k0_off471_inb : ∀ (v1030 : BitVec 32) (k0_hw147 : k0_chk147 v1030), ∀ a, (k0_off471 v1030) a + S1x64.size a ≤ S100000x64.size a := fun v1030 k0_hw147 => k0_hw147.2

def k0_off472 (v1037 : BitVec 32) : Fin 2 → Nat :=
  let c0_i32_799 : BitVec 32 := 0#32
  ![v1037.toNat, 0]

def k0_chk148 (v1037 : BitVec 32) : Prop :=
  (∀ a, (k0_off298 v1037) a + S1x64.size a ≤ S100000x64.size a) ∧
  (∀ a, (k0_off472 v1037) a + S1x64.size a ≤ S100000x64.size a)
theorem k0_off298_inb : ∀ (v1037 : BitVec 32) (k0_hw148 : k0_chk148 v1037), ∀ a, (k0_off298 v1037) a + S1x64.size a ≤ S100000x64.size a := fun v1037 k0_hw148 => k0_hw148.1
theorem k0_off472_inb : ∀ (v1037 : BitVec 32) (k0_hw148 : k0_chk148 v1037), ∀ a, (k0_off472 v1037) a + S1x64.size a ≤ S100000x64.size a := fun v1037 k0_hw148 => k0_hw148.2

def k0_off473 (v1044 : BitVec 32) : Fin 2 → Nat :=
  let c0_i32_801 : BitVec 32 := 0#32
  ![v1044.toNat, 0]

def k0_chk149 (v1044 : BitVec 32) : Prop :=
  (∀ a, (k0_off300 v1044) a + S1x64.size a ≤ S100000x64.size a) ∧
  (∀ a, (k0_off473 v1044) a + S1x64.size a ≤ S100000x64.size a)
theorem k0_off300_inb : ∀ (v1044 : BitVec 32) (k0_hw149 : k0_chk149 v1044), ∀ a, (k0_off300 v1044) a + S1x64.size a ≤ S100000x64.size a := fun v1044 k0_hw149 => k0_hw149.1
theorem k0_off473_inb : ∀ (v1044 : BitVec 32) (k0_hw149 : k0_chk149 v1044), ∀ a, (k0_off473 v1044) a + S1x64.size a ≤ S100000x64.size a := fun v1044 k0_hw149 => k0_hw149.2

def k0_off474 (v1051 : BitVec 32) : Fin 2 → Nat :=
  let c0_i32_803 : BitVec 32 := 0#32
  ![v1051.toNat, 0]

def k0_chk150 (v1051 : BitVec 32) : Prop :=
  (∀ a, (k0_off302 v1051) a + S1x64.size a ≤ S100000x64.size a) ∧
  (∀ a, (k0_off474 v1051) a + S1x64.size a ≤ S100000x64.size a)
theorem k0_off302_inb : ∀ (v1051 : BitVec 32) (k0_hw150 : k0_chk150 v1051), ∀ a, (k0_off302 v1051) a + S1x64.size a ≤ S100000x64.size a := fun v1051 k0_hw150 => k0_hw150.1
theorem k0_off474_inb : ∀ (v1051 : BitVec 32) (k0_hw150 : k0_chk150 v1051), ∀ a, (k0_off474 v1051) a + S1x64.size a ≤ S100000x64.size a := fun v1051 k0_hw150 => k0_hw150.2

def k0_off475 (v1058 : BitVec 32) : Fin 2 → Nat :=
  let c0_i32_805 : BitVec 32 := 0#32
  ![v1058.toNat, 0]

def k0_chk151 (v1058 : BitVec 32) : Prop :=
  (∀ a, (k0_off304 v1058) a + S1x64.size a ≤ S100000x64.size a) ∧
  (∀ a, (k0_off475 v1058) a + S1x64.size a ≤ S100000x64.size a)
theorem k0_off304_inb : ∀ (v1058 : BitVec 32) (k0_hw151 : k0_chk151 v1058), ∀ a, (k0_off304 v1058) a + S1x64.size a ≤ S100000x64.size a := fun v1058 k0_hw151 => k0_hw151.1
theorem k0_off475_inb : ∀ (v1058 : BitVec 32) (k0_hw151 : k0_chk151 v1058), ∀ a, (k0_off475 v1058) a + S1x64.size a ≤ S100000x64.size a := fun v1058 k0_hw151 => k0_hw151.2

def k0_off476 (v1065 : BitVec 32) : Fin 2 → Nat :=
  let c0_i32_807 : BitVec 32 := 0#32
  ![v1065.toNat, 0]

def k0_chk152 (v1065 : BitVec 32) : Prop :=
  (∀ a, (k0_off306 v1065) a + S1x64.size a ≤ S100000x64.size a) ∧
  (∀ a, (k0_off476 v1065) a + S1x64.size a ≤ S100000x64.size a)
theorem k0_off306_inb : ∀ (v1065 : BitVec 32) (k0_hw152 : k0_chk152 v1065), ∀ a, (k0_off306 v1065) a + S1x64.size a ≤ S100000x64.size a := fun v1065 k0_hw152 => k0_hw152.1
theorem k0_off476_inb : ∀ (v1065 : BitVec 32) (k0_hw152 : k0_chk152 v1065), ∀ a, (k0_off476 v1065) a + S1x64.size a ≤ S100000x64.size a := fun v1065 k0_hw152 => k0_hw152.2

def k0_off477 (v1072 : BitVec 32) : Fin 2 → Nat :=
  let c0_i32_809 : BitVec 32 := 0#32
  ![v1072.toNat, 0]

def k0_chk153 (v1072 : BitVec 32) : Prop :=
  (∀ a, (k0_off308 v1072) a + S1x64.size a ≤ S100000x64.size a) ∧
  (∀ a, (k0_off477 v1072) a + S1x64.size a ≤ S100000x64.size a)
theorem k0_off308_inb : ∀ (v1072 : BitVec 32) (k0_hw153 : k0_chk153 v1072), ∀ a, (k0_off308 v1072) a + S1x64.size a ≤ S100000x64.size a := fun v1072 k0_hw153 => k0_hw153.1
theorem k0_off477_inb : ∀ (v1072 : BitVec 32) (k0_hw153 : k0_chk153 v1072), ∀ a, (k0_off477 v1072) a + S1x64.size a ≤ S100000x64.size a := fun v1072 k0_hw153 => k0_hw153.2

def k0_off478 (v1079 : BitVec 32) : Fin 2 → Nat :=
  let c0_i32_811 : BitVec 32 := 0#32
  ![v1079.toNat, 0]

def k0_chk154 (v1079 : BitVec 32) : Prop :=
  (∀ a, (k0_off310 v1079) a + S1x64.size a ≤ S100000x64.size a) ∧
  (∀ a, (k0_off478 v1079) a + S1x64.size a ≤ S100000x64.size a)
theorem k0_off310_inb : ∀ (v1079 : BitVec 32) (k0_hw154 : k0_chk154 v1079), ∀ a, (k0_off310 v1079) a + S1x64.size a ≤ S100000x64.size a := fun v1079 k0_hw154 => k0_hw154.1
theorem k0_off478_inb : ∀ (v1079 : BitVec 32) (k0_hw154 : k0_chk154 v1079), ∀ a, (k0_off478 v1079) a + S1x64.size a ≤ S100000x64.size a := fun v1079 k0_hw154 => k0_hw154.2

def k0_off479 (v1086 : BitVec 32) : Fin 2 → Nat :=
  let c0_i32_813 : BitVec 32 := 0#32
  ![v1086.toNat, 0]

def k0_chk155 (v1086 : BitVec 32) : Prop :=
  (∀ a, (k0_off312 v1086) a + S1x64.size a ≤ S100000x64.size a) ∧
  (∀ a, (k0_off479 v1086) a + S1x64.size a ≤ S100000x64.size a)
theorem k0_off312_inb : ∀ (v1086 : BitVec 32) (k0_hw155 : k0_chk155 v1086), ∀ a, (k0_off312 v1086) a + S1x64.size a ≤ S100000x64.size a := fun v1086 k0_hw155 => k0_hw155.1
theorem k0_off479_inb : ∀ (v1086 : BitVec 32) (k0_hw155 : k0_chk155 v1086), ∀ a, (k0_off479 v1086) a + S1x64.size a ≤ S100000x64.size a := fun v1086 k0_hw155 => k0_hw155.2

def k0_off480 (v1093 : BitVec 32) : Fin 2 → Nat :=
  let c0_i32_815 : BitVec 32 := 0#32
  ![v1093.toNat, 0]

def k0_chk156 (v1093 : BitVec 32) : Prop :=
  (∀ a, (k0_off314 v1093) a + S1x64.size a ≤ S100000x64.size a) ∧
  (∀ a, (k0_off480 v1093) a + S1x64.size a ≤ S100000x64.size a)
theorem k0_off314_inb : ∀ (v1093 : BitVec 32) (k0_hw156 : k0_chk156 v1093), ∀ a, (k0_off314 v1093) a + S1x64.size a ≤ S100000x64.size a := fun v1093 k0_hw156 => k0_hw156.1
theorem k0_off480_inb : ∀ (v1093 : BitVec 32) (k0_hw156 : k0_chk156 v1093), ∀ a, (k0_off480 v1093) a + S1x64.size a ≤ S100000x64.size a := fun v1093 k0_hw156 => k0_hw156.2

def k0_off481 (v1100 : BitVec 32) : Fin 2 → Nat :=
  let c0_i32_817 : BitVec 32 := 0#32
  ![v1100.toNat, 0]

def k0_chk157 (v1100 : BitVec 32) : Prop :=
  (∀ a, (k0_off316 v1100) a + S1x64.size a ≤ S100000x64.size a) ∧
  (∀ a, (k0_off481 v1100) a + S1x64.size a ≤ S100000x64.size a)
theorem k0_off316_inb : ∀ (v1100 : BitVec 32) (k0_hw157 : k0_chk157 v1100), ∀ a, (k0_off316 v1100) a + S1x64.size a ≤ S100000x64.size a := fun v1100 k0_hw157 => k0_hw157.1
theorem k0_off481_inb : ∀ (v1100 : BitVec 32) (k0_hw157 : k0_chk157 v1100), ∀ a, (k0_off481 v1100) a + S1x64.size a ≤ S100000x64.size a := fun v1100 k0_hw157 => k0_hw157.2

def k0_off482 (v1107 : BitVec 32) : Fin 2 → Nat :=
  let c0_i32_819 : BitVec 32 := 0#32
  ![v1107.toNat, 0]

def k0_chk158 (v1107 : BitVec 32) : Prop :=
  (∀ a, (k0_off318 v1107) a + S1x64.size a ≤ S100000x64.size a) ∧
  (∀ a, (k0_off482 v1107) a + S1x64.size a ≤ S100000x64.size a)
theorem k0_off318_inb : ∀ (v1107 : BitVec 32) (k0_hw158 : k0_chk158 v1107), ∀ a, (k0_off318 v1107) a + S1x64.size a ≤ S100000x64.size a := fun v1107 k0_hw158 => k0_hw158.1
theorem k0_off482_inb : ∀ (v1107 : BitVec 32) (k0_hw158 : k0_chk158 v1107), ∀ a, (k0_off482 v1107) a + S1x64.size a ≤ S100000x64.size a := fun v1107 k0_hw158 => k0_hw158.2

def k0_off483 (v1114 : BitVec 32) : Fin 2 → Nat :=
  let c0_i32_821 : BitVec 32 := 0#32
  ![v1114.toNat, 0]

def k0_chk159 (v1114 : BitVec 32) : Prop :=
  (∀ a, (k0_off320 v1114) a + S1x64.size a ≤ S100000x64.size a) ∧
  (∀ a, (k0_off483 v1114) a + S1x64.size a ≤ S100000x64.size a)
theorem k0_off320_inb : ∀ (v1114 : BitVec 32) (k0_hw159 : k0_chk159 v1114), ∀ a, (k0_off320 v1114) a + S1x64.size a ≤ S100000x64.size a := fun v1114 k0_hw159 => k0_hw159.1
theorem k0_off483_inb : ∀ (v1114 : BitVec 32) (k0_hw159 : k0_chk159 v1114), ∀ a, (k0_off483 v1114) a + S1x64.size a ≤ S100000x64.size a := fun v1114 k0_hw159 => k0_hw159.2

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_log" => some (((Real.log 100001)⁻¹ : ℝ) : EReal)
  | "pad" => some ⊤
  | _ => none
-- ==== ReferenceIdeal.lean ====
abbrev S100000x64 : Shape := ⟨2, ![100000, 64]⟩
abbrev S4096x64 : Shape := ⟨2, ![4096, 64]⟩
abbrev S4096x1 : Shape := ⟨2, ![4096, 1]⟩
abbrev S100000 : Shape := ⟨1, ![100000]⟩
abbrev S_ : Shape := ⟨0, ![]⟩
abbrev S1 : Shape := ⟨1, ![1]⟩
abbrev S2 : Shape := ⟨1, ![2]⟩
abbrev S1000 : Shape := ⟨1, ![1000]⟩
abbrev S4096 : Shape := ⟨1, ![4096]⟩
abbrev S1x1 : Shape := ⟨2, ![1, 1]⟩
abbrev S1000x1 : Shape := ⟨2, ![1000, 1]⟩
abbrev S1000x64 : Shape := ⟨2, ![1000, 64]⟩
abbrev S64x1000 : Shape := ⟨2, ![64, 1000]⟩
abbrev S4096x1000 : Shape := ⟨2, ![4096, 1000]⟩
abbrev S1x1000 : Shape := ⟨2, ![1, 1000]⟩
abbrev S4096x1001 : Shape := ⟨2, ![4096, 1001]⟩

abbrev nBuf : Space → Nat
  | .hbm => 463
  | .vmem => 0
  | .smem => 0
  | _ => 0

abbrev hbmTy0_0 (i : Nat) : BufTy := match i % 128 with
  | 0 => ⟨S100000x64, .f32⟩
  | 1 => ⟨S4096x64, .f32⟩
  | 2 => ⟨S4096x1, .i32⟩
  | 3 => ⟨S100000, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1, .f32⟩
  | 19 => ⟨S1, .f32⟩
  | 20 => ⟨S1, .i32⟩
  | 21 => ⟨S_, .i32⟩
  | 22 => ⟨S1, .i32⟩
  | 23 => ⟨S_, .i32⟩
  | 24 => ⟨S1000, .i64⟩
  | 25 => ⟨S_, .i64⟩
  | 26 => ⟨S1000, .i64⟩
  | 27 => ⟨S1000, .i64⟩
  | 28 => ⟨S_, .i64⟩
  | 29 => ⟨S1000, .i64⟩
  | 30 => ⟨S1000, .i64⟩
  | 31 => ⟨S1000, .i32⟩
  | 32 => ⟨S1000, .i32⟩
  | 33 => ⟨S_, .i32⟩
  | 34 => ⟨S_, .i32⟩
  | 35 => ⟨S_, .i32⟩
  | 36 => ⟨S1000, .i32⟩
  | 37 => ⟨S1000, .i32⟩
  | 38 => ⟨S1000, .i32⟩
  | 39 => ⟨S1000, .i32⟩
  | 40 => ⟨S1000, .i32⟩
  | 41 => ⟨S_, .i32⟩
  | 42 => ⟨S1000, .i32⟩
  | 43 => ⟨S1000, .i32⟩
  | 44 => ⟨S_, .i32⟩
  | 45 => ⟨S1000, .i32⟩
  | 46 => ⟨S1000, .i32⟩
  | 47 => ⟨S1000, .i32⟩
  | 48 => ⟨S1000, .i32⟩
  | 49 => ⟨S1000, .i32⟩
  | 50 => ⟨S_, .i32⟩
  | 51 => ⟨S1000, .i32⟩
  | 52 => ⟨S1000, .i32⟩
  | 53 => ⟨S_, .i32⟩
  | 54 => ⟨S1000, .i32⟩
  | 55 => ⟨S1000, .i32⟩
  | 56 => ⟨S1000, .i32⟩
  | 57 => ⟨S1000, .i32⟩
  | 58 => ⟨S1000, .i32⟩
  | 59 => ⟨S_, .i32⟩
  | 60 => ⟨S1000, .i32⟩
  | 61 => ⟨S1000, .i32⟩
  | 62 => ⟨S_, .i32⟩
  | 63 => ⟨S1000, .i32⟩
  | 64 => ⟨S1000, .i32⟩
  | 65 => ⟨S1000, .i32⟩
  | 66 => ⟨S1000, .i32⟩
  | 67 => ⟨S1000, .i32⟩
  | 68 => ⟨S_, .i32⟩
  | 69 => ⟨S1000, .i32⟩
  | 70 => ⟨S1000, .i32⟩
  | 71 => ⟨S_, .i32⟩
  | 72 => ⟨S1000, .i32⟩
  | 73 => ⟨S1000, .i32⟩
  | 74 => ⟨S1000, .i32⟩
  | 75 => ⟨S1000, .i32⟩
  | 76 => ⟨S1000, .i32⟩
  | 77 => ⟨S1000, .i32⟩
  | 78 => ⟨S1000, .i32⟩
  | 79 => ⟨S1000, .i32⟩
  | 80 => ⟨S_, .i32⟩
  | 81 => ⟨S1000, .i32⟩
  | 82 => ⟨S1000, .i32⟩
  | 83 => ⟨S1000, .i32⟩
  | 84 => ⟨S_, .i32⟩
  | 85 => ⟨S1000, .i32⟩
  | 86 => ⟨S1000, .i32⟩
  | 87 => ⟨S_, .i32⟩
  | 88 => ⟨S1000, .i32⟩
  | 89 => ⟨S1000, .i32⟩
  | 90 => ⟨S1000, .i32⟩
  | 91 => ⟨S1000, .i32⟩
  | 92 => ⟨S1000, .i32⟩
  | 93 => ⟨S_, .i32⟩
  | 94 => ⟨S1000, .i32⟩
  | 95 => ⟨S1000, .i32⟩
  | 96 => ⟨S_, .i32⟩
  | 97 => ⟨S1000, .i32⟩
  | 98 => ⟨S1000, .i32⟩
  | 99 => ⟨S1000, .i32⟩
  | 100 => ⟨S1000, .i32⟩
  | 101 => ⟨S1000, .i32⟩
  | 102 => ⟨S_, .i32⟩
  | 103 => ⟨S1000, .i32⟩
  | 104 => ⟨S1000, .i32⟩
  | 105 => ⟨S_, .i32⟩
  | 106 => ⟨S1000, .i32⟩
  | 107 => ⟨S1000, .i32⟩
  | 108 => ⟨S1000, .i32⟩
  | 109 => ⟨S1000, .i32⟩
  | 110 => ⟨S1000, .i32⟩
  | 111 => ⟨S_, .i32⟩
  | 112 => ⟨S1000, .i32⟩
  | 113 => ⟨S1000, .i32⟩
  | 114 => ⟨S_, .i32⟩
  | 115 => ⟨S1000, .i32⟩
  | 116 => ⟨S1000, .i32⟩
  | 117 => ⟨S1000, .i32⟩
  | 118 => ⟨S1000, .i32⟩
  | 119 => ⟨S1000, .i32⟩
  | 120 => ⟨S1000, .i32⟩
  | 121 => ⟨S1000, .i32⟩
  | 122 => ⟨S1000, .i32⟩
  | 123 => ⟨S_, .i32⟩
  | 124 => ⟨S1000, .i32⟩
  | 125 => ⟨S1000, .i32⟩
  | 126 => ⟨S1000, .i32⟩
  | 127 => ⟨S_, .i32⟩
  | _ => ⟨S100000x64, .f32⟩

abbrev hbmTy0_1 (i : Nat) : BufTy := match i % 128 with
  | 0 => ⟨S1000, .i32⟩
  | 1 => ⟨S1000, .i32⟩
  | 2 => ⟨S_, .i32⟩
  | 3 => ⟨S1000, .i32⟩
  | 4 => ⟨S1000, .i32⟩
  | 5 => ⟨S1000, .i32⟩
  | 6 => ⟨S1000, .i32⟩
  | 7 => ⟨S1000, .i32⟩
  | 8 => ⟨S_, .i32⟩
  | 9 => ⟨S1000, .i32⟩
  | 10 => ⟨S1000, .i32⟩
  | 11 => ⟨S_, .i32⟩
  | 12 => ⟨S1000, .i32⟩
  | 13 => ⟨S1000, .i32⟩
  | 14 => ⟨S1000, .i32⟩
  | 15 => ⟨S1000, .i32⟩
  | 16 => ⟨S1000, .i32⟩
  | 17 => ⟨S_, .i32⟩
  | 18 => ⟨S1000, .i32⟩
  | 19 => ⟨S1000, .i32⟩
  | 20 => ⟨S_, .i32⟩
  | 21 => ⟨S1000, .i32⟩
  | 22 => ⟨S1000, .i32⟩
  | 23 => ⟨S1000, .i32⟩
  | 24 => ⟨S1000, .i32⟩
  | 25 => ⟨S1000, .i32⟩
  | 26 => ⟨S_, .i32⟩
  | 27 => ⟨S1000, .i32⟩
  | 28 => ⟨S1000, .i32⟩
  | 29 => ⟨S_, .i32⟩
  | 30 => ⟨S1000, .i32⟩
  | 31 => ⟨S1000, .i32⟩
  | 32 => ⟨S1000, .i32⟩
  | 33 => ⟨S1000, .i32⟩
  | 34 => ⟨S1000, .i32⟩
  | 35 => ⟨S1000, .i32⟩
  | 36 => ⟨S1000, .i32⟩
  | 37 => ⟨S1000, .i32⟩
  | 38 => ⟨S_, .i32⟩
  | 39 => ⟨S1000, .i32⟩
  | 40 => ⟨S1000, .i32⟩
  | 41 => ⟨S1000, .i32⟩
  | 42 => ⟨S_, .i32⟩
  | 43 => ⟨S1000, .i32⟩
  | 44 => ⟨S1000, .i32⟩
  | 45 => ⟨S_, .i32⟩
  | 46 => ⟨S1000, .i32⟩
  | 47 => ⟨S1000, .i32⟩
  | 48 => ⟨S1000, .i32⟩
  | 49 => ⟨S1000, .i32⟩
  | 50 => ⟨S1000, .i32⟩
  | 51 => ⟨S_, .i32⟩
  | 52 => ⟨S1000, .i32⟩
  | 53 => ⟨S1000, .i32⟩
  | 54 => ⟨S_, .i32⟩
  | 55 => ⟨S1000, .i32⟩
  | 56 => ⟨S1000, .i32⟩
  | 57 => ⟨S1000, .i32⟩
  | 58 => ⟨S1000, .i32⟩
  | 59 => ⟨S1000, .i32⟩
  | 60 => ⟨S_, .i32⟩
  | 61 => ⟨S1000, .i32⟩
  | 62 => ⟨S1000, .i32⟩
  | 63 => ⟨S_, .i32⟩
  | 64 => ⟨S1000, .i32⟩
  | 65 => ⟨S1000, .i32⟩
  | 66 => ⟨S1000, .i32⟩
  | 67 => ⟨S1000, .i32⟩
  | 68 => ⟨S1000, .i32⟩
  | 69 => ⟨S_, .i32⟩
  | 70 => ⟨S1000, .i32⟩
  | 71 => ⟨S1000, .i32⟩
  | 72 => ⟨S_, .i32⟩
  | 73 => ⟨S1000, .i32⟩
  | 74 => ⟨S1000, .i32⟩
  | 75 => ⟨S1000, .i32⟩
  | 76 => ⟨S1000, .i32⟩
  | 77 => ⟨S1000, .i32⟩
  | 78 => ⟨S1000, .i32⟩
  | 79 => ⟨S1000, .i32⟩
  | 80 => ⟨S1000, .i32⟩
  | 81 => ⟨S_, .i32⟩
  | 82 => ⟨S1000, .i32⟩
  | 83 => ⟨S1000, .i32⟩
  | 84 => ⟨S1000, .i32⟩
  | 85 => ⟨S_, .i32⟩
  | 86 => ⟨S1000, .i32⟩
  | 87 => ⟨S1000, .i32⟩
  | 88 => ⟨S_, .i32⟩
  | 89 => ⟨S1000, .i32⟩
  | 90 => ⟨S1000, .i32⟩
  | 91 => ⟨S1000, .i32⟩
  | 92 => ⟨S1000, .i32⟩
  | 93 => ⟨S1000, .i32⟩
  | 94 => ⟨S_, .i32⟩
  | 95 => ⟨S1000, .i32⟩
  | 96 => ⟨S1000, .i32⟩
  | 97 => ⟨S_, .i32⟩
  | 98 => ⟨S1000, .i32⟩
  | 99 => ⟨S1000, .i32⟩
  | 100 => ⟨S1000, .i32⟩
  | 101 => ⟨S1000, .i32⟩
  | 102 => ⟨S1000, .i32⟩
  | 103 => ⟨S_, .i32⟩
  | 104 => ⟨S1000, .i32⟩
  | 105 => ⟨S1000, .i32⟩
  | 106 => ⟨S_, .i32⟩
  | 107 => ⟨S1000, .i32⟩
  | 108 => ⟨S1000, .i32⟩
  | 109 => ⟨S1000, .i32⟩
  | 110 => ⟨S1000, .i32⟩
  | 111 => ⟨S1000, .i32⟩
  | 112 => ⟨S_, .i32⟩
  | 113 => ⟨S1000, .i32⟩
  | 114 => ⟨S1000, .i32⟩
  | 115 => ⟨S_, .i32⟩
  | 116 => ⟨S1000, .i32⟩
  | 117 => ⟨S1000, .i32⟩
  | 118 => ⟨S1000, .i32⟩
  | 119 => ⟨S1000, .i32⟩
  | 120 => ⟨S1000, .i32⟩
  | 121 => ⟨S1000, .i32⟩
  | 122 => ⟨S1000, .i32⟩
  | 123 => ⟨S1000, .i32⟩
  | 124 => ⟨S_, .i32⟩
  | 125 => ⟨S1000, .i32⟩
  | 126 => ⟨S1000, .i32⟩
  | 127 => ⟨S1000, .i32⟩
  | _ => ⟨S100000x64, .f32⟩

abbrev hbmTy0_2 (i : Nat) : BufTy := match i % 128 with
  | 0 => ⟨S_, .i32⟩
  | 1 => ⟨S1000, .i32⟩
  | 2 => ⟨S1000, .i32⟩
  | 3 => ⟨S_, .i32⟩
  | 4 => ⟨S1000, .i32⟩
  | 5 => ⟨S1000, .i32⟩
  | 6 => ⟨S1000, .f32⟩
  | 7 => ⟨S_, .f32⟩
  | 8 => ⟨S1000, .f32⟩
  | 9 => ⟨S1000, .f32⟩
  | 10 => ⟨S1, .f32⟩
  | 11 => ⟨S1000, .f32⟩
  | 12 => ⟨S1000, .f32⟩
  | 13 => ⟨S1000, .f32⟩
  | 14 => ⟨S1000, .f32⟩
  | 15 => ⟨S1000, .f32⟩
  | 16 => ⟨S1000, .f32⟩
  | 17 => ⟨S_, .f32⟩
  | 18 => ⟨S_, .f32⟩
  | 19 => ⟨S1000, .f32⟩
  | 20 => ⟨S1000, .f32⟩
  | 21 => ⟨S1000, .f32⟩
  | 22 => ⟨S1000, .f32⟩
  | 23 => ⟨S1000, .i32⟩
  | 24 => ⟨S_, .i32⟩
  | 25 => ⟨S1000, .i32⟩
  | 26 => ⟨S1000, .i32⟩
  | 27 => ⟨S_, .i32⟩
  | 28 => ⟨S_, .i32⟩
  | 29 => ⟨S_, .i32⟩
  | 30 => ⟨S1000, .i32⟩
  | 31 => ⟨S1000, .i32⟩
  | 32 => ⟨S_, .i32⟩
  | 33 => ⟨S1000, .i32⟩
  | 34 => ⟨S1000, .i32⟩
  | 35 => ⟨S4096, .i32⟩
  | 36 => ⟨S_, .f32⟩
  | 37 => ⟨S_, .f32⟩
  | 38 => ⟨S4096, .f32⟩
  | 39 => ⟨S_, .f32⟩
  | 40 => ⟨S4096, .f32⟩
  | 41 => ⟨S4096, .f32⟩
  | 42 => ⟨S4096, .f32⟩
  | 43 => ⟨S_, .f32⟩
  | 44 => ⟨S4096, .f32⟩
  | 45 => ⟨S4096, .f32⟩
  | 46 => ⟨S4096, .f32⟩
  | 47 => ⟨S4096, .f32⟩
  | 48 => ⟨S4096, .f32⟩
  | 49 => ⟨S4096, .f32⟩
  | 50 => ⟨S1000, .f32⟩
  | 51 => ⟨S_, .f32⟩
  | 52 => ⟨S1000, .f32⟩
  | 53 => ⟨S1000, .f32⟩
  | 54 => ⟨S1000, .f32⟩
  | 55 => ⟨S_, .f32⟩
  | 56 => ⟨S1000, .f32⟩
  | 57 => ⟨S1000, .f32⟩
  | 58 => ⟨S1000, .f32⟩
  | 59 => ⟨S1000, .f32⟩
  | 60 => ⟨S1000, .f32⟩
  | 61 => ⟨S1000, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S1, .i32⟩
  | 71 => ⟨S_, .i32⟩
  | 72 => ⟨S4096x1, .i32⟩
  | 73 => ⟨S4096x1, .i1⟩
  | 74 => ⟨S1x1, .i32⟩
  | 75 => ⟨S4096x1, .i32⟩
  | 76 => ⟨S4096x1, .i1⟩
  | 77 => ⟨S4096x1, .i1⟩
  | 78 => ⟨S_, .i1⟩
  | 79 => ⟨S4096, .i1⟩
  | 80 => ⟨S4096x64, .f32⟩
  | 81 => ⟨S4096x64, .i1⟩
  | 82 => ⟨S_, .f32⟩
  | 83 => ⟨S4096x64, .f32⟩
  | 84 => ⟨S4096x64, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S1, .i32⟩
  | 94 => ⟨S_, .i32⟩
  | 95 => ⟨S4096x1, .i32⟩
  | 96 => ⟨S4096x1, .i1⟩
  | 97 => ⟨S1x1, .i32⟩
  | 98 => ⟨S4096x1, .i32⟩
  | 99 => ⟨S4096x1, .i1⟩
  | 100 => ⟨S4096x1, .i1⟩
  | 101 => ⟨S_, .i1⟩
  | 102 => ⟨S4096, .i1⟩
  | 103 => ⟨S4096, .f32⟩
  | 104 => ⟨S_, .f32⟩
  | 105 => ⟨S4096, .f32⟩
  | 106 => ⟨S4096, .f32⟩
  | 107 => ⟨S4096x64, .f32⟩
  | 108 => ⟨S_, .f32⟩
  | 109 => ⟨S4096, .f32⟩
  | 110 => ⟨S4096, .f32⟩
  | 111 => ⟨S_, .f32⟩
  | 112 => ⟨S4096, .f32⟩
  | 113 => ⟨S4096, .f32⟩
  | 114 => ⟨S4096, .f32⟩
  | 115 => ⟨S4096, .f32⟩
  | 116 => ⟨S_, .i32⟩
  | 117 => ⟨S1000, .i32⟩
  | 118 => ⟨S1000, .i1⟩
  | 119 => ⟨S_, .i32⟩
  | 120 => ⟨S1000, .i32⟩
  | 121 => ⟨S1000, .i32⟩
  | 122 => ⟨S1000, .i32⟩
  | 123 => ⟨S1000x1, .i32⟩
  | 124 => ⟨S1, .i32⟩
  | 125 => ⟨S_, .i32⟩
  | 126 => ⟨S1000x1, .i32⟩
  | 127 => ⟨S1000x1, .i1⟩
  | _ => ⟨S100000x64, .f32⟩

abbrev hbmTy0_3 (i : Nat) : BufTy := match i % 128 with
  | 0 => ⟨S1x1, .i32⟩
  | 1 => ⟨S1000x1, .i32⟩
  | 2 => ⟨S1000x1, .i1⟩
  | 3 => ⟨S1000x1, .i1⟩
  | 4 => ⟨S_, .i1⟩
  | 5 => ⟨S1000, .i1⟩
  | 6 => ⟨S1000x64, .f32⟩
  | 7 => ⟨S1000x64, .i1⟩
  | 8 => ⟨S_, .f32⟩
  | 9 => ⟨S1000x64, .f32⟩
  | 10 => ⟨S1000x64, .f32⟩
  | 11 => ⟨S_, .i32⟩
  | 12 => ⟨S1000, .i32⟩
  | 13 => ⟨S1000, .i1⟩
  | 14 => ⟨S_, .i32⟩
  | 15 => ⟨S1000, .i32⟩
  | 16 => ⟨S1000, .i32⟩
  | 17 => ⟨S1000, .i32⟩
  | 18 => ⟨S1000x1, .i32⟩
  | 19 => ⟨S1, .i32⟩
  | 20 => ⟨S_, .i32⟩
  | 21 => ⟨S1000x1, .i32⟩
  | 22 => ⟨S1000x1, .i1⟩
  | 23 => ⟨S1x1, .i32⟩
  | 24 => ⟨S1000x1, .i32⟩
  | 25 => ⟨S1000x1, .i1⟩
  | 26 => ⟨S1000x1, .i1⟩
  | 27 => ⟨S_, .i1⟩
  | 28 => ⟨S1000, .i1⟩
  | 29 => ⟨S1000, .f32⟩
  | 30 => ⟨S_, .f32⟩
  | 31 => ⟨S1000, .f32⟩
  | 32 => ⟨S1000, .f32⟩
  | 33 => ⟨S64x1000, .f32⟩
  | 34 => ⟨S4096x1000, .f32⟩
  | 35 => ⟨S1x1000, .f32⟩
  | 36 => ⟨S4096x1000, .f32⟩
  | 37 => ⟨S4096x1000, .f32⟩
  | 38 => ⟨S_, .f32⟩
  | 39 => ⟨S1000, .f32⟩
  | 40 => ⟨S1000, .f32⟩
  | 41 => ⟨S1000, .f32⟩
  | 42 => ⟨S1x1000, .f32⟩
  | 43 => ⟨S4096x1000, .f32⟩
  | 44 => ⟨S4096x1000, .f32⟩
  | 45 => ⟨S4096x1, .i32⟩
  | 46 => ⟨S1x1000, .i32⟩
  | 47 => ⟨S4096x1000, .i32⟩
  | 48 => ⟨S4096x1000, .i32⟩
  | 49 => ⟨S4096x1000, .i1⟩
  | 50 => ⟨S_, .f32⟩
  | 51 => ⟨S4096x1000, .f32⟩
  | 52 => ⟨S4096x1000, .f32⟩
  | 53 => ⟨S4096x1000, .f32⟩
  | 54 => ⟨S4096x1, .f32⟩
  | 55 => ⟨S4096x1001, .f32⟩
  | 56 => ⟨S_, .f32⟩
  | 57 => ⟨S4096, .f32⟩
  | 58 => ⟨S4096x1, .f32⟩
  | 59 => ⟨S4096x1, .f32⟩
  | 60 => ⟨S_, .f32⟩
  | 61 => ⟨S4096x1, .f32⟩
  | 62 => ⟨S4096x1, .i1⟩
  | 63 => ⟨S_, .f32⟩
  | 64 => ⟨S_, .f32⟩
  | 65 => ⟨S4096x1, .f32⟩
  | 66 => ⟨S4096x1, .f32⟩
  | 67 => ⟨S4096x1001, .f32⟩
  | 68 => ⟨S4096x1001, .f32⟩
  | 69 => ⟨S4096x1001, .f32⟩
  | 70 => ⟨S_, .f32⟩
  | 71 => ⟨S4096, .f32⟩
  | 72 => ⟨S4096, .f32⟩
  | 73 => ⟨S4096, .f32⟩
  | 74 => ⟨S4096, .f32⟩
  | 75 => ⟨S4096x1, .f32⟩
  | 76 => ⟨S4096, .f32⟩
  | 77 => ⟨S4096, .f32⟩
  | 78 => ⟨S4096x1, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_c_0 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_call0_v0 : Ref sig .tc := ⟨.hbm, 33, rfl⟩
abbrev main_call0_call0_c : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_c_0 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_c_1 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_call0_v12 : Ref sig .tc := ⟨.hbm, 48, rfl⟩
abbrev main_call0_call0_v13 : Ref sig .tc := ⟨.hbm, 49, rfl⟩
abbrev main_call0_call0_c_2 : Ref sig .tc := ⟨.hbm, 50, rfl⟩
abbrev main_call0_call0_v14 : Ref sig .tc := ⟨.hbm, 51, rfl⟩
abbrev main_call0_call0_v15 : Ref sig .tc := ⟨.hbm, 52, rfl⟩
abbrev main_call0_call0_c_3 : Ref sig .tc := ⟨.hbm, 53, rfl⟩
abbrev main_call0_call0_v16 : Ref sig .tc := ⟨.hbm, 54, rfl⟩
abbrev main_call0_call0_v17 : Ref sig .tc := ⟨.hbm, 55, rfl⟩
abbrev main_call0_call0_v18 : Ref sig .tc := ⟨.hbm, 56, rfl⟩
abbrev main_call0_call0_v19 : Ref sig .tc := ⟨.hbm, 57, rfl⟩
abbrev main_call0_call0_v20 : Ref sig .tc := ⟨.hbm, 58, rfl⟩
abbrev main_call0_call0_c_4 : Ref sig .tc := ⟨.hbm, 59, rfl⟩
abbrev main_call0_call0_v21 : Ref sig .tc := ⟨.hbm, 60, rfl⟩
abbrev main_call0_call0_v22 : Ref sig .tc := ⟨.hbm, 61, rfl⟩
abbrev main_call0_call0_c_5 : Ref sig .tc := ⟨.hbm, 62, rfl⟩
abbrev main_call0_call0_v23 : Ref sig .tc := ⟨.hbm, 63, rfl⟩
abbrev main_call0_call0_v24 : Ref sig .tc := ⟨.hbm, 64, rfl⟩
abbrev main_call0_call0_v25 : Ref sig .tc := ⟨.hbm, 65, rfl⟩
abbrev main_call0_call0_v26 : Ref sig .tc := ⟨.hbm, 66, rfl⟩
abbrev main_call0_call0_v27 : Ref sig .tc := ⟨.hbm, 67, rfl⟩
abbrev main_call0_call0_c_6 : Ref sig .tc := ⟨.hbm, 68, rfl⟩
abbrev main_call0_call0_v28 : Ref sig .tc := ⟨.hbm, 69, rfl⟩
abbrev main_call0_call0_v29 : Ref sig .tc := ⟨.hbm, 70, rfl⟩
abbrev main_call0_call0_c_7 : Ref sig .tc := ⟨.hbm, 71, rfl⟩
abbrev main_call0_call0_v30 : Ref sig .tc := ⟨.hbm, 72, rfl⟩
abbrev main_call0_call0_v31 : Ref sig .tc := ⟨.hbm, 73, rfl⟩
abbrev main_call0_call0_v32 : Ref sig .tc := ⟨.hbm, 74, rfl⟩
abbrev main_call0_call0_v33 : Ref sig .tc := ⟨.hbm, 75, rfl⟩
abbrev main_call0_call0_v34 : Ref sig .tc := ⟨.hbm, 76, rfl⟩
abbrev main_call0_call0_v35 : Ref sig .tc := ⟨.hbm, 77, rfl⟩
abbrev main_call0_call0_v36 : Ref sig .tc := ⟨.hbm, 78, rfl⟩
abbrev main_call0_call0_v37 : Ref sig .tc := ⟨.hbm, 79, rfl⟩
abbrev main_call0_call0_c_8 : Ref sig .tc := ⟨.hbm, 80, rfl⟩
abbrev main_call0_call0_v38 : Ref sig .tc := ⟨.hbm, 81, rfl⟩
abbrev main_call0_call0_v39 : Ref sig .tc := ⟨.hbm, 82, rfl⟩
abbrev main_call0_call0_v40 : Ref sig .tc := ⟨.hbm, 83, rfl⟩
abbrev main_call0_call0_c_9 : Ref sig .tc := ⟨.hbm, 84, rfl⟩
abbrev main_call0_call0_v41 : Ref sig .tc := ⟨.hbm, 85, rfl⟩
abbrev main_call0_call0_v42 : Ref sig .tc := ⟨.hbm, 86, rfl⟩
abbrev main_call0_call0_c_10 : Ref sig .tc := ⟨.hbm, 87, rfl⟩
abbrev main_call0_call0_v43 : Ref sig .tc := ⟨.hbm, 88, rfl⟩
abbrev main_call0_call0_v44 : Ref sig .tc := ⟨.hbm, 89, rfl⟩
abbrev main_call0_call0_v45 : Ref sig .tc := ⟨.hbm, 90, rfl⟩
abbrev main_call0_call0_v46 : Ref sig .tc := ⟨.hbm, 91, rfl⟩
abbrev main_call0_call0_v47 : Ref sig .tc := ⟨.hbm, 92, rfl⟩
abbrev main_call0_call0_c_11 : Ref sig .tc := ⟨.hbm, 93, rfl⟩
abbrev main_call0_call0_v48 : Ref sig .tc := ⟨.hbm, 94, rfl⟩
abbrev main_call0_call0_v49 : Ref sig .tc := ⟨.hbm, 95, rfl⟩
abbrev main_call0_call0_c_12 : Ref sig .tc := ⟨.hbm, 96, rfl⟩
abbrev main_call0_call0_v50 : Ref sig .tc := ⟨.hbm, 97, rfl⟩
abbrev main_call0_call0_v51 : Ref sig .tc := ⟨.hbm, 98, rfl⟩
abbrev main_call0_call0_v52 : Ref sig .tc := ⟨.hbm, 99, rfl⟩
abbrev main_call0_call0_v53 : Ref sig .tc := ⟨.hbm, 100, rfl⟩
abbrev main_call0_call0_v54 : Ref sig .tc := ⟨.hbm, 101, rfl⟩
abbrev main_call0_call0_c_13 : Ref sig .tc := ⟨.hbm, 102, rfl⟩
abbrev main_call0_call0_v55 : Ref sig .tc := ⟨.hbm, 103, rfl⟩
abbrev main_call0_call0_v56 : Ref sig .tc := ⟨.hbm, 104, rfl⟩
abbrev main_call0_call0_c_14 : Ref sig .tc := ⟨.hbm, 105, rfl⟩
abbrev main_call0_call0_v57 : Ref sig .tc := ⟨.hbm, 106, rfl⟩
abbrev main_call0_call0_v58 : Ref sig .tc := ⟨.hbm, 107, rfl⟩
abbrev main_call0_call0_v59 : Ref sig .tc := ⟨.hbm, 108, rfl⟩
abbrev main_call0_call0_v60 : Ref sig .tc := ⟨.hbm, 109, rfl⟩
abbrev main_call0_call0_v61 : Ref sig .tc := ⟨.hbm, 110, rfl⟩
abbrev main_call0_call0_c_15 : Ref sig .tc := ⟨.hbm, 111, rfl⟩
abbrev main_call0_call0_v62 : Ref sig .tc := ⟨.hbm, 112, rfl⟩
abbrev main_call0_call0_v63 : Ref sig .tc := ⟨.hbm, 113, rfl⟩
abbrev main_call0_call0_c_16 : Ref sig .tc := ⟨.hbm, 114, rfl⟩
abbrev main_call0_call0_v64 : Ref sig .tc := ⟨.hbm, 115, rfl⟩
abbrev main_call0_call0_v65 : Ref sig .tc := ⟨.hbm, 116, rfl⟩
abbrev main_call0_call0_v66 : Ref sig .tc := ⟨.hbm, 117, rfl⟩
abbrev main_call0_call0_v67 : Ref sig .tc := ⟨.hbm, 118, rfl⟩
abbrev main_call0_call0_v68 : Ref sig .tc := ⟨.hbm, 119, rfl⟩
abbrev main_call0_call0_v69 : Ref sig .tc := ⟨.hbm, 120, rfl⟩
abbrev main_call0_call0_v70 : Ref sig .tc := ⟨.hbm, 121, rfl⟩
abbrev main_call0_call0_v71 : Ref sig .tc := ⟨.hbm, 122, rfl⟩
abbrev main_call0_call0_c_17 : Ref sig .tc := ⟨.hbm, 123, rfl⟩
abbrev main_call0_call0_v72 : Ref sig .tc := ⟨.hbm, 124, rfl⟩
abbrev main_call0_call0_v73 : Ref sig .tc := ⟨.hbm, 125, rfl⟩
abbrev main_call0_call0_v74 : Ref sig .tc := ⟨.hbm, 126, rfl⟩
abbrev main_call0_call0_c_18 : Ref sig .tc := ⟨.hbm, 127, rfl⟩
abbrev main_call0_call0_v75 : Ref sig .tc := ⟨.hbm, 128, rfl⟩
abbrev main_call0_call0_v76 : Ref sig .tc := ⟨.hbm, 129, rfl⟩
abbrev main_call0_call0_c_19 : Ref sig .tc := ⟨.hbm, 130, rfl⟩
abbrev main_call0_call0_v77 : Ref sig .tc := ⟨.hbm, 131, rfl⟩
abbrev main_call0_call0_v78 : Ref sig .tc := ⟨.hbm, 132, rfl⟩
abbrev main_call0_call0_v79 : Ref sig .tc := ⟨.hbm, 133, rfl⟩
abbrev main_call0_call0_v80 : Ref sig .tc := ⟨.hbm, 134, rfl⟩
abbrev main_call0_call0_v81 : Ref sig .tc := ⟨.hbm, 135, rfl⟩
abbrev main_call0_call0_c_20 : Ref sig .tc := ⟨.hbm, 136, rfl⟩
abbrev main_call0_call0_v82 : Ref sig .tc := ⟨.hbm, 137, rfl⟩
abbrev main_call0_call0_v83 : Ref sig .tc := ⟨.hbm, 138, rfl⟩
abbrev main_call0_call0_c_21 : Ref sig .tc := ⟨.hbm, 139, rfl⟩
abbrev main_call0_call0_v84 : Ref sig .tc := ⟨.hbm, 140, rfl⟩
abbrev main_call0_call0_v85 : Ref sig .tc := ⟨.hbm, 141, rfl⟩
abbrev main_call0_call0_v86 : Ref sig .tc := ⟨.hbm, 142, rfl⟩
abbrev main_call0_call0_v87 : Ref sig .tc := ⟨.hbm, 143, rfl⟩
abbrev main_call0_call0_v88 : Ref sig .tc := ⟨.hbm, 144, rfl⟩
abbrev main_call0_call0_c_22 : Ref sig .tc := ⟨.hbm, 145, rfl⟩
abbrev main_call0_call0_v89 : Ref sig .tc := ⟨.hbm, 146, rfl⟩
abbrev main_call0_call0_v90 : Ref sig .tc := ⟨.hbm, 147, rfl⟩
abbrev main_call0_call0_c_23 : Ref sig .tc := ⟨.hbm, 148, rfl⟩
abbrev main_call0_call0_v91 : Ref sig .tc := ⟨.hbm, 149, rfl⟩
abbrev main_call0_call0_v92 : Ref sig .tc := ⟨.hbm, 150, rfl⟩
abbrev main_call0_call0_v93 : Ref sig .tc := ⟨.hbm, 151, rfl⟩
abbrev main_call0_call0_v94 : Ref sig .tc := ⟨.hbm, 152, rfl⟩
abbrev main_call0_call0_v95 : Ref sig .tc := ⟨.hbm, 153, rfl⟩
abbrev main_call0_call0_c_24 : Ref sig .tc := ⟨.hbm, 154, rfl⟩
abbrev main_call0_call0_v96 : Ref sig .tc := ⟨.hbm, 155, rfl⟩
abbrev main_call0_call0_v97 : Ref sig .tc := ⟨.hbm, 156, rfl⟩
abbrev main_call0_call0_c_25 : Ref sig .tc := ⟨.hbm, 157, rfl⟩
abbrev main_call0_call0_v98 : Ref sig .tc := ⟨.hbm, 158, rfl⟩
abbrev main_call0_call0_v99 : Ref sig .tc := ⟨.hbm, 159, rfl⟩
abbrev main_call0_call0_v100 : Ref sig .tc := ⟨.hbm, 160, rfl⟩
abbrev main_call0_call0_v101 : Ref sig .tc := ⟨.hbm, 161, rfl⟩
abbrev main_call0_call0_v102 : Ref sig .tc := ⟨.hbm, 162, rfl⟩
abbrev main_call0_call0_v103 : Ref sig .tc := ⟨.hbm, 163, rfl⟩
abbrev main_call0_call0_v104 : Ref sig .tc := ⟨.hbm, 164, rfl⟩
abbrev main_call0_call0_v105 : Ref sig .tc := ⟨.hbm, 165, rfl⟩
abbrev main_call0_call0_c_26 : Ref sig .tc := ⟨.hbm, 166, rfl⟩
abbrev main_call0_call0_v106 : Ref sig .tc := ⟨.hbm, 167, rfl⟩
abbrev main_call0_call0_v107 : Ref sig .tc := ⟨.hbm, 168, rfl⟩
abbrev main_call0_call0_v108 : Ref sig .tc := ⟨.hbm, 169, rfl⟩
abbrev main_call0_call0_c_27 : Ref sig .tc := ⟨.hbm, 170, rfl⟩
abbrev main_call0_call0_v109 : Ref sig .tc := ⟨.hbm, 171, rfl⟩
abbrev main_call0_call0_v110 : Ref sig .tc := ⟨.hbm, 172, rfl⟩
abbrev main_call0_call0_c_28 : Ref sig .tc := ⟨.hbm, 173, rfl⟩
abbrev main_call0_call0_v111 : Ref sig .tc := ⟨.hbm, 174, rfl⟩
abbrev main_call0_call0_v112 : Ref sig .tc := ⟨.hbm, 175, rfl⟩
abbrev main_call0_call0_v113 : Ref sig .tc := ⟨.hbm, 176, rfl⟩
abbrev main_call0_call0_v114 : Ref sig .tc := ⟨.hbm, 177, rfl⟩
abbrev main_call0_call0_v115 : Ref sig .tc := ⟨.hbm, 178, rfl⟩
abbrev main_call0_call0_c_29 : Ref sig .tc := ⟨.hbm, 179, rfl⟩
abbrev main_call0_call0_v116 : Ref sig .tc := ⟨.hbm, 180, rfl⟩
abbrev main_call0_call0_v117 : Ref sig .tc := ⟨.hbm, 181, rfl⟩
abbrev main_call0_call0_c_30 : Ref sig .tc := ⟨.hbm, 182, rfl⟩
abbrev main_call0_call0_v118 : Ref sig .tc := ⟨.hbm, 183, rfl⟩
abbrev main_call0_call0_v119 : Ref sig .tc := ⟨.hbm, 184, rfl⟩
abbrev main_call0_call0_v120 : Ref sig .tc := ⟨.hbm, 185, rfl⟩
abbrev main_call0_call0_v121 : Ref sig .tc := ⟨.hbm, 186, rfl⟩
abbrev main_call0_call0_v122 : Ref sig .tc := ⟨.hbm, 187, rfl⟩
abbrev main_call0_call0_c_31 : Ref sig .tc := ⟨.hbm, 188, rfl⟩
abbrev main_call0_call0_v123 : Ref sig .tc := ⟨.hbm, 189, rfl⟩
abbrev main_call0_call0_v124 : Ref sig .tc := ⟨.hbm, 190, rfl⟩
abbrev main_call0_call0_c_32 : Ref sig .tc := ⟨.hbm, 191, rfl⟩
abbrev main_call0_call0_v125 : Ref sig .tc := ⟨.hbm, 192, rfl⟩
abbrev main_call0_call0_v126 : Ref sig .tc := ⟨.hbm, 193, rfl⟩
abbrev main_call0_call0_v127 : Ref sig .tc := ⟨.hbm, 194, rfl⟩
abbrev main_call0_call0_v128 : Ref sig .tc := ⟨.hbm, 195, rfl⟩
abbrev main_call0_call0_v129 : Ref sig .tc := ⟨.hbm, 196, rfl⟩
abbrev main_call0_call0_c_33 : Ref sig .tc := ⟨.hbm, 197, rfl⟩
abbrev main_call0_call0_v130 : Ref sig .tc := ⟨.hbm, 198, rfl⟩
abbrev main_call0_call0_v131 : Ref sig .tc := ⟨.hbm, 199, rfl⟩
abbrev main_call0_call0_c_34 : Ref sig .tc := ⟨.hbm, 200, rfl⟩
abbrev main_call0_call0_v132 : Ref sig .tc := ⟨.hbm, 201, rfl⟩
abbrev main_call0_call0_v133 : Ref sig .tc := ⟨.hbm, 202, rfl⟩
abbrev main_call0_call0_v134 : Ref sig .tc := ⟨.hbm, 203, rfl⟩
abbrev main_call0_call0_v135 : Ref sig .tc := ⟨.hbm, 204, rfl⟩
abbrev main_call0_call0_v136 : Ref sig .tc := ⟨.hbm, 205, rfl⟩
abbrev main_call0_call0_v137 : Ref sig .tc := ⟨.hbm, 206, rfl⟩
abbrev main_call0_call0_v138 : Ref sig .tc := ⟨.hbm, 207, rfl⟩
abbrev main_call0_call0_v139 : Ref sig .tc := ⟨.hbm, 208, rfl⟩
abbrev main_call0_call0_c_35 : Ref sig .tc := ⟨.hbm, 209, rfl⟩
abbrev main_call0_call0_v140 : Ref sig .tc := ⟨.hbm, 210, rfl⟩
abbrev main_call0_call0_v141 : Ref sig .tc := ⟨.hbm, 211, rfl⟩
abbrev main_call0_call0_v142 : Ref sig .tc := ⟨.hbm, 212, rfl⟩
abbrev main_call0_call0_c_36 : Ref sig .tc := ⟨.hbm, 213, rfl⟩
abbrev main_call0_call0_v143 : Ref sig .tc := ⟨.hbm, 214, rfl⟩
abbrev main_call0_call0_v144 : Ref sig .tc := ⟨.hbm, 215, rfl⟩
abbrev main_call0_call0_c_37 : Ref sig .tc := ⟨.hbm, 216, rfl⟩
abbrev main_call0_call0_v145 : Ref sig .tc := ⟨.hbm, 217, rfl⟩
abbrev main_call0_call0_v146 : Ref sig .tc := ⟨.hbm, 218, rfl⟩
abbrev main_call0_call0_v147 : Ref sig .tc := ⟨.hbm, 219, rfl⟩
abbrev main_call0_call0_v148 : Ref sig .tc := ⟨.hbm, 220, rfl⟩
abbrev main_call0_call0_v149 : Ref sig .tc := ⟨.hbm, 221, rfl⟩
abbrev main_call0_call0_c_38 : Ref sig .tc := ⟨.hbm, 222, rfl⟩
abbrev main_call0_call0_v150 : Ref sig .tc := ⟨.hbm, 223, rfl⟩
abbrev main_call0_call0_v151 : Ref sig .tc := ⟨.hbm, 224, rfl⟩
abbrev main_call0_call0_c_39 : Ref sig .tc := ⟨.hbm, 225, rfl⟩
abbrev main_call0_call0_v152 : Ref sig .tc := ⟨.hbm, 226, rfl⟩
abbrev main_call0_call0_v153 : Ref sig .tc := ⟨.hbm, 227, rfl⟩
abbrev main_call0_call0_v154 : Ref sig .tc := ⟨.hbm, 228, rfl⟩
abbrev main_call0_call0_v155 : Ref sig .tc := ⟨.hbm, 229, rfl⟩
abbrev main_call0_call0_v156 : Ref sig .tc := ⟨.hbm, 230, rfl⟩
abbrev main_call0_call0_c_40 : Ref sig .tc := ⟨.hbm, 231, rfl⟩
abbrev main_call0_call0_v157 : Ref sig .tc := ⟨.hbm, 232, rfl⟩
abbrev main_call0_call0_v158 : Ref sig .tc := ⟨.hbm, 233, rfl⟩
abbrev main_call0_call0_c_41 : Ref sig .tc := ⟨.hbm, 234, rfl⟩
abbrev main_call0_call0_v159 : Ref sig .tc := ⟨.hbm, 235, rfl⟩
abbrev main_call0_call0_v160 : Ref sig .tc := ⟨.hbm, 236, rfl⟩
abbrev main_call0_call0_v161 : Ref sig .tc := ⟨.hbm, 237, rfl⟩
abbrev main_call0_call0_v162 : Ref sig .tc := ⟨.hbm, 238, rfl⟩
abbrev main_call0_call0_v163 : Ref sig .tc := ⟨.hbm, 239, rfl⟩
abbrev main_call0_call0_c_42 : Ref sig .tc := ⟨.hbm, 240, rfl⟩
abbrev main_call0_call0_v164 : Ref sig .tc := ⟨.hbm, 241, rfl⟩
abbrev main_call0_call0_v165 : Ref sig .tc := ⟨.hbm, 242, rfl⟩
abbrev main_call0_call0_c_43 : Ref sig .tc := ⟨.hbm, 243, rfl⟩
abbrev main_call0_call0_v166 : Ref sig .tc := ⟨.hbm, 244, rfl⟩
abbrev main_call0_call0_v167 : Ref sig .tc := ⟨.hbm, 245, rfl⟩
abbrev main_call0_call0_v168 : Ref sig .tc := ⟨.hbm, 246, rfl⟩
abbrev main_call0_call0_v169 : Ref sig .tc := ⟨.hbm, 247, rfl⟩
abbrev main_call0_call0_v170 : Ref sig .tc := ⟨.hbm, 248, rfl⟩
abbrev main_call0_v15_0 : Ref sig .tc := ⟨.hbm, 249, rfl⟩
abbrev main_call0_call0_v172 : Ref sig .tc := ⟨.hbm, 250, rfl⟩
abbrev main_call0_call0_v173 : Ref sig .tc := ⟨.hbm, 251, rfl⟩
abbrev main_call0_call0_c_44 : Ref sig .tc := ⟨.hbm, 252, rfl⟩
abbrev main_call0_call0_v174 : Ref sig .tc := ⟨.hbm, 253, rfl⟩
abbrev main_call0_v15_1 : Ref sig .tc := ⟨.hbm, 254, rfl⟩
abbrev main_call0_v16 : Ref sig .tc := ⟨.hbm, 255, rfl⟩
abbrev main_call0_c_1 : Ref sig .tc := ⟨.hbm, 256, rfl⟩
abbrev main_call0_v17 : Ref sig .tc := ⟨.hbm, 257, rfl⟩
abbrev main_call0_v18 : Ref sig .tc := ⟨.hbm, 258, rfl⟩
abbrev main_call0_c_2 : Ref sig .tc := ⟨.hbm, 259, rfl⟩
abbrev main_call0_v19 : Ref sig .tc := ⟨.hbm, 260, rfl⟩
abbrev main_call0_v20 : Ref sig .tc := ⟨.hbm, 261, rfl⟩
abbrev main_call0_v21 : Ref sig .tc := ⟨.hbm, 262, rfl⟩
abbrev main_call0_cst : Ref sig .tc := ⟨.hbm, 263, rfl⟩
abbrev main_call0_v22 : Ref sig .tc := ⟨.hbm, 264, rfl⟩
abbrev main_call0_v23 : Ref sig .tc := ⟨.hbm, 265, rfl⟩
abbrev main_call0_v24 : Ref sig .tc := ⟨.hbm, 266, rfl⟩
abbrev main_call0_v25 : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_v7 : Ref sig .tc := ⟨.hbm, 272, rfl⟩
abbrev main_cst_3 : Ref sig .tc := ⟨.hbm, 273, rfl⟩
abbrev main_v8 : Ref sig .tc := ⟨.hbm, 274, rfl⟩
abbrev main_v9 : Ref sig .tc := ⟨.hbm, 275, rfl⟩
abbrev main_v10 : Ref sig .tc := ⟨.hbm, 276, rfl⟩
abbrev main_v11 : Ref sig .tc := ⟨.hbm, 277, rfl⟩
abbrev main_v12 : Ref sig .tc := ⟨.hbm, 278, rfl⟩
abbrev main_v13 : Ref sig .tc := ⟨.hbm, 279, rfl⟩
abbrev main_c_4 : Ref sig .tc := ⟨.hbm, 280, rfl⟩
abbrev main_v14 : Ref sig .tc := ⟨.hbm, 281, rfl⟩
abbrev main_v15 : Ref sig .tc := ⟨.hbm, 282, rfl⟩
abbrev main_c_5 : Ref sig .tc := ⟨.hbm, 283, rfl⟩
abbrev main_c_6 : Ref sig .tc := ⟨.hbm, 284, rfl⟩
abbrev main_call1_v0 : Ref sig .tc := ⟨.hbm, 285, rfl⟩
abbrev main_call1_v1 : Ref sig .tc := ⟨.hbm, 286, rfl⟩
abbrev main_call1_v2 : Ref sig .tc := ⟨.hbm, 287, rfl⟩
abbrev main_call1_v3 : Ref sig .tc := ⟨.hbm, 288, rfl⟩
abbrev main_call1_v4 : Ref sig .tc := ⟨.hbm, 289, rfl⟩
abbrev main_v16 : Ref sig .tc := ⟨.hbm, 290, rfl⟩
abbrev main_v17 : Ref sig .tc := ⟨.hbm, 291, rfl⟩
abbrev main_cst_7 : Ref sig .tc := ⟨.hbm, 292, rfl⟩
abbrev main_v18 : Ref sig .tc := ⟨.hbm, 293, rfl⟩
abbrev main_v19 : Ref sig .tc := ⟨.hbm, 294, rfl⟩
abbrev main_cst_8 : Ref sig .tc := ⟨.hbm, 295, rfl⟩
abbrev main_v20 : Ref sig .tc := ⟨.hbm, 296, rfl⟩
abbrev main_v21 : Ref sig .tc := ⟨.hbm, 297, rfl⟩
abbrev main_v22 : Ref sig .tc := ⟨.hbm, 298, rfl⟩
abbrev main_cst_9 : Ref sig .tc := ⟨.hbm, 299, rfl⟩
abbrev main_v23 : Ref sig .tc := ⟨.hbm, 300, rfl⟩
abbrev main_v24 : Ref sig .tc := ⟨.hbm, 301, rfl⟩
abbrev main_v25 : Ref sig .tc := ⟨.hbm, 302, rfl⟩
abbrev main_v26 : Ref sig .tc := ⟨.hbm, 303, rfl⟩
abbrev main_v27 : Ref sig .tc := ⟨.hbm, 304, rfl⟩
abbrev main_v28 : Ref sig .tc := ⟨.hbm, 305, rfl⟩
abbrev main_v29 : Ref sig .tc := ⟨.hbm, 306, rfl⟩
abbrev main_cst_10 : Ref sig .tc := ⟨.hbm, 307, rfl⟩
abbrev main_v30 : Ref sig .tc := ⟨.hbm, 308, rfl⟩
abbrev main_v31 : Ref sig .tc := ⟨.hbm, 309, rfl⟩
abbrev main_v32 : Ref sig .tc := ⟨.hbm, 310, rfl⟩
abbrev main_cst_11 : Ref sig .tc := ⟨.hbm, 311, rfl⟩
abbrev main_v33 : Ref sig .tc := ⟨.hbm, 312, rfl⟩
abbrev main_v34 : Ref sig .tc := ⟨.hbm, 313, rfl⟩
abbrev main_v35 : Ref sig .tc := ⟨.hbm, 314, rfl⟩
abbrev main_v36 : Ref sig .tc := ⟨.hbm, 315, rfl⟩
abbrev main_v37 : Ref sig .tc := ⟨.hbm, 316, rfl⟩
abbrev main_v38 : Ref sig .tc := ⟨.hbm, 317, rfl⟩
abbrev main_call2_c : Ref sig .tc := ⟨.hbm, 318, rfl⟩
abbrev main_call2_v0 : Ref sig .tc := ⟨.hbm, 319, rfl⟩
abbrev main_call2_v1 : Ref sig .tc := ⟨.hbm, 320, rfl⟩
abbrev main_call2_c_0 : Ref sig .tc := ⟨.hbm, 321, rfl⟩
abbrev main_call2_v2 : Ref sig .tc := ⟨.hbm, 322, rfl⟩
abbrev main_call2_v3 : Ref sig .tc := ⟨.hbm, 323, rfl⟩
abbrev main_call2_v4 : Ref sig .tc := ⟨.hbm, 324, rfl⟩
abbrev main_call2_v5 : Ref sig .tc := ⟨.hbm, 325, rfl⟩
abbrev main_call2_c_1 : Ref sig .tc := ⟨.hbm, 326, rfl⟩
abbrev main_call2_c_2 : Ref sig .tc := ⟨.hbm, 327, rfl⟩
abbrev main_call2_v6 : Ref sig .tc := ⟨.hbm, 328, rfl⟩
abbrev main_call2_v7 : Ref sig .tc := ⟨.hbm, 329, rfl⟩
abbrev main_call2_v8 : Ref sig .tc := ⟨.hbm, 330, rfl⟩
abbrev main_call2_v9 : Ref sig .tc := ⟨.hbm, 331, rfl⟩
abbrev main_call2_v10 : Ref sig .tc := ⟨.hbm, 332, rfl⟩
abbrev main_call2_v11 : Ref sig .tc := ⟨.hbm, 333, rfl⟩
abbrev main_call2_c_3 : Ref sig .tc := ⟨.hbm, 334, rfl⟩
abbrev main_call2_v12 : Ref sig .tc := ⟨.hbm, 335, rfl⟩
abbrev main_call2_v13 : Ref sig .tc := ⟨.hbm, 336, rfl⟩
abbrev main_call2_v14 : Ref sig .tc := ⟨.hbm, 337, rfl⟩
abbrev main_call2_cst : Ref sig .tc := ⟨.hbm, 338, rfl⟩
abbrev main_call2_v15 : Ref sig .tc := ⟨.hbm, 339, rfl⟩
abbrev main_v39 : Ref sig .tc := ⟨.hbm, 340, rfl⟩
abbrev main_call3_c : Ref sig .tc := ⟨.hbm, 341, rfl⟩
abbrev main_call3_v0 : Ref sig .tc := ⟨.hbm, 342, rfl⟩
abbrev main_call3_v1 : Ref sig .tc := ⟨.hbm, 343, rfl⟩
abbrev main_call3_c_0 : Ref sig .tc := ⟨.hbm, 344, rfl⟩
abbrev main_call3_v2 : Ref sig .tc := ⟨.hbm, 345, rfl⟩
abbrev main_call3_v3 : Ref sig .tc := ⟨.hbm, 346, rfl⟩
abbrev main_call3_v4 : Ref sig .tc := ⟨.hbm, 347, rfl⟩
abbrev main_call3_v5 : Ref sig .tc := ⟨.hbm, 348, rfl⟩
abbrev main_call3_c_1 : Ref sig .tc := ⟨.hbm, 349, rfl⟩
abbrev main_call3_c_2 : Ref sig .tc := ⟨.hbm, 350, rfl⟩
abbrev main_call3_v6 : Ref sig .tc := ⟨.hbm, 351, rfl⟩
abbrev main_call3_v7 : Ref sig .tc := ⟨.hbm, 352, rfl⟩
abbrev main_call3_v8 : Ref sig .tc := ⟨.hbm, 353, rfl⟩
abbrev main_call3_v9 : Ref sig .tc := ⟨.hbm, 354, rfl⟩
abbrev main_call3_v10 : Ref sig .tc := ⟨.hbm, 355, rfl⟩
abbrev main_call3_v11 : Ref sig .tc := ⟨.hbm, 356, rfl⟩
abbrev main_call3_c_3 : Ref sig .tc := ⟨.hbm, 357, rfl⟩
abbrev main_call3_v12 : Ref sig .tc := ⟨.hbm, 358, rfl⟩
abbrev main_call3_v13 : Ref sig .tc := ⟨.hbm, 359, rfl⟩
abbrev main_call3_cst : Ref sig .tc := ⟨.hbm, 360, rfl⟩
abbrev main_call3_v14 : Ref sig .tc := ⟨.hbm, 361, rfl⟩
abbrev main_v40 : Ref sig .tc := ⟨.hbm, 362, rfl⟩
abbrev main_v41 : Ref sig .tc := ⟨.hbm, 363, rfl⟩
abbrev main_cst_12 : Ref sig .tc := ⟨.hbm, 364, rfl⟩
abbrev main_v42 : Ref sig .tc := ⟨.hbm, 365, rfl⟩
abbrev main_v43 : Ref sig .tc := ⟨.hbm, 366, rfl⟩
abbrev main_cst_13 : Ref sig .tc := ⟨.hbm, 367, rfl⟩
abbrev main_v44 : Ref sig .tc := ⟨.hbm, 368, rfl⟩
abbrev main_v45 : Ref sig .tc := ⟨.hbm, 369, rfl⟩
abbrev main_v46 : Ref sig .tc := ⟨.hbm, 370, rfl⟩
abbrev main_v47 : Ref sig .tc := ⟨.hbm, 371, rfl⟩
abbrev main_call4_c : Ref sig .tc := ⟨.hbm, 372, rfl⟩
abbrev main_call4_v0 : Ref sig .tc := ⟨.hbm, 373, rfl⟩
abbrev main_call4_v1 : Ref sig .tc := ⟨.hbm, 374, rfl⟩
abbrev main_call4_c_0 : Ref sig .tc := ⟨.hbm, 375, rfl⟩
abbrev main_call4_v2 : Ref sig .tc := ⟨.hbm, 376, rfl⟩
abbrev main_call4_v3 : Ref sig .tc := ⟨.hbm, 377, rfl⟩
abbrev main_call4_v4 : Ref sig .tc := ⟨.hbm, 378, rfl⟩
abbrev main_call4_v5 : Ref sig .tc := ⟨.hbm, 379, rfl⟩
abbrev main_call4_c_1 : Ref sig .tc := ⟨.hbm, 380, rfl⟩
abbrev main_call4_c_2 : Ref sig .tc := ⟨.hbm, 381, rfl⟩
abbrev main_call4_v6 : Ref sig .tc := ⟨.hbm, 382, rfl⟩
abbrev main_call4_v7 : Ref sig .tc := ⟨.hbm, 383, rfl⟩
abbrev main_call4_v8 : Ref sig .tc := ⟨.hbm, 384, rfl⟩
abbrev main_call4_v9 : Ref sig .tc := ⟨.hbm, 385, rfl⟩
abbrev main_call4_v10 : Ref sig .tc := ⟨.hbm, 386, rfl⟩
abbrev main_call4_v11 : Ref sig .tc := ⟨.hbm, 387, rfl⟩
abbrev main_call4_c_3 : Ref sig .tc := ⟨.hbm, 388, rfl⟩
abbrev main_call4_v12 : Ref sig .tc := ⟨.hbm, 389, rfl⟩
abbrev main_call4_v13 : Ref sig .tc := ⟨.hbm, 390, rfl⟩
abbrev main_call4_v14 : Ref sig .tc := ⟨.hbm, 391, rfl⟩
abbrev main_call4_cst : Ref sig .tc := ⟨.hbm, 392, rfl⟩
abbrev main_call4_v15 : Ref sig .tc := ⟨.hbm, 393, rfl⟩
abbrev main_v48 : Ref sig .tc := ⟨.hbm, 394, rfl⟩
abbrev main_call5_c : Ref sig .tc := ⟨.hbm, 395, rfl⟩
abbrev main_call5_v0 : Ref sig .tc := ⟨.hbm, 396, rfl⟩
abbrev main_call5_v1 : Ref sig .tc := ⟨.hbm, 397, rfl⟩
abbrev main_call5_c_0 : Ref sig .tc := ⟨.hbm, 398, rfl⟩
abbrev main_call5_v2 : Ref sig .tc := ⟨.hbm, 399, rfl⟩
abbrev main_call5_v3 : Ref sig .tc := ⟨.hbm, 400, rfl⟩
abbrev main_call5_v4 : Ref sig .tc := ⟨.hbm, 401, rfl⟩
abbrev main_call5_v5 : Ref sig .tc := ⟨.hbm, 402, rfl⟩
abbrev main_call5_c_1 : Ref sig .tc := ⟨.hbm, 403, rfl⟩
abbrev main_call5_c_2 : Ref sig .tc := ⟨.hbm, 404, rfl⟩
abbrev main_call5_v6 : Ref sig .tc := ⟨.hbm, 405, rfl⟩
abbrev main_call5_v7 : Ref sig .tc := ⟨.hbm, 406, rfl⟩
abbrev main_call5_v8 : Ref sig .tc := ⟨.hbm, 407, rfl⟩
abbrev main_call5_v9 : Ref sig .tc := ⟨.hbm, 408, rfl⟩
abbrev main_call5_v10 : Ref sig .tc := ⟨.hbm, 409, rfl⟩
abbrev main_call5_v11 : Ref sig .tc := ⟨.hbm, 410, rfl⟩
abbrev main_call5_c_3 : Ref sig .tc := ⟨.hbm, 411, rfl⟩
abbrev main_call5_v12 : Ref sig .tc := ⟨.hbm, 412, rfl⟩
abbrev main_call5_v13 : Ref sig .tc := ⟨.hbm, 413, rfl⟩
abbrev main_call5_cst : Ref sig .tc := ⟨.hbm, 414, rfl⟩
abbrev main_call5_v14 : Ref sig .tc := ⟨.hbm, 415, rfl⟩
abbrev main_v49 : Ref sig .tc := ⟨.hbm, 416, rfl⟩
abbrev main_v50 : Ref sig .tc := ⟨.hbm, 417, rfl⟩
abbrev main_v51 : Ref sig .tc := ⟨.hbm, 418, rfl⟩
abbrev main_v52 : Ref sig .tc := ⟨.hbm, 419, rfl⟩
abbrev main_v53 : Ref sig .tc := ⟨.hbm, 420, rfl⟩
abbrev main_v54 : Ref sig .tc := ⟨.hbm, 421, rfl⟩
abbrev main_cst_14 : Ref sig .tc := ⟨.hbm, 422, rfl⟩
abbrev main_v55 : Ref sig .tc := ⟨.hbm, 423, rfl⟩
abbrev main_v56 : Ref sig .tc := ⟨.hbm, 424, rfl⟩
abbrev main_v57 : Ref sig .tc := ⟨.hbm, 425, rfl⟩
abbrev main_v58 : Ref sig .tc := ⟨.hbm, 426, rfl⟩
abbrev main_v59 : Ref sig .tc := ⟨.hbm, 427, rfl⟩
abbrev main_v60 : Ref sig .tc := ⟨.hbm, 428, rfl⟩
abbrev main_v61 : Ref sig .tc := ⟨.hbm, 429, rfl⟩
abbrev main_v62 : Ref sig .tc := ⟨.hbm, 430, rfl⟩
abbrev main_v63 : Ref sig .tc := ⟨.hbm, 431, rfl⟩
abbrev main_v64 : Ref sig .tc := ⟨.hbm, 432, rfl⟩
abbrev main_v65 : Ref sig .tc := ⟨.hbm, 433, rfl⟩
abbrev main_cst_15 : Ref sig .tc := ⟨.hbm, 434, rfl⟩
abbrev main_v66 : Ref sig .tc := ⟨.hbm, 435, rfl⟩
abbrev main_v67 : Ref sig .tc := ⟨.hbm, 436, rfl⟩
abbrev main_v68 : Ref sig .tc := ⟨.hbm, 437, rfl⟩
abbrev main_v69 : Ref sig .tc := ⟨.hbm, 438, rfl⟩
abbrev main_v70 : Ref sig .tc := ⟨.hbm, 439, rfl⟩
abbrev main_cst_16 : Ref sig .tc := ⟨.hbm, 440, rfl⟩
abbrev main_v71 : Ref sig .tc := ⟨.hbm, 441, rfl⟩
abbrev main_v72 : Ref sig .tc := ⟨.hbm, 442, rfl⟩
abbrev main_v73 : Ref sig .tc := ⟨.hbm, 443, rfl⟩
abbrev main_cst_17 : Ref sig .tc := ⟨.hbm, 444, rfl⟩
abbrev main_v74 : Ref sig .tc := ⟨.hbm, 445, rfl⟩
abbrev main_v75 : Ref sig .tc := ⟨.hbm, 446, rfl⟩
abbrev main_cst_18 : Ref sig .tc := ⟨.hbm, 447, rfl⟩
abbrev main_call7_v0 : Ref sig .tc := ⟨.hbm, 448, rfl⟩
abbrev main_call7_v1 : Ref sig .tc := ⟨.hbm, 449, rfl⟩
abbrev main_v76 : Ref sig .tc := ⟨.hbm, 450, rfl⟩
abbrev main_v77 : Ref sig .tc := ⟨.hbm, 451, rfl⟩
abbrev main_v78 : Ref sig .tc := ⟨.hbm, 452, rfl⟩
abbrev main_v79 : Ref sig .tc := ⟨.hbm, 453, rfl⟩
abbrev main_cst_19 : Ref sig .tc := ⟨.hbm, 454, rfl⟩
abbrev main_v80 : Ref sig .tc := ⟨.hbm, 455, rfl⟩
abbrev main_v81 : Ref sig .tc := ⟨.hbm, 456, rfl⟩
abbrev main_v82 : Ref sig .tc := ⟨.hbm, 457, rfl⟩
abbrev main_v83 : Ref sig .tc := ⟨.hbm, 458, rfl⟩
abbrev main_v84 : Ref sig .tc := ⟨.hbm, 459, rfl⟩
abbrev main_v85 : Ref sig .tc := ⟨.hbm, 460, rfl⟩
abbrev main_v86 : Ref sig .tc := ⟨.hbm, 461, rfl⟩
abbrev main_v87 : Ref sig .tc := ⟨.hbm, 462, rfl⟩

abbrev nD : Nat := 1
abbrev τ : Topo := Topo.v7x

variable {F : FTy → Type} [FloatOps F]
-- ==== Proof.Line.lean ====
/-
  Straight lines of host operations, run by two programs side by side.
  Two programs that start with the same operations on buffers of the same numbers leave the same contents:
  `Sim n p q p' q' n'` says that `p` is a line followed by `q`, that `p'` is a line followed by `q'`, that both lines
  write only buffers numbered from `n` on, and that contents agreeing below `n` agree below `n'` after the lines.
-/
module

public import Idealize.ShloMosaic.Lib.StableHlo.Run

@[expose] public section

noncomputable section

namespace Cert.Proof.Line

open Idealize.ShloMosaic Idealize.ShloMosaic.StableHlo
open Idealize.ShloMosaic.TcCoe
open Idealize.SL.Sem

variable {nD : ℕ} {τ : Topo} {sig : RefSig} {Val : EltTy → Type} {Λ : Labels}
variable {nD' : ℕ} {τ' : Topo} {sig' : RefSig} {Λ' : Labels}

/-- The reference is the device-memory buffer numbered `i`. -/
def At {s : RefSig} (r : Ref s .tc) (i : ℕ) : Prop := r.space = .hbm ∧ r.idx.val = i

/-- A buffer's number determines the reference. -/
theorem At.eq {r y : Ref sig .tc} {i : ℕ} (h : At r i) (h' : At y i) : r = y := by
  obtain ⟨s, x, hx⟩ := r
  obtain ⟨s', x', hx'⟩ := y
  obtain ⟨h1, h2⟩ := h
  obtain ⟨h1', h2'⟩ := h'
  dsimp only at h1 h2 h1' h2'
  subst h1; subst h1'
  obtain rfl : x = x' := Fin.ext (h2.trans h2'.symm)
  rfl

/-- Contents agree on the buffers numbered below `n`, where the two programs give them one type. -/
def Agree (n : ℕ) (V : Valuation τ sig Val) (V' : Valuation τ' sig' Val) : Prop :=
  ∀ (r : Ref sig .tc) (r' : Ref sig' .tc) (i : ℕ), At r i → At r' i → i < n → r.ty = r'.ty →
    HEq (V (Proc.devRef .tc r)) (V' (Proc.devRef .tc r'))

/-- One operation writes the buffer numbered `n` and no other, and touches the TensorCore's buffers only. -/
structure Writes (n : ℕ) (op : HloOp τ sig Val) : Prop where
  bufs : op.bufs ⊆ tcRefs τ sig
  fresh : op.fresh = ∅
  keep : ∀ (V : Valuation τ sig Val) (r : Ref sig .tc), ¬ At r n → op.result V (Proc.devRef .tc r) = V (Proc.devRef .tc r)

/-- Two operations do the same to contents that agree below `n`. -/
structure OpSim (n : ℕ) (op : HloOp τ sig Val) (op' : HloOp τ' sig' Val) : Prop where
  left : Writes n op
  right : Writes n op'
  agree : ∀ V V', Agree n V V' → Agree (n + 1) (op.result V) (op'.result V')

/-- A line of operations writes only from `n` on. -/
structure Ok (n : ℕ) (ops : List (HloOp τ sig Val)) : Prop where
  bufs : ∀ op ∈ ops, op.bufs ⊆ tcRefs τ sig
  fresh : ∀ op ∈ ops, op.fresh = ∅
  keep : ∀ (V : Valuation τ sig Val) (r : Ref sig .tc), (r.space = .hbm → r.idx.val < n) → after ops V (Proc.devRef .tc r) = V (Proc.devRef .tc r)

/-- See the head of this file. -/
def Sim (n : ℕ) (p q : Prog (TpuEff nD τ sig Val Λ .tc) PUnit) (p' q' : Prog (TpuEff nD' τ' sig' Val Λ' .tc) PUnit) (n' : ℕ) : Prop :=
  ∃ (ops : List (HloOp τ sig Val)) (ops' : List (HloOp τ' sig' Val)),
    p = (seq ops >>= fun _ => q) ∧ p' = (seq ops' >>= fun _ => q') ∧ n ≤ n' ∧ Ok n ops ∧ Ok n ops' ∧
      ∀ V V', Agree n V V' → Agree n' (after ops V) (after ops' V')

/-- What two lines leave, one after the other. -/
theorem after_append (l₁ l₂ : List (HloOp τ sig Val)) (V : Valuation τ sig Val) : after (l₁ ++ l₂) V = after l₂ (after l₁ V) := by
  induction l₁ generalizing V with
  | nil => rfl
  | cons op l ih => simp only [List.cons_append, after_cons, ih]

/-- The empty line. -/
theorem Ok.nil (n : ℕ) : Ok n ([] : List (HloOp τ sig Val)) :=
  ⟨fun _ h => (nomatch h), fun _ h => (nomatch h), fun _ _ _ => rfl⟩

/-- One operation more in front. -/
theorem Ok.cons {n : ℕ} {op : HloOp τ sig Val} {ops : List (HloOp τ sig Val)} (h : Writes n op) (hs : Ok (n + 1) ops) : Ok n (op :: ops) :=
  ⟨fun o ho => by rcases List.mem_cons.mp ho with rfl | ho; exacts [h.bufs, hs.bufs o ho],
   fun o ho => by rcases List.mem_cons.mp ho with rfl | ho; exacts [h.fresh, hs.fresh o ho],
   fun V r hr => by
    rw [after_cons, hs.keep _ r fun e => Nat.lt_succ_of_lt (hr e), h.keep]
    rintro ⟨e1, e2⟩
    exact absurd (hr e1) (by omega)⟩

/-- Two lines, one after the other. -/
theorem Ok.append {n n' : ℕ} {l₁ l₂ : List (HloOp τ sig Val)} (h : n ≤ n') (h₁ : Ok n l₁) (h₂ : Ok n' l₂) : Ok n (l₁ ++ l₂) :=
  ⟨fun o ho => by rcases List.mem_append.mp ho with ho | ho; exacts [h₁.bufs o ho, h₂.bufs o ho],
   fun o ho => by rcases List.mem_append.mp ho with ho | ho; exacts [h₁.fresh o ho, h₂.fresh o ho],
   fun V r hr => by rw [after_append, h₂.keep _ r fun e => lt_of_lt_of_le (hr e) h, h₁.keep _ r hr]⟩

variable {p q : Prog (TpuEff nD τ sig Val Λ .tc) PUnit} {p' q' : Prog (TpuEff nD' τ' sig' Val Λ' .tc) PUnit}
variable {k : PUnit → Prog (TpuEff nD τ sig Val Λ .tc) PUnit} {k' : PUnit → Prog (TpuEff nD' τ' sig' Val Λ' .tc) PUnit}
variable {n n' m : ℕ}

/-- Nothing left to run. -/
theorem Sim.refl : Sim n q q q' q' n :=
  ⟨[], [], by simp only [seq, pure_bind], by simp only [seq, pure_bind], le_rfl, Ok.nil n, Ok.nil n, fun _ _ h => h⟩

/-- What is left to run is the remainder, the two counts being one number. -/
theorem Sim.done (e : n = n') (hp : p = q) (hp' : p' = q') : Sim n p q p' q' n' := by
  subst e; subst hp; subst hp'; exact Sim.refl

/-- One operation each, then the rest. -/
theorem Sim.op {o : HloOp τ sig Val} {o' : HloOp τ' sig' Val} (h : OpSim n o o') (hk : Sim (n + 1) (k ⟨⟩) q (k' ⟨⟩) q' n') :
    Sim n ((hlo rfl o fun _ => .ret ⟨⟩) >>= k) q ((hlo rfl o' fun _ => .ret ⟨⟩) >>= k') q' n' := by
  obtain ⟨l, l', e, e', hn, hl, hl', ha⟩ := hk
  refine ⟨o :: l, o' :: l', ?_, ?_, by omega, Ok.cons h.left hl, Ok.cons h.right hl', fun V V' hV => ?_⟩
  · rw [show k = fun _ => k ⟨⟩ from rfl, e]; simp only [seq, bind_assoc]
  · rw [show k' = fun _ => k' ⟨⟩ from rfl, e']; simp only [seq, bind_assoc]
  · rw [after_cons, after_cons]; exact ha _ _ (h.agree _ _ hV)

/-- A function's body each, then the rest. -/
theorem Sim.call {b : Prog (TpuEff nD τ sig Val Λ .tc) PUnit} {b' : Prog (TpuEff nD' τ' sig' Val Λ' .tc) PUnit}
    (h : Sim n b (pure ⟨⟩) b' (pure ⟨⟩) m) (hk : Sim m (k ⟨⟩) q (k' ⟨⟩) q' n') : Sim n (b >>= k) q (b' >>= k') q' n' := by
  obtain ⟨a, a', e₁, e₁', hn₁, h₁, h₁', ha₁⟩ := h
  obtain ⟨l, l', e, e', hn, hl, hl', ha⟩ := hk
  refine ⟨a ++ l, a' ++ l', ?_, ?_, by omega, Ok.append hn₁ h₁ hl, Ok.append hn₁ h₁' hl', fun V V' hV => ?_⟩
  · rw [show k = fun _ => k ⟨⟩ from rfl, e, e₁, seq_append]; simp only [bind_assoc, pure_bind]
  · rw [show k' = fun _ => k' ⟨⟩ from rfl, e', e₁', seq_append]; simp only [bind_assoc, pure_bind]
  · rw [after_append, after_append]; exact ha _ _ (ha₁ _ _ hV)

/-- A last statement is one followed by nothing. -/
theorem Sim.last (h : Sim n (p >>= fun _ => pure ⟨⟩) q (p' >>= fun _ => pure ⟨⟩) q' n') : Sim n p q p' q' n' := by
  have e : (p >>= fun _ => pure ⟨⟩) = p := bind_pure p
  have e' : (p' >>= fun _ => pure ⟨⟩) = p' := bind_pure p'
  rw [e, e'] at h; exact h

/-- An operation of each program with equal results keeps the agreement. -/
theorem agree_step {V : Valuation τ sig Val} {V' : Valuation τ' sig' Val} {o : HloOp τ sig Val} {o' : HloOp τ' sig' Val} {y : Ref sig .tc} {y' : Ref sig' .tc}
    (h : Writes n o) (h' : Writes n o') (hy : At y n) (hy' : At y' n) (hV : Agree n V V')
    (he : HEq (o.result V (Proc.devRef .tc y)) (o'.result V' (Proc.devRef .tc y'))) : Agree (n + 1) (o.result V) (o'.result V') := by
  intro r r' i hr hr' hi ht
  rcases Nat.lt_succ_iff_lt_or_eq.mp hi with hi | rfl
  · rw [h.keep V r fun e => by have := hr.2; have := e.2; omega, h'.keep V' r' fun e => by have := hr'.2; have := e.2; omega]
    exact hV r r' i hr hr' hi ht
  · obtain rfl := hr.eq hy
    obtain rfl := hr'.eq hy'
    exact he

/-- Equal functions at equal arguments, the types being equal. -/
theorem app_heq {A A' B B' : Type} (hA : A = A') (hB : B = B') {f : A → B} {f' : A' → B'} (hf : HEq f f') {a : A} {a' : A'} (ha : HEq a a') :
    HEq (f a) (f' a') := by
  subst hA; subst hB; subst hf; subst ha; rfl

/-- The same of two arguments. -/
theorem app2_heq {A A' B B' C C' : Type} (hA : A = A') (hB : B = B') (hC : C = C') {f : A → B → C} {f' : A' → B' → C'} (hf : HEq f f')
    {a : A} {a' : A'} (ha : HEq a a') {b : B} {b' : B'} (hb : HEq b b') : HEq (f a b) (f' a' b') := by
  subst hA; subst hB; subst hC; subst hf; subst ha; subst hb; rfl

/-- Equal types of buffers hold the same contents. -/
theorem ct {T T' : BufTy} (h : T = T') : T.Contents Val = T'.Contents Val := by rw [h]

section Ops

variable {x a b y : Ref sig .tc} {x' a' b' y' : Ref sig' .tc} {i j : ℕ}

/-- What each kind of operation writes. -/
theorem Writes.nullary {v h1} (hy : At y n) : Writes n (StableHlo.nullary (τ := τ) (Val := Val) y v h1) :=
  ⟨nullary_bufs_sub y v h1, rfl, fun V r hr => nullary_result_ne y v h1 V fun e => hr (e ▸ hy)⟩

/-- An operation of one operand writes its result only. -/
theorem Writes.unary {f h1 h2} (hy : At y n) : Writes n (StableHlo.unary (τ := τ) (Val := Val) x y f h1 h2) :=
  ⟨unary_bufs_sub x y f h1 h2, rfl, fun V r hr => unary_result_ne x y f h1 h2 V fun e => hr (e ▸ hy)⟩

/-- An operation of two operands writes its result only. -/
theorem Writes.binary {f h1 h2 h3} (hy : At y n) : Writes n (StableHlo.binary (τ := τ) (Val := Val) a b y f h1 h2 h3) :=
  ⟨binary_bufs_sub a b y f h1 h2 h3, rfl, fun V r hr => binary_result_ne a b y f h1 h2 h3 V fun e => hr (e ▸ hy)⟩

/-- An operation of three operands writes its result only. -/
theorem Writes.ternary {c : Ref sig .tc} {f h1 h2 h3 h4} (hy : At y n) : Writes n (StableHlo.ternary (τ := τ) (Val := Val) c a b y f h1 h2 h3 h4) :=
  ⟨ternary_bufs_sub a b c y f h1 h2 h3 h4, rfl, fun V r hr => ternary_result_ne a b c y f h1 h2 h3 h4 V fun e => hr (e ▸ hy)⟩

/-- A reshape writes its result only. -/
theorem Writes.reshape {he hn h1 h2} (hy : At y n) : Writes n (StableHlo.reshape (τ := τ) (Val := Val) x y he hn h1 h2) :=
  ⟨reshape_bufs_sub x y he hn h1 h2, rfl, fun V r hr => reshape_result_ne x y he hn h1 h2 V fun e => hr (e ▸ hy)⟩

/-- Two constants of one value simulate each other. -/
theorem OpSim.nullary {v v' h1 h1'} (hy : At y n) (hy' : At y' n) (hf : HEq v v') :
    OpSim n (StableHlo.nullary (τ := τ) (Val := Val) y v h1) (StableHlo.nullary (τ := τ') (Val := Val) y' v' h1') := by
  have l : Writes n (StableHlo.nullary (τ := τ) (Val := Val) y v h1) := Writes.nullary hy
  have l' : Writes n (StableHlo.nullary (τ := τ') (Val := Val) y' v' h1') := Writes.nullary hy'
  exact ⟨l, l', fun V V' hV => agree_step l l' hy hy' hV (by rw [nullary_result, nullary_result]; exact hf)⟩

/-- Two operations of one operand with one function simulate each other. -/
theorem OpSim.unary {f f' h1 h2 h1' h2'} (hx : At x i) (hx' : At x' i) (hi : Nat.blt i n = true) (hy : At y n) (hy' : At y' n)
    (tx : x.ty = x'.ty) (ty : y.ty = y'.ty) (hf : HEq f f') :
    OpSim n (StableHlo.unary (τ := τ) (Val := Val) x y f h1 h2) (StableHlo.unary (τ := τ') (Val := Val) x' y' f' h1' h2') := by
  have l : Writes n (StableHlo.unary (τ := τ) (Val := Val) x y f h1 h2) := Writes.unary hy
  have l' : Writes n (StableHlo.unary (τ := τ') (Val := Val) x' y' f' h1' h2') := Writes.unary hy'
  exact ⟨l, l', fun V V' hV => agree_step l l' hy hy' hV (by
    rw [unary_result, unary_result]
    exact app_heq (ct tx) (ct ty) hf (hV x x' i hx hx' (Nat.blt_eq.mp hi) tx))⟩

/-- Two operations of two operands with one function simulate each other. -/
theorem OpSim.binary {f f' h1 h2 h3 h1' h2' h3'} (ha : At a i) (ha' : At a' i) (hi : Nat.blt i n = true) (hb : At b j) (hb' : At b' j) (hj : Nat.blt j n = true)
    (hy : At y n) (hy' : At y' n) (ta : a.ty = a'.ty) (tb : b.ty = b'.ty) (ty : y.ty = y'.ty) (hf : HEq f f') :
    OpSim n (StableHlo.binary (τ := τ) (Val := Val) a b y f h1 h2 h3) (StableHlo.binary (τ := τ') (Val := Val) a' b' y' f' h1' h2' h3') := by
  have l : Writes n (StableHlo.binary (τ := τ) (Val := Val) a b y f h1 h2 h3) := Writes.binary hy
  have l' : Writes n (StableHlo.binary (τ := τ') (Val := Val) a' b' y' f' h1' h2' h3') := Writes.binary hy'
  exact ⟨l, l', fun V V' hV => agree_step l l' hy hy' hV (by
    rw [binary_result, binary_result]
    exact app2_heq (ct ta) (ct tb) (ct ty) hf (hV a a' i ha ha' (Nat.blt_eq.mp hi) ta) (hV b b' j hb hb' (Nat.blt_eq.mp hj) tb))⟩

/-- A reshape is its one operand's contents recast. -/
theorem reshape_heq {T U T' U' : BufTy} (hT : T = T') (hU : U = U') (he : T.elt = U.elt) (he' : T'.elt = U'.elt) (hn : T.shape.ShapeCasts U.shape)
    (hn' : T'.shape.ShapeCasts U'.shape) {v : T.Contents Val} {v' : T'.Contents Val} (hv : HEq v v') :
    HEq (fun z => he ▸ shapeCast U.shape v hn z : U.Contents Val) (fun z => he' ▸ shapeCast U'.shape v' hn' z : U'.Contents Val) := by
  subst hT; subst hU; subst hv; rfl

/-- Two reshapes simulate each other. -/
theorem OpSim.reshape {he he' hn hn' h1 h2 h1' h2'} (hx : At x i) (hx' : At x' i) (hi : Nat.blt i n = true) (hy : At y n) (hy' : At y' n)
    (tx : x.ty = x'.ty) (ty : y.ty = y'.ty) :
    OpSim n (StableHlo.reshape (τ := τ) (Val := Val) x y he hn h1 h2) (StableHlo.reshape (τ := τ') (Val := Val) x' y' he' hn' h1' h2') := by
  have l : Writes n (StableHlo.reshape (τ := τ) (Val := Val) x y he hn h1 h2) := Writes.reshape hy
  have l' : Writes n (StableHlo.reshape (τ := τ') (Val := Val) x' y' he' hn' h1' h2') := Writes.reshape hy'
  exact ⟨l, l', fun V V' hV => agree_step l l' hy hy' hV (by
    rw [reshape_result, reshape_result]
    exact reshape_heq tx ty he he' hn hn' (hV x x' i hx hx' (Nat.blt_eq.mp hi) tx))⟩

end Ops

end Cert.Proof.Line

end
-- ==== Proof.TileKI.lean ====
/-
  The tile kernel of the SparseCore call: one vector subcore's task. It copies its 32 + 128 row numbers into
  scratch, starts one row copy per row number, all on one semaphore, and waits for them all. The state carried
  through the starts is `Fly k`: `k` copies started, the rest of the destination rows and of the table's read
  shares still in hand. What a task leaves is stated exactly: every destination row is the table's row at its
  row number.
-/
module

public import Idealize.ShloMosaic.Lib.SparseCore.Quiescent
public import Idealize.ShloMosaic.Lib.SparseCore.Ops
public import Idealize.ShloMosaic.Lib.StableHlo.Run
public import Idealize.ShloMosaic.Lib.Batch
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.RunKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch theorem sees it -/

/-- The labels below the SparseCore layer: the kernels' own and one pipeline's. -/
abbrev ΛP : Labels := Pipeline.Sig Λ₀ (Fin 1) fun p => (pcfgs (F := F) p).Adm
/-- The SparseCore calls. -/
abbrev K : SparseCore.Cfg τ sig (ΛP (F := F)) 1 := sc (F := F)
/-- The body table below the SparseCore layer. -/
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are four distinct cells, none of them scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds lie. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- Where the pipeline's rounds lie. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- Where the transfers' counters lie. -/
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance
instance EC_landsIn : (EC : UEmb Counters 𝕄).LandsIn (upEmb : UEmb _ 𝕄) := by infer_instance

/-! ## The buffers -/

/-- The table, the two lists of row numbers and the two outputs, as locations of device `d`. -/
abbrev tLoc (d : Dev nD) : Loc nD τ sig := (SparseCore.T d).loc main_arg0
abbrev sLoc (d : Dev nD) : Loc nD τ sig := (SparseCore.T d).loc main_v31
abbrev iLoc (d : Dev nD) : Loc nD τ sig := (SparseCore.T d).loc main_v33
abbrev aLoc (d : Dev nD) : Loc nD τ sig := (SparseCore.T d).loc main_v34_0
abbrev bLoc (d : Dev nD) : Loc nD τ sig := (SparseCore.T d).loc main_v34_1

variable [FloatOps F] [Named F]

abbrev tV : Memref sig .scVector .hbm S100000x64 .f32 := Memref.whole main_arg0_scv
abbrev sV : Memref sig .scVector .hbm S1024 .i32 := Memref.whole main_v31_scv
abbrev iV : Memref sig .scVector .hbm S4096 .i32 := Memref.whole main_v33_scv
abbrev aV : Memref sig .scVector .hbm S1024x64 .f32 := Memref.whole main_v34_0_scv
abbrev bV : Memref sig .scVector .hbm S4096x64 .f32 := Memref.whole main_v34_1_scv
/-- A task's scratch: its 160 row numbers. -/
abbrev jB : Memref sig .scVector .vmem S160 .i32 := Memref.whole cc0_scratch0

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
/-- The thread of the task. -/
abbrev me : Thread nD τ := V d (cV L) (jV L)

/-- There are two cores. -/
theorem L0_lt (L : grid0.Coords) : (L 0).val < 2 := (L 0).isLt
/-- There are sixteen tasks on each. -/
theorem L1_lt (L : grid0.Coords) : (L 1).val < 16 := (L 1).isLt

/-- The task's number among the 32. -/
def wk (L : grid0.Coords) : ℕ := 2 * (L 1).val + (L 0).val
/-- There are 32 tasks. -/
theorem wk_lt (L : grid0.Coords) : wk L < 32 := by have := L0_lt L; have := L1_lt L; unfold wk; omega

/-- A word read out of the list of sampled row numbers, at position `n`. -/
def sAt (n : ℕ) : BitVec 32 := if h : n < 1024 then (m (sLoc d) : S1024.Idx → BitVec 32) (fun | 0 => ⟨n, h⟩) else 0#32
/-- The same for the list of the examples' row numbers. -/
def iAt (n : ℕ) : BitVec 32 := if h : n < 4096 then (m (iLoc d) : S4096.Idx → BitVec 32) (fun | 0 => ⟨n, h⟩) else 0#32

/-- The `t`-th row number of the task: 32 sampled ones, then 128 of the examples'. -/
def jAt (t : ℕ) : BitVec 32 := if t < 32 then sAt m d (32 * wk L + t) else iAt m d (128 * wk L + (t - 32))

/-- What the proof asks of the memory at the call: every row number is one of the table's rows. -/
def InTable : Prop := ∀ d : Dev nD, (∀ n, n < 1024 → (sAt m d n).toNat < 100000) ∧ (∀ n, n < 4096 → (iAt m d n).toNat < 100000)

/-- A task's row numbers lie in the table. -/
theorem jAt_lt (h : InTable m) (t : ℕ) (ht : t < 160) : (jAt m d L t).toNat < 100000 := by
  have := wk_lt L
  unfold jAt; split
  · exact (h d).1 _ (by omega)
  · exact (h d).2 _ (by omega)

/-- The destination row of the `t`-th copy. -/
theorem aRow_inb (t : ℕ) (h : t < 32) : ∀ a, (![64 * (L 1).val + 32 * (L 0).val + t, 0] : Fin 2 → ℕ) a + S1x64.size a ≤ S1024x64.size a := by
  have := L0_lt L; have := L1_lt L
  intro a; fin_cases a <;> simp; omega
/-- A task's target among the true rows lies inside them. -/
theorem bRow_inb (t : ℕ) (h : t < 128) : ∀ a, (![256 * (L 1).val + 128 * (L 0).val + t, 0] : Fin 2 → ℕ) a + S1x64.size a ≤ S4096x64.size a := by
  have := L0_lt L; have := L1_lt L
  intro a; fin_cases a <;> simp; omega
def oRow (t : ℕ) : Memref sig .scVector .hbm S1x64 .f32 :=
  if h : t < 32 then aV.slice (Rect.unit (s := S1024x64) ![64 * (L 1).val + 32 * (L 0).val + t, 0] S1x64.size (aRow_inb L t h)) (fun _ => rfl)
  else if h' : t - 32 < 128 then bV.slice (Rect.unit (s := S4096x64) ![256 * (L 1).val + 128 * (L 0).val + (t - 32), 0] S1x64.size (bRow_inb L _ h')) (fun _ => rfl)
  else aV.slice (Rect.unit (s := S1024x64) ![64 * (L 1).val + 32 * (L 0).val + 0, 0] S1x64.size (aRow_inb L 0 (by omega))) (fun _ => rfl)

/-- A row of the table lies inside it. -/
theorem tRow_inb (w : BitVec 32) (h : w.toNat < 100000) : ∀ a, (![w.toNat, 0] : Fin 2 → ℕ) a + S1x64.size a ≤ S100000x64.size a := by
  intro a; fin_cases a <;> simp; omega
/-- The table's row at a row number. -/
def tRow (w : BitVec 32) : Memref sig .scVector .hbm S1x64 .f32 :=
  if h : w.toNat < 100000 then tV.slice (Rect.unit (s := S100000x64) ![w.toNat, 0] S1x64.size (tRow_inb w h)) (fun _ => rfl)
  else tV.slice (Rect.unit (s := S100000x64) ![(0#32).toNat, 0] S1x64.size (tRow_inb 0#32 (by decide))) (fun _ => rfl)

/-- Slices at equal offsets are equal. -/
theorem slice_congr {κ : Kind} {sp : Space} {s : Shape} {e : EltTy} (M : Memref sig κ sp s e) {z : Fin s.rank → ℕ} {o o' : Fin s.rank → ℕ} (h : o = o')
    (hb : ∀ a, o a + z a ≤ s.size a) (hb' : ∀ a, o' a + z a ≤ s.size a) (h1 h2) :
    M.slice (Rect.unit (s := s) o z hb) h1 = M.slice (Rect.unit (s := s) o' z hb') h2 := by subst h; rfl

/-- What one row copy credits its semaphore. -/
abbrev NR : ℕ := (oRow L 0).view.dmaCredit

/-- All row copies pay the same credit. -/
theorem oRow_credit (t : ℕ) : (oRow L t).view.dmaCredit = NR L := by
  unfold NR oRow
  split
  · rfl
  · split <;> rfl

/-- That credit is positive. -/
theorem NR_pos : 0 < NR L := View.dmaCredit_pos _ (by decide)

/-- The read share a task holds of each buffer it reads. -/
abbrev qW : PosShare TreeShare := shareTokN fullShare (wk L)
/-- The read share of the table one row copy holds. -/
abbrev qR (t : ℕ) : PosShare TreeShare := shareTokN (qW L) t

/-- A destination row at given contents. -/
abbrev oPts (t : ℕ) (f : Buf (Elt F) ((oRow L t).view.loc (me d L))) : sProp 𝕄 :=
  (oRow L t).view.loc (me d L) ↦[(oRow L t).view.set]{fullShare} f
/-- The read share of the table's row for the `t`-th copy. -/
abbrev rPts (t : ℕ) : sProp 𝕄 :=
  (tRow (jAt m d L t)).view.loc (me d L) ↦[(tRow (jAt m d L t)).view.set]{qR L t} m _

/-- The contents a row copy leaves in its destination. -/
def oNew (t : ℕ) : Buf (Elt F) ((oRow L t).view.loc (me d L)) :=
  (oRow L t).view.write (Elt F) (m ((oRow L t).view.loc (me d L))) ((ReadAs.same : ReadAs (Elt F) S1x64 .f32 S1x64 .f32).apply ((tRow (jAt m d L t)).view.read (Elt F) (m ((tRow (jAt m d L t)).view.loc (me d L))))) Finset.univ

/-- What the `t`-th copy delivers: its destination row rewritten, its read share back. -/
def Dl (t : Fin 160) : sProp 𝕄 := iprop(oPts d L t.val (oNew m d L t.val) ∗ rPts m d L t.val)
/-- What the `t`-th copy needs. -/
def Rs (t : Fin 160) : sProp 𝕄 := iprop(rPts m d L t.val ∗ oPts d L t.val (m _))

/-- The row numbers in scratch. -/
def jBuf : Buf (Elt F) (jB.view.loc (me d L)) := fun (x : S160.Idx) => jAt m d L (x 0).val

abbrev jPts (f : Buf (Elt F) (jB.view.loc (me d L))) : sProp 𝕄 := jB.view.loc (me d L) ↦[Finset.univ]{fullShare} f

/-- `k` row copies started. -/
def Fly (O : CellTallies nD τ sig (HIx 1)) (W : Waits sig (HIx 1)) (R : sProp 𝕄) (k : ℕ) : sProp 𝕄 :=
  iprop(Batch EC (me d L) (.dma cc0_scratch1.sem) none (NR L) (Dl m d L) k 0 ∗ bigSep (pending k) (Rs m d L) ∗ jPts d L (jBuf m d L)
    ∗ levAts (K (F := F)).L (K (F := F)).lev ∗ owes (me d L) O W ∗ R)

/-- All copies started, `k` of them waited for. -/
def Wt (O : CellTallies nD τ sig (HIx 1)) (W : Waits sig (HIx 1)) (R : sProp 𝕄) (k : ℕ) : sProp 𝕄 :=
  iprop(Batch EC (me d L) (.dma cc0_scratch1.sem) none (NR L) (Dl m d L) 160 (k * NR L) ∗ jPts d L (jBuf m d L)
    ∗ levAts (K (F := F)).L (K (F := F)).lev ∗ (∃ W', ⌜∀ p ∈ W', p ∈ W ∨ p.2 = none⌝ ∗ owes (me d L) O W') ∗ R)

/-- All copies waited for. -/
def Fin' (O : CellTallies nD τ sig (HIx 1)) (W : Waits sig (HIx 1)) (R : sProp 𝕄) : sProp 𝕄 :=
  iprop(bigSep Finset.univ (Dl m d L) ∗ semVal ((me d L), .dma cc0_scratch1.sem) 0 ∗ jPts d L (jBuf m d L)
    ∗ (∃ W', ⌜∀ p ∈ W', p ∈ W ∨ p.2 = none⌝ ∗ owes (me d L) O W') ∗ R)

/-- A vector of 16 row numbers read from scratch at offset `o`. -/
def Lanes (o : ℕ) (v : S16.Idx → BitVec 32) : Prop := ∀ l : Fin 16, v (fun | 0 => l) = jAt m d L (o + l.val)

/-- A lane of a word vector. -/
theorem lane_slice {l : ℕ} (hl : l < 16) : S16.Slices ![l] S1 := by
  refine ⟨rfl, fun a => ?_⟩
  fin_cases a
  show l + 1 ≤ 16
  omega

/-- The row number read out of a lane. -/
theorem word_of {o : ℕ} {v : S16.Idx → BitVec 32} (hv : Lanes m d L o v) {l : ℕ} (hl : l < 16) :
    extractAt (![0] : Fin 1 → ℕ) (extractStridedSlice S1 ![l] (shapeCast S16 v shapeCasts_S16_S16) (lane_slice hl)) inpos_S1_p0 = jAt m d L (o + l) := by
  rw [← hv ⟨l, hl⟩]
  rw [show shapeCast S16 v shapeCasts_S16_S16 = v from funext fun x => by simp only [shapeCast, Shape.reshapeEquiv_self]]
  simp only [extractAt, extractStridedSlice]
  congr 1
  funext a; fin_cases a; rfl

/-- The source of a row copy is the table's row of that number. -/
theorem src_of {w : BitVec 32} {k k' : ℕ} (hw : w = jAt m d L k') (hk : k' = k) (h : InTable m) (hk' : k < 160) (hb) (h1) :
    tV.slice (Rect.unit (s := S100000x64) ![w.toNat, 0] S1x64.size hb) h1 = tRow (jAt m d L k) := by
  subst hk; subst hw
  unfold tRow; rw [dif_pos (jAt_lt m d L h _ hk')]

/-- The target of a copy of a sampled row. -/
theorem dstA {o : Fin 2 → ℕ} {k : ℕ} (ho : o = ![64 * (L 1).val + 32 * (L 0).val + k, 0]) (hk : k < 32) (hb) (h1) :
    aV.slice (Rect.unit (s := S1024x64) o S1x64.size hb) h1 = oRow L k := by
  subst ho; unfold oRow; rw [dif_pos hk]
/-- The target of a copy of a true row. -/
theorem dstB {o : Fin 2 → ℕ} {k k' : ℕ} (ho : o = ![256 * (L 1).val + 128 * (L 0).val + k', 0]) (hk' : k = 32 + k') (hk : k < 160) (hb) (h1) :
    bV.slice (Rect.unit (s := S4096x64) o S1x64.size hb) h1 = oRow L k := by
  obtain rfl : k' = k - 32 := by omega
  subst ho; unfold oRow; rw [dif_neg (by omega), dif_pos (by omega)]

variable {O : CellTallies nD τ sig (HIx 1)} {W : Waits sig (HIx 1)} {R : sProp (MT nD τ sig (HIx 1) (Elt F) ℕ UU ℕ)}
variable {α : Type} {Q : α → sProp (MT nD τ sig (HIx 1) (Elt F) ℕ UU ℕ)}

local notation "wpT" => wp (M := 𝕄) frame (wpE (defs₀ (F := F)) 𝒱₀ (me d L) none) Set.univ

/-- Sixteen row numbers read at once. -/
theorem lanes_read {o : ℕ} (hb : ∀ a, (![o] : Fin 1 → ℕ) a + S16.size a ≤ S160.size a) :
    Lanes m d L o (jB.view.readAt (Elt F) (Rect.unit (s := S160) ![o] S16.size hb).toLoadRect (jBuf m d L)) := by
  intro l
  show jAt m d L _ = _
  congr 1
  show o + 1 * l.val = _
  rw [Nat.one_mul]

/-- A load of 16 row numbers. -/
theorem step_load {k o : ℕ} {hb hl} {f : (S16.Idx → BitVec 32) → Prog (TpuEff nD τ sig (Elt F) Λ₀ (me d L).2) α}
    (h : ∀ v, Lanes m d L o v → Fly m d L O W R k ⊢ wpT (f v) Q) :
    Fly m d L O W R k ⊢ wpT (Prog.lift (.load jB (Rect.unit (s := S160) ![o] S16.size hb).toLoadRect hl) >>= f) Q := by
  simp only [Prog.lift, Prog.bind_op, Prog.bind_ret]
  unfold Fly
  iintro ⟨HB, HR, HJ, HL, HO, HX⟩
  iapply (wp_load 𝒱₀ (me d L) none Set.univ (m := jB) (S := Finset.univ) (Finset.subset_univ _)) $$ HJ
  iintro HJ
  iapply (h _ (lanes_read m d L hb))
  unfold Fly
  isplitl [HB]; · iexact HB
  isplitl [HR]; · iexact HR
  isplitl [HJ]; · iexact HJ
  isplitl [HL]; · iexact HL
  isplitl [HO]; · iexact HO
  iexact HX

/-- The side condition of a row number read from scratch. -/
theorem step_assume {k : ℕ} {p : Prop} {dp : Decidable p} {f : PLift p → Prog (TpuEff nD τ sig (Elt F) Λ₀ (me d L).2) α}
    (hp : p) (h : Fly m d L O W R k ⊢ wpT (f ⟨hp⟩) Q) :
    Fly m d L O W R k ⊢ wpT (Prog.lift (TpuEff.assume p dp) >>= f) Q := by
  simp only [Prog.lift, Prog.bind_op, Prog.bind_ret]
  rw [wp_assume_of _ _ _ _ hp]; exact h

/-- The `k`-th row copy starts. -/
theorem step_fire {k : ℕ} (hk : k < 160) {src dst : Memref sig .scVector .hbm S1x64 .f32} (hs : src = tRow (jAt m d L k)) (hd : dst = oRow L k)
    {p1 p2 p3} {f : PUnit → Prog (TpuEff nD τ sig (Elt F) Λ₀ (me d L).2) α}
    (h : Fly m d L O W R (k + 1) ⊢ wpT (f ⟨⟩) Q) :
    Fly m d L O W R k ⊢ wpT (Prog.lift (.enqueueDma src (.here dst) (.dma cc0_scratch1.sem) p1 p2 p3) >>= f) Q := by
  subst hs; subst hd
  simp only [Prog.lift, Prog.bind_op, Prog.bind_ret]
  unfold Fly
  rw [bigSep_pending_step (Rs m d L) k hk, Rs]
  iintro ⟨HB, ⟨⟨Hr, Ho⟩, HR⟩, HJ, HL, HO, HX⟩
  iapply (wp_dmaBatch EC 𝒱₀ (me d L) none none (NR L) ((View.amount_dma _ _).trans (oRow_credit L k)) (Finset.Subset.refl _) hk (Nat.zero_le _) (D := Dl m d L) ?_) $$ [Hr Ho HB]
  · exact Entails.of_eq rfl
  · isplitl [Hr]; · iexact Hr
    isplitl [Ho]; · iexact Ho
    iexact HB
  iintro HB
  iapply h
  unfold Fly
  isplitl [HB]; · iexact HB
  isplitl [HR]; · iexact HR
  isplitl [HJ]; · iexact HJ
  isplitl [HL]; · iexact HL
  isplitl [HO]; · iexact HO
  iexact HX

/-- Every copy started: the waits begin. -/
theorem fly_wt : Fly m d L O W R 160 ⊢ Wt m d L O W R 0 := by
  unfold Fly Wt
  rw [Nat.zero_mul]
  iintro ⟨HB, -, HJ, HL, HO, HX⟩
  isplitl [HB]; · iexact HB
  isplitl [HJ]; · iexact HJ
  isplitl [HL]; · iexact HL
  isplitl [HO]
  · iexists W; isplitr; · ipureintro; exact fun p hp => .inl hp
    iexact HO
  iexact HX

/-- A wait recorded inside the body. -/
theorem waits_insert {W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact h p hp

/-- One wait of the row copies, not the last. -/
theorem step_wait (hO : ∀ g, O g none = 0) {k : ℕ} (hk : k + 1 < 160) {src dst : Memref sig .scVector .hbm S1x64 .f32} (hN : dst.view.dmaCredit = NR L)
    {p1 p2} {f : PUnit → Prog (TpuEff nD τ sig (Elt F) Λ₀ (me d L).2) α}
    (h : Wt m d L O W R (k + 1) ⊢ wpT (f ⟨⟩) Q) :
    Wt m d L O W R k ⊢ wpT (Prog.lift (.waitDma2 cc0_scratch1.sem src dst p1 p2) >>= f) Q := by
  simp only [Prog.lift, Prog.bind_op, Prog.bind_ret]
  unfold Wt
  iintro ⟨HB, HJ, #HL, ⟨%W', %hW', HO⟩, HX⟩
  iapply (wp_waitBatchO EC 𝒱₀ (me d L) none none hN (D := Dl m d L) (u := k * NR L) (by have := NR_pos L; nlinarith)) $$ [HB HO]
  · isplitl [HB]; · iexact HB
    isplitl [HO]; · iexact HO
    iapply ((K (F := F)).mayWait_none (SemLoc.dma cc0_scratch1.sem) hO); iexact HL
  iintro ⟨HB, HO⟩
  iapply h
  unfold Wt
  rw [Nat.succ_mul]
  isplitl [HB]; · iexact HB
  isplitl [HJ]; · iexact HJ
  isplitr; · iexact HL
  isplitl [HO]
  · iexists _; isplitr; rotate_left; · iexact HO
    ipureintro; exact waits_insert hW' _
  iexact HX

/-- The last wait. -/
theorem step_waitLast (hO : ∀ g, O g none = 0) {src dst : Memref sig .scVector .hbm S1x64 .f32} (hN : dst.view.dmaCredit = NR L)
    {p1 p2} {f : PUnit → Prog (TpuEff nD τ sig (Elt F) Λ₀ (me d L).2) α}
    (h : Fin' m d L O W R ⊢ wpT (f ⟨⟩) Q) :
    Wt m d L O W R 159 ⊢ wpT (Prog.lift (.waitDma2 cc0_scratch1.sem src dst p1 p2) >>= f) Q := by
  simp only [Prog.lift, Prog.bind_op, Prog.bind_ret]
  unfold Wt
  iintro ⟨HB, HJ, #HL, ⟨%W', %hW', HO⟩, HX⟩
  iapply (wp_waitBatchLastO EC 𝒱₀ (me d L) none none hN (NR_pos L) (D := Dl m d L) (u := 159 * NR L) (by omega)) $$ [HB HO]
  · isplitl [HB]; · iexact HB
    isplitl [HO]; · iexact HO
    iapply ((K (F := F)).mayWait_none (SemLoc.dma cc0_scratch1.sem) hO); iexact HL
  iintro ⟨HD, HS, HO⟩
  iapply h
  unfold Fin'
  isplitl [HD]; · iexact HD
  isplitl [HS]; · iexact HS
  isplitl [HJ]; · iexact HJ
  isplitl [HO]
  · iexists _; isplitr; rotate_left; · iexact HO
    ipureintro; exact waits_insert hW' _
  iexact HX

/-- The row number read out of a lane lies in the table. -/
theorem word_lt (h : InTable m) {o : ℕ} {v : S16.Idx → BitVec 32} (hv : Lanes m d L o v) {l : ℕ} (hl : l < 16) (ho : o + l < 160) :
    (extractAt (![0] : Fin 1 → ℕ) (extractStridedSlice S1 ![l] (shapeCast S16 v shapeCasts_S16_S16) (lane_slice hl)) inpos_S1_p0).toNat < 100000 := by
  rw [word_of m d L hv hl]; exact jAt_lt m d L h _ ho

/-- Opening a part of the body. -/
theorem step_part {β : Type} {X : sProp 𝕄} {p : Prog (TpuEff nD τ sig (Elt F) Λ₀ (me d L).2) β} {f : β → Prog (TpuEff nD τ sig (Elt F) Λ₀ (me d L).2) α}
    (h : X ⊢ wpT p (fun a => wpT (f a) Q)) : X ⊢ wpT (p >>= f) Q := by
  rw [wp_bind]; exact h
/-- The end of a part. -/
theorem step_ret {X : sProp 𝕄} {a : α} (h : X ⊢ Q a) : X ⊢ wpT (pure a) Q := by
  rw [Prog.pure_eq_ret, wp_ret]; exact h.trans fupd_intro

/-- A read share of a whole list of row numbers. -/
abbrev sPts : sProp 𝕄 := sV.view.loc (me d L) ↦[Finset.univ]{qW L} m _
abbrev iPts : sProp 𝕄 := iV.view.loc (me d L) ↦[Finset.univ]{qW L} m _

/-- What a task starts from, `R` aside. -/
def Start (O : CellTallies nD τ sig (HIx 1)) (W : Waits sig (HIx 1)) (R : sProp 𝕄) : sProp 𝕄 :=
  iprop((∃ f, jPts d L f) ∗ semVal ((me d L), .dma cc0_scoped0.sem) 0 ∗ semVal ((me d L), .dma cc0_scoped1.sem) 0 ∗ semVal ((me d L), .dma cc0_scratch1.sem) 0
    ∗ sPts m d L ∗ iPts m d L ∗ bigSep Finset.univ (Rs m d L) ∗ levAts (K (F := F)).L (K (F := F)).lev ∗ owes (me d L) O W ∗ R)

/-- What the two fetches leave beside the copies' own. -/
def Kept (R : sProp 𝕄) : sProp 𝕄 :=
  iprop(semVal ((me d L), .dma cc0_scoped0.sem) 0 ∗ semVal ((me d L), .dma cc0_scoped1.sem) 0 ∗ sPts m d L ∗ iPts m d L ∗ R)

/-- The waits after the two fetches. -/
abbrev W2 (W : Waits sig (HIx 1)) : Waits sig (HIx 1) :=
  insert (SemLoc.dma cc0_scoped1.sem, none) (insert (SemLoc.dma cc0_scoped0.sem, none) W)

end Tile

end Cert.Proof.RunKI

end
-- ==== Proof.FetchKI.lean ====
/-
  The two fetches.
-/
module

public import proofs.«01_k».proof.Proof.TileKI

@[expose] public section

noncomputable section

namespace Cert.Proof.RunKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => MT nD τ sig (HIx 1) (Elt F) ℕ UU ℕ

variable (m : (ℓ : Loc nD τ sig) → Buf (Elt F) ℓ) (d : Dev nD) (L : grid0.Coords)
variable {O : CellTallies nD τ sig (HIx 1)} {W : Waits sig (HIx 1)} {R : sProp (MT nD τ sig (HIx 1) (Elt F) ℕ UU ℕ)}
variable {α : Type} {Q : α → sProp (MT nD τ sig (HIx 1) (Elt F) ℕ UU ℕ)}
local notation "wpT" => wp (M := 𝕄) frame (wpE (defs₀ (F := F)) 𝒱₀ (me d L) none) Set.univ

/-- One fetch: a copy from HBM into scratch on a semaphore of its own, waited for at once. -/
theorem fetch_one (hO : ∀ g, O g none = 0) {s : Shape} {e : EltTy} {src : Memref sig .scVector .hbm s e} {dst : Memref sig .scVector .vmem s e}
    {sem : DmaSem sig} {p1 p2 p3 p4 p5} {q : PosShare TreeShare} (fs : Buf (Elt F) (src.view.loc (me d L))) (fd : Buf (Elt F) (dst.view.loc (me d L)))
    (hN0 : 0 < dst.view.dmaCredit) {f : PUnit → Prog (TpuEff nD τ sig (Elt F) Λ₀ (me d L).2) α} :
    iprop((src.view.loc (me d L) ↦[Finset.univ]{q} fs) ∗ (dst.view.loc (me d L) ↦[Finset.univ]{fullShare} fd) ∗ semVal (me d L, .dma sem) 0
        ∗ levAts (K (F := F)).L (K (F := F)).lev ∗ owes (me d L) O W)
      ⊢ iprop((iprop((src.view.loc (me d L) ↦[Finset.univ]{q} fs)
            ∗ (dst.view.loc (me d L) ↦[Finset.univ]{fullShare} dst.view.write (Elt F) fd ((ReadAs.same : ReadAs (Elt F) s e s e).apply (src.view.read (Elt F) fs)) Finset.univ)
            ∗ semVal (me d L, .dma sem) 0 ∗ owes (me d L) O (insert (SemLoc.dma sem, none) W)) -∗ wpT (f ⟨⟩) Q)
        -∗ wpT (Prog.lift (.enqueueDma src (.here dst) (.dma sem) p1 p2 p3) >>= fun _ => Prog.lift (.waitDma2 sem src dst p4 p5) >>= f) Q) := by
  simp only [Prog.lift, Prog.bind_op, Prog.bind_ret]
  iintro ⟨Hs, Hd, HS, #HL, HO⟩ Hk
  ihave Hs' := ((pointsTo_split_subset (Finset.subset_univ src.view.set)).1) $$ Hs
  icases Hs' with ⟨Hs, Hsr⟩
  imod (batch_alloc' (n := 1) EC (me d L) (sm := .dma sem) none dst.view.dmaCredit
    (fun _ : Fin 1 => iprop((dst.view.loc (me d L) ↦[Finset.univ]{fullShare} dst.view.write (Elt F) fd ((ReadAs.same : ReadAs (Elt F) s e s e).apply (src.view.read (Elt F) fs)) Finset.univ)
      ∗ (src.view.loc (me d L) ↦[src.view.set]{q} fs)))) $$ HS with HB
  iapply (wp_dmaBatch EC 𝒱₀ (me d L) none none dst.view.dmaCredit (View.amount_dma _ _) (Finset.subset_univ _) (Nat.zero_lt_one) (Nat.zero_le _)
    (D := (fun _ : Fin 1 => iprop((dst.view.loc (me d L) ↦[Finset.univ]{fullShare} dst.view.write (Elt F) fd ((ReadAs.same : ReadAs (Elt F) s e s e).apply (src.view.read (Elt F) fs)) Finset.univ)
      ∗ (src.view.loc (me d L) ↦[src.view.set]{q} fs)))) .rfl) $$ [Hs Hd HB]
  · isplitl [Hs]; · iexact Hs
    isplitl [Hd]; · iexact Hd
    iexact HB
  iintro HB
  iapply (wp_waitBatchLastO EC 𝒱₀ (me d L) none none rfl hN0 (u := 0)
    (D := (fun _ : Fin 1 => iprop((dst.view.loc (me d L) ↦[Finset.univ]{fullShare} dst.view.write (Elt F) fd ((ReadAs.same : ReadAs (Elt F) s e s e).apply (src.view.read (Elt F) fs)) Finset.univ)
      ∗ (src.view.loc (me d L) ↦[src.view.set]{q} fs)))) (by omega)) $$ [HB HO]
  · isplitl [HB]; · iexact HB
    isplitl [HO]; · iexact HO
    iapply ((K (F := F)).mayWait_none (SemLoc.dma sem) hO); iexact HL
  iintro ⟨HD, HS, HO⟩
  ihave HD' := (Entails.of_eq (by rw [show (Finset.univ : Finset (Fin 1)) = {0} from rfl, bigSep_singleton])) $$ HD
  icases HD' with ⟨Hd, Hs⟩
  iapply Hk
  isplitl [Hs Hsr]
  · iapply ((pointsTo_split_subset (Finset.subset_univ src.view.set)).2)
    isplitl [Hs]; · iexact Hs
    iexact Hsr
  isplitl [Hd]; · iexact Hd
  isplitl [HS]; · iexact HS
  iexact HO

/-- After the two fetches scratch holds the task's row numbers. -/
theorem fetched (f0 : Buf (Elt F) (jB.view.loc (me d L))) {h1 h1' h2 h2' h3 h3' h4 h4'} :
    (jB.slice (Rect.unit (s := S160) ![32] S128.size h4) h4').view.write (Elt F)
      ((jB.slice (Rect.unit (s := S160) ![0] S32.size h2) h2').view.write (Elt F) f0
        ((ReadAs.same : ReadAs (Elt F) S32 .i32 S32 .i32).apply ((sV.slice (Rect.unit (s := S1024) (k0_off1 L) S32.size h1) h1').view.read (Elt F) (m (sV.view.loc (me d L))))) Finset.univ)
      ((ReadAs.same : ReadAs (Elt F) S128 .i32 S128 .i32).apply ((iV.slice (Rect.unit (s := S4096) (k0_off2 L) S128.size h3) h3').view.read (Elt F) (m (iV.view.loc (me d L))))) Finset.univ
      = jBuf m d L := by
  have hw := wk_lt L
  funext x
  by_cases hx : (x 0).val < 32
  · rw [View.write_of_not_mem]
    · have hx' : x = (jB.slice (Rect.unit (s := S160) ![0] S32.size h2) h2').view.emb (fun | 0 => ⟨(x 0).val, hx⟩) := by
        funext a; fin_cases a; apply Fin.ext; show (x 0).val = 0 + 1 * (x 0).val; omega
      conv_lhs => rw [hx']
      rw [View.write_emb_of_mem _ _ (Finset.mem_univ _)]
      show _ = jAt m d L (x 0).val
      unfold jAt sAt
      rw [if_pos hx, dif_pos (by omega)]
      show (m (sLoc d) : S1024.Idx → BitVec 32) _ = _
      congr 1
      funext a; fin_cases a; apply Fin.ext
      show k0_off1 L 0 + 1 * (x 0).val = 32 * wk L + (x 0).val
      rw [k0_off1_eq]; unfold wk
      show 64 * (L 1).val + 32 * (L 0).val + 1 * (x 0).val = _
      omega
    · intro hmem
      obtain ⟨y, -, hy⟩ := Finset.mem_map.mp hmem
      have : (x 0).val = 32 + 1 * (y 0).val := by rw [← hy]; rfl
      omega
  · have h160 : (x 0).val < 160 := (x 0).isLt
    have hx' : x = (jB.slice (Rect.unit (s := S160) ![32] S128.size h4) h4').view.emb (fun | 0 => ⟨(x 0).val - 32, by show _ < 128; omega⟩) := by
      funext a; fin_cases a; apply Fin.ext; show (x 0).val = 32 + 1 * ((x 0).val - 32); omega
    conv_lhs => rw [hx']
    rw [View.write_emb_of_mem _ _ (Finset.mem_univ _)]
    show _ = jAt m d L (x 0).val
    unfold jAt iAt
    rw [if_neg hx, dif_pos (by omega)]
    show (m (iLoc d) : S4096.Idx → BitVec 32) _ = _
    congr 1
    funext a; fin_cases a; apply Fin.ext
    show k0_off2 L 0 + 1 * ((x 0).val - 32) = 128 * wk L + ((x 0).val - 32)
    rw [k0_off2_eq]; unfold wk
    show 256 * (L 1).val + 128 * (L 0).val + 1 * ((x 0).val - 32) = _
    omega

instance Dl_storable (t : Fin 160) : Storable (upEmb : UEmb _ 𝕄) (Dl m d L t) := by unfold Dl; infer_instance

/-- The two fetches of row numbers. -/
theorem step_fetch (hO : ∀ g, O g none = 0) {h1 h1' h2 h2' h3 h3' h4 h4' p1 p2 p3 p4 p5 p6 p7 p8 p9 p10}
    {f : PUnit → Prog (TpuEff nD τ sig (Elt F) Λ₀ (me d L).2) α}
    (h : Fly m d L O (W2 W) (Kept m d L R) 0 ⊢ wpT (f ⟨⟩) Q) :
    Start m d L O W R ⊢ wpT (Prog.lift (.enqueueDma (sV.slice (Rect.unit (s := S1024) (k0_off1 L) S32.size h1) h1') (.here (jB.slice (Rect.unit (s := S160) ![0] S32.size h2) h2')) (.dma cc0_scoped0.sem) p1 p2 p3)
      >>= fun _ => Prog.lift (.waitDma2 cc0_scoped0.sem (sV.slice (Rect.unit (s := S1024) (k0_off1 L) S32.size h1) h1') (jB.slice (Rect.unit (s := S160) ![0] S32.size h2) h2') p4 p5)
      >>= fun _ => Prog.lift (.enqueueDma (iV.slice (Rect.unit (s := S4096) (k0_off2 L) S128.size h3) h3') (.here (jB.slice (Rect.unit (s := S160) ![32] S128.size h4) h4')) (.dma cc0_scoped1.sem) p6 p7 p8)
      >>= fun _ => Prog.lift (.waitDma2 cc0_scoped1.sem (iV.slice (Rect.unit (s := S4096) (k0_off2 L) S128.size h3) h3') (jB.slice (Rect.unit (s := S160) ![32] S128.size h4) h4') p9 p10)
      >>= f) Q := by
  unfold Start
  iintro ⟨⟨%f0, HJ⟩, H0, H1, HS, Hs, Hi, HR, #HL, HO, HX⟩
  iapply (fetch_one (F := F) d L hO (src := sV.slice (Rect.unit (s := S1024) (k0_off1 L) S32.size h1) h1') (dst := jB.slice (Rect.unit (s := S160) ![0] S32.size h2) h2') (q := qW L)
      (m (sV.view.loc (me d L))) f0 (View.dmaCredit_pos _ (show 0 < S32.numel by decide))) $$ [Hs HJ H0 HO]
  · isplitl [Hs]; · iexact Hs
    isplitl [HJ]; · iexact HJ
    isplitl [H0]; · iexact H0
    isplitr; · iexact HL
    iexact HO
  iintro ⟨Hs, HJ, H0, HO⟩
  iapply (fetch_one (F := F) d L hO (src := iV.slice (Rect.unit (s := S4096) (k0_off2 L) S128.size h3) h3') (dst := jB.slice (Rect.unit (s := S160) ![32] S128.size h4) h4') (q := qW L)
      (m (iV.view.loc (me d L))) _ (View.dmaCredit_pos _ (show 0 < S128.numel by decide))) $$ [Hi HJ H1 HO]
  · isplitl [Hi]; · iexact Hi
    isplitl [HJ]; · iexact HJ
    isplitl [H1]; · iexact H1
    isplitr; · iexact HL
    iexact HO
  iintro ⟨Hi, HJ, H1, HO⟩
  ihave HJ' := (Entails.of_eq (congrArg (jPts (F := F) d L) (fetched (F := F) m d L f0))) $$ HJ
  imod (batch_alloc' EC (me d L) (sm := .dma cc0_scratch1.sem) none (NR L) (Dl m d L)) $$ HS with HB
  iapply h
  unfold Fly Kept
  rw [← bigSep_pending_zero]
  isplitl [HB]; · iexact HB
  isplitl [HR]; · iexact HR
  isplitl [HJ']; · iexact HJ'
  isplitr; · iexact HL
  isplitl [HO]; · iexact HO
  isplitl [H0]; · iexact H0
  isplitl [H1]; · iexact H1
  isplitl [Hs]; · iexact Hs
  isplitl [Hi]; · iexact Hi
  iexact HX

end Cert.Proof.RunKI

end
-- ==== Proof.WalkKI.lean ====
/-
  The walk over the tile kernel's body.
-/
module

public import proofs.«01_k».proof.Proof.FetchKI

@[expose] public section

noncomputable section

namespace Cert.Proof.RunKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]
variable (m : (ℓ : Loc nD τ sig) → Buf (Elt F) ℓ) (d : Dev nD) (L : grid0.Coords)
local notation "𝕄" => MT nD τ sig (HIx 1) (Elt F) ℕ UU ℕ
variable {O : CellTallies nD τ sig (HIx 1)} {W : Waits sig (HIx 1)} {R : sProp (MT nD τ sig (HIx 1) (Elt F) ℕ UU ℕ)}
local notation "wpT" => wp (M := 𝕄) frame (wpE (defs₀ (F := F)) 𝒱₀ (me d L) none) Set.univ

set_option maxRecDepth 65536 in
set_option maxHeartbeats 0 in
/-- A task runs from its start to its end, every copy waited for. -/
theorem tile_run (hO : ∀ g, O g none = 0) (hT : InTable m) :
    Start m d L O W R ⊢ wpT (cc0_gather L tV (Memref.isWhole_whole _) sV (Memref.isWhole_whole _) iV (Memref.isWhole_whole _) aV (Memref.isWhole_whole _) bV (Memref.isWhole_whole _)
       jB (Memref.isWhole_whole _) cc0_scratch1 cc0_scoped0 cc0_scoped1) (fun _ => Fin' m d L O (W2 W) (Kept m d L R)) := by
  rw [cc0_gather_eq_skeleton]
  unfold cc0_gather_skel
  with_reducible refine step_part (F := F) d L ?_
  rw [k0_part49_eq_skeleton]
  unfold k0_part49_skel
  with_reducible refine step_part (F := F) d L ?_
  rw [k0_part1_eq_skeleton]
  unfold k0_part1_skel
  dsimp only
  refine step_fetch m d L hO ?_
  repeat (first
    | (with_reducible refine step_load (F := F) m d L ?_
       intro v hv)
    | (with_reducible refine step_assume (F := F) m d L ?_ ?_
       · first
          | exact ⟨tRow_inb _ (word_lt m d L hT (by assumption) (by decide) (by decide)), tRow_inb _ (word_lt m d L hT (by assumption) (by decide) (by decide))⟩
          | exact tRow_inb _ (word_lt m d L hT (by assumption) (by decide) (by decide)))
    | (with_reducible refine step_fire (F := F) m d L ?_ ?_ ?_ ?_
       · decide
       · exact src_of (F := F) m d L (word_of (F := F) m d L (by assumption) (by decide)) (by rfl) hT (by decide) _ _
       · first
          | exact dstA L ClosedOff.eq (by decide) _ _
          | exact dstB L (k' := 0) ClosedOff.eq (by rfl) (by decide) _ _
          | exact dstB L ClosedOff.eq (by rfl) (by decide) _ _
       conv_lhs => simp only [Nat.reduceAdd])
    | with_reducible refine (fly_wt (F := F) m d L).trans ?_
    | (with_reducible refine step_wait (F := F) m d L hO ?_ ?_ ?_
       · decide
       · rfl
       conv_lhs => simp only [Nat.reduceAdd])
    | (with_reducible refine step_waitLast (F := F) m d L hO ?_ ?_
       · rfl)
    | (with_reducible refine step_ret (F := F) d L ?_
       try dsimp only)
    | (with_reducible refine step_part (F := F) d L ?_
       first
         | (rw [k0_part2_eq_skeleton]; unfold k0_part2_skel; dsimp only)
         | (rw [k0_part3_eq_skeleton]; unfold k0_part3_skel; dsimp only)
         | (rw [k0_part4_eq_skeleton]; unfold k0_part4_skel; dsimp only)
         | (rw [k0_part5_eq_skeleton]; unfold k0_part5_skel; dsimp only)
         | (rw [k0_part6_eq_skeleton]; unfold k0_part6_skel; dsimp only)
         | (rw [k0_part7_eq_skeleton]; unfold k0_part7_skel; dsimp only)
         | (rw [k0_part8_eq_skeleton]; unfold k0_part8_skel; dsimp only)
         | (rw [k0_part9_eq_skeleton]; unfold k0_part9_skel; dsimp only)
         | (rw [k0_part10_eq_skeleton]; unfold k0_part10_skel; dsimp only)
         | (rw [k0_part11_eq_skeleton]; unfold k0_part11_skel; dsimp only)
         | (rw [k0_part12_eq_skeleton]; unfold k0_part12_skel; dsimp only)
         | (rw [k0_part13_eq_skeleton]; unfold k0_part13_skel; dsimp only)
         | (rw [k0_part14_eq_skeleton]; unfold k0_part14_skel; dsimp only)
         | (rw [k0_part15_eq_skeleton]; unfold k0_part15_skel; dsimp only)
         | (rw [k0_part16_eq_skeleton]; unfold k0_part16_skel; dsimp only)
         | (rw [k0_part17_eq_skeleton]; unfold k0_part17_skel; dsimp only)
         | (rw [k0_part18_eq_skeleton]; unfold k0_part18_skel; dsimp only)
         | (rw [k0_part19_eq_skeleton]; unfold k0_part19_skel; dsimp only)
         | (rw [k0_part20_eq_skeleton]; unfold k0_part20_skel; dsimp only)
         | (rw [k0_part21_eq_skeleton]; unfold k0_part21_skel; dsimp only)
         | (rw [k0_part22_eq_skeleton]; unfold k0_part22_skel; dsimp only)
         | (rw [k0_part23_eq_skeleton]; unfold k0_part23_skel; dsimp only)
         | (rw [k0_part24_eq_skeleton]; unfold k0_part24_skel; dsimp only)
         | (rw [k0_part25_eq_skeleton]; unfold k0_part25_skel; dsimp only)
         | (rw [k0_part26_eq_skeleton]; unfold k0_part26_skel; dsimp only)
         | (rw [k0_part27_eq_skeleton]; unfold k0_part27_skel; dsimp only)
         | (rw [k0_part28_eq_skeleton]; unfold k0_part28_skel; dsimp only)
         | (rw [k0_part29_eq_skeleton]; unfold k0_part29_skel; dsimp only)
         | (rw [k0_part30_eq_skeleton]; unfold k0_part30_skel; dsimp only)
         | (rw [k0_part31_eq_skeleton]; unfold k0_part31_skel; dsimp only)
         | (rw [k0_part32_eq_skeleton]; unfold k0_part32_skel; dsimp only)
         | (rw [k0_part33_eq_skeleton]; unfold k0_part33_skel; dsimp only)
         | (rw [k0_part34_eq_skeleton]; unfold k0_part34_skel; dsimp only)
         | (rw [k0_part35_eq_skeleton]; unfold k0_part35_skel; dsimp only)
         | (rw [k0_part36_eq_skeleton]; unfold k0_part36_skel; dsimp only)
         | (rw [k0_part37_eq_skeleton]; unfold k0_part37_skel; dsimp only)
         | (rw [k0_part38_eq_skeleton]; unfold k0_part38_skel; dsimp only)
         | (rw [k0_part39_eq_skeleton]; unfold k0_part39_skel; dsimp only)
         | (rw [k0_part40_eq_skeleton]; unfold k0_part40_skel; dsimp only)
         | (rw [k0_part41_eq_skeleton]; unfold k0_part41_skel; dsimp only)
         | (rw [k0_part42_eq_skeleton]; unfold k0_part42_skel; dsimp only)
         | (rw [k0_part43_eq_skeleton]; unfold k0_part43_skel; dsimp only)
         | (rw [k0_part44_eq_skeleton]; unfold k0_part44_skel; dsimp only)
         | (rw [k0_part45_eq_skeleton]; unfold k0_part45_skel; dsimp only)
         | (rw [k0_part46_eq_skeleton]; unfold k0_part46_skel; dsimp only)
         | (rw [k0_part47_eq_skeleton]; unfold k0_part47_skel; dsimp only)
         | (rw [k0_part48_eq_skeleton]; unfold k0_part48_skel; dsimp only)))
  exact Entails.of_eq rfl

end Cert.Proof.RunKI

end
-- ==== Proof.CallKI.lean ====
/-
  The SparseCore call as a whole: what a task is handed and gives back, and the task's obligation.
  A task holds a read share of the table and of both lists of row numbers, and its own destination rows.
-/
module

public import proofs.«01_k».proof.Proof.WalkKI

@[expose] public section

noncomputable section

namespace Cert.Proof.RunKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => MT nD τ sig (HIx 1) (Elt F) ℕ UU ℕ

variable (m : (ℓ : Loc nD τ sig) → Buf (Elt F) ℓ)

/-- A separating product is monotone, factor by factor. -/
theorem big_mono {I : Type} {s : Finset I} {Φ Ψ : I → sProp 𝕄} (h : ∀ i ∈ s, Φ i ⊢ Ψ i) : bigSep s Φ ⊢ bigSep s Ψ := bigSep_mono h

section Tile

variable (d : Dev nD) (L : grid0.Coords)

/-- A read share of the whole table. -/
abbrev tPts : sProp 𝕄 := tV.view.loc (me d L) ↦[Finset.univ]{qW L} m _

/-- What the task is handed. -/
def goT : sProp 𝕄 :=
  iprop(sPts m d L ∗ iPts m d L ∗ tPts m d L ∗ bigSep Finset.univ fun t : Fin 160 => oPts d L t.val (m _))
/-- What the task gives back: its destination rows rewritten. -/
def tdT : sProp 𝕄 :=
  iprop(sPts m d L ∗ iPts m d L ∗ tPts m d L ∗ bigSep Finset.univ fun t : Fin 160 => oPts d L t.val (oNew m d L t.val))

/-- Every row is a slice of the table. -/
theorem tRow_slice (w : BitVec 32) : ∃ (o : Fin 2 → ℕ) (hb : ∀ a, o a + S1x64.size a ≤ S100000x64.size a) (h1 : _),
    tRow w = tV.slice (Rect.unit (s := S100000x64) o S1x64.size hb) h1 := by
  unfold tRow; split
  · exact ⟨_, tRow_inb w ‹_›, fun _ => rfl, rfl⟩
  · exact ⟨_, tRow_inb 0#32 (by decide), fun _ => rfl, rfl⟩

/-- The part of a copy's read share outside its row. -/
def rRest (t : ℕ) : sProp 𝕄 :=
  (tRow (jAt m d L t)).view.loc (me d L) ↦[Finset.univ \ (tRow (jAt m d L t)).view.set]{qR L t} m _

/-- A read share of the table is a row's and the rest's. -/
theorem tok_row (t : ℕ) : (tV.view.loc (me d L) ↦[Finset.univ]{qR L t} m _ : sProp 𝕄) ⊣⊢ iprop(rPts m d L t ∗ rRest m d L t) := by
  have h : (tV.view.loc (me d L) ↦[Finset.univ]{qR L t} m _ : sProp 𝕄)
      = ((tRow (jAt m d L t)).view.loc (me d L) ↦[Finset.univ]{qR L t} m _) := by
    obtain ⟨o, hb, h1, e⟩ := tRow_slice (jAt m d L t)
    rw [e]
  rw [h]
  exact pointsTo_split_subset (Finset.subset_univ _)

/-- The table's share dealt to the copies, each its row, beside what is left over. -/
def tKeep : sProp 𝕄 :=
  iprop((tV.view.loc (me d L) ↦[Finset.univ]{shareDrop (qW L) 160} m _) ∗ bigSep Finset.univ fun t : Fin 160 => rRest m d L t.val)

/-- The share of the table splits into one share per row copy and a kept one. -/
theorem tPts_split : tPts m d L ⊢ iprop((bigSep Finset.univ fun t : Fin 160 => rPts m d L t.val) ∗ tKeep m d L) := by
  refine (pointsTo_toks_split (qW L) 160).trans ?_
  iintro ⟨Hd, Ht⟩
  ihave H := (big_mono (F := F) (s := Finset.univ) fun (t : Fin 160) _ => (tok_row m d L t.val).1) $$ Ht
  ihave H' := Entails.of_eq (bigSep_sep' Finset.univ (fun t : Fin 160 => rPts m d L t.val) (fun t : Fin 160 => rRest m d L t.val)) $$ H
  icases H' with ⟨H1, H2⟩
  unfold tKeep
  isplitl [H1]; · iexact H1
  isplitl [Hd]; · iexact Hd
  iexact H2

/-- The shares of the table join again. -/
theorem tPts_join : iprop((bigSep Finset.univ fun t : Fin 160 => rPts m d L t.val) ∗ tKeep m d L) ⊢ tPts m d L := by
  unfold tKeep
  refine BIBase.Entails.trans ?_ (pointsTo_toks_join (qW L) 160)
  iintro ⟨H1, Hd, H2⟩
  isplitl [Hd]; · iexact Hd
  ihave H := Entails.of_eq (bigSep_sep' Finset.univ (fun t : Fin 160 => rPts m d L t.val) (fun t : Fin 160 => rRest m d L t.val)).symm $$ [H1 H2]
  · isplitl [H1]; · iexact H1
    iexact H2
  iapply (big_mono (F := F) (s := Finset.univ) fun (t : Fin 160) _ => (tok_row m d L t.val).2)
  iexact H

abbrev cell0 : GSem nD τ sig := (me d L, .dma cc0_scoped0.sem)
abbrev cell1 : GSem nD τ sig := (me d L, .dma cc0_scoped1.sem)
abbrev cellR : GSem nD τ sig := (me d L, .dma cc0_scratch1.sem)

/-- The semaphores of the subcore other than the task's three. -/
def semRest : sProp 𝕄 :=
  bigSep ((((ownCells (me d L)).erase (cell0 d L)).erase (cell1 d L)).erase (cellR d L)) fun g => semVal g 0

/-- A task's counters: the three the body uses, and the rest. -/
theorem ownSems0_V :
    (ownSems0 (me d L) : sProp 𝕄) = iprop(semVal (cell0 d L) 0 ∗ semVal (cell1 d L) 0 ∗ semVal (cellR d L) 0 ∗ semRest d L) := by
  unfold SparseCore.Cfg.ownSems0 semRest
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cellR]; decide, Finset.mem_erase.mpr ⟨by simp [cell0, cellR]; decide,
      (mem_ownCells (g := cellR d L)).mpr ⟨rfl, by show (SemLoc.dma cc0_scratch1.sem : SemLoc sig).isScoped .scVector = true; decide⟩⟩⟩)]

/-- The buffers of the subcore other than the task's scratch. -/
def bufRest : sProp 𝕄 :=
  bigSep ((ownRefs (τ := τ) (.scVector (cV L) (jV L))).erase ((Proc.scVector (cV L) (jV L)).devRef cc0_scratch0))
    fun b => iprop(∃ f, ((d, b) : Loc nD τ sig) ↦{fullShare} f)

/-- A task's buffers: the list of row numbers, and the rest. -/
theorem ownBufs_V : (ownBufs (me d L) : sProp 𝕄) = iprop((∃ f, jPts d L f) ∗ bufRest d L) := by
  unfold SparseCore.Cfg.ownBufs bufRest
  exact SparseCore.bigSep_erase' (SparseCore.Cfg.mem_ownRefs_of_owner (p := Proc.scVector (cV L) (jV L))
    (b := (Proc.scVector (cV L) (jV L)).devRef cc0_scratch0) rfl)

/-- The task, from what it is handed to what it gives back. -/
theorem tile_body (hF : (K (F := F)).Facts) (hT : InTable m) (O : CellTallies nD τ sig (HIx 1)) (W : Waits sig (HIx 1)) (hO : ∀ g, O g none = 0) :
    iprop(levAts (K (F := F)).L (K (F := F)).lev ∗ emp ∗ goT m d L
        ∗ scopedBufs (me d L) ∗ scopedSems0 (me d L) ∗ owes (me d L) O W)
      ⊢ wp frame (wpE (defs₀ (F := F)) 𝒱₀ (me d L) none) Set.univ
          (cc0_gather L tV (Memref.isWhole_whole _) sV (Memref.isWhole_whole _) iV (Memref.isWhole_whole _)
            aV (Memref.isWhole_whole _) bV (Memref.isWhole_whole _) jB (Memref.isWhole_whole _) cc0_scratch1 cc0_scoped0 cc0_scoped1)
          fun _ => iprop(tdT m d L ∗ scopedBufs (me d L) ∗ scopedSems0 (me d L)
            ∗ ∃ W', ⌜∀ p ∈ W', p ∈ W ∨ p.2 = none⌝ ∗ owes (me d L) O W') := by
  rw [(K (F := F)).scopedBufs_V hF d (cV L) (jV L), SparseCore.Cfg.scopedSems0_V (Val := Elt F) d (cV L) (jV L), ownSems0_V, ownBufs_V]
  refine BIBase.Entails.trans ?_ ((tile_run (O := O) (W := W) (R := iprop(tKeep m d L ∗ semRest d L ∗ bufRest d L)) m d L hO hT).trans (wp_mono frame _ _ fun _ => ?_))
  · unfold goT Start
    iintro ⟨#Hl, -, ⟨Hs, Hi, Ht, Ho⟩, ⟨Hj, Hb⟩, ⟨H0, H1, H2, Hr⟩, Hw⟩
    ihave Ht' := (tPts_split m d L) $$ Ht
    icases Ht' with ⟨Htr, Htk⟩
    isplitl [Hj]; · iexact Hj
    isplitl [H0]; · iexact H0
    isplitl [H1]; · iexact H1
    isplitl [H2]; · iexact H2
    isplitl [Hs]; · iexact Hs
    isplitl [Hi]; · iexact Hi
    isplitl [Htr Ho]
    · unfold Rs
      iapply Entails.of_eq (bigSep_sep' Finset.univ (fun t : Fin 160 => rPts m d L t.val) (fun t : Fin 160 => oPts d L t.val (m _))).symm
      isplitl [Htr]; · iexact Htr
      iexact Ho
    isplitl []; · iexact Hl
    isplitl [Hw]; · iexact Hw
    isplitl [Htk]; · iexact Htk
    isplitl [Hr]; · iexact Hr
    iexact Hb
  · unfold Fin' Kept tdT Dl
    iintro ⟨HD, H2, Hj, ⟨%W', %hW', HW⟩, H0, H1, Hs, Hi, Htk, Hr, Hb⟩
    ihave HD' := Entails.of_eq (bigSep_sep' Finset.univ (fun t : Fin 160 => oPts d L t.val (oNew m d L t.val)) (fun t : Fin 160 => rPts m d L t.val)) $$ HD
    icases HD' with ⟨Ho, Htr⟩
    isplitl [Hs Hi Htk Ho Htr]
    · isplitl [Hs]; · iexact Hs
      isplitl [Hi]; · iexact Hi
      isplitl [Htr Htk]
      · iapply (tPts_join m d L)
        isplitl [Htr]; · iexact Htr
        iexact Htk
      iexact Ho
    isplitl [Hj Hb]
    · isplitl [Hj]; · iexists _; iexact Hj
      iexact Hb
    isplitl [H0 H1 H2 Hr]
    · isplitl [H0]; · iexact H0
      isplitl [H1]; · iexact H1
      isplitl [H2]; · iexact H2
      iexact Hr
    iexists W'
    isplitl []
    · ipureintro
      intro p hp
      rcases hW' p hp with h | h
      · rcases Finset.mem_insert.mp h with h | h
        · exact .inr (by rw [h])
        · rcases Finset.mem_insert.mp h with h | h
          · exact .inr (by rw [h])
          · exact .inl h
      · exact .inr h
    iexact HW

end Tile

/-- A task's coordinates, from its core and its subcore. -/
def coordsV (c : Fin (grid0.bound 0)) (s : Fin (grid0.bound 1)) : grid0.Coords :=
  fun | 0 => c | 1 => s | ⟨_ + 2, h⟩ => absurd h (Nat.not_lt.2 (Nat.le_add_left _ _))

/-- The number of cores of the call. -/
theorem nCore_zero : (K (F := F)).nCore 0 = grid0.bound 0 := rfl
/-- The number of tasks on a core. -/
theorem nSub_zero : (K (F := F)).nSub 0 = grid0.bound 1 := rfl
/-- The number of cores of any call: there is one call. -/
theorem nCore_eq (q : Fin 1) : (K (F := F)).nCore q = grid0.bound 0 := match q with | 0 => nCore_zero
/-- The number of tasks on a core of any call. -/
theorem nSub_eq (q : Fin 1) : (K (F := F)).nSub q = grid0.bound 1 := match q with | 0 => nSub_zero
/-- The coordinates of the task on core `c`, subcore `i` of a call. -/
abbrev cL (q : Fin 1) (c : Fin ((K (F := F)).nCore q)) (i : Fin ((K (F := F)).nSub q)) : grid0.Coords :=
  coordsV (Fin.cast (nCore_eq q) c) (Fin.cast (nSub_eq q) i)

/-- What the call's handshakes carry: a core's share is its subcores' shares. -/
def P : (K (F := F)).Pay (nD := nD) (Val := Elt F) (Name := ℕ) (U := UU) where
  st := fun q d c => bigSep Finset.univ fun i => goT m d (cL (F := F) q c i)
  dn := fun q d c => bigSep Finset.univ fun i => tdT m d (cL (F := F) q c i)
  go := fun q d c i => goT m d (cL (F := F) q c i)
  td := fun q d c i => tdT m d (cL (F := F) q c i)
  x := fun _ _ => iprop(emp)

instance goT_storable (d : Dev nD) (L : grid0.Coords) : BI.Storable (upEmb : UEmb _ 𝕄) (goT m d L) := by unfold goT; infer_instance
instance tdT_storable (d : Dev nD) (L : grid0.Coords) : BI.Storable (upEmb : UEmb _ 𝕄) (tdT m d L) := by unfold tdT; infer_instance

instance P_storable : (P (F := F) m).IsStorable where
  st q d c := (inferInstance : BI.Storable (upEmb : UEmb _ 𝕄) (bigSep Finset.univ fun i => goT m d (cL (F := F) q c i)))
  dn q d c := (inferInstance : BI.Storable (upEmb : UEmb _ 𝕄) (bigSep Finset.univ fun i => tdT m d (cL (F := F) q c i)))
  go q d c i := goT_storable m d _
  td q d c i := tdT_storable m d _

/-- What a task's thread runs. -/
theorem defs₀_vector (c : Fin τ.nSC) (s : Fin τ.nSub) :
    (defs₀ (F := F) (.scVector c s) 0 ())
      = SparseCore.onTile hcore0 hsub0 (fun c s => cc0_gather (coordsV c s) tV (Memref.isWhole_whole _) sV (Memref.isWhole_whole _) iV (Memref.isWhole_whole _)
            aV (Memref.isWhole_whole _) bV (Memref.isWhole_whole _) jB (Memref.isWhole_whole _) cc0_scratch1 cc0_scoped0 cc0_scoped1) ⟨⟩ c s := rfl

/-- Waits recorded by the body count as the call's own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ p.2 = some q⌝ ∗ owes thr O W') : sProp 𝕄) := by
  iintro ⟨HA, HB, HC, %W', %h, HW⟩
  isplitl [HA]; · iexact HA
  isplitl [HB]; · iexact HB
  isplitl [HC]; · iexact HC
  iexists W'
  isplitl []; · ipureintro; exact fun p hp => (h p hp).elim .inl fun h => .inr (.inl h)
  iexact HW

set_option maxRecDepth 65536 in
/-- Every task does its part of the call. -/
theorem tileObl (hF : (K (F := F)).Facts) (hT : InTable m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hT O W hO).trans (wp_mono frame _ _ fun _ => obl_post)

/-- A core hands its subcores what it was handed, and gives back what they give back. -/
theorem vecSplit : (K (F := F)).VecSplit' (P m) 0 := by
  intro d c
  show (bigSep Finset.univ fun i => goT m d (cL (F := F) 0 c i)) ⊢ |={Set.univ}=> iprop((bigSep Finset.univ fun i => goT m d (cL (F := F) 0 c i))
    ∗ ((bigSep Finset.univ fun i => tdT m d (cL (F := F) 0 c i)) -∗ (bigSep Finset.univ fun i => tdT m d (cL (F := F) 0 c i))))
  iintro H; imodintro
  isplitl [H]; · iexact H
  iintro H; iexact H

end Cert.Proof.RunKI

end
-- ==== Proof.DealKI.lean ====
/-
  Dealing the five buffers of the SparseCore call to its tasks, and joining what they give back:
  the two outputs hold the gathered rows of the table.
-/
module

public import proofs.«01_k».proof.Proof.CallKI

@[expose] public section

noncomputable section

namespace Cert.Proof.RunKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F] [Named F]

local notation "𝕄" => MT nD τ sig (HIx 1) (Elt F) ℕ UU ℕ

variable (m : (ℓ : Loc nD τ sig) → Buf (Elt F) ℓ) (d : Dev nD)

/-! ## The rows a task writes -/

/-- The destination row of a task among the sampled rows. -/
abbrev aSl (L : grid0.Coords) (t : ℕ) (h : t < 32) : Memref sig .scVector .hbm S1x64 .f32 :=
  aV.slice (Rect.unit (s := S1024x64) ![64 * (L 1).val + 32 * (L 0).val + t, 0] S1x64.size (aRow_inb L t h)) (fun _ => rfl)
/-- The destination row of a task among the true rows. -/
abbrev bSl (L : grid0.Coords) (t : ℕ) (h : t < 128) : Memref sig .scVector .hbm S1x64 .f32 :=
  bV.slice (Rect.unit (s := S4096x64) ![256 * (L 1).val + 128 * (L 0).val + t, 0] S1x64.size (bRow_inb L t h)) (fun _ => rfl)

omit [FloatOps F] [Named F] in
/-- Of the first 32 row copies, the target is a row of the sampled rows. -/
theorem oRow_a (L : grid0.Coords) (t : ℕ) (h : t < 32) : oRow L t = aSl L t h := by unfold oRow; rw [dif_pos h]
omit [FloatOps F] [Named F] in
/-- Of the other 128, the target is a row of the true rows. -/
theorem oRow_b (L : grid0.Coords) (t : ℕ) (h : t < 128) : oRow L (32 + t) = bSl L t h := by
  unfold oRow; rw [dif_neg (by omega), dif_pos (by omega)]
  exact slice_congr _ (by rw [Nat.add_sub_cancel_left]) _ _ _ _

/-- The elements of a row of the sampled rows. -/
def aSet (n : ℕ) : Finset S1024x64.Idx := Finset.univ.filter fun x => (x 0).val = n
/-- The elements of a row of the true rows. -/
def bSet (n : ℕ) : Finset S4096x64.Idx := Finset.univ.filter fun x => (x 0).val = n

/-- The elements of a target row among the sampled rows. -/
theorem aSl_set (L : grid0.Coords) (t : ℕ) (h : t < 32) : (aSl L t h).view.set = aSet (64 * (L 1).val + 32 * (L 0).val + t) := by
  ext x
  rw [aSet, Finset.mem_filter]
  constructor
  · intro hx
    obtain ⟨y, -, hy⟩ := Finset.mem_map.mp hx
    refine ⟨Finset.mem_univ _, ?_⟩
    rw [← hy]
    have h0 : (y 0).val < 1 := (y 0).isLt
    show 64 * (L 1).val + 32 * (L 0).val + t + 1 * (y 0).val = _
    omega
  · rintro ⟨-, hx⟩
    have : (aSl L t h).view.emb (fun a => match a with | ⟨0, _⟩ => (⟨0, Nat.one_pos⟩ : Fin 1) | ⟨1, _⟩ => x 1) = x := by
      funext a
      match a with
      | ⟨0, _⟩ => exact Fin.ext (by show 64 * (L 1).val + 32 * (L 0).val + t + 1 * 0 = (x 0).val; omega)
      | ⟨1, _⟩ => exact Fin.ext (by show 0 + 1 * (x 1).val = (x 1).val; omega)
    rw [← this]; exact View.emb_mem_set _ _

/-- The elements of a target row among the true rows. -/
theorem bSl_set (L : grid0.Coords) (t : ℕ) (h : t < 128) : (bSl L t h).view.set = bSet (256 * (L 1).val + 128 * (L 0).val + t) := by
  ext x
  rw [bSet, Finset.mem_filter]
  constructor
  · intro hx
    obtain ⟨y, -, hy⟩ := Finset.mem_map.mp hx
    refine ⟨Finset.mem_univ _, ?_⟩
    rw [← hy]
    have h0 : (y 0).val < 1 := (y 0).isLt
    show 256 * (L 1).val + 128 * (L 0).val + t + 1 * (y 0).val = _
    omega
  · rintro ⟨-, hx⟩
    have : (bSl L t h).view.emb (fun a => match a with | ⟨0, _⟩ => (⟨0, Nat.one_pos⟩ : Fin 1) | ⟨1, _⟩ => x 1) = x := by
      funext a
      match a with
      | ⟨0, _⟩ => exact Fin.ext (by show 256 * (L 1).val + 128 * (L 0).val + t + 1 * 0 = (x 0).val; omega)
      | ⟨1, _⟩ => exact Fin.ext (by show 0 + 1 * (x 1).val = (x 1).val; omega)
    rw [← this]; exact View.emb_mem_set _ _

/-! ## What the call leaves in the two outputs -/

/-- The table's row at a word, read at a column. -/
def tAt (w : BitVec 32) (k : Fin 64) : Elt F .f32 :=
  (m (tLoc d) : S100000x64.Idx → Elt F .f32) (fun a => match a with | ⟨0, _⟩ => (⟨w.toNat % 100000, Nat.mod_lt _ (by decide)⟩ : Fin 100000) | ⟨1, _⟩ => k)
/-- The sampled rows. -/
def gA : Buf (Elt F) (aLoc d) := fun (x : S1024x64.Idx) => tAt m d (sAt m d (x 0).val) (x 1)
/-- The true rows. -/
def gB : Buf (Elt F) (bLoc d) := fun (x : S4096x64.Idx) => tAt m d (iAt m d (x 0).val) (x 1)

/-- A row of the table read at an element. -/
theorem tRow_read (w : BitVec 32) (h : w.toNat < 100000) (L : grid0.Coords) (y : S1x64.Idx) :
    (tRow w).view.read (Elt F) (m ((tRow w).view.loc (me d L))) y = tAt m d w (y 1) := by
  unfold tRow; rw [dif_pos h]
  refine congrArg (m (tLoc d) : S100000x64.Idx → Elt F .f32) ?_
  have h0 : (y 0).val < 1 := (y 0).isLt
  funext a
  match a with
  | ⟨0, _⟩ => exact Fin.ext (by show w.toNat + 1 * (y 0).val = w.toNat % 100000; rw [Nat.mod_eq_of_lt h]; omega)
  | ⟨1, _⟩ => exact Fin.ext (by show 0 + 1 * (y 1).val = (y 1).val; omega)

variable (L : grid0.Coords)

/-- A task's sampled row before the call. -/
theorem old_a (t : ℕ) (h : t < 32) :
    (oPts d L t (m _) : sProp 𝕄) = aLoc d ↦[aSet (64 * (L 1).val + 32 * (L 0).val + t)]{fullShare} m (aLoc d) := by
  unfold oPts; rw [oRow_a L t h, aSl_set]
/-- A task's true row before the call. -/
theorem old_b (t : ℕ) (h : t < 128) :
    (oPts d L (32 + t) (m _) : sProp 𝕄) = bLoc d ↦[bSet (256 * (L 1).val + 128 * (L 0).val + t)]{fullShare} m (bLoc d) := by
  unfold oPts; rw [oRow_b L t h, bSl_set]

/-- A task's sampled row after the call. -/
theorem new_a (hT : InTable m) (t : ℕ) (h : t < 32) :
    (oPts d L t (oNew m d L t) : sProp 𝕄) = aLoc d ↦[aSet (64 * (L 1).val + 32 * (L 0).val + t)]{fullShare} gA m d := by
  have hw := jAt_lt m d L hT t (by omega)
  have hj : jAt m d L t = sAt m d (64 * (L 1).val + 32 * (L 0).val + t) := by
    unfold jAt wk; rw [if_pos h]; congr 1; omega
  unfold oPts oNew
  rw [oRow_a L t h]
  rw [← aSl_set L t h]
  refine pointsTo_congr fun x hx => ?_
  have hx' := hx
  rw [aSl_set, aSet, Finset.mem_filter] at hx'
  obtain ⟨y, -, hy⟩ := Finset.mem_map.mp hx
  have hy' : (aSl L t h).view.emb y = x := hy
  have h1 : y 1 = x 1 := by
    rw [← hy']; exact Fin.ext (by show (y 1).val = 0 + 1 * (y 1).val; omega)
  rw [← hy']
  refine (View.write_emb_of_mem _ _ (Finset.mem_univ y)).trans ?_
  refine (tRow_read m d _ hw L y).trans ?_
  rw [hy']
  unfold gA
  rw [hj, hx'.2, h1]

/-- A task's true row after the call. -/
theorem new_b (hT : InTable m) (t : ℕ) (h : t < 128) :
    (oPts d L (32 + t) (oNew m d L (32 + t)) : sProp 𝕄) = bLoc d ↦[bSet (256 * (L 1).val + 128 * (L 0).val + t)]{fullShare} gB m d := by
  have hw := jAt_lt m d L hT (32 + t) (by omega)
  have hj : jAt m d L (32 + t) = iAt m d (256 * (L 1).val + 128 * (L 0).val + t) := by
    unfold jAt wk; rw [if_neg (by omega)]; congr 1; omega
  unfold oPts oNew
  rw [oRow_b L t h]
  rw [← bSl_set L t h]
  refine pointsTo_congr fun x hx => ?_
  have hx' := hx
  rw [bSl_set, bSet, Finset.mem_filter] at hx'
  obtain ⟨y, -, hy⟩ := Finset.mem_map.mp hx
  have hy' : (bSl L t h).view.emb y = x := hy
  have h1 : y 1 = x 1 := by
    rw [← hy']; exact Fin.ext (by show (y 1).val = 0 + 1 * (y 1).val; omega)
  rw [← hy']
  refine (View.write_emb_of_mem _ _ (Finset.mem_univ y)).trans ?_
  refine (tRow_read m d _ hw L y).trans ?_
  rw [hy']
  unfold gB
  rw [hj, hx'.2, h1]

/-! ## Dealing the buffers to the tasks -/

/-- The grid coordinates of a task. -/
abbrev co (p : Fin 2 × Fin 16) : grid0.Coords := coordsV p.1 p.2

/-- The tasks, numbered. -/
def tk : Fin 2 × Fin 16 ≃ Fin 32 := (Equiv.prodComm _ _).trans finProdFinEquiv

/-- The number of the task at a pair of coordinates. -/
theorem tk_val (p : Fin 2 × Fin 16) : (tk p).val = wk (co p) := by
  show p.1.val + 2 * p.2.val = 2 * p.2.val + p.1.val
  omega

omit [FloatOps F] [Named F] in
/-- A buffer held whole, dealt as a read share to every task. -/
theorem toks (ℓ : Loc nD τ sig) (f : Buf (Elt F) ℓ) :
    (iprop((ℓ ↦[Finset.univ]{shareDrop fullShare 32} f) ∗ bigSep Finset.univ fun p : Fin 2 × Fin 16 => ℓ ↦[Finset.univ]{qW (co p)} f) : sProp 𝕄)
      = ℓ ↦[Finset.univ]{fullShare} f := by
  have e : (bigSep Finset.univ fun p : Fin 2 × Fin 16 => (ℓ ↦[Finset.univ]{qW (co p)} f : sProp 𝕄))
      = bigSep Finset.univ fun i : Fin 32 => ℓ ↦[Finset.univ]{shareTok fullShare 32 i} f := by
    rw [bigSep_univ_equiv tk]
    refine bigSep_congr fun p _ => ?_
    unfold shareTok qW; rw [tk_val]
  rw [e]
  exact equiv_iff.mp ⟨pointsTo_toks_join _ _, pointsTo_toks_split _ _⟩

set_option maxRecDepth 65536 in
omit [FloatOps F] [Named F] in
/-- The sampled rows held whole, dealt by rows. -/
theorem rowsA (f : Buf (Elt F) (aLoc d)) :
    (bigSep Finset.univ fun p : Fin 2 × Fin 16 => bigSep Finset.univ fun t : Fin 32 =>
        (aLoc d ↦[aSet (64 * (co p 1).val + 32 * (co p 0).val + t.val)]{fullShare} f : sProp 𝕄))
      = aLoc d ↦[Finset.univ]{fullShare} f := by
  rw [← bigSep_univ_prod (fun z : (Fin 2 × Fin 16) × Fin 32 => (aLoc d ↦[aSet (64 * (co z.1 1).val + 32 * (co z.1 0).val + z.2.val)]{fullShare} f : sProp 𝕄))]
  refine (pointsTo_biUnion (ℓ := aLoc d) (q := fullShare) (f := f) Finset.univ (fun z : (Fin 2 × Fin 16) × Fin 32 => (aSet (64 * (co z.1 1).val + 32 * (co z.1 0).val + z.2.val) : Finset (Idx (aLoc d)))) ?_).symm.trans ?_
  rotate_left
  · refine congrArg (fun S => (aLoc d ↦[S]{fullShare} f : sProp 𝕄)) (Finset.eq_univ_iff_forall.mpr fun x => ?_)
    have hx : ((x : S1024x64.Idx) 0).val < 1024 := ((x : S1024x64.Idx) 0).isLt
    have hz : (x : S1024x64.Idx) ∈ aSet (64 * (((x : S1024x64.Idx) 0).val / 64) + 32 * (((x : S1024x64.Idx) 0).val / 32 % 2) + ((x : S1024x64.Idx) 0).val % 32) :=
      Finset.mem_filter.mpr ⟨Finset.mem_univ _, by omega⟩
    generalize hr : ((x : S1024x64.Idx) 0).val = r at hx hz
    refine Finset.mem_biUnion.mpr ⟨((⟨r / 32 % 2, by omega⟩, ⟨r / 64, by omega⟩), ⟨r % 32, by omega⟩), Finset.mem_univ _, ?_⟩
    exact hz
  · rintro ⟨⟨c, i⟩, t⟩ - ⟨⟨c', i'⟩, t'⟩ - hne
    refine Finset.disjoint_left.mpr fun x hx hx' => hne ?_
    have h1 : ((x : S1024x64.Idx) 0).val = 64 * i.val + 32 * c.val + t.val := (Finset.mem_filter.mp hx).2
    have h2 : ((x : S1024x64.Idx) 0).val = 64 * i'.val + 32 * c'.val + t'.val := (Finset.mem_filter.mp hx').2
    have := c.isLt; have := c'.isLt; have := t.isLt; have := t'.isLt
    have e1 : i = i' := Fin.ext (by omega)
    have e2 : c = c' := Fin.ext (by omega)
    have e3 : t = t' := Fin.ext (by omega)
    subst e1 e2 e3; rfl

set_option maxRecDepth 65536 in
omit [FloatOps F] [Named F] in
/-- The true rows held whole, dealt by rows. -/
theorem rowsB (f : Buf (Elt F) (bLoc d)) :
    (bigSep Finset.univ fun p : Fin 2 × Fin 16 => bigSep Finset.univ fun t : Fin 128 =>
        (bLoc d ↦[bSet (256 * (co p 1).val + 128 * (co p 0).val + t.val)]{fullShare} f : sProp 𝕄))
      = bLoc d ↦[Finset.univ]{fullShare} f := by
  rw [← bigSep_univ_prod (fun z : (Fin 2 × Fin 16) × Fin 128 => (bLoc d ↦[bSet (256 * (co z.1 1).val + 128 * (co z.1 0).val + z.2.val)]{fullShare} f : sProp 𝕄))]
  refine (pointsTo_biUnion (ℓ := bLoc d) (q := fullShare) (f := f) Finset.univ (fun z : (Fin 2 × Fin 16) × Fin 128 => (bSet (256 * (co z.1 1).val + 128 * (co z.1 0).val + z.2.val) : Finset (Idx (bLoc d)))) ?_).symm.trans ?_
  rotate_left
  · refine congrArg (fun S => (bLoc d ↦[S]{fullShare} f : sProp 𝕄)) (Finset.eq_univ_iff_forall.mpr fun x => ?_)
    have hx : ((x : S4096x64.Idx) 0).val < 4096 := ((x : S4096x64.Idx) 0).isLt
    have hz : (x : S4096x64.Idx) ∈ bSet (256 * (((x : S4096x64.Idx) 0).val / 256) + 128 * (((x : S4096x64.Idx) 0).val / 128 % 2) + ((x : S4096x64.Idx) 0).val % 128) :=
      Finset.mem_filter.mpr ⟨Finset.mem_univ _, by omega⟩
    generalize hr : ((x : S4096x64.Idx) 0).val = r at hx hz
    refine Finset.mem_biUnion.mpr ⟨((⟨r / 128 % 2, by omega⟩, ⟨r / 256, by omega⟩), ⟨r % 128, by omega⟩), Finset.mem_univ _, ?_⟩
    exact hz
  · rintro ⟨⟨c, i⟩, t⟩ - ⟨⟨c', i'⟩, t'⟩ - hne
    refine Finset.disjoint_left.mpr fun x hx hx' => hne ?_
    have h1 : ((x : S4096x64.Idx) 0).val = 256 * i.val + 128 * c.val + t.val := (Finset.mem_filter.mp hx).2
    have h2 : ((x : S4096x64.Idx) 0).val = 256 * i'.val + 128 * c'.val + t'.val := (Finset.mem_filter.mp hx').2
    have := c.isLt; have := c'.isLt; have := t.isLt; have := t'.isLt
    have e1 : i = i' := Fin.ext (by omega)
    have e2 : c = c' := Fin.ext (by omega)
    have e3 : t = t' := Fin.ext (by omega)
    subst e1 e2 e3; rfl

omit [FloatOps F] [Named F] in
/-- A task's hundred and sixty rows are thirty-two sampled rows and a hundred and twenty-eight true rows. -/
theorem split160 (Φ : ℕ → sProp 𝕄) :
    (bigSep Finset.univ fun t : Fin 160 => Φ t.val)
      = iprop((bigSep Finset.univ fun t : Fin 32 => Φ t.val) ∗ bigSep Finset.univ fun t : Fin 128 => Φ (32 + t.val)) := by
  rw [bigSep_univ_equiv (finSumFinEquiv (m := 32) (n := 128)), bigSep_univ_sum]
  rfl

/-- The whole of the five buffers, the shares of the three read ones left over. -/
def Left : sProp 𝕄 :=
  iprop((sLoc d ↦[Finset.univ]{shareDrop fullShare 32} m (sLoc d)) ∗ (iLoc d ↦[Finset.univ]{shareDrop fullShare 32} m (iLoc d))
    ∗ (tLoc d ↦[Finset.univ]{shareDrop fullShare 32} m (tLoc d)))

omit [FloatOps F] [Named F] in
/-- A separating conjunction over equal bounds. -/
theorem bigSep_fin {n n' : ℕ} (h : n = n') (Φ : Fin n → sProp 𝕄) :
    bigSep Finset.univ Φ = bigSep Finset.univ fun c : Fin n' => Φ (Fin.cast h.symm c) := by subst h; rfl

/-- What one core's start signal carries. -/
theorem st_core (c : Fin ((K (F := F)).nCore 0)) :
    (P m).st 0 d c = bigSep Finset.univ fun i : Fin ((K (F := F)).nSub 0) => goT m d (cL (F := F) 0 c i) := by unfold P; rfl
/-- What a core's tasks are given, over sixteen tasks. -/
theorem st_core' (c : Fin 2) :
    (P m).st 0 d (Fin.cast (nCore_zero (F := F)).symm c) = bigSep Finset.univ fun i : Fin 16 => goT m d (co (c, i)) := by
  refine (st_core m d _).trans ((bigSep_fin (n' := 16) (nSub_zero (F := F)) _).trans (bigSep_congr fun i _ => ?_))
  exact congrArg (goT m d) rfl
/-- What the call's start signals carry. -/
theorem st_eq : (bigSep Finset.univ fun c : Fin ((K (F := F)).nCore 0) => (P m).st 0 d c) = bigSep Finset.univ fun p : Fin 2 × Fin 16 => goT m d (co p) := by
  refine (bigSep_fin (n' := 2) (nCore_zero (F := F)) _).trans (Eq.trans (bigSep_congr fun c _ => st_core' m d c) (bigSep_univ_prod (fun p : Fin 2 × Fin 16 => goT m d (co p))).symm)

/-- What one core's done signal carries. -/
theorem dn_core (c : Fin ((K (F := F)).nCore 0)) :
    (P m).dn 0 d c = bigSep Finset.univ fun i : Fin ((K (F := F)).nSub 0) => tdT m d (cL (F := F) 0 c i) := by unfold P; rfl
/-- What a core's tasks give back, over sixteen tasks. -/
theorem dn_core' (c : Fin 2) :
    (P m).dn 0 d (Fin.cast (nCore_zero (F := F)).symm c) = bigSep Finset.univ fun i : Fin 16 => tdT m d (co (c, i)) := by
  refine (dn_core m d _).trans ((bigSep_fin (n' := 16) (nSub_zero (F := F)) _).trans (bigSep_congr fun i _ => ?_))
  exact congrArg (tdT m d) rfl
/-- What the call's done signals carry. -/
theorem dn_eq : (bigSep Finset.univ fun c : Fin ((K (F := F)).nCore 0) => (P m).dn 0 d c) = bigSep Finset.univ fun p : Fin 2 × Fin 16 => tdT m d (co p) := by
  refine (bigSep_fin (n' := 2) (nCore_zero (F := F)) _).trans (Eq.trans (bigSep_congr fun c _ => dn_core' m d c) (bigSep_univ_prod (fun p : Fin 2 × Fin 16 => tdT m d (co p))).symm)

/-- Before the call: the five buffers are what the tasks are handed, and what is left over. -/
theorem deal :
    (iprop((sLoc d ↦[Finset.univ]{fullShare} m (sLoc d)) ∗ (iLoc d ↦[Finset.univ]{fullShare} m (iLoc d)) ∗ (tLoc d ↦[Finset.univ]{fullShare} m (tLoc d))
        ∗ (aLoc d ↦[Finset.univ]{fullShare} m (aLoc d)) ∗ (bLoc d ↦[Finset.univ]{fullShare} m (bLoc d))) : sProp 𝕄)
      ⊢ iprop(Left m d ∗ bigSep Finset.univ fun c : Fin ((K (F := F)).nCore 0) => (P m).st 0 d c) := by
  rw [st_eq]
  have e : (bigSep Finset.univ fun p : Fin 2 × Fin 16 => goT m d (co p))
      = iprop((bigSep Finset.univ fun p : Fin 2 × Fin 16 => sLoc d ↦[Finset.univ]{qW (co p)} m (sLoc d))
        ∗ (bigSep Finset.univ fun p : Fin 2 × Fin 16 => iLoc d ↦[Finset.univ]{qW (co p)} m (iLoc d))
        ∗ (bigSep Finset.univ fun p : Fin 2 × Fin 16 => tLoc d ↦[Finset.univ]{qW (co p)} m (tLoc d))
        ∗ (aLoc d ↦[Finset.univ]{fullShare} m (aLoc d)) ∗ (bLoc d ↦[Finset.univ]{fullShare} m (bLoc d))) := by
    rw [← rowsA, ← rowsB, ← bigSep_sep', ← bigSep_sep', ← bigSep_sep', ← bigSep_sep']
    refine bigSep_congr fun p _ => ?_
    unfold goT
    rw [split160 (fun t => oPts d (co p) t (m _))]
    rw [bigSep_congr (fun (t : Fin 32) _ => old_a m d (co p) t.val t.isLt), bigSep_congr (fun (t : Fin 128) _ => old_b m d (co p) t.val t.isLt)]
  rw [e, ← toks (sLoc d), ← toks (iLoc d), ← toks (tLoc d)]
  unfold Left
  iintro ⟨⟨A, A'⟩, ⟨B, B'⟩, ⟨C, C'⟩, X, Y⟩
  isplitl [A B C]
  · isplitl [A]; · iexact A
    isplitl [B]; · iexact B
    iexact C
  isplitl [A']; · iexact A'
  isplitl [B']; · iexact B'
  isplitl [C']; · iexact C'
  isplitl [X]; · iexact X
  iexact Y

/-- After the call: what was left over and what the tasks give back are the five buffers, the outputs gathered. -/
theorem undeal (hT : InTable m) :
    iprop(Left m d ∗ bigSep Finset.univ fun c : Fin ((K (F := F)).nCore 0) => (P m).dn 0 d c)
      ⊢ (iprop((sLoc d ↦[Finset.univ]{fullShare} m (sLoc d)) ∗ (iLoc d ↦[Finset.univ]{fullShare} m (iLoc d)) ∗ (tLoc d ↦[Finset.univ]{fullShare} m (tLoc d))
        ∗ (aLoc d ↦[Finset.univ]{fullShare} gA m d) ∗ (bLoc d ↦[Finset.univ]{fullShare} gB m d)) : sProp 𝕄) := by
  rw [dn_eq]
  have e : (bigSep Finset.univ fun p : Fin 2 × Fin 16 => tdT m d (co p))
      = iprop((bigSep Finset.univ fun p : Fin 2 × Fin 16 => sLoc d ↦[Finset.univ]{qW (co p)} m (sLoc d))
        ∗ (bigSep Finset.univ fun p : Fin 2 × Fin 16 => iLoc d ↦[Finset.univ]{qW (co p)} m (iLoc d))
        ∗ (bigSep Finset.univ fun p : Fin 2 × Fin 16 => tLoc d ↦[Finset.univ]{qW (co p)} m (tLoc d))
        ∗ (aLoc d ↦[Finset.univ]{fullShare} gA m d) ∗ (bLoc d ↦[Finset.univ]{fullShare} gB m d)) := by
    rw [← rowsA, ← rowsB, ← bigSep_sep', ← bigSep_sep', ← bigSep_sep', ← bigSep_sep']
    refine bigSep_congr fun p _ => ?_
    unfold tdT
    rw [split160 (fun t => oPts d (co p) t (oNew m d (co p) t))]
    rw [bigSep_congr (fun (t : Fin 32) _ => new_a m d (co p) hT t.val t.isLt), bigSep_congr (fun (t : Fin 128) _ => new_b m d (co p) hT t.val t.isLt)]
  rw [e, ← toks (sLoc d), ← toks (iLoc d), ← toks (tLoc d)]
  unfold Left
  iintro ⟨⟨A, B, C⟩, A', B', C', X, Y⟩
  isplitl [A A']
  · isplitl [A]; · iexact A
    iexact A'
  isplitl [B B']
  · isplitl [B]; · iexact B
    iexact B'
  isplitl [C C']
  · isplitl [C]; · iexact C
    iexact C'
  isplitl [X]; · iexact X
  iexact Y

end Cert.Proof.RunKI

end
-- ==== Proof.RegionKI.lean ====
/-
  The TensorCore kernel: its body, and its pipeline entered at any contents of the arrays.
-/
module

public import proofs.«01_k».proof.Proof.TileKI
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.VecWindow
public import Idealize.ShloMosaic.Lib.Tactic

@[expose] public section

noncomputable section

namespace Cert.Proof.RunKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TcCoe
open Idealize.ShloMosaic.Pipeline (Dat BodyObligation cellOf)

variable {F : FTy → Type} [FloatOps F] [Named F]

local notation "𝕄" => MT nD τ sig (HIx 1) (Elt F) ℕ UU ℕ

/-! ## The body -/

/-- What the body computes from the blocks it reads. -/
def lossV (u t s : Vec F S1024x64 .f32) (i : Vec F S1024x1 .i32) (sid : Vec F S1x1024 .i32) (lq : Vec F S1x1024 .f32) : FVec F S1024x1 .f32 :=
  k1_pay1 (k1_pay2 u s i sid lq) (k1_pay3 i) (k1_pay4 u t) k1_pay5

section Body
variable {c : Dev nD} {α : Type} {Q : α → sProp (MT nD τ sig (HIx 1) (Elt F) ℕ UU ℕ)} {E : Set ℕ}

local notation "wpC" => wp (M := 𝕄) frame (wpE (defs₀ (F := F)) 𝒱₀ (c : Thread nD τ) none) E

/-- The next factor to read brought to the front. -/
theorem rot {A B C D : sProp 𝕄} : iprop(A ∗ (B ∗ C) ∗ D) ⊢ (iprop(B ∗ C ∗ (A ∗ D)) : sProp 𝕄) := by
  iintro ⟨HA, ⟨HB, HC⟩, HD⟩
  isplitl [HB]; · iexact HB
  isplitl [HC]; · iexact HC
  isplitl [HA]; · iexact HA
  iexact HD
/-- The first of three moves behind the second. -/
theorem rot_last {A B D : sProp 𝕄} : iprop(A ∗ B ∗ D) ⊢ (iprop(B ∗ (A ∗ D)) : sProp 𝕄) := by
  iintro ⟨HA, HB, HD⟩
  isplitl [HB]; · iexact HB
  isplitl [HA]; · iexact HA
  iexact HD

/-- A load of a whole buffer reads its contents. -/
theorem step_ld {s : Shape} {e : EltTy} {M : Memref sig .tc .vmem s e} {off : Fin s.rank → ℕ} {hb hl} {X : s.Idx → Elt F e} {R : sProp 𝕄}
    {f : (s.Idx → Elt F e) → Prog (TpuEff nD τ sig (Elt F) Λ₀ .tc) α}
    (h : iprop(owns (c : Thread nD τ) M fullShare X ∗ R) ⊢ wpC (f X) Q) :
    iprop(owns (c : Thread nD τ) M fullShare X ∗ R) ⊢ wpC (Prog.lift (.load M (Rect.unit (s := s) off s.size hb).toLoadRect hl) >>= f) Q := by
  simp only [Prog.lift, Prog.bind_op, Prog.bind_ret]
  unfold owns at h ⊢
  iintro ⟨⟨%g, %hg, H⟩, HR⟩
  iapply (wp_load 𝒱₀ (c : Thread nD τ) none E (m := M) (S := M.view.set) (View.setOn_subset_set _ _)) $$ H
  iintro H
  rw [View.readAt_full, hg]
  iapply h
  isplitl [H]
  · iexists g; isplitr; · ipureintro; exact hg
    iexact H
  iexact HR

/-- A store over a whole buffer leaves what is stored. -/
theorem step_st {s : Shape} {e : EltTy} {M : Memref sig .tc .vmem s e} {off : Fin s.rank → ℕ} {hb hx hm} {X Y : s.Idx → Elt F e} {R : sProp 𝕄}
    {f : PUnit → Prog (TpuEff nD τ sig (Elt F) Λ₀ .tc) α}
    (h : iprop(owns (c : Thread nD τ) M fullShare Y ∗ R) ⊢ wpC (f ⟨⟩) Q) :
    iprop(owns (c : Thread nD τ) M fullShare X ∗ R) ⊢ wpC (Prog.lift (.store M (Rect.unit (s := s) off s.size hb) Y Finset.univ hx hm) >>= f) Q := by
  simp only [Prog.lift, Prog.bind_op, Prog.bind_ret]
  unfold owns at h ⊢
  iintro ⟨⟨%g, %hg, H⟩, HR⟩
  iapply (wp_store 𝒱₀ (c : Thread nD τ) none E (m := M) (r := Rect.unit (s := s) off s.size hb) (w := Y) (Mk := Finset.univ) (hx := hx) (hm := hm) (S := (M.view.set : Finset M.view.ty.Idx)) (View.set_slice_subset M.view _)) $$ H
  iintro H
  iapply h
  isplitl [H]
  · iexists _; isplitr; rotate_left; · iexact H
    ipureintro
    funext y
    have hy : (M.access (Rect.unit (s := s) off s.size hb)).emb y = M.view.emb y := congrArg M.view.emb (funext fun a => Fin.ext (by
      show off a + 1 * (y a).val = (y a).val
      have := hb a; omega))
    have := View.read_write_of_mem (v := M.access (Rect.unit (s := s) off s.size hb)) (Val := Elt F) g Y (M := Finset.univ) (x := y) (Finset.mem_univ _)
    exact (congrArg (fun z : M.view.ty.Idx => _root_.cast (congrArg (Elt F) M.view.elt_eq)
      ((M.access (Rect.unit (s := s) off s.size hb)).write (Elt F) g Y Finset.univ z)) hy.symm).trans this
  iexact HR

set_option maxRecDepth 65536 in
/-- The body, from its blocks to the losses. -/
theorem body_run (i : grid1.Coords) {M1 M2 M3 : Memref sig .tc .vmem S1024x64 .f32} {M4 : Memref sig .tc .vmem S1024x1 .i32}
    {M5 : Memref sig .tc .vmem S1x1024 .i32} {M6 : Memref sig .tc .vmem S1x1024 .f32} {M7 : Memref sig .tc .vmem S1024x1 .f32}
    (h1 : M1.IsWhole) (h2 : M2.IsWhole) (h3 : M3.IsWhole) (h4 : M4.IsWhole) (h5 : M5.IsWhole) (h6 : M6.IsWhole) (h7 : M7.IsWhole)
    (u t s : Vec F S1024x64 .f32) (x : Vec F S1024x1 .i32) (sid : Vec F S1x1024 .i32) (lq : Vec F S1x1024 .f32) (o : Vec F S1024x1 .f32)
    (Q : PUnit → sProp 𝕄) :
    iprop(owns (c : Thread nD τ) M1 fullShare u ∗ owns (c : Thread nD τ) M2 fullShare t ∗ owns (c : Thread nD τ) M3 fullShare s
        ∗ owns (c : Thread nD τ) M4 fullShare x ∗ owns (c : Thread nD τ) M5 fullShare sid ∗ owns (c : Thread nD τ) M6 fullShare lq
        ∗ owns (c : Thread nD τ) M7 fullShare o
        ∗ (iprop(owns (c : Thread nD τ) M1 fullShare u ∗ owns (c : Thread nD τ) M2 fullShare t ∗ owns (c : Thread nD τ) M3 fullShare s
            ∗ owns (c : Thread nD τ) M4 fullShare x ∗ owns (c : Thread nD τ) M5 fullShare sid ∗ owns (c : Thread nD τ) M6 fullShare lq
            ∗ owns (c : Thread nD τ) M7 fullShare (lossV u t s x sid lq)) -∗ Q ⟨⟩))
      ⊢ wpC (cc1__loss_body i M1 h1 M2 h2 M3 h3 M4 h4 M5 h5 M6 h6 M7 h7) Q := by
  rw [cc1__loss_body_eq_skeleton]
  unfold cc1__loss_body_skel
  rw [k1_part1_eq_skeleton, wp_bind]
  unfold k1_part1_skel
  have e : ∀ {A B C D E' G H J : sProp 𝕄}, iprop(A ∗ B ∗ C ∗ D ∗ E' ∗ G ∗ H ∗ J) ⊢ (iprop(A ∗ (B ∗ C ∗ D ∗ E' ∗ G ∗ H) ∗ J) : sProp 𝕄) := by
    intro A B C D E' G H J
    iintro ⟨HA, HB, HC, HD, HE, HG, HH, HJ⟩
    isplitl [HA]; · iexact HA
    isplitr [HJ]; rotate_left; · iexact HJ
    isplitl [HB]; · iexact HB
    isplitl [HC]; · iexact HC
    isplitl [HD]; · iexact HD
    isplitl [HE]; · iexact HE
    isplitl [HG]; · iexact HG
    iexact HH
  refine BIBase.Entails.trans e ?_
  with_reducible refine step_ld ?_
  refine BIBase.Entails.trans (rot (F := F)) ?_
  with_reducible refine step_ld ?_
  refine BIBase.Entails.trans (rot (F := F)) ?_
  with_reducible refine step_ld ?_
  refine BIBase.Entails.trans (rot (F := F)) ?_
  with_reducible refine step_ld ?_
  refine BIBase.Entails.trans (rot (F := F)) ?_
  with_reducible refine step_ld ?_
  refine BIBase.Entails.trans (rot (F := F)) ?_
  with_reducible refine step_ld ?_
  refine BIBase.Entails.trans (rot_last (F := F)) ?_
  rw [Prog.pure_eq_ret, wp_ret]
  refine BIBase.Entails.trans ?_ fupd_intro
  dsimp only
  with_reducible refine step_ld ?_
  with_reducible refine step_st ?_
  rw [Prog.pure_eq_ret, wp_ret]
  refine BIBase.Entails.trans ?_ fupd_intro
  iintro ⟨H7, H6, H5, H4, H3, H2, H1, HQ⟩
  iapply HQ
  isplitl [H1]; · iexact H1
  isplitl [H2]; · iexact H2
  isplitl [H3]; · iexact H3
  isplitl [H4]; · iexact H4
  isplitl [H5]; · iexact H5
  isplitl [H6]; · iexact H6
  iexact H7

end Body

/-! ## The proof data, from a valuation of the arrays -/

variable (V : (c : Dev nD) → (b : Ref sig .tc) → Buf (Elt F) ((c : Thread nD τ).loc b))

/-- The waits the TensorCore may have recorded once its call is over. -/
def rec1 (c : Dev nD) : Set (SemLoc sig × HIx 1) := {p | (K (F := F)).lev (T c, p.1) p.2 ≤ 8}

/-- A window's block of the array it reads. -/
abbrev blk (c : Dev nD) (w : Fin 7) (t : Fin cfg1.N) : ((win1 w).xblock (grid1.coords t)).Idx → Elt F (win1 w).elt :=
  ((win1 w).blk t).view.read (Elt F) (V c (Pipeline.arrRef spec1 w))

/-- What the body leaves in each window's buffer: a read block as it was, the losses in the written one. -/
def aft (c : Dev nD) (t : Fin cfg1.N) : (w : Fin 7) → (win1 w).block.Idx → Elt F (win1 w).elt
  | 0 => blk V c 0 t
  | 1 => blk V c 1 t
  | 2 => blk V c 2 t
  | 3 => blk V c 3 t
  | 4 => blk V c 4 t
  | 5 => blk V c 5 t
  | 6 => lossV (F := F) (blk V c 0 t) (blk V c 1 t) (blk V c 2 t) (blk V c 3 t) (blk V c 4 t) (blk V c 5 t)

/-- The scoped buffers the pipeline does not stage. -/
abbrev Φc (c : Dev nD) : sProp 𝕄 := Pipeline.scopedRest (Ix := HIx 1) (Name := ℕ) (U := UU) (Lvl := ℕ) (Val := Elt F) spec1 c

/-- The proof data of the pipeline entered at `V`. -/
def dat (c : Dev nD) : Dat τ (Elt F) (HIx 1) ℕ UU ℕ cfg1 c where
  A w := V c (Pipeline.arrRef spec1 w)
  after w t := aft V c t w
  Φ _ := Φc (F := F) c
  q _ := fullShare
  owed _ := 0
  recorded _ := rec1 (F := F) c

variable (adm : (p : Fin 1) → (pcfgs (F := F) p).Adm)

def pdats : (p : Fin 1) → (c : Dev nD) → Dat τ (Elt F) (HIx 1) ℕ UU ℕ (Pipeline.pin (pcfgs (F := F)) adm p) c
  | 0 => fun c => dat V c

/-- The read windows' buffers hold their blocks when the body runs. -/
theorem before_0 (c : Dev nD) (t : Fin cfg1.N) (d) : (dat V c).before 0 t d = aft V c t 0 :=
  (dat V c).before_in_eq_fetched 0 rfl (fun _ => rfl) (fun _ _ _ => rfl) (fun _ => rfl) t d
/-- At a step, window 1 holds what was fetched for it. -/
theorem before_1 (c : Dev nD) (t : Fin cfg1.N) (d) : (dat V c).before 1 t d = aft V c t 1 :=
  (dat V c).before_in_eq_fetched 1 rfl (fun _ => rfl) (fun _ _ _ => rfl) (fun _ => rfl) t d
/-- At a step, window 2 holds what was fetched for it. -/
theorem before_2 (c : Dev nD) (t : Fin cfg1.N) (d) : (dat V c).before 2 t d = aft V c t 2 :=
  (dat V c).before_in_eq_fetched 2 rfl (fun _ => rfl) (fun _ _ _ => rfl) (fun _ => rfl) t d
/-- At a step, window 3 holds what was fetched for it. -/
theorem before_3 (c : Dev nD) (t : Fin cfg1.N) (d) : (dat V c).before 3 t d = aft V c t 3 :=
  (dat V c).before_in_eq_fetched 3 rfl (fun _ => rfl) (fun _ _ _ => rfl) (fun _ => rfl) t d
/-- At a step, window 4 holds what was fetched for it. -/
theorem before_4 (c : Dev nD) (t : Fin cfg1.N) (d) : (dat V c).before 4 t d = aft V c t 4 :=
  (dat V c).before_in_eq_fetched 4 rfl (fun _ => rfl) (fun _ _ _ => rfl) (fun _ => rfl) t d
/-- At a step, window 5 holds what was fetched for it. -/
theorem before_5 (c : Dev nD) (t : Fin cfg1.N) (d) : (dat V c).before 5 t d = aft V c t 5 :=
  (dat V c).before_in_eq_fetched 5 rfl (fun _ => rfl) (fun _ _ _ => rfl) (fun _ => rfl) t d

set_option maxRecDepth 65536 in
/-- The library's body obligation. -/
theorem body_obligation (c : Dev nD) : BodyObligation (dat V c) (defs₀ (F := F)) 𝒱₀ none Set.univ := fun t => by
  simp only [bigSep_W1, before_0, before_1, before_2, before_3, before_4, before_5]
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run (F := F) (c := c) (E := Set.univ) (grid1.coords t) (hstage1_0 ((cfg1.slots t 0).cast nbuf1_0)) (hstage1_1 ((cfg1.slots t 1).cast nbuf1_1))
    (hstage1_2 ((cfg1.slots t 2).cast nbuf1_2)) (hstage1_3 ((cfg1.slots t 3).cast nbuf1_3)) (hstage1_4 ((cfg1.slots t 4).cast nbuf1_4))
    (hstage1_5 ((cfg1.slots t 5).cast nbuf1_5)) (hstage1_6 ((cfg1.slots t 6).cast nbuf1_6))
    (aft V c t 0) (aft V c t 1) (aft V c t 2) (aft V c t 3) (aft V c t 4) (aft V c t 5) ((dat V c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The region -/

/-- The losses' array after the region: every point's block written back. -/
def lossArr (c : Dev nD) : Buf (Elt F) ((c : Thread nD τ).loc main_v37) := (dat V c).arrAt 6 cfg1.N

variable (Vp : (c : Dev nD) → (b : Ref sig .tc) → Buf (Elt F) ((c : Thread nD τ).loc b))

set_option maxRecDepth 65536 in
set_option backward.isDefEq.respectTransparency.types false in
/-- The region entered at `V`, left at `Vp`: the losses' array new, everything else as it was. -/
def reg (R : Dev nD → sProp 𝕄) (hVp_out : ∀ c, Vp c main_v37 = lossArr V c)
    (hVp_ne : ∀ c (b : Ref sig .tc), b ≠ main_v37 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ ∃ W, ⌜(K (F := F)).WBelow (T c) W 8⌝ ∗ owes (c : Thread nD τ) (0 : CellTallies nD τ sig (HIx 1)) W)
  post c := iprop(unscopedBufs c (Vp c) ∗ R c ∗ ∃ W, ⌜(K (F := F)).WBelow (T c) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = Φc (F := F) c from rfl]
    iintro ⟨-, -, Hr⟩; iexact Hr
  hout c := by
    rw [Pipeline.ownSems0_none, show (pdats V adm 0 c).Φ (Fin.last _) = Φc (F := F) c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_arg1 (by decide)).symm
        · exact ((pdats V adm 0 c).arrAt_in 1 rfl _).trans (hVp_ne c main_v34_1 (by decide)).symm
        · exact ((pdats V adm 0 c).arrAt_in 2 rfl _).trans (hVp_ne c main_v34_0 (by decide)).symm
        · exact ((pdats V adm 0 c).arrAt_in 3 rfl _).trans (hVp_ne c main_arg2 (by decide)).symm
        · exact ((pdats V adm 0 c).arrAt_in 4 rfl _).trans (hVp_ne c main_v35 (by decide)).symm
        · exact ((pdats V adm 0 c).arrAt_in 5 rfl _).trans (hVp_ne c main_v36 (by decide)).symm
        · exact (hVp_out c).symm)
      (fun b hb => hVp_ne c b fun h => hb (h ▸ Finset.mem_image.mpr ⟨6, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | h
      · exact h
      · obtain ⟨w, s, rfl⟩ := h; exact Nat.zero_le _
    iexact HO

end Cert.Proof.RunKI

end
-- ==== Proof.TailKI.lean ====
/-
  What the kernel's host code runs after the draws: the clip, the log probabilities, the paddings, then the two calls.
-/
module

public import proofs.«01_k».proof.Proof.Line
public import proofs.«01_k».proof.Proof.Gen.KernelIdeal

@[expose] public section

set_option maxRecDepth 65536
set_option maxHeartbeats 4000000

noncomputable section

namespace Cert.Proof.RunKI

open Cert.KernelIdeal Cert.KernelIdeal.Gen

open Idealize.ShloMosaic Idealize.ShloMosaic.StableHlo
open Idealize.ShloMosaic.TcCoe
open Idealize.SL.Sem
open Cert.Proof.Line

variable {F : FTy → Type} [FloatOps F] [Named F]

/-- The operations from the clip to the SparseCore call. -/
def tailOps : List (HloOp τ sig (Elt F)) := [
  StableHlo.nullary main_c_5 (constantI S_ 32 0#32),
  StableHlo.nullary main_c_6 (constantI S_ 32 99999#32),
  StableHlo.unary main_c_5 main_call1_v0 (id : (⟨S_, .i32⟩ : BufTy).Contents (Elt F) → (⟨S_, .i32⟩ : BufTy).Contents (Elt F)),
  StableHlo.unary main_call1_v0 main_call1_v1 ((broadcastInDim S1000 ![] bcast_S_S1000) : (⟨S_, .i32⟩ : BufTy).Contents (Elt F) → (⟨S1000, .i32⟩ : BufTy).Contents (Elt F)),
  StableHlo.binary main_call1_v1 main_v15 main_call1_v2 (maxsi : (⟨S1000, .i32⟩ : BufTy).Contents (Elt F) → (⟨S1000, .i32⟩ : BufTy).Contents (Elt F) → (⟨S1000, .i32⟩ : BufTy).Contents (Elt F)),
  StableHlo.unary main_c_6 main_call1_v3 (id : (⟨S_, .i32⟩ : BufTy).Contents (Elt F) → (⟨S_, .i32⟩ : BufTy).Contents (Elt F)),
  StableHlo.unary main_call1_v3 main_call1_v4 ((broadcastInDim S1000 ![] bcast_S_S1000) : (⟨S_, .i32⟩ : BufTy).Contents (Elt F) → (⟨S1000, .i32⟩ : BufTy).Contents (Elt F)),
  StableHlo.binary main_call1_v4 main_call1_v2 main_v16 (minsi : (⟨S1000, .i32⟩ : BufTy).Contents (Elt F) → (⟨S1000, .i32⟩ : BufTy).Contents (Elt F) → (⟨S1000, .i32⟩ : BufTy).Contents (Elt F)),
  StableHlo.unary main_v16 main_v17 (sitofp .f32 : (⟨S1000, .i32⟩ : BufTy).Contents (Elt F) → (⟨S1000, .f32⟩ : BufTy).Contents (Elt F)),
  StableHlo.nullary main_cst_7 (constant S_ .f32 0x40000000#32),
  StableHlo.unary main_cst_7 main_v18 (broadcastInDim S1000 ![] bcast_S_S1000 : (⟨S_, .f32⟩ : BufTy).Contents (Elt F) → (⟨S1000, .f32⟩ : BufTy).Contents (Elt F)),
  StableHlo.binary main_v17 main_v18 main_v19 (addf : (⟨S1000, .f32⟩ : BufTy).Contents (Elt F) → (⟨S1000, .f32⟩ : BufTy).Contents (Elt F) → (⟨S1000, .f32⟩ : BufTy).Contents (Elt F)),
  StableHlo.unary main_v19 main_v20 (Host.log : (⟨S1000, .f32⟩ : BufTy).Contents (Elt F) → (⟨S1000, .f32⟩ : BufTy).Contents (Elt F)),
  StableHlo.nullary main_cst_8 (constant S_ .f32 0x3F800000#32),
  StableHlo.unary main_cst_8 main_v21 (broadcastInDim S1000 ![] bcast_S_S1000 : (⟨S_, .f32⟩ : BufTy).Contents (Elt F) → (⟨S1000, .f32⟩ : BufTy).Contents (Elt F)),
  StableHlo.binary main_v17 main_v21 main_v22 (addf : (⟨S1000, .f32⟩ : BufTy).Contents (Elt F) → (⟨S1000, .f32⟩ : BufTy).Contents (Elt F) → (⟨S1000, .f32⟩ : BufTy).Contents (Elt F)),
  StableHlo.unary main_v22 main_v23 (Host.log : (⟨S1000, .f32⟩ : BufTy).Contents (Elt F) → (⟨S1000, .f32⟩ : BufTy).Contents (Elt F)),
  StableHlo.binary main_v20 main_v23 main_v24 (subf : (⟨S1000, .f32⟩ : BufTy).Contents (Elt F) → (⟨S1000, .f32⟩ : BufTy).Contents (Elt F) → (⟨S1000, .f32⟩ : BufTy).Contents (Elt F)),
  StableHlo.nullary main_cst_9 (constant S_ .f32 0x47C35080#32),
  StableHlo.unary main_cst_9 main_v25 (Host.log : (⟨S_, .f32⟩ : BufTy).Contents (Elt F) → (⟨S_, .f32⟩ : BufTy).Contents (Elt F)),
  StableHlo.unary main_v25 main_v26 (broadcastInDim S1000 ![] bcast_S_S1000 : (⟨S_, .f32⟩ : BufTy).Contents (Elt F) → (⟨S1000, .f32⟩ : BufTy).Contents (Elt F)),
  StableHlo.binary main_v24 main_v26 main_v27 (Host.divf : (⟨S1000, .f32⟩ : BufTy).Contents (Elt F) → (⟨S1000, .f32⟩ : BufTy).Contents (Elt F) → (⟨S1000, .f32⟩ : BufTy).Contents (Elt F)),
  StableHlo.nullary main_cst_10 (constant S_ .f32 0x447A0000#32),
  StableHlo.unary main_cst_10 main_v28 (broadcastInDim S1000 ![] bcast_S_S1000 : (⟨S_, .f32⟩ : BufTy).Contents (Elt F) → (⟨S1000, .f32⟩ : BufTy).Contents (Elt F)),
  StableHlo.binary main_v27 main_v28 main_v29 (mulf : (⟨S1000, .f32⟩ : BufTy).Contents (Elt F) → (⟨S1000, .f32⟩ : BufTy).Contents (Elt F) → (⟨S1000, .f32⟩ : BufTy).Contents (Elt F)),
  StableHlo.unary main_v29 main_v30 (Host.log : (⟨S1000, .f32⟩ : BufTy).Contents (Elt F) → (⟨S1000, .f32⟩ : BufTy).Contents (Elt F)),
  StableHlo.nullary main_c_11 (constantI S_ 32 0#32),
  StableHlo.unary main_c_11 main_call2_v0 (id : (⟨S_, .i32⟩ : BufTy).Contents (Elt F) → (⟨S_, .i32⟩ : BufTy).Contents (Elt F)),
  StableHlo.binary main_v16 main_call2_v0 main_v31 ((fun x v => pad S1024 ![0] ![24] ![0] x v pads_S1000_S1024_0240 h_S_) : (⟨S1000, .i32⟩ : BufTy).Contents (Elt F) → (⟨S_, .i32⟩ : BufTy).Contents (Elt F) → (⟨S1024, .i32⟩ : BufTy).Contents (Elt F)),
  StableHlo.nullary main_c_12 (constantI S_ 32 0#32),
  StableHlo.unary main_c_12 main_call3_v0 ((sitofp .f32) : (⟨S_, .i32⟩ : BufTy).Contents (Elt F) → (⟨S_, .f32⟩ : BufTy).Contents (Elt F)),
  StableHlo.binary main_v30 main_call3_v0 main_v32 ((fun x v => pad S1024 ![0] ![24] ![0] x v pads_S1000_S1024_0240 h_S_) : (⟨S1000, .f32⟩ : BufTy).Contents (Elt F) → (⟨S_, .f32⟩ : BufTy).Contents (Elt F) → (⟨S1024, .f32⟩ : BufTy).Contents (Elt F)),
  StableHlo.reshape main_arg2 main_v33 (rfl : (.i32 : EltTy) = .i32) shapeCasts_S4096x1_S4096]

/-- The two operations between the calls. -/
def midOps : List (HloOp τ sig (Elt F)) := [
  StableHlo.unary main_v31 main_v35 (broadcastInDim S1x1024 ![1] bcast_S1024_S1x1024_1 : (⟨S1024, .i32⟩ : BufTy).Contents (Elt F) → (⟨S1x1024, .i32⟩ : BufTy).Contents (Elt F)),
  StableHlo.unary main_v32 main_v36 (broadcastInDim S1x1024 ![1] bcast_S1024_S1x1024_1 : (⟨S1024, .f32⟩ : BufTy).Contents (Elt F) → (⟨S1x1024, .f32⟩ : BufTy).Contents (Elt F))]

/-- From the SparseCore call on. -/
def call (d : Dev nD) : Prog (TpuEff nD τ sig (Elt F) (SparseCore.Sig (Pipeline.Sig Λ₀ (Fin 1) fun p => (pcfgs (F := F) p).Adm) 1) .tc) PUnit :=
  sc.run d 0 >>= fun _ => seq midOps >>= fun _ => Prog.lift (.customCall (SparseCore.inner (Pipeline.entry 0)) ()) >>= fun _ => pure ⟨⟩

/-- The program's text from the clip on is this line and the calls. -/
theorem tail_eq (d : Dev nD) : ((do
  hlo rfl (StableHlo.nullary main_c_5 (constantI S_ 32 0#32)) (fun _ => .ret ⟨⟩)
  hlo rfl (StableHlo.nullary main_c_6 (constantI S_ 32 99999#32)) (fun _ => .ret ⟨⟩)
  fn_clip.body (.of main_v15) (.of main_c_5) (.of main_c_6) main_call1
  hlo rfl (StableHlo.unary main_v16 main_v17 (sitofp .f32 : (⟨S1000, .i32⟩ : BufTy).Contents (Elt F) → (⟨S1000, .f32⟩ : BufTy).Contents (Elt F))) (fun _ => .ret ⟨⟩)
  hlo rfl (StableHlo.nullary main_cst_7 (constant S_ .f32 0x40000000#32)) (fun _ => .ret ⟨⟩)
  hlo rfl (StableHlo.unary main_cst_7 main_v18 (broadcastInDim S1000 ![] bcast_S_S1000 : (⟨S_, .f32⟩ : BufTy).Contents (Elt F) → (⟨S1000, .f32⟩ : BufTy).Contents (Elt F))) (fun _ => .ret ⟨⟩)
  hlo rfl (StableHlo.binary main_v17 main_v18 main_v19 (addf : (⟨S1000, .f32⟩ : BufTy).Contents (Elt F) → (⟨S1000, .f32⟩ : BufTy).Contents (Elt F) → (⟨S1000, .f32⟩ : BufTy).Contents (Elt F))) (fun _ => .ret ⟨⟩)
  hlo rfl (StableHlo.unary main_v19 main_v20 (Host.log : (⟨S1000, .f32⟩ : BufTy).Contents (Elt F) → (⟨S1000, .f32⟩ : BufTy).Contents (Elt F))) (fun _ => .ret ⟨⟩)
  hlo rfl (StableHlo.nullary main_cst_8 (constant S_ .f32 0x3F800000#32)) (fun _ => .ret ⟨⟩)
  hlo rfl (StableHlo.unary main_cst_8 main_v21 (broadcastInDim S1000 ![] bcast_S_S1000 : (⟨S_, .f32⟩ : BufTy).Contents (Elt F) → (⟨S1000, .f32⟩ : BufTy).Contents (Elt F))) (fun _ => .ret ⟨⟩)
  hlo rfl (StableHlo.binary main_v17 main_v21 main_v22 (addf : (⟨S1000, .f32⟩ : BufTy).Contents (Elt F) → (⟨S1000, .f32⟩ : BufTy).Contents (Elt F) → (⟨S1000, .f32⟩ : BufTy).Contents (Elt F))) (fun _ => .ret ⟨⟩)
  hlo rfl (StableHlo.unary main_v22 main_v23 (Host.log : (⟨S1000, .f32⟩ : BufTy).Contents (Elt F) → (⟨S1000, .f32⟩ : BufTy).Contents (Elt F))) (fun _ => .ret ⟨⟩)
  hlo rfl (StableHlo.binary main_v20 main_v23 main_v24 (subf : (⟨S1000, .f32⟩ : BufTy).Contents (Elt F) → (⟨S1000, .f32⟩ : BufTy).Contents (Elt F) → (⟨S1000, .f32⟩ : BufTy).Contents (Elt F))) (fun _ => .ret ⟨⟩)
  hlo rfl (StableHlo.nullary main_cst_9 (constant S_ .f32 0x47C35080#32)) (fun _ => .ret ⟨⟩)
  hlo rfl (StableHlo.unary main_cst_9 main_v25 (Host.log : (⟨S_, .f32⟩ : BufTy).Contents (Elt F) → (⟨S_, .f32⟩ : BufTy).Contents (Elt F))) (fun _ => .ret ⟨⟩)
  hlo rfl (StableHlo.unary main_v25 main_v26 (broadcastInDim S1000 ![] bcast_S_S1000 : (⟨S_, .f32⟩ : BufTy).Contents (Elt F) → (⟨S1000, .f32⟩ : BufTy).Contents (Elt F))) (fun _ => .ret ⟨⟩)
  hlo rfl (StableHlo.binary main_v24 main_v26 main_v27 (Host.divf : (⟨S1000, .f32⟩ : BufTy).Contents (Elt F) → (⟨S1000, .f32⟩ : BufTy).Contents (Elt F) → (⟨S1000, .f32⟩ : BufTy).Contents (Elt F))) (fun _ => .ret ⟨⟩)
  hlo rfl (StableHlo.nullary main_cst_10 (constant S_ .f32 0x447A0000#32)) (fun _ => .ret ⟨⟩)
  hlo rfl (StableHlo.unary main_cst_10 main_v28 (broadcastInDim S1000 ![] bcast_S_S1000 : (⟨S_, .f32⟩ : BufTy).Contents (Elt F) → (⟨S1000, .f32⟩ : BufTy).Contents (Elt F))) (fun _ => .ret ⟨⟩)
  hlo rfl (StableHlo.binary main_v27 main_v28 main_v29 (mulf : (⟨S1000, .f32⟩ : BufTy).Contents (Elt F) → (⟨S1000, .f32⟩ : BufTy).Contents (Elt F) → (⟨S1000, .f32⟩ : BufTy).Contents (Elt F))) (fun _ => .ret ⟨⟩)
  hlo rfl (StableHlo.unary main_v29 main_v30 (Host.log : (⟨S1000, .f32⟩ : BufTy).Contents (Elt F) → (⟨S1000, .f32⟩ : BufTy).Contents (Elt F))) (fun _ => .ret ⟨⟩)
  hlo rfl (StableHlo.nullary main_c_11 (constantI S_ 32 0#32)) (fun _ => .ret ⟨⟩)
  fn_pad.body (.of main_v16) (.of main_c_11) main_call2
  hlo rfl (StableHlo.nullary main_c_12 (constantI S_ 32 0#32)) (fun _ => .ret ⟨⟩)
  fn_pad_0.body (.of main_v30) (.of main_c_12) main_call3
  hlo rfl (StableHlo.reshape main_arg2 main_v33 (rfl : (.i32 : EltTy) = .i32) shapeCasts_S4096x1_S4096) (fun _ => .ret ⟨⟩)
  sc.run d 0
  hlo rfl (StableHlo.unary main_v31 main_v35 (broadcastInDim S1x1024 ![1] bcast_S1024_S1x1024_1 : (⟨S1024, .i32⟩ : BufTy).Contents (Elt F) → (⟨S1x1024, .i32⟩ : BufTy).Contents (Elt F))) (fun _ => .ret ⟨⟩)
  hlo rfl (StableHlo.unary main_v32 main_v36 (broadcastInDim S1x1024 ![1] bcast_S1024_S1x1024_1 : (⟨S1024, .f32⟩ : BufTy).Contents (Elt F) → (⟨S1x1024, .f32⟩ : BufTy).Contents (Elt F))) (fun _ => .ret ⟨⟩)
  Prog.lift (.customCall (SparseCore.inner (Pipeline.entry 0)) ())
  pure ⟨⟩) : Prog (TpuEff nD τ sig (Elt F) (SparseCore.Sig (Pipeline.Sig Λ₀ (Fin 1) fun p => (pcfgs (F := F) p).Adm) 1) .tc) PUnit)
    = (seq tailOps >>= fun _ => call d) := by
  unfold fn_clip.body fn_pad.body fn_pad_0.body tailOps call midOps
  simp only [seq, bind_assoc, pure_bind]
  rfl

/-- The line up to the SparseCore call keeps what was written before it. -/
theorem tail_ok : Ok 283 (tailOps (F := F)) := by
  unfold tailOps
  repeat (first
    | exact Ok.nil _
    | refine Ok.cons (Writes.binary ⟨rfl, rfl⟩) ?_
    | refine Ok.cons (Writes.unary ⟨rfl, rfl⟩) ?_
    | refine Ok.cons (Writes.nullary ⟨rfl, rfl⟩) ?_
    | refine Ok.cons (Writes.reshape ⟨rfl, rfl⟩) ?_
    | refine Ok.cons (Writes.ternary ⟨rfl, rfl⟩) ?_)

/-- The line between the calls keeps what was written before it. -/
theorem mid_ok : Ok 318 (midOps (F := F)) := by
  unfold midOps
  repeat (first
    | exact Ok.nil _
    | refine Ok.cons (Writes.binary ⟨rfl, rfl⟩) ?_
    | refine Ok.cons (Writes.unary ⟨rfl, rfl⟩) ?_
    | refine Ok.cons (Writes.nullary ⟨rfl, rfl⟩) ?_
    | refine Ok.cons (Writes.reshape ⟨rfl, rfl⟩) ?_
    | refine Ok.cons (Writes.ternary ⟨rfl, rfl⟩) ?_)

end Cert.Proof.RunKI

end
-- ==== Proof.MainKI.lean ====
/-
  The whole program's run: the host stretches, the SparseCore call, the pipeline.
-/
module

public import Idealize.ShloMosaic.Lib.Pipeline.RegionsLoop
public import Idealize.ShloMosaic.Lib.Pipeline.FrameBody
public import Idealize.ShloMosaic.Lib.VecWindow
public import Idealize.ShloMosaic.Lib.Tactic

public import proofs.«01_k».proof.Proof.DealKI
public import proofs.«01_k».proof.Proof.RegionKI
public import proofs.«01_k».proof.Proof.TailKI

@[expose] public section

noncomputable section

namespace Cert.Proof.RunKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.TcCoe
open Idealize.ShloMosaic.Pipeline (Dat BodyObligation cellOf)

open Idealize.ShloMosaic.StableHlo (held seq after wp_seq held_sub_split held_congr tcRefs devRef_mem_tcRefs)
open Cert.Proof.Line

variable {F : FTy → Type} [FloatOps F] [Named F]

local notation "𝕄" => MT nD τ sig (HIx 1) (Elt F) ℕ UU ℕ

variable (m : (ℓ : Loc nD τ sig) → Buf (Elt F) ℓ) (g : Dev nD → PrngReg)
variable (pre : Dev nD → List (HloOp τ sig (Elt F)))

/-- A TensorCore's buffer as its device names it. -/
abbrev dr (b : Ref sig .tc) : DevRef τ sig := Proc.devRef (.tc : Proc τ) b

/-! ## The contents, stretch by stretch -/

/-- At launch. -/
def V0 (d : Dev nD) : Valuation τ sig (Elt F) := fun r => m (d, r)
/-- Before the SparseCore call. -/
def VH (d : Dev nD) : Valuation τ sig (Elt F) := after tailOps (after (pre d) (V0 m d))
/-- The same as a memory. -/
def mC : (ℓ : Loc nD τ sig) → Buf (Elt F) ℓ := fun ℓ => VH m pre ℓ.1 ℓ.2
/-- After the SparseCore call. -/
def V1 (d : Dev nD) : Valuation τ sig (Elt F) :=
  Function.update (Function.update (VH m pre d) (dr main_v34_0) (gA (mC m pre) d)) (dr main_v34_1) (gB (mC m pre) d)
/-- Before the pipeline. -/
def V2 (d : Dev nD) : Valuation τ sig (Elt F) := after midOps (V1 m pre d)
/-- The same by the TensorCore's references. -/
def V2r (d : Dev nD) (b : Ref sig .tc) : Buf (Elt F) ((d : Thread nD τ).loc b) := V2 m pre d (dr b)
/-- At the end. -/
def V3 (d : Dev nD) : Valuation τ sig (Elt F) := Function.update (V2 m pre d) (dr main_v37) (lossArr (V2r m pre) d)
def V3r (d : Dev nD) (b : Ref sig .tc) : Buf (Elt F) ((d : Thread nD τ).loc b) := V3 m pre d (dr b)

/-! ## The five buffers of the SparseCore call -/

abbrev uc : Finset (DevRef τ sig) := Pipeline.ucRefs τ sig
abbrev fiveR : Finset (Ref sig .tc) := {main_v31, main_v33, main_arg0, main_v34_0, main_v34_1}
def five : Finset (DevRef τ sig) := fiveR.map ⟨Proc.devRef (sig := sig) (.tc : Proc τ), Proc.devRef_injective _⟩

/-- A reference that is not scoped belongs to the launch's buffers. -/
theorem uc_of (b : Ref sig .tc) (h : b.isScoped = false) : dr b ∈ uc :=
  Finset.mem_filter.mpr ⟨devRef_mem_tcRefs b, by rw [Proc.isScoped_devRef, h]; exact Bool.false_ne_true⟩

/-- The five buffers of the SparseCore call are among them. -/
theorem five_sub : five ⊆ uc := by
  intro x hx
  obtain ⟨b, hb, rfl⟩ := Finset.mem_map.mp hx
  exact uc_of b ((by decide : ∀ b ∈ fiveR, b.isScoped = false) b hb)

omit [FloatOps F] [Named F] in
/-- The five buffers out of the device's. -/
theorem five_split (d : Dev nD) (V : Valuation τ sig (Elt F)) :
    (held (T d) uc V : sProp 𝕄) = iprop(((sLoc d ↦[Finset.univ]{fullShare} V (dr main_v31)) ∗ (iLoc d ↦[Finset.univ]{fullShare} V (dr main_v33))
      ∗ (tLoc d ↦[Finset.univ]{fullShare} V (dr main_arg0)) ∗ (aLoc d ↦[Finset.univ]{fullShare} V (dr main_v34_0)) ∗ (bLoc d ↦[Finset.univ]{fullShare} V (dr main_v34_1)))
      ∗ held (T d) (uc \ five) V) := by
  rw [held_sub_split _ five_sub]
  congr 1
  unfold held five
  rw [bigSep_map, SparseCore.bigSep_insert' (by decide), SparseCore.bigSep_insert' (by decide), SparseCore.bigSep_insert' (by decide), SparseCore.bigSep_insert' (by decide), bigSep_singleton]
  rfl

/-- The SparseCore call changes its two results only. -/
theorem V1_ne (d : Dev nD) (r : DevRef τ sig) (h0 : r ≠ dr main_v34_0) (h1 : r ≠ dr main_v34_1) : V1 m pre d r = VH m pre d r := by
  unfold V1; rw [Function.update_of_ne h1, Function.update_of_ne h0]

/-- Different references are different buffers. -/
theorem dr_ne {a b : Ref sig .tc} (h : a ≠ b) : dr a ≠ dr b := fun e => h (Proc.devRef_injective _ e)

/-- The sampled rows after the SparseCore call. -/
theorem V1_a (d : Dev nD) : V1 m pre d (dr main_v34_0) = gA (mC m pre) d := by
  unfold V1; rw [Function.update_of_ne (dr_ne (by decide)), Function.update_self]
/-- The true rows after the SparseCore call. -/
theorem V1_b (d : Dev nD) : V1 m pre d (dr main_v34_1) = gB (mC m pre) d := by
  unfold V1; rw [Function.update_self]

/-- Before the call: the device's buffers are what the tasks are handed, and the rest. -/
theorem give (d : Dev nD) :
    (held (T d) uc (VH m pre d) : sProp 𝕄)
      ⊢ iprop((Left (mC m pre) d ∗ bigSep Finset.univ fun c : Fin ((K (F := F)).nCore 0) => (P (mC m pre)).st 0 d c) ∗ held (T d) (uc \ five) (VH m pre d)) := by
  rw [five_split]
  exact BIClass.sep_mono (deal (mC m pre) d) (Entails.refl _)

/-- After the call: the device's buffers at the new contents. -/
theorem take (hT : InTable (mC m pre)) (d : Dev nD) :
    iprop((Left (mC m pre) d ∗ bigSep Finset.univ fun c : Fin ((K (F := F)).nCore 0) => (P (mC m pre)).dn 0 d c) ∗ held (T d) (uc \ five) (VH m pre d))
      ⊢ (held (T d) uc (V1 m pre d) : sProp 𝕄) := by
  have e : (held (T d) (uc \ five) (V1 m pre d) : sProp 𝕄) = held (T d) (uc \ five) (VH m pre d) :=
    held_congr _ fun r hr => V1_ne m pre d r
      (fun h => (Finset.mem_sdiff.mp hr).2 (h ▸ Finset.mem_map.mpr ⟨main_v34_0, by decide, rfl⟩))
      (fun h => (Finset.mem_sdiff.mp hr).2 (h ▸ Finset.mem_map.mpr ⟨main_v34_1, by decide, rfl⟩))
  rw [five_split, e, V1_a, V1_b, V1_ne m pre d (dr main_v31) (dr_ne (by decide)) (dr_ne (by decide)),
    V1_ne m pre d (dr main_v33) (dr_ne (by decide)) (dr_ne (by decide)), V1_ne m pre d (dr main_arg0) (dr_ne (by decide)) (dr_ne (by decide))]
  exact BIClass.sep_mono (undeal (mC m pre) d hT) (Entails.refl _)

/-- The result after the TensorCore call. -/
theorem V3r_out (d : Dev nD) : V3r m pre d main_v37 = lossArr (V2r m pre) d := by
  unfold V3r V3; exact Function.update_self _ _ _
/-- The TensorCore call changes the result only. -/
theorem V3r_ne (d : Dev nD) (b : Ref sig .tc) (h : b ≠ main_v37) : V3r m pre d b = V2r m pre d b := by
  unfold V3r V3 V2r; exact Function.update_of_ne (dr_ne h) _ _

/-! ## The pipeline -/

/-- The pipeline's one admissible launch. -/
def adm : (p : Fin 1) → (pcfgs (F := F) p).Adm := fun p => (cfgs p).toPCfg_adm

/-- The pipeline's ghost state on a device. -/
def G (d : Dev nD) : sProp 𝕄 :=
  iprop((bigSep Finset.univ fun p : Fin 1 => Pipeline.cellsGhost cfgs EP p d) ∗ (bigSep Finset.univ fun p : Fin 1 => Pipeline.toksInit cfgs EP p d))

variable [∀ e, Nonempty (Elt F e)]

/-- What the TensorCore call starts from. -/
theorem reg_pre (d : Dev nD) : (reg (V2r m pre) adm (V3r m pre) (fun _ => iprop(emp)) (V3r_out m pre) (V3r_ne m pre)).pre d
    = (iprop(unscopedBufs d (V2r m pre d) ∗ emp ∗ ∃ W, ⌜(K (F := F)).WBelow (T d) W 8⌝ ∗ owes (T d) (0 : CellTallies nD τ sig (HIx 1)) W) : sProp 𝕄) := rfl
/-- What the TensorCore call ends with. -/
theorem reg_post (d : Dev nD) : (reg (V2r m pre) adm (V3r m pre) (fun _ => iprop(emp)) (V3r_out m pre) (V3r_ne m pre)).post d
    = (iprop(unscopedBufs d (V3r m pre d) ∗ emp ∗ ∃ W, ⌜(K (F := F)).WBelow (T d) W 8⌝ ∗ owes (T d) (0 : CellTallies nD τ sig (HIx 1)) W) : sProp 𝕄) := rfl

/-- The pipeline's region: the losses written, everything else kept. -/
theorem region_wp (d : Dev nD) :
    iprop(boundary (T d) ∗ unscopedBufs d (V2r m pre d) ∗ (∃ W, ⌜(K (F := F)).WBelow (T d) W 8⌝ ∗ owes (T d) (0 : CellTallies nD τ sig (HIx 1)) W)
        ∗ levAts (K (F := F)).L (K (F := F)).lev ∗ G d)
      ⊢ (wp frame (wpE ((K (F := F)).defs (D (F := F))) 𝒱 (T d) none) Set.univ
          (Prog.lift (.customCall (SparseCore.inner (Pipeline.entry 0)) ()) >>= fun _ => pure ⟨⟩ : Prog (TpuEff nD τ sig (Elt F) (SparseCore.Sig (ΛP (F := F)) 1) .tc) PUnit)
          fun _ => iprop(boundary (T d) ∗ unscopedBufs d (V3r m pre d) ∗ ∃ W, ⌜(K (F := F)).WBelow (T d) W 8⌝ ∗ owes (T d) (0 : CellTallies nD τ sig (HIx 1)) W) : sProp 𝕄) := by
  have h := (K (F := F)).wp_liftProg (D (F := F)) 𝒱 (T d) Set.univ none (Prog.op (.customCall (Pipeline.entry 0) ()) fun _ => .ret PUnit.unit)
    (fun _ => (iprop(boundary (T d) ∗ unscopedBufs d (V3r m pre d) ∗ ∃ W, ⌜(K (F := F)).WBelow (T d) W 8⌝ ∗ owes (T d) (0 : CellTallies nD τ sig (HIx 1)) W) : sProp 𝕄))
  refine BIBase.Entails.trans ?_ h
  refine BIBase.Entails.trans ?_ (Pipeline.RegionSeg.wp (pcfgs (F := F)) adm (pdats (V2r m pre) adm) none cellOf_inj EP defs₀ 𝒱₀ (K (F := F)).L (K (F := F)).lev
    (reg (V2r m pre) adm (V3r m pre) (fun _ => iprop(emp)) (V3r_out m pre) (V3r_ne m pre)) d none (fun _ h => nomatch h) _ _)
  rw [wp_ret, reg_pre, reg_post]
  unfold G
  rw [bigSep_univ_of_subsingleton (0 : Fin 1), bigSep_univ_of_subsingleton (0 : Fin 1)]
  iintro ⟨Hb, Hub, HO, Hlev, Hg, Htk⟩
  isplitr [Hb Hub HO Hlev Hg Htk]
  · iintro ⟨Hb, Hub, -, HO⟩
    imodintro
    isplitl [Hb]; · iexact Hb
    isplitl [Hub]; · iexact Hub
    iexact HO
  isplitl [Hb]; · iexact Hb
  isplitl [Hub HO]
  · isplitl [Hub]; · iexact Hub
    isplitr; · iempintro
    iexact HO
  isplitl [Hlev]; · iexact Hlev
  isplitl [Hg]; · iexact Hg
  iexact Htk

/-! ## @main on the TensorCore -/

variable (hT : InTable (mC m pre)) (hpre : ∀ d, Ok 4 (pre d))
variable (hmainEq : ∀ d, main (F := F) d = (seq (pre d) >>= fun _ => seq tailOps >>= fun _ => call d))

/-- A line touches the launch's buffers only. -/
theorem sub_uc {n : ℕ} {ops : List (HloOp τ sig (Elt F))} (h : Ok n ops) : ∀ op ∈ ops, op.bufs ⊆ uc := fun op ho r hr =>
  Finset.mem_filter.mpr ⟨h.bufs op ho hr, by rw [op.no_scoped r hr]; exact Bool.false_ne_true⟩

/-- What the certificate keeps of a device's buffers at the end. -/
abbrev FIN (d : Dev nD) : sProp 𝕄 := held (T d) uc (V3 m pre d)

omit [FloatOps F] [Named F] [∀ e, Nonempty (Elt F e)] in
/-- The buffers as the launch gives them. -/
theorem fromLaunch (d : Dev nD) : (unscopedBufs d (fun b => m ((d.tc : Thread nD τ).loc b)) : sProp 𝕄) ⊢ held (T d) uc (V0 m d) :=
  Entails.of_eq (Pipeline.unscopedBufs_held d (V0 m d))

omit [∀ e, Nonempty (Elt F e)] in
/-- The buffers as the TensorCore call takes them. -/
theorem toRegion (d : Dev nD) : (held (T d) uc (after midOps (V1 m pre d)) : sProp 𝕄) ⊢ unscopedBufs d (V2r m pre d) :=
  Entails.of_eq (Pipeline.unscopedBufs_held d (V2 m pre d)).symm

omit [∀ e, Nonempty (Elt F e)] in
/-- The buffers as the TensorCore call gives them back. -/
theorem fromRegion (d : Dev nD) : (unscopedBufs d (V3r m pre d) : sProp 𝕄) ⊢ held (T d) uc (V3 m pre d) :=
  Entails.of_eq (Pipeline.unscopedBufs_held d (V3 m pre d))

omit [FloatOps F] [Named F] [∀ e, Nonempty (Elt F e)] in
/-- A conjunction of nothing is nothing. -/
theorem bigSep_emp' {I : Type} (s : Finset I) : (bigSep s fun _ => iprop(emp)) = (iprop(emp) : sProp 𝕄) := bigSep_emp_const s

/-- After the call the TensorCore owes nothing; what it recorded lies below the end. -/
theorem tcSt_open (d : Dev nD) :
    ((K (F := F)).tcSt EH d 1 : sProp 𝕄) ⊢ iprop((∃ W, ⌜(K (F := F)).WBelow (T d) W 8⌝ ∗ owes (T d) (0 : CellTallies nD τ sig (HIx 1)) W)
      ∗ ((∃ W, ⌜(K (F := F)).WBelow (T d) W 8⌝ ∗ owes (T d) (0 : CellTallies nD τ sig (HIx 1)) W) -∗ (K (F := F)).tcSt EH d 1)) := by
  unfold SparseCore.Cfg.tcSt
  rw [(K (F := F)).Otc_end d (le_refl 1)]
  iintro ⟨HO, Hat, Hrd, Hrs, Htk⟩
  isplitl [HO]; · iexact HO
  iintro HO
  isplitl [HO]; · iexact HO
  isplitl [Hat]; · iexact Hat
  isplitl [Hrd]; · iexact Hrd
  isplitl [Hrs] <;> iassumption

/-- What the TensorCore owes after the SparseCore call. -/
theorem tcSt_open' (d : Dev nD) :
    ((K (F := F)).tcSt EH d ((0 : Fin 1).val + 1) : sProp 𝕄) ⊢ iprop((∃ W, ⌜(K (F := F)).WBelow (T d) W 8⌝ ∗ owes (T d) (0 : CellTallies nD τ sig (HIx 1)) W)
      ∗ ((∃ W, ⌜(K (F := F)).WBelow (T d) W 8⌝ ∗ owes (T d) (0 : CellTallies nD τ sig (HIx 1)) W) -∗ (K (F := F)).tcSt EH d 1)) := tcSt_open d

include hT in
/-- From the SparseCore call on. -/
theorem hcall (κ : GSem nD τ sig → ℕ) (d : Dev nD) :
    iprop((K (F := F)).ctx EH (P (mC m pre)) κ ∗ (K (F := F)).tcSt EH d 0 ∗ (boundary (T d) ∗ held (T d) uc (VH m pre d)) ∗ (K (F := F)).tcSems0 d ∗ G d)
      ⊢ wp frame (wpE ((K (F := F)).defs (D (F := F))) 𝒱 (T d) none) Set.univ (call d)
          fun _ => iprop((K (F := F)).tcSt EH d 1 ∗ FIN m pre d ∗ (K (F := F)).tcEnd d) := by
  unfold call
  rw [wp_bind]
  iintro ⟨#Hctx, Hst, ⟨Hb, Hh⟩, Hts, Hg⟩
  ihave Hh' := (give m pre d) $$ Hh
  icases Hh' with ⟨⟨HL, Hgo⟩, Hrest⟩
  iapply ((K (F := F)).wp_run (D (F := F)) 𝒱 (EH := EH) (P := P (mC m pre)) κ d 0) $$ [Hst Hgo HL Hrest Hb Hts Hg]
  isplitr; · iexact Hctx
  isplitl [Hst]; · iexact Hst
  isplitl [Hgo]; · iexact Hgo
  iintro ⟨Hst, Hdn⟩
  ihave Hh := (take m pre hT d) $$ [HL Hdn Hrest]
  · isplitl [HL Hdn]
    · isplitl [HL] <;> iassumption
    iexact Hrest
  iapply (wp_seq 𝒱 none Set.univ d uc _ midOps (sub_uc mid_ok) mid_ok.fresh (V1 m pre d)) $$ [Hb Hh]
  · isplitl [Hb] <;> iassumption
  iintro ⟨Hb, Hh⟩
  ihave Hub := (toRegion m pre d) $$ Hh
  ihave Hlev := (SparseCore.Cfg.ctx_levAts κ) $$ Hctx
  ihave Hst' := (tcSt_open' d) $$ Hst
  icases Hst' with ⟨HO, Hst⟩
  ihave Hreg := (region_wp m pre d) $$ [Hb Hub HO Hlev Hg]
  · isplitl [Hb]; · iexact Hb
    isplitl [Hub]; · iexact Hub
    isplitl [HO]; · iexact HO
    isplitl [Hlev]; · iexact Hlev
    iexact Hg
  iapply (wp_wand frame _ _) $$ Hreg
  iintro %x ⟨Hb, Hub, HO⟩
  ihave Hh := (fromRegion m pre d) $$ Hub
  isplitl [Hst HO]
  · iapply Hst; iexact HO
  isplitl [Hh]; · iexact Hh
  unfold SparseCore.Cfg.tcEnd
  isplitl [Hb] <;> iassumption

include hT hpre hmainEq in
/-- @main on a device's TensorCore. -/
theorem hmain (κ : GSem nD τ sig → ℕ) (d : Dev nD) :
    iprop((K (F := F)).ctx EH (P (mC m pre)) κ ∗ (K (F := F)).tcSt EH d 0 ∗ (K (F := F)).tcRes m g d ∗ G d)
      ⊢ wp frame (wpE ((K (F := F)).defs (D (F := F))) 𝒱 (T d) none) Set.univ (main d)
          fun _ => iprop((K (F := F)).tcSt EH d 1 ∗ FIN m pre d ∗ (K (F := F)).tcEnd d) := by
  unfold SparseCore.Cfg.tcRes
  rw [hmainEq d]
  iintro ⟨#Hctx, Hst, ⟨Hb, Hub, Hts, -⟩, Hg⟩
  ihave Hh := (fromLaunch m d) $$ Hub
  iapply (wp_seq 𝒱 none Set.univ d uc _ (pre d) (sub_uc (hpre d)) (hpre d).fresh (V0 m d)) $$ [Hb Hh]
  · isplitl [Hb] <;> iassumption
  iintro HA
  iapply (wp_seq 𝒱 none Set.univ d uc _ tailOps (sub_uc tail_ok) tail_ok.fresh (after (pre d) (V0 m d))) $$ HA
  iintro HA
  iapply (hcall m pre hT κ d)
  isplitr; · iexact Hctx
  isplitl [Hst]; · iexact Hst
  isplitl [HA]; · iexact HA
  isplitl [Hts] <;> iassumption

/-! ## The launch's ghost state, the end, the run -/

/-- The launch's element: the handshakes' rounds, the pipeline's rounds, no transfer yet. -/
def u₀ : UU := (initOf (K (F := F)).hsCells (K (F := F)).hsToks, (initOf (Pipeline.cells cfgs cellOf_inj) (Pipeline.launchToks cfgs cellOf_inj), 1))

omit [FloatOps F] [Named F] [∀ e, Nonempty (Elt F e)] in
/-- The ghost state splits in the two protocols' parts. -/
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [∀ e, Nonempty (Elt F e)] in
/-- The ghost state at launch gives both protocols their start. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (mC m pre)).x q thr) := by
  unfold u₀
  iintro Hu
  ihave H := (ownU_split _ _) $$ Hu
  icases H with ⟨HH, HP⟩
  imod (Pipeline.fund_ghost cfgs EP cellOf_inj) $$ HP with ⟨Hg, Htk⟩
  imodintro
  isplitl [HH]; · iexact HH
  isplitl [Hg Htk]
  · unfold G; rw [bigSep_sep']
    isplitl [Hg] <;> iassumption
  rw [show (fun thr : Thread nD τ => bigSep Finset.univ fun q : Fin 1 => (P (mC m pre)).x q thr) = fun _ => (iprop(emp) : sProp 𝕄) from
    funext fun thr => bigSep_univ_of_subsingleton (0 : Fin 1), bigSep_emp']
  iempintro

/-- What the end says of a device. -/
def fq (d : Dev nD) (s' : Phys nD τ sig (Elt F)) : Prop := ∀ b : Ref sig .tc, b.isScoped = false → s'.mem.mem ((d.tc : Thread nD τ).loc b) = V3r m pre d b

/-- What the final state holds. -/
theorem hfin (d : Dev nD) (s' : Phys nD τ sig (Elt F)) : iprop(FIN m pre d ∗ SI s') ⊢ (⌜fq m pre d s'⌝ : sProp 𝕄) := by
  have one (b : Ref sig .tc) (hb : b.isScoped = false) : iprop(FIN m pre d ∗ SI s') ⊢ (⌜s'.mem.mem ((d.tc : Thread nD τ).loc b) = V3r m pre d b⌝ : sProp 𝕄) := by
    have hs : ({dr b} : Finset (DevRef τ sig)) ⊆ uc := Finset.singleton_subset_iff.mpr (uc_of b hb)
    have e : (FIN m pre d : sProp 𝕄) = iprop(((d.tc : Thread nD τ).loc b ↦[Finset.univ]{fullShare} V3r m pre d b) ∗ held (T d) (uc \ {dr b}) (V3 m pre d)) := by
      unfold FIN; rw [held_sub_split _ hs]; congr 1; unfold held; rw [bigSep_singleton]; rfl
    rw [e]
    iintro ⟨⟨Hi, -⟩, HSI⟩
    ihave H := (SI_pointsTo_agree (st := s') (ℓ := (d.tc : Thread nD τ).loc b) (I := Finset.univ) (q := fullShare) (f := V3r m pre d b)) $$ [HSI Hi]
    · isplitl [HSI] <;> iassumption
    icases H with %h2
    ipureintro; exact funext fun i => h2 i (Finset.mem_univ i)
  unfold fq
  refine BIBase.Entails.trans ?_ Laws.pure_forall.2
  refine Laws.forall_intro fun b => ?_
  refine BIBase.Entails.trans ?_ Laws.pure_forall.2
  exact Laws.forall_intro fun hb => one b hb

include hT hpre hmainEq in
/-- The program's run: every buffer ends at its last contents, every semaphore at zero. -/
theorem run : θ_run (Cert.KernelIdeal.defs (F := F)) (Cert.KernelIdeal.threads (F := F)) ⟨m, fun _ => 0, g⟩
    (fun r => (∀ (d : Dev nD) (b : Ref sig .tc), b.isScoped = false → r.2.mem ((d.tc : Thread nD τ).loc b) = V3r m pre d b) ∧ r.2.sem = fun _ => 0) :=
  SparseCore.Cfg.θ_run_sc_quiescent (K := K (F := F)) (D := D (F := F)) (𝒱 := 𝒱) (EH := EH) (P := P (mC m pre)) (A := ∅) facts v₀
    (fun q hq => match q with | 0 => nomatch hq)
    (fun q _ => match q with | 0 => tileObl (mC m pre) facts hT)
    (fun q _ => match q with | 0 => SparseCore.Cfg.VecSplit.of_plain (vecSplit (mC m pre)))
    m g main G (FIN m pre) (u₀ (F := F)) (sep_elim_left.trans (hu₀ m pre)) (hmain m g pre hT hpre hmainEq) (fq m pre) (hfin m pre) _ (fun _ h hz => ⟨h, hz⟩)

end Cert.Proof.RunKI

end
-- ==== Proof.FrameKI.lean ====
/-
  The kernel's frame: every id it fetches by is a row of the table, so it runs; and it writes no argument.
-/
module

public import proofs.«01_k».proof.Proof.MainKI
public import proofs.«01_k».proof.Pre_idx_in_table

@[expose] public section

set_option maxRecDepth 65536
set_option maxHeartbeats 2000000

noncomputable section

namespace Cert.Proof.RunKI

open Cert.KernelIdeal Cert.KernelIdeal.Gen

open Idealize.ShloMosaic Idealize.ShloMosaic.StableHlo
open Idealize.ShloMosaic.TcCoe
open Idealize.SL.Sem
open Cert.Proof.Line

variable {F : FTy → Type} [FloatOps F] [Named F]

/-! ## What the line before the first call leaves -/

/-- The drawn ids, clipped to the table. -/
def clipped (x : IVec S1000 32) : IVec S1000 32 :=
  minsi (broadcastInDim S1000 ![] bcast_S_S1000 (constantI S_ 32 99999#32)) (maxsi (broadcastInDim S1000 ![] bcast_S_S1000 (constantI S_ 32 0#32)) x)

/-- The ids that the line leaves are the clipped ones. -/
theorem tail_v16 (V : Valuation τ sig (Elt F)) : after tailOps V (dr main_v16) = clipped (V (dr main_v15)) := by
  unfold tailOps
  after_results_simp
  rfl

/-- The clipped ids, padded with zeros to whole blocks. -/
theorem tail_v31 (V : Valuation τ sig (Elt F)) :
    after tailOps V (dr main_v31) = pad S1024 ![0] ![24] ![0] (clipped (V (dr main_v15))) (constantI S_ 32 0#32) pads_S1000_S1024_0240 h_S_ := by
  unfold tailOps
  after_results_simp
  rfl

/-- The true ids, as one row. -/
theorem tail_v33 (V : Valuation τ sig (Elt F)) :
    after tailOps V (dr main_v33) = shapeCast S4096 (V (dr main_arg2) : IVec S4096x1 32) shapeCasts_S4096x1_S4096 := by
  unfold tailOps
  after_results_simp
  rfl

/-- A clipped word is a row's number. -/
theorem clip_lt (v : BitVec 32) : (IntOp.minsi 99999#32 (IntOp.maxsi 0#32 v)).toNat < 100000 := by
  unfold IntOp.minsi IntOp.maxsi
  simp only [BitVec.slt_eq_decide, BitVec.sle_eq_decide, decide_eq_true_eq]
  split <;> split <;> simp_all [BitVec.toInt_eq_toNat_cond] <;> omega

/-- A clipped and padded id lies in the table. -/
theorem pad_lt (x : IVec S1000 32) (j : S1024.Idx) :
    (pad S1024 ![0] ![24] ![0] (clipped x) (constantI S_ 32 0#32) pads_S1000_S1024_0240 h_S_ j : BitVec 32).toNat < 100000 := by
  unfold pad
  split
  · exact clip_lt _
  · exact (by decide : (0#32).toNat < 100000)

/-! ## The precondition -/

/-- The check on a word, read back. -/
theorem in_of_check (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

variable (m : (ℓ : Loc nD τ sig) → Buf (Elt F) ℓ) (pre : Dev nD → List (HloOp τ sig (Elt F)))

/-- Every true id is a row's number. -/
def IdxOk : Prop := ∀ (d : Dev nD) (i : S4096x1.Idx), ((m ((d.tc : Thread nD τ).loc main_arg2) : IVec S4096x1 32) i : BitVec 32).toNat < 100000

/-- Before the SparseCore call every argument is as at launch. -/
theorem arg_VH (hpre : ∀ d, Ok 4 (pre d)) (d : Dev nD) (b : Ref sig .tc) (hb : b.space = .hbm → b.idx.val < 4) : VH m pre d (dr b) = m ((d.tc : Thread nD τ).loc b) := by
  unfold VH
  rw [tail_ok.keep _ b fun e => lt_of_lt_of_le (hb e) (by decide), (hpre d).keep _ b hb]
  rfl

/-- At the end every argument is as at launch. -/
theorem arg_V3 (hpre : ∀ d, Ok 4 (pre d)) (d : Dev nD) (b : Ref sig .tc) (hb : b.space = .hbm → b.idx.val < 4)
    (h0 : b ≠ main_v34_0) (h1 : b ≠ main_v34_1) (h2 : b ≠ main_v37) : V3r m pre d b = m ((d.tc : Thread nD τ).loc b) := by
  rw [V3r_ne _ _ _ _ h2]
  unfold V2r V2
  rw [mid_ok.keep _ b fun e => lt_of_lt_of_le (hb e) (by decide), V1_ne _ _ _ _ (dr_ne h0) (dr_ne h1), arg_VH m pre hpre d b hb]

/-- All row numbers that the tasks read lie in the table. -/
theorem inTable (hpre : ∀ d, Ok 4 (pre d)) (hi : IdxOk m) : InTable (mC m pre) := by
  intro d
  constructor
  · intro n hn
    unfold sAt
    rw [dif_pos hn]
    have e : (mC m pre (sLoc d) : S1024.Idx → BitVec 32) = _ := tail_v31 (after (pre d) (V0 m d))
    rw [e]
    exact pad_lt _ _
  · intro n hn
    unfold iAt
    rw [dif_pos hn]
    have e : (mC m pre (iLoc d) : S4096.Idx → BitVec 32) = _ := tail_v33 (after (pre d) (V0 m d))
    rw [e, (hpre d).keep _ main_arg2 fun _ => (by decide)]
    exact hi d _

variable [∀ e, Nonempty (Elt F e)]

/-- The run from in-range ids: the arguments end as they began, every counter at zero, the result at the loss. -/
theorem run_args (g : Dev nD → PrngReg) (hpre : ∀ d, Ok 4 (pre d)) (hi : IdxOk m)
    (hmainEq : ∀ d, main (F := F) d = (seq (pre d) >>= fun _ => seq tailOps >>= fun _ => call d)) :
    θ_run (defs (F := F)) (threads (F := F)) ⟨m, fun _ => 0, g⟩ (fun r =>
      ((∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3))
      ∧ r.2.sem = fun _ => 0)
      ∧ ∀ d : Dev nD, r.2.mem ((d.tc : Thread nD τ).loc main_v37) = lossArr (V2r m pre) d) :=
  (θ_run (defs (F := F)) _ _).mono (fun r h =>
    ⟨⟨fun d =>
      ⟨(h.1 d main_arg0 rfl).trans (arg_V3 m pre hpre d main_arg0 (fun _ => by decide) (by decide) (by decide) (by decide)),
       (h.1 d main_arg1 rfl).trans (arg_V3 m pre hpre d main_arg1 (fun _ => by decide) (by decide) (by decide) (by decide)),
       (h.1 d main_arg2 rfl).trans (arg_V3 m pre hpre d main_arg2 (fun _ => by decide) (by decide) (by decide) (by decide)),
       (h.1 d main_arg3 rfl).trans (arg_V3 m pre hpre d main_arg3 (fun _ => by decide) (by decide) (by decide) (by decide))⟩, h.2⟩,
     fun d => (h.1 d main_v37 rfl).trans (V3r_out m pre d)⟩)
    (run m g pre (inTable m pre hpre hi) hpre hmainEq)

end Cert.Proof.RunKI

end
-- ==== Proof.HostK.lean ====
/-
  The kernel's host operations up to the clip, as one line of operations: every value is written once, in the order of
  the buffers' numbers, so the line leaves the arguments as they were.
-/
module

public import proofs.«01_k».proof.Proof.Line
public import proofs.«01_k».proof.Proof.TailK

@[expose] public section

set_option maxRecDepth 65536
set_option maxHeartbeats 4000000

noncomputable section

namespace Cert.Proof.HostK

open Idealize.ShloMosaic Idealize.ShloMosaic.StableHlo
open Idealize.ShloMosaic.TcCoe
open Idealize.SL.Sem
open Cert.Proof.Line

variable {F : FTy → Type} [FloatOps F]

/-- The hash's statements, part 1 of 4. -/
theorem hash0 : Sim 33 (Cert.Kernel.fn_threefry2x32.body_part0 (F := F) Cert.Kernel.main_call0.v5 Cert.Kernel.main_call0.v7 Cert.Kernel.main_call0.v14 Cert.Kernel.main_call0.v13 Cert.Kernel.main_call0.call0) (pure ⟨⟩)
    (Cert.Kernel.fn_threefry2x32.body_part0 (F := F) Cert.Kernel.main_call0.v5 Cert.Kernel.main_call0.v7 Cert.Kernel.main_call0.v14 Cert.Kernel.main_call0.v13 Cert.Kernel.main_call0.call0) (pure ⟨⟩) 93 := by
  unfold Cert.Kernel.fn_threefry2x32.body_part0
  iterate 59 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.last ?_
  iterate 1 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The hash's statements, part 2 of 4. -/
theorem hash1 : Sim 93 (Cert.Kernel.fn_threefry2x32.body_part1 (F := F) Cert.Kernel.main_call0.v5 Cert.Kernel.main_call0.v7 Cert.Kernel.main_call0.v14 Cert.Kernel.main_call0.v13 Cert.Kernel.main_call0.call0) (pure ⟨⟩)
    (Cert.Kernel.fn_threefry2x32.body_part1 (F := F) Cert.Kernel.main_call0.v5 Cert.Kernel.main_call0.v7 Cert.Kernel.main_call0.v14 Cert.Kernel.main_call0.v13 Cert.Kernel.main_call0.call0) (pure ⟨⟩) 153 := by
  unfold Cert.Kernel.fn_threefry2x32.body_part1
  iterate 59 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.last ?_
  iterate 1 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The hash's statements, part 3 of 4. -/
theorem hash2 : Sim 153 (Cert.Kernel.fn_threefry2x32.body_part2 (F := F) Cert.Kernel.main_call0.v5 Cert.Kernel.main_call0.v7 Cert.Kernel.main_call0.v14 Cert.Kernel.main_call0.v13 Cert.Kernel.main_call0.call0) (pure ⟨⟩)
    (Cert.Kernel.fn_threefry2x32.body_part2 (F := F) Cert.Kernel.main_call0.v5 Cert.Kernel.main_call0.v7 Cert.Kernel.main_call0.v14 Cert.Kernel.main_call0.v13 Cert.Kernel.main_call0.call0) (pure ⟨⟩) 213 := by
  unfold Cert.Kernel.fn_threefry2x32.body_part2
  iterate 59 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.last ?_
  iterate 1 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The hash's statements, part 4 of 4. -/
theorem hash3 : Sim 213 (Cert.Kernel.fn_threefry2x32.body_part3 (F := F) Cert.Kernel.main_call0.v5 Cert.Kernel.main_call0.v7 Cert.Kernel.main_call0.v14 Cert.Kernel.main_call0.v13 Cert.Kernel.main_call0.call0) (pure ⟨⟩)
    (Cert.Kernel.fn_threefry2x32.body_part3 (F := F) Cert.Kernel.main_call0.v5 Cert.Kernel.main_call0.v7 Cert.Kernel.main_call0.v14 Cert.Kernel.main_call0.v13 Cert.Kernel.main_call0.call0) (pure ⟨⟩) 255 := by
  unfold Cert.Kernel.fn_threefry2x32.body_part3
  iterate 42 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The hash. -/
theorem hash : Sim 33 (Cert.Kernel.fn_threefry2x32.body (F := F) Cert.Kernel.main_call0.v5 Cert.Kernel.main_call0.v7 Cert.Kernel.main_call0.v14 Cert.Kernel.main_call0.v13 Cert.Kernel.main_call0.call0) (pure ⟨⟩)
    (Cert.Kernel.fn_threefry2x32.body (F := F) Cert.Kernel.main_call0.v5 Cert.Kernel.main_call0.v7 Cert.Kernel.main_call0.v14 Cert.Kernel.main_call0.v13 Cert.Kernel.main_call0.call0) (pure ⟨⟩) 255 := by
  unfold Cert.Kernel.fn_threefry2x32.body
  exact Sim.call hash0 (Sim.call hash1 (Sim.call hash2 hash3))

/-- The uniform draws. -/
theorem draws : Sim 16 (Cert.Kernel.fn_uniform.body (F := F) (.of Cert.Kernel.main_v6) (.of Cert.Kernel.main_cst) (.of Cert.Kernel.main_cst_2) Cert.Kernel.main_call0) (pure ⟨⟩)
    (Cert.Kernel.fn_uniform.body (F := F) (.of Cert.Kernel.main_v6) (.of Cert.Kernel.main_cst) (.of Cert.Kernel.main_cst_2) Cert.Kernel.main_call0) (pure ⟨⟩) 273 := by
  unfold Cert.Kernel.fn_uniform.body
  iterate 17 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.call hash ?_
  iterate 18 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The draw of the sampled rows' numbers, before the clip. -/
theorem line (d : Dev Cert.Kernel.nD) : Sim 4 (Cert.Kernel.main (F := F) d) (seq Cert.Proof.RunK.tailOps >>= fun _ => Cert.Proof.RunK.call d)
    (Cert.Kernel.main (F := F) d) (seq Cert.Proof.RunK.tailOps >>= fun _ => Cert.Proof.RunK.call d) 283 := by
  unfold Cert.Kernel.main
  iterate 12 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.call draws ?_
  iterate 10 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.done rfl ?_ ?_
  · exact Cert.Proof.RunK.tail_eq d
  · exact Cert.Proof.RunK.tail_eq d

end Cert.Proof.HostK

end
-- ==== Proof.TailR.lean ====
/-
  What the reference's host code runs after the draws, as lists of operations.
-/
module

public import proofs.«01_k».proof.Proof.Line
public import proofs.«01_k».proof.Proof.Gen.ReferenceIdeal

@[expose] public section

set_option maxRecDepth 65536
set_option maxHeartbeats 4000000

noncomputable section

namespace Cert.Proof.RunR

open Cert.ReferenceIdeal Cert.ReferenceIdeal.Gen

open Idealize.ShloMosaic Idealize.ShloMosaic.StableHlo
open Idealize.ShloMosaic.TcCoe
open Idealize.SL.Sem
open Cert.Proof.Line

variable {F : FTy → Type} [FloatOps F]

/-- The operations from the clip on, first half. -/
def tail0 : List (HloOp τ sig (Elt F)) := [
  StableHlo.nullary main_c_5 (constantI S_ 32 0#32),
  StableHlo.nullary main_c_6 (constantI S_ 32 99999#32),
  StableHlo.unary main_c_5 main_call1_v0 (id : (⟨S_, .i32⟩ : BufTy).Contents (Elt F) → (⟨S_, .i32⟩ : BufTy).Contents (Elt F)),
  StableHlo.unary main_call1_v0 main_call1_v1 ((broadcastInDim S1000 ![] bcast_S_S1000) : (⟨S_, .i32⟩ : BufTy).Contents (Elt F) → (⟨S1000, .i32⟩ : BufTy).Contents (Elt F)),
  StableHlo.binary main_call1_v1 main_v15 main_call1_v2 (maxsi : (⟨S1000, .i32⟩ : BufTy).Contents (Elt F) → (⟨S1000, .i32⟩ : BufTy).Contents (Elt F) → (⟨S1000, .i32⟩ : BufTy).Contents (Elt F)),
  StableHlo.unary main_c_6 main_call1_v3 (id : (⟨S_, .i32⟩ : BufTy).Contents (Elt F) → (⟨S_, .i32⟩ : BufTy).Contents (Elt F)),
  StableHlo.unary main_call1_v3 main_call1_v4 ((broadcastInDim S1000 ![] bcast_S_S1000) : (⟨S_, .i32⟩ : BufTy).Contents (Elt F) → (⟨S1000, .i32⟩ : BufTy).Contents (Elt F)),
  StableHlo.binary main_call1_v4 main_call1_v2 main_v16 (minsi : (⟨S1000, .i32⟩ : BufTy).Contents (Elt F) → (⟨S1000, .i32⟩ : BufTy).Contents (Elt F) → (⟨S1000, .i32⟩ : BufTy).Contents (Elt F)),
  StableHlo.reshape main_arg2 main_v17 (rfl : (.i32 : EltTy) = .i32) shapeCasts_S4096x1_S4096,
  StableHlo.nullary main_cst_7 (constant S_ .f32 0x47C35080#32),
  StableHlo.unary main_cst_7 main_v18 (Host.log : (⟨S_, .f32⟩ : BufTy).Contents (Elt F) → (⟨S_, .f32⟩ : BufTy).Contents (Elt F)),
  StableHlo.unary main_v17 main_v19 (sitofp .f32 : (⟨S4096, .i32⟩ : BufTy).Contents (Elt F) → (⟨S4096, .f32⟩ : BufTy).Contents (Elt F)),
  StableHlo.nullary main_cst_8 (constant S_ .f32 0x40000000#32),
  StableHlo.unary main_cst_8 main_v20 (broadcastInDim S4096 ![] bcast_S_S4096 : (⟨S_, .f32⟩ : BufTy).Contents (Elt F) → (⟨S4096, .f32⟩ : BufTy).Contents (Elt F)),
  StableHlo.binary main_v19 main_v20 main_v21 (addf : (⟨S4096, .f32⟩ : BufTy).Contents (Elt F) → (⟨S4096, .f32⟩ : BufTy).Contents (Elt F) → (⟨S4096, .f32⟩ : BufTy).Contents (Elt F)),
  StableHlo.unary main_v21 main_v22 (Host.log : (⟨S4096, .f32⟩ : BufTy).Contents (Elt F) → (⟨S4096, .f32⟩ : BufTy).Contents (Elt F)),
  StableHlo.nullary main_cst_9 (constant S_ .f32 0x3F800000#32),
  StableHlo.unary main_cst_9 main_v23 (broadcastInDim S4096 ![] bcast_S_S4096 : (⟨S_, .f32⟩ : BufTy).Contents (Elt F) → (⟨S4096, .f32⟩ : BufTy).Contents (Elt F)),
  StableHlo.binary main_v19 main_v23 main_v24 (addf : (⟨S4096, .f32⟩ : BufTy).Contents (Elt F) → (⟨S4096, .f32⟩ : BufTy).Contents (Elt F) → (⟨S4096, .f32⟩ : BufTy).Contents (Elt F)),
  StableHlo.unary main_v24 main_v25 (Host.log : (⟨S4096, .f32⟩ : BufTy).Contents (Elt F) → (⟨S4096, .f32⟩ : BufTy).Contents (Elt F)),
  StableHlo.binary main_v22 main_v25 main_v26 (subf : (⟨S4096, .f32⟩ : BufTy).Contents (Elt F) → (⟨S4096, .f32⟩ : BufTy).Contents (Elt F) → (⟨S4096, .f32⟩ : BufTy).Contents (Elt F)),
  StableHlo.unary main_v18 main_v27 (broadcastInDim S4096 ![] bcast_S_S4096 : (⟨S_, .f32⟩ : BufTy).Contents (Elt F) → (⟨S4096, .f32⟩ : BufTy).Contents (Elt F)),
  StableHlo.binary main_v26 main_v27 main_v28 (Host.divf : (⟨S4096, .f32⟩ : BufTy).Contents (Elt F) → (⟨S4096, .f32⟩ : BufTy).Contents (Elt F) → (⟨S4096, .f32⟩ : BufTy).Contents (Elt F)),
  StableHlo.unary main_v16 main_v29 (sitofp .f32 : (⟨S1000, .i32⟩ : BufTy).Contents (Elt F) → (⟨S1000, .f32⟩ : BufTy).Contents (Elt F)),
  StableHlo.nullary main_cst_10 (constant S_ .f32 0x40000000#32),
  StableHlo.unary main_cst_10 main_v30 (broadcastInDim S1000 ![] bcast_S_S1000 : (⟨S_, .f32⟩ : BufTy).Contents (Elt F) → (⟨S1000, .f32⟩ : BufTy).Contents (Elt F)),
  StableHlo.binary main_v29 main_v30 main_v31 (addf : (⟨S1000, .f32⟩ : BufTy).Contents (Elt F) → (⟨S1000, .f32⟩ : BufTy).Contents (Elt F) → (⟨S1000, .f32⟩ : BufTy).Contents (Elt F)),
  StableHlo.unary main_v31 main_v32 (Host.log : (⟨S1000, .f32⟩ : BufTy).Contents (Elt F) → (⟨S1000, .f32⟩ : BufTy).Contents (Elt F)),
  StableHlo.nullary main_cst_11 (constant S_ .f32 0x3F800000#32),
  StableHlo.unary main_cst_11 main_v33 (broadcastInDim S1000 ![] bcast_S_S1000 : (⟨S_, .f32⟩ : BufTy).Contents (Elt F) → (⟨S1000, .f32⟩ : BufTy).Contents (Elt F)),
  StableHlo.binary main_v29 main_v33 main_v34 (addf : (⟨S1000, .f32⟩ : BufTy).Contents (Elt F) → (⟨S1000, .f32⟩ : BufTy).Contents (Elt F) → (⟨S1000, .f32⟩ : BufTy).Contents (Elt F)),
  StableHlo.unary main_v34 main_v35 (Host.log : (⟨S1000, .f32⟩ : BufTy).Contents (Elt F) → (⟨S1000, .f32⟩ : BufTy).Contents (Elt F)),
  StableHlo.binary main_v32 main_v35 main_v36 (subf : (⟨S1000, .f32⟩ : BufTy).Contents (Elt F) → (⟨S1000, .f32⟩ : BufTy).Contents (Elt F) → (⟨S1000, .f32⟩ : BufTy).Contents (Elt F)),
  StableHlo.unary main_v18 main_v37 (broadcastInDim S1000 ![] bcast_S_S1000 : (⟨S_, .f32⟩ : BufTy).Contents (Elt F) → (⟨S1000, .f32⟩ : BufTy).Contents (Elt F)),
  StableHlo.binary main_v36 main_v37 main_v38 (Host.divf : (⟨S1000, .f32⟩ : BufTy).Contents (Elt F) → (⟨S1000, .f32⟩ : BufTy).Contents (Elt F) → (⟨S1000, .f32⟩ : BufTy).Contents (Elt F)),
  StableHlo.nullary main_call2_c ((constantI S_ 32 0#32) : (⟨S_, .i32⟩ : BufTy).Contents (Elt F)),
  StableHlo.unary main_call2_c main_call2_v0 ((broadcastInDim S4096 ![] bcast_S_S4096) : (⟨S_, .i32⟩ : BufTy).Contents (Elt F) → (⟨S4096, .i32⟩ : BufTy).Contents (Elt F)),
  StableHlo.binary main_v17 main_call2_v0 main_call2_v1 ((cmpi .slt) : (⟨S4096, .i32⟩ : BufTy).Contents (Elt F) → (⟨S4096, .i32⟩ : BufTy).Contents (Elt F) → (⟨S4096, .i1⟩ : BufTy).Contents (Elt F)),
  StableHlo.nullary main_call2_c_0 ((constantI S_ 32 100000#32) : (⟨S_, .i32⟩ : BufTy).Contents (Elt F)),
  StableHlo.unary main_call2_c_0 main_call2_v2 ((broadcastInDim S4096 ![] bcast_S_S4096) : (⟨S_, .i32⟩ : BufTy).Contents (Elt F) → (⟨S4096, .i32⟩ : BufTy).Contents (Elt F)),
  StableHlo.binary main_v17 main_call2_v2 main_call2_v3 (addi : (⟨S4096, .i32⟩ : BufTy).Contents (Elt F) → (⟨S4096, .i32⟩ : BufTy).Contents (Elt F) → (⟨S4096, .i32⟩ : BufTy).Contents (Elt F)),
  StableHlo.ternary main_call2_v1 main_call2_v3 main_v17 main_call2_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
  StableHlo.unary main_call2_v4 main_call2_v5 ((broadcastInDim S4096x1 ![0] bcast_S4096_S4096x1_0) : (⟨S4096, .i32⟩ : BufTy).Contents (Elt F) → (⟨S4096x1, .i32⟩ : BufTy).Contents (Elt F)),
  StableHlo.nullary main_call2_c_1 ((constantI S1 32 99999#32) : (⟨S1, .i32⟩ : BufTy).Contents (Elt F)),
  StableHlo.nullary main_call2_c_2 ((constantI S_ 32 0#32) : (⟨S_, .i32⟩ : BufTy).Contents (Elt F)),
  StableHlo.unary main_call2_c_2 main_call2_v6 ((broadcastInDim S4096x1 ![] bcast_S_S4096x1) : (⟨S_, .i32⟩ : BufTy).Contents (Elt F) → (⟨S4096x1, .i32⟩ : BufTy).Contents (Elt F)),
  StableHlo.binary main_call2_v5 main_call2_v6 main_call2_v7 ((cmpi .sge) : (⟨S4096x1, .i32⟩ : BufTy).Contents (Elt F) → (⟨S4096x1, .i32⟩ : BufTy).Contents (Elt F) → (⟨S4096x1, .i1⟩ : BufTy).Contents (Elt F)),
  StableHlo.unary main_call2_c_1 main_call2_v8 ((broadcastInDim S1x1 ![1] bcast_S1_S1x1_1) : (⟨S1, .i32⟩ : BufTy).Contents (Elt F) → (⟨S1x1, .i32⟩ : BufTy).Contents (Elt F)),
  StableHlo.unary main_call2_v8 main_call2_v9 ((broadcastInDim S4096x1 ![0, 1] bcast_S1x1_S4096x1_0_1) : (⟨S1x1, .i32⟩ : BufTy).Contents (Elt F) → (⟨S4096x1, .i32⟩ : BufTy).Contents (Elt F)),
  StableHlo.binary main_call2_v5 main_call2_v9 main_call2_v10 ((cmpi .sle) : (⟨S4096x1, .i32⟩ : BufTy).Contents (Elt F) → (⟨S4096x1, .i32⟩ : BufTy).Contents (Elt F) → (⟨S4096x1, .i1⟩ : BufTy).Contents (Elt F)),
  StableHlo.binary main_call2_v7 main_call2_v10 main_call2_v11 (andi : (⟨S4096x1, .i1⟩ : BufTy).Contents (Elt F) → (⟨S4096x1, .i1⟩ : BufTy).Contents (Elt F) → (⟨S4096x1, .i1⟩ : BufTy).Contents (Elt F)),
  StableHlo.nullary main_call2_c_3 ((constantI S_ 1 1#1) : (⟨S_, .i1⟩ : BufTy).Contents (Elt F)),
  StableHlo.binary main_call2_v11 main_call2_c_3 main_call2_v12 ((fun x v => Host.reduce IntOp.andi x v reducesTo_S4096x1_S4096_d1 h_S_) : (⟨S4096x1, .i1⟩ : BufTy).Contents (Elt F) → (⟨S_, .i1⟩ : BufTy).Contents (Elt F) → (⟨S4096, .i1⟩ : BufTy).Contents (Elt F)),
  StableHlo.binary main_arg0 main_call2_v5 main_call2_v13 ((fun x i => Host.gather gather_S100000x64_S4096x1_S4096x64_1_0_n_n_0_1_164 x i) : (⟨S100000x64, .f32⟩ : BufTy).Contents (Elt F) → (⟨S4096x1, .i32⟩ : BufTy).Contents (Elt F) → (⟨S4096x64, .f32⟩ : BufTy).Contents (Elt F)),
  StableHlo.unary main_call2_v12 main_call2_v14 ((broadcastInDim S4096x64 ![0] bcast_S4096_S4096x64_0) : (⟨S4096, .i1⟩ : BufTy).Contents (Elt F) → (⟨S4096x64, .i1⟩ : BufTy).Contents (Elt F)),
  StableHlo.nullary main_call2_cst ((constant S_ .f32 0x7FC00000#32) : (⟨S_, .f32⟩ : BufTy).Contents (Elt F)),
  StableHlo.unary main_call2_cst main_call2_v15 ((broadcastInDim S4096x64 ![] bcast_S_S4096x64) : (⟨S_, .f32⟩ : BufTy).Contents (Elt F) → (⟨S4096x64, .f32⟩ : BufTy).Contents (Elt F)),
  StableHlo.ternary main_call2_v14 main_call2_v13 main_call2_v15 main_v39 (select : (⟨S4096x64, .i1⟩ : BufTy).Contents (Elt F) → (⟨S4096x64, .f32⟩ : BufTy).Contents (Elt F) → (⟨S4096x64, .f32⟩ : BufTy).Contents (Elt F) → (⟨S4096x64, .f32⟩ : BufTy).Contents (Elt F)),
  StableHlo.nullary main_call3_c ((constantI S_ 32 0#32) : (⟨S_, .i32⟩ : BufTy).Contents (Elt F)),
  StableHlo.unary main_call3_c main_call3_v0 ((broadcastInDim S4096 ![] bcast_S_S4096) : (⟨S_, .i32⟩ : BufTy).Contents (Elt F) → (⟨S4096, .i32⟩ : BufTy).Contents (Elt F)),
  StableHlo.binary main_v17 main_call3_v0 main_call3_v1 ((cmpi .slt) : (⟨S4096, .i32⟩ : BufTy).Contents (Elt F) → (⟨S4096, .i32⟩ : BufTy).Contents (Elt F) → (⟨S4096, .i1⟩ : BufTy).Contents (Elt F)),
  StableHlo.nullary main_call3_c_0 ((constantI S_ 32 100000#32) : (⟨S_, .i32⟩ : BufTy).Contents (Elt F)),
  StableHlo.unary main_call3_c_0 main_call3_v2 ((broadcastInDim S4096 ![] bcast_S_S4096) : (⟨S_, .i32⟩ : BufTy).Contents (Elt F) → (⟨S4096, .i32⟩ : BufTy).Contents (Elt F)),
  StableHlo.binary main_v17 main_call3_v2 main_call3_v3 (addi : (⟨S4096, .i32⟩ : BufTy).Contents (Elt F) → (⟨S4096, .i32⟩ : BufTy).Contents (Elt F) → (⟨S4096, .i32⟩ : BufTy).Contents (Elt F)),
  StableHlo.ternary main_call3_v1 main_call3_v3 main_v17 main_call3_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
  StableHlo.unary main_call3_v4 main_call3_v5 ((broadcastInDim S4096x1 ![0] bcast_S4096_S4096x1_0) : (⟨S4096, .i32⟩ : BufTy).Contents (Elt F) → (⟨S4096x1, .i32⟩ : BufTy).Contents (Elt F)),
  StableHlo.nullary main_call3_c_1 ((constantI S1 32 99999#32) : (⟨S1, .i32⟩ : BufTy).Contents (Elt F)),
  StableHlo.nullary main_call3_c_2 ((constantI S_ 32 0#32) : (⟨S_, .i32⟩ : BufTy).Contents (Elt F)),
  StableHlo.unary main_call3_c_2 main_call3_v6 ((broadcastInDim S4096x1 ![] bcast_S_S4096x1) : (⟨S_, .i32⟩ : BufTy).Contents (Elt F) → (⟨S4096x1, .i32⟩ : BufTy).Contents (Elt F)),
  StableHlo.binary main_call3_v5 main_call3_v6 main_call3_v7 ((cmpi .sge) : (⟨S4096x1, .i32⟩ : BufTy).Contents (Elt F) → (⟨S4096x1, .i32⟩ : BufTy).Contents (Elt F) → (⟨S4096x1, .i1⟩ : BufTy).Contents (Elt F)),
  StableHlo.unary main_call3_c_1 main_call3_v8 ((broadcastInDim S1x1 ![1] bcast_S1_S1x1_1) : (⟨S1, .i32⟩ : BufTy).Contents (Elt F) → (⟨S1x1, .i32⟩ : BufTy).Contents (Elt F)),
  StableHlo.unary main_call3_v8 main_call3_v9 ((broadcastInDim S4096x1 ![0, 1] bcast_S1x1_S4096x1_0_1) : (⟨S1x1, .i32⟩ : BufTy).Contents (Elt F) → (⟨S4096x1, .i32⟩ : BufTy).Contents (Elt F)),
  StableHlo.binary main_call3_v5 main_call3_v9 main_call3_v10 ((cmpi .sle) : (⟨S4096x1, .i32⟩ : BufTy).Contents (Elt F) → (⟨S4096x1, .i32⟩ : BufTy).Contents (Elt F) → (⟨S4096x1, .i1⟩ : BufTy).Contents (Elt F)),
  StableHlo.binary main_call3_v7 main_call3_v10 main_call3_v11 (andi : (⟨S4096x1, .i1⟩ : BufTy).Contents (Elt F) → (⟨S4096x1, .i1⟩ : BufTy).Contents (Elt F) → (⟨S4096x1, .i1⟩ : BufTy).Contents (Elt F)),
  StableHlo.nullary main_call3_c_3 ((constantI S_ 1 1#1) : (⟨S_, .i1⟩ : BufTy).Contents (Elt F)),
  StableHlo.binary main_call3_v11 main_call3_c_3 main_call3_v12 ((fun x v => Host.reduce IntOp.andi x v reducesTo_S4096x1_S4096_d1 h_S_) : (⟨S4096x1, .i1⟩ : BufTy).Contents (Elt F) → (⟨S_, .i1⟩ : BufTy).Contents (Elt F) → (⟨S4096, .i1⟩ : BufTy).Contents (Elt F)),
  StableHlo.binary main_arg3 main_call3_v5 main_call3_v13 ((fun x i => Host.gather gather_S100000_S4096x1_S4096_n_0_n_n_0_1_1 x i) : (⟨S100000, .f32⟩ : BufTy).Contents (Elt F) → (⟨S4096x1, .i32⟩ : BufTy).Contents (Elt F) → (⟨S4096, .f32⟩ : BufTy).Contents (Elt F)),
  StableHlo.nullary main_call3_cst ((constant S_ .f32 0x7FC00000#32) : (⟨S_, .f32⟩ : BufTy).Contents (Elt F)),
  StableHlo.unary main_call3_cst main_call3_v14 ((broadcastInDim S4096 ![] bcast_S_S4096) : (⟨S_, .f32⟩ : BufTy).Contents (Elt F) → (⟨S4096, .f32⟩ : BufTy).Contents (Elt F)),
  StableHlo.ternary main_call3_v12 main_call3_v13 main_call3_v14 main_v40 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
  StableHlo.binary main_arg1 main_v39 main_v41 (mulf : (⟨S4096x64, .f32⟩ : BufTy).Contents (Elt F) → (⟨S4096x64, .f32⟩ : BufTy).Contents (Elt F) → (⟨S4096x64, .f32⟩ : BufTy).Contents (Elt F)),
  StableHlo.nullary main_cst_12 (constant S_ .f32 0x00000000#32),
  StableHlo.binary main_v41 main_cst_12 main_v42 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
  StableHlo.binary main_v42 main_v40 main_v43 (addf : (⟨S4096, .f32⟩ : BufTy).Contents (Elt F) → (⟨S4096, .f32⟩ : BufTy).Contents (Elt F) → (⟨S4096, .f32⟩ : BufTy).Contents (Elt F)),
  StableHlo.nullary main_cst_13 (constant S_ .f32 0x447A0000#32)]

/-- The operations from the clip on, second half. -/
def tail1 : List (HloOp τ sig (Elt F)) := [
  StableHlo.unary main_cst_13 main_v44 (broadcastInDim S4096 ![] bcast_S_S4096 : (⟨S_, .f32⟩ : BufTy).Contents (Elt F) → (⟨S4096, .f32⟩ : BufTy).Contents (Elt F)),
  StableHlo.binary main_v28 main_v44 main_v45 (mulf : (⟨S4096, .f32⟩ : BufTy).Contents (Elt F) → (⟨S4096, .f32⟩ : BufTy).Contents (Elt F) → (⟨S4096, .f32⟩ : BufTy).Contents (Elt F)),
  StableHlo.unary main_v45 main_v46 (Host.log : (⟨S4096, .f32⟩ : BufTy).Contents (Elt F) → (⟨S4096, .f32⟩ : BufTy).Contents (Elt F)),
  StableHlo.binary main_v43 main_v46 main_v47 (subf : (⟨S4096, .f32⟩ : BufTy).Contents (Elt F) → (⟨S4096, .f32⟩ : BufTy).Contents (Elt F) → (⟨S4096, .f32⟩ : BufTy).Contents (Elt F)),
  StableHlo.nullary main_call4_c ((constantI S_ 32 0#32) : (⟨S_, .i32⟩ : BufTy).Contents (Elt F)),
  StableHlo.unary main_call4_c main_call4_v0 ((broadcastInDim S1000 ![] bcast_S_S1000) : (⟨S_, .i32⟩ : BufTy).Contents (Elt F) → (⟨S1000, .i32⟩ : BufTy).Contents (Elt F)),
  StableHlo.binary main_v16 main_call4_v0 main_call4_v1 ((cmpi .slt) : (⟨S1000, .i32⟩ : BufTy).Contents (Elt F) → (⟨S1000, .i32⟩ : BufTy).Contents (Elt F) → (⟨S1000, .i1⟩ : BufTy).Contents (Elt F)),
  StableHlo.nullary main_call4_c_0 ((constantI S_ 32 100000#32) : (⟨S_, .i32⟩ : BufTy).Contents (Elt F)),
  StableHlo.unary main_call4_c_0 main_call4_v2 ((broadcastInDim S1000 ![] bcast_S_S1000) : (⟨S_, .i32⟩ : BufTy).Contents (Elt F) → (⟨S1000, .i32⟩ : BufTy).Contents (Elt F)),
  StableHlo.binary main_v16 main_call4_v2 main_call4_v3 (addi : (⟨S1000, .i32⟩ : BufTy).Contents (Elt F) → (⟨S1000, .i32⟩ : BufTy).Contents (Elt F) → (⟨S1000, .i32⟩ : BufTy).Contents (Elt F)),
  StableHlo.ternary main_call4_v1 main_call4_v3 main_v16 main_call4_v4 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
  StableHlo.unary main_call4_v4 main_call4_v5 ((broadcastInDim S1000x1 ![0] bcast_S1000_S1000x1_0) : (⟨S1000, .i32⟩ : BufTy).Contents (Elt F) → (⟨S1000x1, .i32⟩ : BufTy).Contents (Elt F)),
  StableHlo.nullary main_call4_c_1 ((constantI S1 32 99999#32) : (⟨S1, .i32⟩ : BufTy).Contents (Elt F)),
  StableHlo.nullary main_call4_c_2 ((constantI S_ 32 0#32) : (⟨S_, .i32⟩ : BufTy).Contents (Elt F)),
  StableHlo.unary main_call4_c_2 main_call4_v6 ((broadcastInDim S1000x1 ![] bcast_S_S1000x1) : (⟨S_, .i32⟩ : BufTy).Contents (Elt F) → (⟨S1000x1, .i32⟩ : BufTy).Contents (Elt F)),
  StableHlo.binary main_call4_v5 main_call4_v6 main_call4_v7 ((cmpi .sge) : (⟨S1000x1, .i32⟩ : BufTy).Contents (Elt F) → (⟨S1000x1, .i32⟩ : BufTy).Contents (Elt F) → (⟨S1000x1, .i1⟩ : BufTy).Contents (Elt F)),
  StableHlo.unary main_call4_c_1 main_call4_v8 ((broadcastInDim S1x1 ![1] bcast_S1_S1x1_1) : (⟨S1, .i32⟩ : BufTy).Contents (Elt F) → (⟨S1x1, .i32⟩ : BufTy).Contents (Elt F)),
  StableHlo.unary main_call4_v8 main_call4_v9 ((broadcastInDim S1000x1 ![0, 1] bcast_S1x1_S1000x1_0_1) : (⟨S1x1, .i32⟩ : BufTy).Contents (Elt F) → (⟨S1000x1, .i32⟩ : BufTy).Contents (Elt F)),
  StableHlo.binary main_call4_v5 main_call4_v9 main_call4_v10 ((cmpi .sle) : (⟨S1000x1, .i32⟩ : BufTy).Contents (Elt F) → (⟨S1000x1, .i32⟩ : BufTy).Contents (Elt F) → (⟨S1000x1, .i1⟩ : BufTy).Contents (Elt F)),
  StableHlo.binary main_call4_v7 main_call4_v10 main_call4_v11 (andi : (⟨S1000x1, .i1⟩ : BufTy).Contents (Elt F) → (⟨S1000x1, .i1⟩ : BufTy).Contents (Elt F) → (⟨S1000x1, .i1⟩ : BufTy).Contents (Elt F)),
  StableHlo.nullary main_call4_c_3 ((constantI S_ 1 1#1) : (⟨S_, .i1⟩ : BufTy).Contents (Elt F)),
  StableHlo.binary main_call4_v11 main_call4_c_3 main_call4_v12 ((fun x v => Host.reduce IntOp.andi x v reducesTo_S1000x1_S1000_d1 h_S_) : (⟨S1000x1, .i1⟩ : BufTy).Contents (Elt F) → (⟨S_, .i1⟩ : BufTy).Contents (Elt F) → (⟨S1000, .i1⟩ : BufTy).Contents (Elt F)),
  StableHlo.binary main_arg0 main_call4_v5 main_call4_v13 ((fun x i => Host.gather gather_S100000x64_S1000x1_S1000x64_1_0_n_n_0_1_164 x i) : (⟨S100000x64, .f32⟩ : BufTy).Contents (Elt F) → (⟨S1000x1, .i32⟩ : BufTy).Contents (Elt F) → (⟨S1000x64, .f32⟩ : BufTy).Contents (Elt F)),
  StableHlo.unary main_call4_v12 main_call4_v14 ((broadcastInDim S1000x64 ![0] bcast_S1000_S1000x64_0) : (⟨S1000, .i1⟩ : BufTy).Contents (Elt F) → (⟨S1000x64, .i1⟩ : BufTy).Contents (Elt F)),
  StableHlo.nullary main_call4_cst ((constant S_ .f32 0x7FC00000#32) : (⟨S_, .f32⟩ : BufTy).Contents (Elt F)),
  StableHlo.unary main_call4_cst main_call4_v15 ((broadcastInDim S1000x64 ![] bcast_S_S1000x64) : (⟨S_, .f32⟩ : BufTy).Contents (Elt F) → (⟨S1000x64, .f32⟩ : BufTy).Contents (Elt F)),
  StableHlo.ternary main_call4_v14 main_call4_v13 main_call4_v15 main_v48 (select : (⟨S1000x64, .i1⟩ : BufTy).Contents (Elt F) → (⟨S1000x64, .f32⟩ : BufTy).Contents (Elt F) → (⟨S1000x64, .f32⟩ : BufTy).Contents (Elt F) → (⟨S1000x64, .f32⟩ : BufTy).Contents (Elt F)),
  StableHlo.nullary main_call5_c ((constantI S_ 32 0#32) : (⟨S_, .i32⟩ : BufTy).Contents (Elt F)),
  StableHlo.unary main_call5_c main_call5_v0 ((broadcastInDim S1000 ![] bcast_S_S1000) : (⟨S_, .i32⟩ : BufTy).Contents (Elt F) → (⟨S1000, .i32⟩ : BufTy).Contents (Elt F)),
  StableHlo.binary main_v16 main_call5_v0 main_call5_v1 ((cmpi .slt) : (⟨S1000, .i32⟩ : BufTy).Contents (Elt F) → (⟨S1000, .i32⟩ : BufTy).Contents (Elt F) → (⟨S1000, .i1⟩ : BufTy).Contents (Elt F)),
  StableHlo.nullary main_call5_c_0 ((constantI S_ 32 100000#32) : (⟨S_, .i32⟩ : BufTy).Contents (Elt F)),
  StableHlo.unary main_call5_c_0 main_call5_v2 ((broadcastInDim S1000 ![] bcast_S_S1000) : (⟨S_, .i32⟩ : BufTy).Contents (Elt F) → (⟨S1000, .i32⟩ : BufTy).Contents (Elt F)),
  StableHlo.binary main_v16 main_call5_v2 main_call5_v3 (addi : (⟨S1000, .i32⟩ : BufTy).Contents (Elt F) → (⟨S1000, .i32⟩ : BufTy).Contents (Elt F) → (⟨S1000, .i32⟩ : BufTy).Contents (Elt F)),
  StableHlo.ternary main_call5_v1 main_call5_v3 main_v16 main_call5_v4 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
  StableHlo.unary main_call5_v4 main_call5_v5 ((broadcastInDim S1000x1 ![0] bcast_S1000_S1000x1_0) : (⟨S1000, .i32⟩ : BufTy).Contents (Elt F) → (⟨S1000x1, .i32⟩ : BufTy).Contents (Elt F)),
  StableHlo.nullary main_call5_c_1 ((constantI S1 32 99999#32) : (⟨S1, .i32⟩ : BufTy).Contents (Elt F)),
  StableHlo.nullary main_call5_c_2 ((constantI S_ 32 0#32) : (⟨S_, .i32⟩ : BufTy).Contents (Elt F)),
  StableHlo.unary main_call5_c_2 main_call5_v6 ((broadcastInDim S1000x1 ![] bcast_S_S1000x1) : (⟨S_, .i32⟩ : BufTy).Contents (Elt F) → (⟨S1000x1, .i32⟩ : BufTy).Contents (Elt F)),
  StableHlo.binary main_call5_v5 main_call5_v6 main_call5_v7 ((cmpi .sge) : (⟨S1000x1, .i32⟩ : BufTy).Contents (Elt F) → (⟨S1000x1, .i32⟩ : BufTy).Contents (Elt F) → (⟨S1000x1, .i1⟩ : BufTy).Contents (Elt F)),
  StableHlo.unary main_call5_c_1 main_call5_v8 ((broadcastInDim S1x1 ![1] bcast_S1_S1x1_1) : (⟨S1, .i32⟩ : BufTy).Contents (Elt F) → (⟨S1x1, .i32⟩ : BufTy).Contents (Elt F)),
  StableHlo.unary main_call5_v8 main_call5_v9 ((broadcastInDim S1000x1 ![0, 1] bcast_S1x1_S1000x1_0_1) : (⟨S1x1, .i32⟩ : BufTy).Contents (Elt F) → (⟨S1000x1, .i32⟩ : BufTy).Contents (Elt F)),
  StableHlo.binary main_call5_v5 main_call5_v9 main_call5_v10 ((cmpi .sle) : (⟨S1000x1, .i32⟩ : BufTy).Contents (Elt F) → (⟨S1000x1, .i32⟩ : BufTy).Contents (Elt F) → (⟨S1000x1, .i1⟩ : BufTy).Contents (Elt F)),
  StableHlo.binary main_call5_v7 main_call5_v10 main_call5_v11 (andi : (⟨S1000x1, .i1⟩ : BufTy).Contents (Elt F) → (⟨S1000x1, .i1⟩ : BufTy).Contents (Elt F) → (⟨S1000x1, .i1⟩ : BufTy).Contents (Elt F)),
  StableHlo.nullary main_call5_c_3 ((constantI S_ 1 1#1) : (⟨S_, .i1⟩ : BufTy).Contents (Elt F)),
  StableHlo.binary main_call5_v11 main_call5_c_3 main_call5_v12 ((fun x v => Host.reduce IntOp.andi x v reducesTo_S1000x1_S1000_d1 h_S_) : (⟨S1000x1, .i1⟩ : BufTy).Contents (Elt F) → (⟨S_, .i1⟩ : BufTy).Contents (Elt F) → (⟨S1000, .i1⟩ : BufTy).Contents (Elt F)),
  StableHlo.binary main_arg3 main_call5_v5 main_call5_v13 ((fun x i => Host.gather gather_S100000_S1000x1_S1000_n_0_n_n_0_1_1 x i) : (⟨S100000, .f32⟩ : BufTy).Contents (Elt F) → (⟨S1000x1, .i32⟩ : BufTy).Contents (Elt F) → (⟨S1000, .f32⟩ : BufTy).Contents (Elt F)),
  StableHlo.nullary main_call5_cst ((constant S_ .f32 0x7FC00000#32) : (⟨S_, .f32⟩ : BufTy).Contents (Elt F)),
  StableHlo.unary main_call5_cst main_call5_v14 ((broadcastInDim S1000 ![] bcast_S_S1000) : (⟨S_, .f32⟩ : BufTy).Contents (Elt F) → (⟨S1000, .f32⟩ : BufTy).Contents (Elt F)),
  StableHlo.ternary main_call5_v12 main_call5_v13 main_call5_v14 main_v49 (select : (⟨S1000, .i1⟩ : BufTy).Contents (Elt F) → (⟨S1000, .f32⟩ : BufTy).Contents (Elt F) → (⟨S1000, .f32⟩ : BufTy).Contents (Elt F) → (⟨S1000, .f32⟩ : BufTy).Contents (Elt F)),
  StableHlo.unary main_v48 main_v50 ((transpose S64x1000 [1, 0] · transposes_S1000x64_S64x1000_1_0) : (⟨S1000x64, .f32⟩ : BufTy).Contents (Elt F) → (⟨S64x1000, .f32⟩ : BufTy).Contents (Elt F)),
  StableHlo.binary main_arg1 main_v50 main_v51 ((fun l r => Host.dotGeneral dot_S4096x64_S64x1000_S4096x1000_1_0_0_1_n_n none l r) : (⟨S4096x64, .f32⟩ : BufTy).Contents (Elt F) → (⟨S64x1000, .f32⟩ : BufTy).Contents (Elt F) → (⟨S4096x1000, .f32⟩ : BufTy).Contents (Elt F)),
  StableHlo.unary main_v49 main_v52 (broadcastInDim S1x1000 ![1] bcast_S1000_S1x1000_1 : (⟨S1000, .f32⟩ : BufTy).Contents (Elt F) → (⟨S1x1000, .f32⟩ : BufTy).Contents (Elt F)),
  StableHlo.unary main_v52 main_v53 (broadcastInDim S4096x1000 ![0, 1] bcast_S1x1000_S4096x1000_0_1 : (⟨S1x1000, .f32⟩ : BufTy).Contents (Elt F) → (⟨S4096x1000, .f32⟩ : BufTy).Contents (Elt F)),
  StableHlo.binary main_v51 main_v53 main_v54 (addf : (⟨S4096x1000, .f32⟩ : BufTy).Contents (Elt F) → (⟨S4096x1000, .f32⟩ : BufTy).Contents (Elt F) → (⟨S4096x1000, .f32⟩ : BufTy).Contents (Elt F)),
  StableHlo.nullary main_cst_14 (constant S_ .f32 0x447A0000#32),
  StableHlo.unary main_cst_14 main_v55 (broadcastInDim S1000 ![] bcast_S_S1000 : (⟨S_, .f32⟩ : BufTy).Contents (Elt F) → (⟨S1000, .f32⟩ : BufTy).Contents (Elt F)),
  StableHlo.binary main_v38 main_v55 main_v56 (mulf : (⟨S1000, .f32⟩ : BufTy).Contents (Elt F) → (⟨S1000, .f32⟩ : BufTy).Contents (Elt F) → (⟨S1000, .f32⟩ : BufTy).Contents (Elt F)),
  StableHlo.unary main_v56 main_v57 (Host.log : (⟨S1000, .f32⟩ : BufTy).Contents (Elt F) → (⟨S1000, .f32⟩ : BufTy).Contents (Elt F)),
  StableHlo.unary main_v57 main_v58 (broadcastInDim S1x1000 ![1] bcast_S1000_S1x1000_1 : (⟨S1000, .f32⟩ : BufTy).Contents (Elt F) → (⟨S1x1000, .f32⟩ : BufTy).Contents (Elt F)),
  StableHlo.unary main_v58 main_v59 (broadcastInDim S4096x1000 ![0, 1] bcast_S1x1000_S4096x1000_0_1 : (⟨S1x1000, .f32⟩ : BufTy).Contents (Elt F) → (⟨S4096x1000, .f32⟩ : BufTy).Contents (Elt F)),
  StableHlo.binary main_v54 main_v59 main_v60 (subf : (⟨S4096x1000, .f32⟩ : BufTy).Contents (Elt F) → (⟨S4096x1000, .f32⟩ : BufTy).Contents (Elt F) → (⟨S4096x1000, .f32⟩ : BufTy).Contents (Elt F)),
  StableHlo.unary main_v17 main_v61 (broadcastInDim S4096x1 ![0] bcast_S4096_S4096x1_0 : (⟨S4096, .i32⟩ : BufTy).Contents (Elt F) → (⟨S4096x1, .i32⟩ : BufTy).Contents (Elt F)),
  StableHlo.unary main_v16 main_v62 (broadcastInDim S1x1000 ![1] bcast_S1000_S1x1000_1 : (⟨S1000, .i32⟩ : BufTy).Contents (Elt F) → (⟨S1x1000, .i32⟩ : BufTy).Contents (Elt F)),
  StableHlo.unary main_v61 main_v63 (broadcastInDim S4096x1000 ![0, 1] bcast_S4096x1_S4096x1000_0_1 : (⟨S4096x1, .i32⟩ : BufTy).Contents (Elt F) → (⟨S4096x1000, .i32⟩ : BufTy).Contents (Elt F)),
  StableHlo.unary main_v62 main_v64 (broadcastInDim S4096x1000 ![0, 1] bcast_S1x1000_S4096x1000_0_1 : (⟨S1x1000, .i32⟩ : BufTy).Contents (Elt F) → (⟨S4096x1000, .i32⟩ : BufTy).Contents (Elt F)),
  StableHlo.binary main_v63 main_v64 main_v65 (cmpi .eq : (⟨S4096x1000, .i32⟩ : BufTy).Contents (Elt F) → (⟨S4096x1000, .i32⟩ : BufTy).Contents (Elt F) → (⟨S4096x1000, .i1⟩ : BufTy).Contents (Elt F)),
  StableHlo.nullary main_cst_15 (constant S_ .f32 0x4E6E6B28#32),
  StableHlo.unary main_cst_15 main_v66 (broadcastInDim S4096x1000 ![] bcast_S_S4096x1000 : (⟨S_, .f32⟩ : BufTy).Contents (Elt F) → (⟨S4096x1000, .f32⟩ : BufTy).Contents (Elt F)),
  StableHlo.binary main_v60 main_v66 main_v67 (subf : (⟨S4096x1000, .f32⟩ : BufTy).Contents (Elt F) → (⟨S4096x1000, .f32⟩ : BufTy).Contents (Elt F) → (⟨S4096x1000, .f32⟩ : BufTy).Contents (Elt F)),
  StableHlo.ternary main_v65 main_v67 main_v60 main_v68 (select : (⟨S4096x1000, .i1⟩ : BufTy).Contents (Elt F) → (⟨S4096x1000, .f32⟩ : BufTy).Contents (Elt F) → (⟨S4096x1000, .f32⟩ : BufTy).Contents (Elt F) → (⟨S4096x1000, .f32⟩ : BufTy).Contents (Elt F)),
  StableHlo.unary main_v47 main_v69 (broadcastInDim S4096x1 ![0] bcast_S4096_S4096x1_0 : (⟨S4096, .f32⟩ : BufTy).Contents (Elt F) → (⟨S4096x1, .f32⟩ : BufTy).Contents (Elt F)),
  StableHlo.binary main_v69 main_v68 main_v70 ((fun a b => concatenate S4096x1001 1 [⟨S4096x1, a⟩, ⟨S4096x1000, b⟩] concatenates_S4096x1_S4096x1000_S4096x1001_d1) : (⟨S4096x1, .f32⟩ : BufTy).Contents (Elt F) → (⟨S4096x1000, .f32⟩ : BufTy).Contents (Elt F) → (⟨S4096x1001, .f32⟩ : BufTy).Contents (Elt F)),
  StableHlo.nullary main_cst_16 (constant S_ .f32 0xFF800000#32),
  StableHlo.binary main_v70 main_cst_16 main_v71 ((fun x v => Host.reduce FloatOps.maximumf x v reducesTo_S4096x1001_S4096_d1 h_S_) : (⟨S4096x1001, .f32⟩ : BufTy).Contents (Elt F) → (⟨S_, .f32⟩ : BufTy).Contents (Elt F) → (⟨S4096, .f32⟩ : BufTy).Contents (Elt F)),
  StableHlo.unary main_v71 main_v72 (broadcastInDim S4096x1 ![0] bcast_S4096_S4096x1_0 : (⟨S4096, .f32⟩ : BufTy).Contents (Elt F) → (⟨S4096x1, .f32⟩ : BufTy).Contents (Elt F)),
  StableHlo.unary main_v72 main_v73 (Host.absf : (⟨S4096x1, .f32⟩ : BufTy).Contents (Elt F) → (⟨S4096x1, .f32⟩ : BufTy).Contents (Elt F)),
  StableHlo.nullary main_cst_17 (constant S_ .f32 0x7F800000#32),
  StableHlo.unary main_cst_17 main_v74 (broadcastInDim S4096x1 ![] bcast_S_S4096x1 : (⟨S_, .f32⟩ : BufTy).Contents (Elt F) → (⟨S4096x1, .f32⟩ : BufTy).Contents (Elt F)),
  StableHlo.binary main_v73 main_v74 main_v75 (cmpf .olt : (⟨S4096x1, .f32⟩ : BufTy).Contents (Elt F) → (⟨S4096x1, .f32⟩ : BufTy).Contents (Elt F) → (⟨S4096x1, .i1⟩ : BufTy).Contents (Elt F)),
  StableHlo.nullary main_cst_18 (constant S_ .f32 0x00000000#32),
  StableHlo.unary main_cst_18 main_call7_v0 (id : (⟨S_, .f32⟩ : BufTy).Contents (Elt F) → (⟨S_, .f32⟩ : BufTy).Contents (Elt F)),
  StableHlo.unary main_call7_v0 main_call7_v1 ((broadcastInDim S4096x1 ![] bcast_S_S4096x1) : (⟨S_, .f32⟩ : BufTy).Contents (Elt F) → (⟨S4096x1, .f32⟩ : BufTy).Contents (Elt F)),
  StableHlo.ternary main_v75 main_v72 main_call7_v1 main_v76 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
  StableHlo.unary main_v76 main_v77 (broadcastInDim S4096x1001 ![0, 1] bcast_S4096x1_S4096x1001_0_1 : (⟨S4096x1, .f32⟩ : BufTy).Contents (Elt F) → (⟨S4096x1001, .f32⟩ : BufTy).Contents (Elt F)),
  StableHlo.binary main_v70 main_v77 main_v78 (subf : (⟨S4096x1001, .f32⟩ : BufTy).Contents (Elt F) → (⟨S4096x1001, .f32⟩ : BufTy).Contents (Elt F) → (⟨S4096x1001, .f32⟩ : BufTy).Contents (Elt F)),
  StableHlo.unary main_v78 main_v79 (Host.exp : (⟨S4096x1001, .f32⟩ : BufTy).Contents (Elt F) → (⟨S4096x1001, .f32⟩ : BufTy).Contents (Elt F)),
  StableHlo.nullary main_cst_19 (constant S_ .f32 0x00000000#32),
  StableHlo.binary main_v79 main_cst_19 main_v80 ((fun x v => Host.reduceAdd x v reducesTo_S4096x1001_S4096_d1 h_S_) : (⟨S4096x1001, .f32⟩ : BufTy).Contents (Elt F) → (⟨S_, .f32⟩ : BufTy).Contents (Elt F) → (⟨S4096, .f32⟩ : BufTy).Contents (Elt F)),
  StableHlo.unary main_v80 main_v81 (Host.log : (⟨S4096, .f32⟩ : BufTy).Contents (Elt F) → (⟨S4096, .f32⟩ : BufTy).Contents (Elt F)),
  StableHlo.reshape main_v76 main_v82 (rfl : (.f32 : EltTy) = .f32) shapeCasts_S4096x1_S4096,
  StableHlo.binary main_v81 main_v82 main_v83 (addf : (⟨S4096, .f32⟩ : BufTy).Contents (Elt F) → (⟨S4096, .f32⟩ : BufTy).Contents (Elt F) → (⟨S4096, .f32⟩ : BufTy).Contents (Elt F)),
  StableHlo.unary main_v70 main_v84 ((extractStridedSlice S4096x1 ![0, 0] · slices_S4096x1001_S4096x1_0_0) : (⟨S4096x1001, .f32⟩ : BufTy).Contents (Elt F) → (⟨S4096x1, .f32⟩ : BufTy).Contents (Elt F)),
  StableHlo.reshape main_v84 main_v85 (rfl : (.f32 : EltTy) = .f32) shapeCasts_S4096x1_S4096,
  StableHlo.binary main_v83 main_v85 main_v86 (subf : (⟨S4096, .f32⟩ : BufTy).Contents (Elt F) → (⟨S4096, .f32⟩ : BufTy).Contents (Elt F) → (⟨S4096, .f32⟩ : BufTy).Contents (Elt F)),
  StableHlo.unary main_v86 main_v87 (broadcastInDim S4096x1 ![0] bcast_S4096_S4096x1_0 : (⟨S4096, .f32⟩ : BufTy).Contents (Elt F) → (⟨S4096x1, .f32⟩ : BufTy).Contents (Elt F))]

/-- The program's text, first half. -/
theorem tail0_eq : ((do
  hlo rfl (StableHlo.nullary main_c_5 (constantI S_ 32 0#32)) (fun _ => .ret ⟨⟩)
  hlo rfl (StableHlo.nullary main_c_6 (constantI S_ 32 99999#32)) (fun _ => .ret ⟨⟩)
  fn_clip.body (.of main_v15) (.of main_c_5) (.of main_c_6) main_call1
  hlo rfl (StableHlo.reshape main_arg2 main_v17 (rfl : (.i32 : EltTy) = .i32) shapeCasts_S4096x1_S4096) (fun _ => .ret ⟨⟩)
  hlo rfl (StableHlo.nullary main_cst_7 (constant S_ .f32 0x47C35080#32)) (fun _ => .ret ⟨⟩)
  hlo rfl (StableHlo.unary main_cst_7 main_v18 (Host.log : (⟨S_, .f32⟩ : BufTy).Contents (Elt F) → (⟨S_, .f32⟩ : BufTy).Contents (Elt F))) (fun _ => .ret ⟨⟩)
  hlo rfl (StableHlo.unary main_v17 main_v19 (sitofp .f32 : (⟨S4096, .i32⟩ : BufTy).Contents (Elt F) → (⟨S4096, .f32⟩ : BufTy).Contents (Elt F))) (fun _ => .ret ⟨⟩)
  hlo rfl (StableHlo.nullary main_cst_8 (constant S_ .f32 0x40000000#32)) (fun _ => .ret ⟨⟩)
  hlo rfl (StableHlo.unary main_cst_8 main_v20 (broadcastInDim S4096 ![] bcast_S_S4096 : (⟨S_, .f32⟩ : BufTy).Contents (Elt F) → (⟨S4096, .f32⟩ : BufTy).Contents (Elt F))) (fun _ => .ret ⟨⟩)
  hlo rfl (StableHlo.binary main_v19 main_v20 main_v21 (addf : (⟨S4096, .f32⟩ : BufTy).Contents (Elt F) → (⟨S4096, .f32⟩ : BufTy).Contents (Elt F) → (⟨S4096, .f32⟩ : BufTy).Contents (Elt F))) (fun _ => .ret ⟨⟩)
  hlo rfl (StableHlo.unary main_v21 main_v22 (Host.log : (⟨S4096, .f32⟩ : BufTy).Contents (Elt F) → (⟨S4096, .f32⟩ : BufTy).Contents (Elt F))) (fun _ => .ret ⟨⟩)
  hlo rfl (StableHlo.nullary main_cst_9 (constant S_ .f32 0x3F800000#32)) (fun _ => .ret ⟨⟩)
  hlo rfl (StableHlo.unary main_cst_9 main_v23 (broadcastInDim S4096 ![] bcast_S_S4096 : (⟨S_, .f32⟩ : BufTy).Contents (Elt F) → (⟨S4096, .f32⟩ : BufTy).Contents (Elt F))) (fun _ => .ret ⟨⟩)
  hlo rfl (StableHlo.binary main_v19 main_v23 main_v24 (addf : (⟨S4096, .f32⟩ : BufTy).Contents (Elt F) → (⟨S4096, .f32⟩ : BufTy).Contents (Elt F) → (⟨S4096, .f32⟩ : BufTy).Contents (Elt F))) (fun _ => .ret ⟨⟩)
  hlo rfl (StableHlo.unary main_v24 main_v25 (Host.log : (⟨S4096, .f32⟩ : BufTy).Contents (Elt F) → (⟨S4096, .f32⟩ : BufTy).Contents (Elt F))) (fun _ => .ret ⟨⟩)
  hlo rfl (StableHlo.binary main_v22 main_v25 main_v26 (subf : (⟨S4096, .f32⟩ : BufTy).Contents (Elt F) → (⟨S4096, .f32⟩ : BufTy).Contents (Elt F) → (⟨S4096, .f32⟩ : BufTy).Contents (Elt F))) (fun _ => .ret ⟨⟩)
  hlo rfl (StableHlo.unary main_v18 main_v27 (broadcastInDim S4096 ![] bcast_S_S4096 : (⟨S_, .f32⟩ : BufTy).Contents (Elt F) → (⟨S4096, .f32⟩ : BufTy).Contents (Elt F))) (fun _ => .ret ⟨⟩)
  hlo rfl (StableHlo.binary main_v26 main_v27 main_v28 (Host.divf : (⟨S4096, .f32⟩ : BufTy).Contents (Elt F) → (⟨S4096, .f32⟩ : BufTy).Contents (Elt F) → (⟨S4096, .f32⟩ : BufTy).Contents (Elt F))) (fun _ => .ret ⟨⟩)
  hlo rfl (StableHlo.unary main_v16 main_v29 (sitofp .f32 : (⟨S1000, .i32⟩ : BufTy).Contents (Elt F) → (⟨S1000, .f32⟩ : BufTy).Contents (Elt F))) (fun _ => .ret ⟨⟩)
  hlo rfl (StableHlo.nullary main_cst_10 (constant S_ .f32 0x40000000#32)) (fun _ => .ret ⟨⟩)
  hlo rfl (StableHlo.unary main_cst_10 main_v30 (broadcastInDim S1000 ![] bcast_S_S1000 : (⟨S_, .f32⟩ : BufTy).Contents (Elt F) → (⟨S1000, .f32⟩ : BufTy).Contents (Elt F))) (fun _ => .ret ⟨⟩)
  hlo rfl (StableHlo.binary main_v29 main_v30 main_v31 (addf : (⟨S1000, .f32⟩ : BufTy).Contents (Elt F) → (⟨S1000, .f32⟩ : BufTy).Contents (Elt F) → (⟨S1000, .f32⟩ : BufTy).Contents (Elt F))) (fun _ => .ret ⟨⟩)
  hlo rfl (StableHlo.unary main_v31 main_v32 (Host.log : (⟨S1000, .f32⟩ : BufTy).Contents (Elt F) → (⟨S1000, .f32⟩ : BufTy).Contents (Elt F))) (fun _ => .ret ⟨⟩)
  hlo rfl (StableHlo.nullary main_cst_11 (constant S_ .f32 0x3F800000#32)) (fun _ => .ret ⟨⟩)
  hlo rfl (StableHlo.unary main_cst_11 main_v33 (broadcastInDim S1000 ![] bcast_S_S1000 : (⟨S_, .f32⟩ : BufTy).Contents (Elt F) → (⟨S1000, .f32⟩ : BufTy).Contents (Elt F))) (fun _ => .ret ⟨⟩)
  hlo rfl (StableHlo.binary main_v29 main_v33 main_v34 (addf : (⟨S1000, .f32⟩ : BufTy).Contents (Elt F) → (⟨S1000, .f32⟩ : BufTy).Contents (Elt F) → (⟨S1000, .f32⟩ : BufTy).Contents (Elt F))) (fun _ => .ret ⟨⟩)
  hlo rfl (StableHlo.unary main_v34 main_v35 (Host.log : (⟨S1000, .f32⟩ : BufTy).Contents (Elt F) → (⟨S1000, .f32⟩ : BufTy).Contents (Elt F))) (fun _ => .ret ⟨⟩)
  hlo rfl (StableHlo.binary main_v32 main_v35 main_v36 (subf : (⟨S1000, .f32⟩ : BufTy).Contents (Elt F) → (⟨S1000, .f32⟩ : BufTy).Contents (Elt F) → (⟨S1000, .f32⟩ : BufTy).Contents (Elt F))) (fun _ => .ret ⟨⟩)
  hlo rfl (StableHlo.unary main_v18 main_v37 (broadcastInDim S1000 ![] bcast_S_S1000 : (⟨S_, .f32⟩ : BufTy).Contents (Elt F) → (⟨S1000, .f32⟩ : BufTy).Contents (Elt F))) (fun _ => .ret ⟨⟩)
  hlo rfl (StableHlo.binary main_v36 main_v37 main_v38 (Host.divf : (⟨S1000, .f32⟩ : BufTy).Contents (Elt F) → (⟨S1000, .f32⟩ : BufTy).Contents (Elt F) → (⟨S1000, .f32⟩ : BufTy).Contents (Elt F))) (fun _ => .ret ⟨⟩)
  fn_take.body (.of main_arg0) (.of main_v17) main_call2
  fn_take_0.body (.of main_arg3) (.of main_v17) main_call3
  hlo rfl (StableHlo.binary main_arg1 main_v39 main_v41 (mulf : (⟨S4096x64, .f32⟩ : BufTy).Contents (Elt F) → (⟨S4096x64, .f32⟩ : BufTy).Contents (Elt F) → (⟨S4096x64, .f32⟩ : BufTy).Contents (Elt F))) (fun _ => .ret ⟨⟩)
  hlo rfl (StableHlo.nullary main_cst_12 (constant S_ .f32 0x00000000#32)) (fun _ => .ret ⟨⟩)
  hlo rfl (StableHlo.binary main_v41 main_cst_12 main_v42 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F))) (fun _ => .ret ⟨⟩)
  hlo rfl (StableHlo.binary main_v42 main_v40 main_v43 (addf : (⟨S4096, .f32⟩ : BufTy).Contents (Elt F) → (⟨S4096, .f32⟩ : BufTy).Contents (Elt F) → (⟨S4096, .f32⟩ : BufTy).Contents (Elt F))) (fun _ => .ret ⟨⟩)
  hlo rfl (StableHlo.nullary main_cst_13 (constant S_ .f32 0x447A0000#32)) (fun _ => .ret ⟨⟩)) : Prog (TpuEff nD τ sig (Elt F) (Pipeline.Sig Λ₀ (Fin 0) fun p => (pcfgs (F := F) p).Adm) .tc) PUnit) = seq tail0 := by
  unfold fn_clip.body fn_take.body fn_take_0.body tail0
  simp only [seq, bind_assoc, pure_bind]
  rfl

/-- The program's text, second half. -/
theorem tail1_eq (d : Dev nD) : main_part1 (F := F) d = seq tail1 := by
  unfold main_part1 tail1
  simp only [fn_clip.body, fn_take.body, fn_take_0.body, fn_take_1.body, fn_take_3.body, fn_where_4.body, fn_where_5.body, fn_where.body, fn_where_2.body, seq, bind_assoc, pure_bind]
  rfl

/-- The first half keeps what was written before it. -/
theorem tail0_ok : Ok 283 (tail0 (F := F)) := by
  unfold tail0
  repeat (first
    | exact Ok.nil _
    | refine Ok.cons (Writes.binary ⟨rfl, rfl⟩) ?_
    | refine Ok.cons (Writes.unary ⟨rfl, rfl⟩) ?_
    | refine Ok.cons (Writes.nullary ⟨rfl, rfl⟩) ?_
    | refine Ok.cons (Writes.reshape ⟨rfl, rfl⟩) ?_
    | refine Ok.cons (Writes.ternary ⟨rfl, rfl⟩) ?_)

/-- The second half keeps what was written before it. -/
theorem tail1_ok : Ok 368 (tail1 (F := F)) := by
  unfold tail1
  repeat (first
    | exact Ok.nil _
    | refine Ok.cons (Writes.binary ⟨rfl, rfl⟩) ?_
    | refine Ok.cons (Writes.unary ⟨rfl, rfl⟩) ?_
    | refine Ok.cons (Writes.nullary ⟨rfl, rfl⟩) ?_
    | refine Ok.cons (Writes.reshape ⟨rfl, rfl⟩) ?_
    | refine Ok.cons (Writes.ternary ⟨rfl, rfl⟩) ?_)

end Cert.Proof.RunR

end
-- ==== Proof.HostI.lean ====
/-
  The kernel's and the reference's host operations up to the clip, side by side: the two programs draw the same row
  numbers.
-/
module

public import proofs.«01_k».proof.Proof.Line
public import proofs.«01_k».proof.Proof.TailKI
public import proofs.«01_k».proof.Proof.TailR

@[expose] public section

set_option maxRecDepth 65536
set_option maxHeartbeats 4000000

noncomputable section

namespace Cert.Proof.HostI

open Idealize.ShloMosaic Idealize.ShloMosaic.StableHlo
open Idealize.ShloMosaic.TcCoe
open Idealize.SL.Sem
open Cert.Proof.Line

/-- The hash's statements, part 1 of 4. -/
theorem hash0 : Sim 33 (Cert.KernelIdeal.fn_threefry2x32.body_part0 (F := Ideal) Cert.KernelIdeal.main_call0.v5 Cert.KernelIdeal.main_call0.v7 Cert.KernelIdeal.main_call0.v14 Cert.KernelIdeal.main_call0.v13 Cert.KernelIdeal.main_call0.call0) (pure ⟨⟩)
    (Cert.ReferenceIdeal.fn_threefry2x32.body_part0 (F := Ideal) Cert.ReferenceIdeal.main_call0.v5 Cert.ReferenceIdeal.main_call0.v7 Cert.ReferenceIdeal.main_call0.v14 Cert.ReferenceIdeal.main_call0.v13 Cert.ReferenceIdeal.main_call0.call0) (pure ⟨⟩) 93 := by
  unfold Cert.KernelIdeal.fn_threefry2x32.body_part0 Cert.ReferenceIdeal.fn_threefry2x32.body_part0
  iterate 59 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.last ?_
  iterate 1 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The hash's statements, part 2 of 4. -/
theorem hash1 : Sim 93 (Cert.KernelIdeal.fn_threefry2x32.body_part1 (F := Ideal) Cert.KernelIdeal.main_call0.v5 Cert.KernelIdeal.main_call0.v7 Cert.KernelIdeal.main_call0.v14 Cert.KernelIdeal.main_call0.v13 Cert.KernelIdeal.main_call0.call0) (pure ⟨⟩)
    (Cert.ReferenceIdeal.fn_threefry2x32.body_part1 (F := Ideal) Cert.ReferenceIdeal.main_call0.v5 Cert.ReferenceIdeal.main_call0.v7 Cert.ReferenceIdeal.main_call0.v14 Cert.ReferenceIdeal.main_call0.v13 Cert.ReferenceIdeal.main_call0.call0) (pure ⟨⟩) 153 := by
  unfold Cert.KernelIdeal.fn_threefry2x32.body_part1 Cert.ReferenceIdeal.fn_threefry2x32.body_part1
  iterate 59 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.last ?_
  iterate 1 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The hash's statements, part 3 of 4. -/
theorem hash2 : Sim 153 (Cert.KernelIdeal.fn_threefry2x32.body_part2 (F := Ideal) Cert.KernelIdeal.main_call0.v5 Cert.KernelIdeal.main_call0.v7 Cert.KernelIdeal.main_call0.v14 Cert.KernelIdeal.main_call0.v13 Cert.KernelIdeal.main_call0.call0) (pure ⟨⟩)
    (Cert.ReferenceIdeal.fn_threefry2x32.body_part2 (F := Ideal) Cert.ReferenceIdeal.main_call0.v5 Cert.ReferenceIdeal.main_call0.v7 Cert.ReferenceIdeal.main_call0.v14 Cert.ReferenceIdeal.main_call0.v13 Cert.ReferenceIdeal.main_call0.call0) (pure ⟨⟩) 213 := by
  unfold Cert.KernelIdeal.fn_threefry2x32.body_part2 Cert.ReferenceIdeal.fn_threefry2x32.body_part2
  iterate 59 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.last ?_
  iterate 1 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The hash's statements, part 4 of 4. -/
theorem hash3 : Sim 213 (Cert.KernelIdeal.fn_threefry2x32.body_part3 (F := Ideal) Cert.KernelIdeal.main_call0.v5 Cert.KernelIdeal.main_call0.v7 Cert.KernelIdeal.main_call0.v14 Cert.KernelIdeal.main_call0.v13 Cert.KernelIdeal.main_call0.call0) (pure ⟨⟩)
    (Cert.ReferenceIdeal.fn_threefry2x32.body_part3 (F := Ideal) Cert.ReferenceIdeal.main_call0.v5 Cert.ReferenceIdeal.main_call0.v7 Cert.ReferenceIdeal.main_call0.v14 Cert.ReferenceIdeal.main_call0.v13 Cert.ReferenceIdeal.main_call0.call0) (pure ⟨⟩) 255 := by
  unfold Cert.KernelIdeal.fn_threefry2x32.body_part3 Cert.ReferenceIdeal.fn_threefry2x32.body_part3
  iterate 42 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The hash. -/
theorem hash : Sim 33 (Cert.KernelIdeal.fn_threefry2x32.body (F := Ideal) Cert.KernelIdeal.main_call0.v5 Cert.KernelIdeal.main_call0.v7 Cert.KernelIdeal.main_call0.v14 Cert.KernelIdeal.main_call0.v13 Cert.KernelIdeal.main_call0.call0) (pure ⟨⟩)
    (Cert.ReferenceIdeal.fn_threefry2x32.body (F := Ideal) Cert.ReferenceIdeal.main_call0.v5 Cert.ReferenceIdeal.main_call0.v7 Cert.ReferenceIdeal.main_call0.v14 Cert.ReferenceIdeal.main_call0.v13 Cert.ReferenceIdeal.main_call0.call0) (pure ⟨⟩) 255 := by
  unfold Cert.KernelIdeal.fn_threefry2x32.body Cert.ReferenceIdeal.fn_threefry2x32.body
  exact Sim.call hash0 (Sim.call hash1 (Sim.call hash2 hash3))

/-- The uniform draws. -/
theorem draws : Sim 16 (Cert.KernelIdeal.fn_uniform.body (F := Ideal) (.of Cert.KernelIdeal.main_v6) (.of Cert.KernelIdeal.main_cst) (.of Cert.KernelIdeal.main_cst_2) Cert.KernelIdeal.main_call0) (pure ⟨⟩)
    (Cert.ReferenceIdeal.fn_uniform.body (F := Ideal) (.of Cert.ReferenceIdeal.main_v6) (.of Cert.ReferenceIdeal.main_cst) (.of Cert.ReferenceIdeal.main_cst_2) Cert.ReferenceIdeal.main_call0) (pure ⟨⟩) 273 := by
  unfold Cert.KernelIdeal.fn_uniform.body Cert.ReferenceIdeal.fn_uniform.body
  iterate 17 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.call hash ?_
  iterate 18 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  exact Sim.done rfl rfl rfl

/-- The draw of the sampled rows' numbers, before the clip. -/
theorem line (d : Dev Cert.KernelIdeal.nD) (d' : Dev Cert.ReferenceIdeal.nD) : Sim 4 (Cert.KernelIdeal.main (F := Ideal) d) (seq Cert.Proof.RunKI.tailOps >>= fun _ => Cert.Proof.RunKI.call d)
    (Cert.ReferenceIdeal.main_part0 (F := Ideal) d') (seq Cert.Proof.RunR.tail0) 283 := by
  unfold Cert.KernelIdeal.main Cert.ReferenceIdeal.main_part0
  iterate 12 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.call draws ?_
  iterate 10 (first
    | refine Sim.op (OpSim.binary ⟨rfl, rfl⟩ ⟨rfl, rfl⟩ rfl ⟨rfl, rfl⟩ ⟨rfl, rfl⟩ rfl ⟨rfl, rfl⟩ ⟨rfl, rfl⟩ rfl rfl rfl HEq.rfl) ?_
    | refine Sim.op (OpSim.unary ⟨rfl, rfl⟩ ⟨rfl, rfl⟩ rfl ⟨rfl, rfl⟩ ⟨rfl, rfl⟩ rfl rfl HEq.rfl) ?_
    | refine Sim.op (OpSim.nullary ⟨rfl, rfl⟩ ⟨rfl, rfl⟩ HEq.rfl) ?_
    | refine Sim.op (OpSim.reshape ⟨rfl, rfl⟩ ⟨rfl, rfl⟩ rfl ⟨rfl, rfl⟩ ⟨rfl, rfl⟩ rfl rfl) ?_)
  refine Sim.done rfl ?_ ?_
  · exact Cert.Proof.RunKI.tail_eq d
  · exact Cert.Proof.RunR.tail0_eq

end Cert.Proof.HostI

end
-- ==== Proof.RefRun.lean ====
/-
  The reference's run: one straight line of host operations.
-/
module

public import proofs.«01_k».proof.Proof.HostI
public import Idealize.ShloMosaic.Lib.Quiescent

@[expose] public section

set_option maxRecDepth 65536

noncomputable section

namespace Cert.Proof.RunR

open Cert.ReferenceIdeal Cert.ReferenceIdeal.Gen

open Idealize.ShloMosaic Idealize.ShloMosaic.StableHlo
open Idealize.ShloMosaic.TcCoe
open Idealize.SL.Sem
open Cert.Proof.Line

/-- Nothing is scoped. -/
theorem no_scoped_refs : (Finset.univ.filter fun b : Ref sig .tc => b.isScoped) = ∅ := by decide +kernel
/-- No counter is scoped. -/
theorem no_scoped_sems : (Finset.univ.filter fun sm : SemLoc sig => sm.isScoped .tc) = ∅ := by decide

variable (m : (ℓ : Loc nD τ sig) → Buf (Elt Ideal) ℓ) (pre : List (HloOp τ sig (Elt Ideal)))

/-- What the reference leaves, from the contents at launch. -/
def VR (d : Dev nD) : Valuation τ sig (Elt Ideal) := after tail1 (after tail0 (after pre (launchContents m d)))

/-- The reference ends with what its line leaves, every counter at zero. -/
theorem run (g : Dev nD → PrngReg) (hpre : Ok 4 pre) (hmain : ∀ d, main_part0 (F := Ideal) d = (seq pre >>= fun _ => seq tail0)) :
    θ_run (defs (F := Ideal)) (onTc (τ := τ) (main (F := Ideal))) ⟨m, fun _ => 0, g⟩ (fun r =>
      (∀ (d : Dev nD) (b : Ref sig .tc), r.2.mem ((d.tc : Thread nD τ).loc b) = VR m pre d (Proc.devRef .tc b)) ∧ r.2.sem = fun _ => 0) := by
  have ok : Ok 4 (pre ++ (tail0 ++ tail1)) := Ok.append (n' := 283) (by decide) hpre (Ok.append (n' := 368) (by decide) tail0_ok tail1_ok)
  have e : ∀ d : Dev nD, main (F := Ideal) d = seq (pre ++ (tail0 ++ tail1)) := fun d => by
    rw [show main (F := Ideal) d = (main_part0 d >>= fun _ => main_part1 d) from rfl, hmain, tail1_eq, seq_append, seq_append]
    simp only [bind_assoc]
  refine (θ_run (defs (F := Ideal)) _ _).mono (fun r h => ⟨fun d b => ?_, sem_eq_zero_of_no_sems (by decide) r.2⟩)
    (run_seq no_scoped_refs no_scoped_sems (defs (F := Ideal)) main (fun _ => pre ++ (tail0 ++ tail1)) e
      (fun _ => List.forall_iff_forall_mem.2 ok.bufs) m g (fun _ => ok.fresh))
  rw [h d b, after_append, after_append]
  rfl

/-- No argument is written. -/
theorem VR_arg (hpre : Ok 4 pre) (d : Dev nD) (b : Ref sig .tc) (hb : b.space = .hbm → b.idx.val < 4) :
    VR m pre d (Proc.devRef .tc b) = m ((d.tc : Thread nD τ).loc b) := by
  unfold VR
  rw [tail1_ok.keep _ b fun e => lt_of_lt_of_le (hb e) (by decide), tail0_ok.keep _ b fun e => lt_of_lt_of_le (hb e) (by decide), hpre.keep _ b hb]

end Cert.Proof.RunR

end
-- ==== Proof.Frames.lean ====
/-
  The frames of the three programs, and the named constants' statements.
-/
module

public import proofs.«01_k».proof.Defs
public import proofs.«01_k».proof.Proof.FrameK
public import proofs.«01_k».proof.Proof.FrameKI
public import proofs.«01_k».proof.Proof.HostK
public import proofs.«01_k».proof.Proof.RefRun

@[expose] public section

set_option maxRecDepth 65536

noncomputable section

namespace Cert.Proof

open Idealize.ShloMosaic Idealize.ShloMosaic.StableHlo Idealize.SL.Sem
open Cert.Proof.Line

/-- The range check's stated fact. -/
instance facts_idx : Cert.Pre_idx_in_table.Facts := ⟨by decide⟩

/-- The range check, all ones, puts every true id in the table. -/
theorem idx_k (m : (ℓ : Loc Cert.Kernel.nD Cert.Kernel.τ Cert.Kernel.sig) → Buf (Elt Bits) ℓ) (h : Cert.Pre_Kernel m) : RunK.IdxOk (F := Bits) m := by
  intro d i
  have e := congrFun (h d) i
  simp only [Pre_idx_in_table.fn, andi, cmpi, broadcastInDim, constantI] at e
  exact RunK.in_of_check _ e

/-- The same of the idealised kernel's memory. -/
theorem idx_ki (m : (ℓ : Loc Cert.KernelIdeal.nD Cert.KernelIdeal.τ Cert.KernelIdeal.sig) → Buf (Elt Ideal) ℓ) (h : Cert.Pre_KernelIdeal m) : RunKI.IdxOk (F := Ideal) m := by
  intro d i
  have e := congrFun (h d) i
  simp only [Pre_idx_in_table.fn, andi, cmpi, broadcastInDim, constantI] at e
  exact RunK.in_of_check _ e

/-- The kernel's line before the clip. -/
def preK (d : Dev Cert.Kernel.nD) : List (HloOp Cert.Kernel.τ Cert.Kernel.sig (Elt Bits)) := (HostK.line (F := Bits) d).choose
/-- What that line is. -/
theorem preK_spec (d : Dev Cert.Kernel.nD) : Cert.Kernel.main (F := Bits) d = (seq (preK d) >>= fun _ => seq RunK.tailOps >>= fun _ => RunK.call d) ∧ Ok 4 (preK d) := by
  obtain ⟨_, h, _, _, ok, _⟩ := (HostK.line (F := Bits) d).choose_spec
  exact ⟨h, ok⟩

/-- The idealised kernel's line before the clip. -/
def preI (d : Dev Cert.KernelIdeal.nD) : List (HloOp Cert.KernelIdeal.τ Cert.KernelIdeal.sig (Elt Ideal)) := (HostI.line d 0).choose
/-- The reference's line before the clip. -/
def preR : List (HloOp Cert.ReferenceIdeal.τ Cert.ReferenceIdeal.sig (Elt Ideal)) := (HostI.line 0 0).choose_spec.choose
/-- What the idealised kernel's line is. -/
theorem preI_spec (d : Dev Cert.KernelIdeal.nD) : Cert.KernelIdeal.main (F := Ideal) d = (seq (preI d) >>= fun _ => seq RunKI.tailOps >>= fun _ => RunKI.call d) ∧ Ok 4 (preI d) := by
  obtain ⟨_, h, _, _, ok, _⟩ := (HostI.line d 0).choose_spec
  exact ⟨h, ok⟩
/-- What the reference's line is; equal arguments leave equal values on both. -/
theorem preR_spec : Cert.ReferenceIdeal.main_part0 (F := Ideal) 0 = (seq preR >>= fun _ => seq RunR.tail0) ∧ Ok 4 preR ∧
    ∀ V V', Agree 4 V V' → Agree 283 (after (preI 0) V) (after preR V') := by
  obtain ⟨_, h, _, _, ok, a⟩ := (HostI.line 0 0).choose_spec.choose_spec
  exact ⟨h, ok, a⟩

/-- The kernel leaves its arguments and its counters as they were. -/
theorem frame_k : Cert.quiescent_Kernel := fun m g h =>
  (θ_run Cert.Kernel.defs _ _).mono (fun _ h => h.1) (RunK.run_args m preK g (fun d => (preK_spec d).2) (idx_k m h) (fun d => (preK_spec d).1))

/-- So does the idealised kernel. -/
theorem frame_ki : Cert.quiescent_KernelIdeal := fun m g h =>
  (θ_run Cert.KernelIdeal.defs _ _).mono (fun _ h => h.1) (RunKI.run_args m preI g (fun d => (preI_spec d).2) (idx_ki m h) (fun d => (preI_spec d).1))

/-- So does the reference. -/
theorem frame_ri : Cert.quiescent_ReferenceIdeal := fun m g _ =>
  (θ_run Cert.ReferenceIdeal.defs _ _).mono (fun _ h =>
    ⟨fun c =>
      ⟨(h.1 c _).trans (RunR.VR_arg m preR preR_spec.2.1 c Cert.ReferenceIdeal.main_arg0 fun _ => by decide),
       (h.1 c _).trans (RunR.VR_arg m preR preR_spec.2.1 c Cert.ReferenceIdeal.main_arg1 fun _ => by decide),
       (h.1 c _).trans (RunR.VR_arg m preR preR_spec.2.1 c Cert.ReferenceIdeal.main_arg2 fun _ => by decide),
       (h.1 c _).trans (RunR.VR_arg m preR preR_spec.2.1 c Cert.ReferenceIdeal.main_arg3 fun _ => by decide)⟩, h.2⟩)
    (RunR.run m preR g preR_spec.2.1 (fun _ => preR_spec.1))

/-- The two named constants stand for the literals they replace. -/
theorem preserves : Cert.preserves_Kernel_KernelIdeal :=
  ⟨IdealRules.named_const.statement Cert.KernelIdeal.κ "pad" .f32 0x7149F2CA#32 ⊤ rfl,
   IdealRules.named_const.statement Cert.KernelIdeal.κ "inv_log" .f32 0x3DB1E30A#32 (((Real.log 100001)⁻¹ : ℝ) : EReal) rfl⟩

end Cert.Proof

end
-- ==== Proof.Lse.lean ====
/-
  The row's formula: a log of a sum of exponentials over a true logit and the sampled ones, taken two ways.
-/
module

public import Idealize.ShloMosaic.PureOps.Ideal.Laws
public import Idealize.ShloMosaic.Lib.IdealHost

@[expose] public section

noncomputable section

namespace Cert.Proof.Lse

open Idealize.ShloMosaic
open scoped BigOperators

/-- A maximum over the first 1000 of 1024 entries, the rest bottom, is the maximum over the 1000. -/
theorem fold_pad (L : Fin 1000 → EReal) (K : Fin 1024 → EReal)
    (h : ∀ (j : Fin 1000), K (Fin.castLE (by decide) j) = L j) (hp : ∀ j : Fin 1024, 1000 ≤ j.val → K j = ⊥) :
    (Finset.univ : Finset (Fin 1024)).fold max ⊥ K = (Finset.univ : Finset (Fin 1000)).fold max ⊥ L := by
  refine le_antisymm ?_ ?_
  · rw [Finset.fold_max_le]
    refine ⟨bot_le, fun j _ => ?_⟩
    by_cases hj : j.val < 1000
    · rw [Finset.le_fold_max]
      exact Or.inr ⟨⟨j.val, hj⟩, Finset.mem_univ _, (h ⟨j.val, hj⟩).le⟩
    · rw [hp j (by omega)]; exact bot_le
  · rw [Finset.fold_max_le]
    refine ⟨bot_le, fun j _ => ?_⟩
    rw [Finset.le_fold_max]
    exact Or.inr ⟨_, Finset.mem_univ _, (h j).ge⟩

/-- A sum whose last 24 of 1024 terms are zero is the sum of the first 1000. -/
theorem sum_pad (L : Fin 1000 → EReal) (K : Fin 1024 → EReal)
    (h : ∀ (j : Fin 1000), K (Fin.castLE (by decide) j) = L j) (hp : ∀ j : Fin 1024, 1000 ≤ j.val → K j = 0) :
    ∑ j, K j = ∑ j, L j := by
  refine (Fin.sum_univ_add (fun j : Fin (1000 + 24) => K j)).trans ?_
  rw [Finset.sum_eq_zero (s := (Finset.univ : Finset (Fin 24))) fun j _ => hp _ (by simp), add_zero]
  exact Finset.sum_congr rfl fun j _ => h j

/-- The maximum over a head and a tail is the larger of the head and the tail's maximum. -/
theorem fold_cons (T : EReal) (L : Fin 1000 → EReal) (C : Fin 1001 → EReal) (h0 : C 0 = T) (hs : ∀ j : Fin 1000, C j.succ = L j) :
    (Finset.univ : Finset (Fin 1001)).fold max ⊥ C = max ((Finset.univ : Finset (Fin 1000)).fold max ⊥ L) T := by
  refine le_antisymm ?_ ?_
  · rw [Finset.fold_max_le]
    refine ⟨bot_le, fun j _ => ?_⟩
    refine Fin.cases ?_ (fun j => ?_) j
    · rw [h0]; exact le_max_right _ _
    · rw [hs]; refine le_max_of_le_left ?_
      rw [Finset.le_fold_max]; exact Or.inr ⟨j, Finset.mem_univ _, le_rfl⟩
  · refine max_le ?_ ?_
    · rw [Finset.fold_max_le]
      refine ⟨bot_le, fun j _ => ?_⟩
      rw [Finset.le_fold_max]; exact Or.inr ⟨j.succ, Finset.mem_univ _, (hs j).ge⟩
    · rw [Finset.le_fold_max]; exact Or.inr ⟨0, Finset.mem_univ _, h0.ge⟩

/-- A maximum of entries none of which is plus infinity is not plus infinity. -/
theorem fold_ne_top (L : Fin 1000 → EReal) (h : ∀ j, L j ≠ ⊤) : (Finset.univ : Finset (Fin 1000)).fold max ⊥ L ≠ ⊤ := by
  refine ne_of_lt ?_
  rw [Finset.fold_max_lt]
  exact ⟨bot_lt_top, fun j _ => lt_top_iff_ne_top.2 (h j)⟩

/-- Bottom less anything is bottom. -/
theorem bot_sub (x : EReal) : (⊥ : EReal) - x = ⊥ := by rw [sub_eq_add_neg]; exact EReal.bot_add _

/-- The two ways agree: over the 1024 padded logits with the true one beside them, and over the 1001 in one row, where
    the maximum is put to zero if it is infinite. -/
theorem agree (T : EReal) (L : Fin 1000 → EReal) (K : Fin 1024 → EReal) (C : Fin 1001 → EReal) (hT : T ≠ ⊤) (hB : T ≠ ⊥)
    (hL : ∀ j, L j ≠ ⊤) (hK : ∀ j : Fin 1000, K (Fin.castLE (by decide) j) = L j) (hp : ∀ j : Fin 1024, 1000 ≤ j.val → K j = ⊥)
    (h0 : C 0 = T) (hs : ∀ j : Fin 1000, C j.succ = L j) (mK mC tC : EReal)
    (hmK : mK = max ((Finset.univ : Finset (Fin 1024)).fold max ⊥ K) T)
    (hmC : mC = (Finset.univ : Finset (Fin 1001)).fold max ⊥ C)
    (htC : tC = if max mC (-mC) < ⊤ then mC else 0) :
    Ideal.log (∑ j, Ideal.exp (K j - mK) + Ideal.exp (T - mK)) + mK - T
      = Ideal.log (0 + ∑ j, Ideal.exp (C j - tC)) + tC - C 0 := by
  have hmm : mC = mK := by rw [hmC, hmK, fold_pad L K hK hp, fold_cons T L C h0 hs]
  have hm : mK = max ((Finset.univ : Finset (Fin 1000)).fold max ⊥ L) T := by rw [hmK, fold_pad L K hK hp]
  have hlt : mK < ⊤ := by rw [hm]; exact max_lt (lt_top_iff_ne_top.2 (fold_ne_top L hL)) (lt_top_iff_ne_top.2 hT)
  have hgt : ⊥ < mK := by rw [hm]; exact lt_max_of_lt_right (bot_lt_iff_ne_bot.2 hB)
  have ht : tC = mK := by
    rw [htC, hmm, if_pos]
    refine max_lt hlt ?_
    rw [lt_top_iff_ne_top]
    intro e
    rw [EReal.neg_eq_top_iff] at e
    exact hgt.ne' e
  rw [ht, h0, zero_add]
  have hsum : ∑ j, Ideal.exp (C j - mK) = ∑ j, Ideal.exp (K j - mK) + Ideal.exp (T - mK) := by
    rw [Fin.sum_univ_succ, h0, add_comm]
    congr 1
    rw [sum_pad (fun j => Ideal.exp (L j - mK)) (fun j => Ideal.exp (K j - mK)) (fun j => by rw [hK]) fun j hj => by
      rw [hp j hj, bot_sub]; rfl]
    exact Finset.sum_congr rfl fun j _ => by rw [hs]
  rw [hsum]

/-- A finite sum of products of finite entries is finite. -/
theorem dot_fin {n : Nat} (a b : Fin n → EReal) (ha : ∀ k, a k ≠ ⊤ ∧ a k ≠ ⊥) (hb : ∀ k, b k ≠ ⊤ ∧ b k ≠ ⊥) :
    ∃ r : ℝ, ∑ k, a k * b k = (r : EReal) := by
  refine Finset.sum_induction (fun k => a k * b k) (fun x => ∃ r : ℝ, x = (r : EReal)) ?_ ⟨0, rfl⟩ fun k _ => ?_
  · rintro _ _ ⟨r, rfl⟩ ⟨q, rfl⟩
    exact ⟨r + q, (EReal.coe_add r q).symm⟩
  · refine ⟨(a k).toReal * (b k).toReal, ?_⟩
    rw [EReal.coe_mul, EReal.coe_toReal (ha k).1 (ha k).2, EReal.coe_toReal (hb k).1 (hb k).2]

/-- An entry whose absolute value is below plus infinity is finite. -/
theorem fin_of_abs {x : EReal} (h : max x (-x) < ⊤) : x ≠ ⊤ ∧ x ≠ ⊥ := by
  refine ⟨fun e => ?_, fun e => ?_⟩
  · subst e; simp at h
  · subst e; simp at h

/-- The log of an id's probability times the number of samples: a real number, and the same whether the division by the
    log of the table's size and one is a division or a product with the inverse. -/
theorem logp_real (n : ℕ) (two one range inv k : EReal) (h2 : two = (2 : ℝ)) (h1 : one = (1 : ℝ)) (hr : range = (100001 : ℝ))
    (hi : inv = (((Real.log 100001)⁻¹ : ℝ) : EReal)) (hk : k = (1000 : ℝ)) :
    ∃ r : ℝ, Ideal.log ((Ideal.log ((((n : ℝ)) : EReal) + two) - Ideal.log (((n : ℝ) : EReal) + one)) * inv * k) = (r : EReal) ∧
      Ideal.log (Ideal.div (Ideal.log ((((n : ℝ)) : EReal) + two) - Ideal.log (((n : ℝ) : EReal) + one)) (Ideal.log range) * k) = (r : EReal) := by
  subst h2 h1 hr hi hk
  have hn : (0 : ℝ) ≤ n := Nat.cast_nonneg n
  have hl : 0 < Real.log 100001 := Real.log_pos (by norm_num)
  rw [← EReal.coe_add, ← EReal.coe_add, Ideal.log_coe, Ideal.log_coe, Ideal.log_coe, if_neg (by linarith), if_neg (by linarith),
    if_neg (by norm_num), ← EReal.coe_sub, Ideal.div_coe hl.ne', ← EReal.coe_mul, ← EReal.coe_mul, ← EReal.coe_mul, ← EReal.coe_mul,
    one_div, Ideal.log_coe]
  have hp : 0 < (Real.log (n + 2) - Real.log (n + 1)) * (Real.log 100001)⁻¹ * 1000 := by
    have := Real.log_lt_log (show (0 : ℝ) < n + 1 by linarith) (show (n : ℝ) + 1 < n + 2 by linarith)
    have h3 : 0 < Real.log (n + 2) - Real.log (n + 1) := by linarith
    positivity
  rw [if_neg (not_le.2 hp)]
  exact ⟨_, rfl, rfl⟩

/-- The pattern of two. -/
theorem ofBits_two : Ideal.ofBits .f32 0x40000000#32 = ((2 : ℝ) : EReal) := by
  simp [Ideal.ofBits, Ideal.ieee, -EReal.coe_mul]; norm_num

/-- The pattern of one. -/
theorem ofBits_one : Ideal.ofBits .f32 0x3F800000#32 = ((1 : ℝ) : EReal) := by
  simp [Ideal.ofBits, Ideal.ieee, -EReal.coe_mul]; norm_num

/-- The pattern of 1000. -/
theorem ofBits_1000 : Ideal.ofBits .f32 0x447A0000#32 = ((1000 : ℝ) : EReal) := by
  simp [Ideal.ofBits, Ideal.ieee, -EReal.coe_mul]; norm_num

/-- The pattern of 100001. -/
theorem ofBits_range : Ideal.ofBits .f32 0x47C35080#32 = ((100001 : ℝ) : EReal) := by
  simp [Ideal.ofBits, Ideal.ieee, -EReal.coe_mul]; norm_num

/-- The pattern of a billion. -/
theorem ofBits_billion : Ideal.ofBits .f32 0x4E6E6B28#32 = ((1000000000 : ℝ) : EReal) := by
  simp [Ideal.ofBits, Ideal.ieee, -EReal.coe_mul]; norm_num

/-- The pattern of minus infinity. -/
theorem ofBits_bot : Ideal.ofBits .f32 0xFF800000#32 = ⊥ := by
  simp [Ideal.ofBits, Ideal.ieee]

/-- The pattern of plus infinity. -/
theorem ofBits_top : Ideal.ofBits .f32 0x7F800000#32 = ⊤ := by
  simp [Ideal.ofBits, Ideal.ieee]

end Cert.Proof.Lse

end
-- ==== Proof.PayI.lean ====
/-
  One entry of the TensorCore kernel's block of losses, over the extended reals.
-/
module

public import proofs.«01_k».proof.Proof.RegionKI
public import Idealize.ShloMosaic.PureOps.Ideal.Laws
public import Idealize.ShloMosaic.Lib.IdealHost
public import Idealize.ShloMosaic.Lib.MatmulPlain
public import Idealize.ShloMosaic.Lib.ValueLayoutCasts
public import Idealize.ShloMosaic.Lib.Pipeline.Value

@[expose] public section

set_option maxRecDepth 65536

noncomputable section

namespace Cert.Proof.RunKI

open Cert.KernelIdeal Cert.KernelIdeal.Gen
open Idealize.ShloMosaic Idealize.ShloMosaic.ValueIdx
open scoped BigOperators

/-- A row's index with a column put in. -/
theorem lift_row (r j : Fin 1024) : (reduces_S1024x1024_S1024 : Shape.Reduces S1024x1024 [1] S1024).lift (ix1 r) j = ix2 r j := by
  funext a; match a with | ⟨0, _⟩ => rfl | ⟨1, _⟩ => rfl

/-- The same for rows of 64. -/
theorem lift_row64 (r : Fin 1024) (k : Fin 64) : (reduces_S1024x64_S1024 : Shape.Reduces S1024x64 [1] S1024).lift (ix1 r) k = ix2 r k := by
  funext a; match a with | ⟨0, _⟩ => rfl | ⟨1, _⟩ => rfl

/-- A column broadcast along the rows. -/
theorem bcast_col {α : Type} (x : S1024x1.Idx → α) (r j : Fin 1024) :
    broadcastTo S1024x1024 x broadcasts_S1024x1_S1024x1024 (ix2 r j) = x (ix2 r 0) :=
  broadcastTo_apply x _ _ _ fun a => match a with | ⟨0, _⟩ => rfl | ⟨1, _⟩ => rfl

/-- A row broadcast down the columns. -/
theorem bcast_row {α : Type} (x : S1x1024.Idx → α) (r j : Fin 1024) :
    broadcastTo S1024x1024 x broadcasts_S1x1024_S1024x1024 (ix2 r j) = x (ix2 0 j) :=
  broadcastTo_apply x _ _ _ fun a => match a with | ⟨0, _⟩ => rfl | ⟨1, _⟩ => rfl

/-- A row's greatest entry, kept as a column. -/
theorem row_max (x : FVec Ideal S1024x1024 .f32) (r : Fin 1024) :
    shapeCast S1024x1 (multiReduction (F := Ideal) .maximumf [1] S1024 x 0xFF800000#32 reduces_S1024x1024_S1024 (.inl rfl) rfl) shapeCasts_S1024_S1024x1 (ix2 r 0)
      = (Finset.univ : Finset (Fin 1024)).fold max (Ideal.ofBits .f32 0xFF800000#32) fun j => x (ix2 r j) := by
  refine (shapeCast_a_a1_apply _ _ r 0).trans ((Ideal.multiReduction_maximumf_single _ _ _ _ _ _).trans ?_)
  exact congrArg (Finset.fold max _ · _) (funext fun j => congrArg x (lift_row r j))

/-- A row's sum, kept as a column. -/
theorem row_sum (x : FVec Ideal S1024x1024 .f32) (r : Fin 1024) :
    shapeCast S1024x1 (multiReduction (F := Ideal) .add [1] S1024 x 0x00000000#32 reduces_S1024x1024_S1024 (.inl rfl) rfl) shapeCasts_S1024_S1024x1 (ix2 r 0)
      = ∑ j : Fin 1024, x (ix2 r j) := by
  refine (shapeCast_a_a1_apply _ _ r 0).trans ((Ideal.multiReduction_add_single _ _ _ _ _ _).trans ?_)
  exact Finset.sum_congr rfl fun j _ => congrArg x (lift_row r j)

/-- The same for rows of 64. -/
theorem row_sum64 (x : FVec Ideal S1024x64 .f32) (r : Fin 1024) :
    shapeCast S1024x1 (multiReduction (F := Ideal) .add [1] S1024 x 0x00000000#32 reduces_S1024x64_S1024 (.inl rfl) rfl) shapeCasts_S1024_S1024x1 (ix2 r 0)
      = ∑ k : Fin 64, x (ix2 r k) := by
  refine (shapeCast_a_a1_apply _ _ r 0).trans ((Ideal.multiReduction_add_single _ _ _ _ _ _).trans ?_)
  exact Finset.sum_congr rfl fun k _ => congrArg x (lift_row64 r k)

/-- The loss of a row from its scores: the log of the sum of exponentials with the maximum taken out, less the true logit. -/
theorem pay1_apply (v23 : FVec Ideal S1024x1024 .f32) (v33 v36 v37 : FVec Ideal S1024x1 .f32) (r : Fin 1024) (T mK : EReal)
    (hT : T = v36 (ix2 r 0) - Ideal.log (v33 (ix2 r 0) * v37 (ix2 r 0)))
    (hm : mK = max ((Finset.univ : Finset (Fin 1024)).fold max (Ideal.ofBits .f32 0xFF800000#32) fun j => v23 (ix2 r j)) T) :
    k1_pay1 v23 v33 v36 v37 (ix2 r 0)
      = Ideal.log (∑ j : Fin 1024, Ideal.exp (v23 (ix2 r j) - mK) + Ideal.exp (T - mK)) + mK - T := by
  have e40 : (subf v36 (log (mulf v33 v37)) : FVec Ideal S1024x1 .f32) (ix2 r 0) = T := hT.symm
  have e43 : (maximumf (shapeCast S1024x1 (multiReduction .maximumf [1] S1024 v23 0xFF800000#32 reduces_S1024x1024_S1024 (.inl rfl) rfl) shapeCasts_S1024_S1024x1)
      (subf v36 (log (mulf v33 v37))) : FVec Ideal S1024x1 .f32) (ix2 r 0) = mK := by
    exact (congrArg₂ max (row_max v23 r) e40).trans hm.symm
  have gen : ∀ M w : FVec Ideal S1024x1 .f32, M (ix2 r 0) = mK → w (ix2 r 0) = T →
      (subf (addf (log (addf (shapeCast S1024x1 (multiReduction (F := Ideal) .add [1] S1024
          (exp (subf v23 (broadcastTo S1024x1024 M broadcasts_S1024x1_S1024x1024))) 0x00000000#32 reduces_S1024x1024_S1024 (.inl rfl) rfl)
          shapeCasts_S1024_S1024x1) (exp (subf w M)))) M) w : FVec Ideal S1024x1 .f32) (ix2 r 0)
        = Ideal.log (∑ j : Fin 1024, Ideal.exp (v23 (ix2 r j) - mK) + Ideal.exp (T - mK)) + mK - T := by
    intro M w hM hw
    have hs := row_sum (exp (subf v23 (broadcastTo S1024x1024 M broadcasts_S1024x1_S1024x1024))) r
    have he : ∀ j : Fin 1024, (exp (subf v23 (broadcastTo S1024x1024 M broadcasts_S1024x1_S1024x1024)) : FVec Ideal S1024x1024 .f32) (ix2 r j)
        = Ideal.exp (v23 (ix2 r j) - mK) := fun j =>
      congrArg (fun m => Ideal.exp (v23 (ix2 r j) - m)) ((bcast_col _ r j).trans hM)
    rw [Finset.sum_congr rfl fun j _ => he j] at hs
    generalize shapeCast S1024x1 (multiReduction (F := Ideal) .add [1] S1024
          (exp (subf v23 (broadcastTo S1024x1024 M broadcasts_S1024x1_S1024x1024))) 0x00000000#32 reduces_S1024x1024_S1024 (.inl rfl) rfl)
          shapeCasts_S1024_S1024x1 = S at hs ⊢
    rw [← hs, ← hM, ← hw]
    rfl
  exact gen _ _ e43 e40

/-- The score of a row against a column: the dot product less the column's log probability, which is plus infinity on the
    padding; a billion less where the column drew the row's own id. -/
theorem pay2_apply (u s : FVec Ideal S1024x64 .f32) (i : IVec S1024x1 32) (sid : IVec S1x1024 32) (lq : FVec Ideal S1x1024 .f32) (r j : Fin 1024) :
    k1_pay2 (F := Ideal) u s i sid lq (ix2 r j)
      = Scalar.select (IntOp.cmpi .eq (i (ix2 r 0)) (sid (ix2 0 j)))
          ((∑ k : Fin 64, u (ix2 r k) * s (ix2 j k)) - (if j.val < 1000 then lq (ix2 0 j) else ⊤) - Ideal.ofBits .f32 0x4E6E6B28#32)
          ((∑ k : Fin 64, u (ix2 r k) * s (ix2 j k)) - (if j.val < 1000 then lq (ix2 0 j) else ⊤)) := by
  have e14 : (select (cmpi .slt (iota .tc S1x1024 32 [1] iota_S1x1024_d1_w32) (broadcast S1x1024 1000#32)) lq
      (broadcast S1x1024 (Named.named κ "pad" 0x7149F2CA#32)) : FVec Ideal S1x1024 .f32) (ix2 0 j) = if j.val < 1000 then lq (ix2 0 j) else ⊤ := by
    rw [select_apply]
    have c : cmpi .slt (iota .tc S1x1024 32 [1] iota_S1x1024_d1_w32) (broadcast S1x1024 1000#32) (ix2 0 j) = BitVec.ofBool (decide (j.val < 1000)) := by
      show IntOp.cmpi .slt (iota .tc S1x1024 32 [1] iota_S1x1024_d1_w32 (ix2 0 j)) 1000#32 = _
      rw [iota_single_apply]
      show BitVec.ofBool ((BitVec.ofNat 32 j.val).slt 1000#32) = _
      congr 1
      have := j.isLt
      rw [BitVec.slt_eq_decide]
      congr 1
      rw [BitVec.toInt_eq_toNat_cond, BitVec.toNat_ofNat]
      simp
      omega
    rw [c]
    by_cases h : j.val < 1000
    · rw [if_pos h, decide_eq_true h]; rfl
    · rw [if_neg h, decide_eq_false h]; rfl
  have e15 : (matmul dot_S1024x64_S1024x64_S1024x1024_1_1_0_0_n_n (some .fp32) u s (constant S1024x1024 .f32 0x00000000#32) : FVec Ideal S1024x1024 .f32) (ix2 r j)
      = ∑ k : Fin 64, u (ix2 r k) * s (ix2 j k) := by
    refine (Ideal.matmul_transposedRhs_apply (some .fp32) u s (constant S1024x1024 .f32 0x00000000#32) r j).trans ?_
    rw [constant_apply, Ideal.ofBits_zero_f32, zero_add]
  unfold k1_pay2
  simp only [shapeCast_self]
  rw [select_apply, subf_apply, subf_apply, e15, bcast_row, e14]
  show Scalar.select (IntOp.cmpi .eq _ _) _ _ = _
  rw [bcast_col, bcast_row]
  rfl

/-- The true id's probability. -/
theorem pay3_apply (i : IVec S1024x1 32) (r : Fin 1024) :
    k1_pay3 (F := Ideal) i (ix2 r 0)
      = (Ideal.log ((((i (ix2 r 0)).toInt : ℝ) : EReal) + Ideal.ofBits .f32 0x40000000#32)
          - Ideal.log ((((i (ix2 r 0)).toInt : ℝ) : EReal) + Ideal.ofBits .f32 0x3F800000#32)) * (((Real.log 100001)⁻¹ : ℝ) : EReal) := rfl

/-- The true dot product. -/
theorem pay4_apply (u t : FVec Ideal S1024x64 .f32) (r : Fin 1024) :
    k1_pay4 (F := Ideal) u t (ix2 r 0) = ∑ k : Fin 64, u (ix2 r k) * t (ix2 r k) := by
  unfold k1_pay4
  simp only [shapeCast_self]
  exact row_sum64 (mulf u t) r

/-- The number of samples. -/
theorem pay5_apply (r : Fin 1024) : k1_pay5 (F := Ideal) (ix2 r 0) = Ideal.ofBits .f32 0x447A0000#32 := rfl

end Cert.Proof.RunKI

end
-- ==== Proof.ArrI.lean ====
/-
  A row of the array of losses: the block it lies in, as the pipeline computes it from the arrays it reads.
-/
module

public import proofs.«01_k».proof.Proof.RegionKI
public import Idealize.ShloMosaic.Lib.Pipeline.Value
public import Idealize.ShloMosaic.Lib.ValueIdx

@[expose] public section

set_option maxRecDepth 65536

noncomputable section

namespace Cert.Proof.RunKI

open Cert.KernelIdeal Cert.KernelIdeal.Gen
open Idealize.ShloMosaic Idealize.ShloMosaic.ValueIdx
open Idealize.ShloMosaic.TcCoe
open Idealize.ShloMosaic.Pipeline (Dat)

variable {F : FTy → Type} [FloatOps F] [Named F]

/-- Row `r` of block `t`. -/
def row (t : Fin cfg1.N) (r : Fin 1024) : Fin 4096 := ⟨t.val * 1024 + r.val, by
  have h : t.val < grid1.N := t.isLt
  rw [N_1] at h
  have := r.isLt; omega⟩

/-- Every row lies in a block. -/
theorem row_surj (b : Fin 4096) : ∃ t r, b = row t r :=
  ⟨⟨b.val / 1024, by show _ < grid1.N; rw [N_1]; omega⟩, ⟨b.val % 1024, Nat.mod_lt _ (by decide)⟩, Fin.ext (by show b.val = b.val / 1024 * 1024 + b.val % 1024; omega)⟩

/-- The blocks' places: the window moves down the rows, or stays. -/
theorem idx_all : ∀ t : Fin grid1.N, (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = t.val ∧ win1_3.index t 1 = 0)
    ∧ (win1_4.index t 0 = 0 ∧ win1_4.index t 1 = 0) ∧ (win1_5.index t 0 = 0 ∧ win1_5.index t 1 = 0)
    ∧ (win1_6.index t 0 = t.val ∧ win1_6.index t 1 = 0) := by decide +kernel

/-- Step `t` sees 1024 rows of the users' rows. -/
theorem emb_0 (t : Fin cfg1.N) (y : S1024x64.Idx) : ((win1 0).blk t).view.emb y = ix2 (row t (y 0)) (y 1) := by
  have h := (idx_all t).1
  funext a; apply Fin.ext
  match a with
  | ⟨0, _⟩ => show win1_0.index t (0 : Fin 2) * 1024 + 1 * (y 0).val = t.val * 1024 + (y 0).val; rw [h.1]; omega
  | ⟨1, _⟩ => show win1_0.index t (1 : Fin 2) * 64 + 1 * (y 1).val = (y 1).val; rw [h.2]; omega
/-- Step `t` sees 1024 rows of the true ids' rows. -/
theorem emb_1 (t : Fin cfg1.N) (y : S1024x64.Idx) : ((win1 1).blk t).view.emb y = ix2 (row t (y 0)) (y 1) := by
  have h := (idx_all t).2.1
  funext a; apply Fin.ext
  match a with
  | ⟨0, _⟩ => show win1_1.index t (0 : Fin 2) * 1024 + 1 * (y 0).val = t.val * 1024 + (y 0).val; rw [h.1]; omega
  | ⟨1, _⟩ => show win1_1.index t (1 : Fin 2) * 64 + 1 * (y 1).val = (y 1).val; rw [h.2]; omega
/-- Every step sees all of the sampled rows. -/
theorem emb_2 (t : Fin cfg1.N) (y : S1024x64.Idx) : ((win1 2).blk t).view.emb y = y := by
  have h := (idx_all t).2.2.1
  funext a; apply Fin.ext
  match a with
  | ⟨0, _⟩ => show win1_2.index t (0 : Fin 2) * 1024 + 1 * (y 0).val = (y 0).val; rw [h.1]; omega
  | ⟨1, _⟩ => show win1_2.index t (1 : Fin 2) * 64 + 1 * (y 1).val = (y 1).val; rw [h.2]; omega
/-- Step `t` sees 1024 rows of the true ids. -/
theorem emb_3 (t : Fin cfg1.N) (y : S1024x1.Idx) : ((win1 3).blk t).view.emb y = ix2 (row t (y 0)) (y 1) := by
  have h := (idx_all t).2.2.2.1
  funext a; apply Fin.ext
  match a with
  | ⟨0, _⟩ => show win1_3.index t (0 : Fin 2) * 1024 + 1 * (y 0).val = t.val * 1024 + (y 0).val; rw [h.1]; omega
  | ⟨1, _⟩ => show win1_3.index t (1 : Fin 2) * 1 + 1 * (y 1).val = (y 1).val; rw [h.2]; omega
/-- Every step sees all of the sampled ids. -/
theorem emb_4 (t : Fin cfg1.N) (y : S1x1024.Idx) : ((win1 4).blk t).view.emb y = y := by
  have h := (idx_all t).2.2.2.2.1
  funext a; apply Fin.ext
  match a with
  | ⟨0, _⟩ => show win1_4.index t (0 : Fin 2) * 1 + 1 * (y 0).val = (y 0).val; rw [h.1]; omega
  | ⟨1, _⟩ => show win1_4.index t (1 : Fin 2) * 1024 + 1 * (y 1).val = (y 1).val; rw [h.2]; omega
/-- Every step sees all of the log probabilities. -/
theorem emb_5 (t : Fin cfg1.N) (y : S1x1024.Idx) : ((win1 5).blk t).view.emb y = y := by
  have h := (idx_all t).2.2.2.2.2.1
  funext a; apply Fin.ext
  match a with
  | ⟨0, _⟩ => show win1_5.index t (0 : Fin 2) * 1 + 1 * (y 0).val = (y 0).val; rw [h.1]; omega
  | ⟨1, _⟩ => show win1_5.index t (1 : Fin 2) * 1024 + 1 * (y 1).val = (y 1).val; rw [h.2]; omega
/-- Step `t` sees 1024 rows of the losses. -/
theorem emb_6 (t : Fin cfg1.N) (y : S1024x1.Idx) : ((win1 6).blk t).view.emb y = ix2 (row t (y 0)) (y 1) := by
  have h := (idx_all t).2.2.2.2.2.2
  funext a; apply Fin.ext
  match a with
  | ⟨0, _⟩ => show win1_6.index t (0 : Fin 2) * 1024 + 1 * (y 0).val = t.val * 1024 + (y 0).val; rw [h.1]; omega
  | ⟨1, _⟩ => show win1_6.index t (1 : Fin 2) * 1 + 1 * (y 1).val = (y 1).val; rw [h.2]; omega

variable (V : (c : Dev nD) → (b : Ref sig .tc) → Buf (Elt F) ((c : Thread nD τ).loc b)) (c : Dev nD) (t : Fin cfg1.N)

/-! ## The blocks read, from their arrays -/

/-- What step `t` reads of the users' rows. -/
theorem blk_0 (y : S1024x64.Idx) : (blk V c 0 t : FVec F S1024x64 .f32) y = (V c main_arg1 : FVec F S4096x64 .f32) (ix2 (row t (y 0)) (y 1)) := by
  show (V c main_arg1 : FVec F S4096x64 .f32) (((win1 0).blk t).view.emb y) = _; rw [emb_0]; rfl
/-- What step `t` reads of the true ids' rows. -/
theorem blk_1 (y : S1024x64.Idx) : (blk V c 1 t : FVec F S1024x64 .f32) y = (V c main_v34_1 : FVec F S4096x64 .f32) (ix2 (row t (y 0)) (y 1)) := by
  show (V c main_v34_1 : FVec F S4096x64 .f32) (((win1 1).blk t).view.emb y) = _; rw [emb_1]; rfl
/-- What step `t` reads of the sampled rows. -/
theorem blk_2 (y : S1024x64.Idx) : (blk V c 2 t : FVec F S1024x64 .f32) y = (V c main_v34_0 : FVec F S1024x64 .f32) y := by
  show (V c main_v34_0 : FVec F S1024x64 .f32) (((win1 2).blk t).view.emb y) = _; rw [emb_2]
/-- What step `t` reads of the true ids. -/
theorem blk_3 (y : S1024x1.Idx) : (blk V c 3 t : IVec S1024x1 32) y = (V c main_arg2 : IVec S4096x1 32) (ix2 (row t (y 0)) (y 1)) := by
  show (V c main_arg2 : IVec S4096x1 32) (((win1 3).blk t).view.emb y) = _; rw [emb_3]; rfl
/-- What step `t` reads of the sampled ids. -/
theorem blk_4 (y : S1x1024.Idx) : (blk V c 4 t : IVec S1x1024 32) y = (V c main_v35 : IVec S1x1024 32) y := by
  show (V c main_v35 : IVec S1x1024 32) (((win1 4).blk t).view.emb y) = _; rw [emb_4]
/-- What step `t` reads of the log probabilities. -/
theorem blk_5 (y : S1x1024.Idx) : (blk V c 5 t : FVec F S1x1024 .f32) y = (V c main_v36 : FVec F S1x1024 .f32) y := by
  show (V c main_v36 : FVec F S1x1024 .f32) (((win1 5).blk t).view.emb y) = _; rw [emb_5]

/-- Different points write different rows. -/
theorem disj (t t' : Fin cfg1.N) (h : t ≠ t') : Disjoint ((cfg1.win 6).blk t).view.set ((cfg1.win 6).blk t').view.set := by
  refine Finset.disjoint_left.mpr fun i hi hi' => ?_
  obtain ⟨y, -, e⟩ := Finset.mem_map.mp hi
  obtain ⟨y', -, e'⟩ := Finset.mem_map.mp hi'
  have e1 : ix2 (row t (y 0)) (y 1) = (ix2 (row t' (y' 0)) (y' 1) : S4096x1.Idx) := (emb_6 t y).symm.trans ((e.trans e'.symm).trans (emb_6 t' y'))
  have e2 : t.val * 1024 + (y 0).val = t'.val * 1024 + (y' 0).val := congrArg (fun z : S4096x1.Idx => (z 0).val) e1
  have l : (y 0).val < 1024 := (y 0).isLt
  have l' : (y' 0).val < 1024 := (y' 0).isLt
  exact h (Fin.ext (by omega))

/-- A row's loss, from the blocks it is computed of. -/
theorem lossArr_row (r : Fin 1024) : (lossArr V c : FVec F S4096x1 .f32) (ix2 (row t r) 0)
    = lossV (F := F) (blk V c 0 t) (blk V c 1 t) (blk V c 2 t) (blk V c 3 t) (blk V c 4 t) (blk V c 5 t) (ix2 r 0) := by
  have h := (dat V c).arrAt_emb_eq_flushed 6 (fun t t' _ _ h => disj t t' h) t (flush1_6 t) (ix2 r 0 : S1024x1.Idx)
  have e : ((cfg1.win 6).blk t).view.emb (ix2 r 0 : S1024x1.Idx) = (ix2 (row t r) 0 : S4096x1.Idx) := emb_6 t (ix2 r 0)
  have h' := (congrArg (fun z => (lossArr V c : FVec F S4096x1 .f32) z) e).symm.trans h
  exact h'

end Cert.Proof.RunKI

end
-- ==== Proof.Score.lean ====
/-
  The quantities both programs' losses are made of, over the extended reals.
-/
module

public import Idealize.ShloMosaic.PureOps.Ideal

@[expose] public section

noncomputable section

namespace Cert.Proof.Score

open Idealize.ShloMosaic
open scoped BigOperators

/-- The difference of logarithms an id's probability is made of. -/
def gap (w : BitVec 32) : EReal :=
  Ideal.log (((w.toInt : ℝ) : EReal) + Ideal.ofBits .f32 0x40000000#32) - Ideal.log (((w.toInt : ℝ) : EReal) + Ideal.ofBits .f32 0x3F800000#32)

/-- An id's log probability, times the number of samples: by division by the logarithm of the range. -/
def logq (w : BitVec 32) : EReal := Ideal.log (Ideal.div (gap w) (Ideal.log (Ideal.ofBits .f32 0x47C35080#32)) * Ideal.ofBits .f32 0x447A0000#32)

/-- The same, by multiplication with the reciprocal. -/
def logqM (w : BitVec 32) : EReal := Ideal.log (gap w * (((Real.log 100001)⁻¹ : ℝ) : EReal) * Ideal.ofBits .f32 0x447A0000#32)

/-- The dot product of a user's row with an id's row. -/
def dot (tbl : Fin 100000 → Fin 64 → EReal) (usr : Fin 64 → EReal) (w : BitVec 32) : EReal :=
  ∑ k : Fin 64, usr k * tbl ⟨w.toNat % 100000, Nat.mod_lt _ (by decide)⟩ k

/-- A score, a billion less where the drawn id is the row's own. -/
def masked (w s : BitVec 32) (x : EReal) : EReal := Scalar.select (IntOp.cmpi .eq w s) (x - Ideal.ofBits .f32 0x4E6E6B28#32) x

/-- The masked score of a drawn id. -/
def score (tbl : Fin 100000 → Fin 64 → EReal) (usr : Fin 64 → EReal) (w s : BitVec 32) : EReal := masked w s (dot tbl usr s - logq s)

end Cert.Proof.Score

end
-- ==== Proof.KRow.lean ====
/-
  A row of the kernel's losses, from its arguments and the ids it draws.
-/
module

public import proofs.«01_k».proof.Proof.PayI
public import proofs.«01_k».proof.Proof.ArrI
public import proofs.«01_k».proof.Proof.FrameKI
public import proofs.«01_k».proof.Proof.Lse
public import proofs.«01_k».proof.Proof.Score
public import Idealize.ShloMosaic.Lib.KernelVsHost

@[expose] public section

set_option maxRecDepth 65536
set_option maxHeartbeats 2000000

noncomputable section

namespace Cert.Proof.RunKI

open Cert.KernelIdeal Cert.KernelIdeal.Gen
open Idealize.ShloMosaic Idealize.ShloMosaic.StableHlo Idealize.ShloMosaic.ValueIdx
open Idealize.ShloMosaic.TcCoe
open Cert.Proof.Line Cert.Proof.Score
open scoped BigOperators

/-! ## What the line before the first call leaves -/

/-- The drawn ids' log probabilities. -/
def logqArr (x : IVec S1000 32) : FVec Ideal S1000 .f32 :=
  Host.log (mulf (Host.divf (subf (Host.log (addf (sitofp .f32 x) (broadcastInDim S1000 ![] bcast_S_S1000 (constant S_ .f32 0x40000000#32))))
      (Host.log (addf (sitofp .f32 x) (broadcastInDim S1000 ![] bcast_S_S1000 (constant S_ .f32 0x3F800000#32)))))
      (broadcastInDim S1000 ![] bcast_S_S1000 (Host.log (constant S_ .f32 0x47C35080#32))))
    (broadcastInDim S1000 ![] bcast_S_S1000 (constant S_ .f32 0x447A0000#32)))

/-- The array of log probabilities, entry by entry. -/
theorem logqArr_apply (x : IVec S1000 32) (j : S1000.Idx) : logqArr x j = logq (x j) := rfl

/-- The padded log probabilities. -/
theorem tail_v32 (V : Valuation τ sig (Elt Ideal)) :
    after tailOps V (dr main_v32) = pad S1024 ![0] ![24] ![0] (logqArr (clipped (V (dr main_v15)))) (sitofp .f32 (constantI S_ 32 0#32) : FVec Ideal S_ .f32) pads_S1000_S1024_0240 h_S_ := by
  unfold tailOps
  after_results_simp
  rfl

/-- The sampled ids as a row. -/
theorem mid_v35 (V : Valuation τ sig (Elt Ideal)) : after midOps V (dr main_v35) = broadcastInDim S1x1024 ![1] bcast_S1024_S1x1024_1 (V (dr main_v31) : IVec S1024 32) := by
  unfold midOps
  after_results_simp
/-- The log probabilities as a row. -/
theorem mid_v36 (V : Valuation τ sig (Elt Ideal)) : after midOps V (dr main_v36) = broadcastInDim S1x1024 ![1] bcast_S1024_S1x1024_1 (V (dr main_v32) : FVec Ideal S1024 .f32) := by
  unfold midOps
  after_results_simp

/-- A vector laid along a row. -/
theorem lay_row {α : Type} (x : S1024.Idx → α) (j : Fin 1024) : broadcastInDim S1x1024 ![1] bcast_S1024_S1x1024_1 x (ix2 0 j) = x (ix1 j) :=
  broadcastInDim_apply _ _ x _ _ fun a => match a with | ⟨0, _⟩ => rfl

/-- A padded vector below its padding. -/
theorem pad_low {α : Type} (x : S1000.Idx → α) (v : S_.Idx → α) (j : Fin 1000) :
    pad S1024 ![0] ![24] ![0] x v pads_S1000_S1024_0240 h_S_ (ix1 (Fin.castLE (by decide) j : Fin 1024)) = x (ix1 j) :=
  pad_apply_of_inside _ _ _ x v _ _ _ _ fun a => match a with | ⟨0, _⟩ => by show j.val = 0 + j.val * (0 + 1); omega

/-- A column read as a row. -/
theorem col_row {α : Type} (x : S4096x1.Idx → α) (b : Fin 4096) : shapeCast S4096 x shapeCasts_S4096x1_S4096 (ix1 b) = x (ix2 b 0) :=
  shapeCast_apply x _ _ _ (by rw [Shape.rowMajor_val_two, Shape.rowMajor_val_one]; show b.val * 1 + 0 = b.val; omega)

variable (m : (ℓ : Loc nD τ sig) → Buf (Elt Ideal) ℓ) (pre : Dev nD → List (HloOp τ sig (Elt Ideal)))

/-- The table, by row and column. -/
def tbl (d : Dev nD) (i : Fin 100000) (k : Fin 64) : EReal := (m ((d.tc : Thread nD τ).loc main_arg0) : FVec Ideal S100000x64 .f32) (ix2 i k)
/-- A user's row. -/
def usr (d : Dev nD) (b : Fin 4096) (k : Fin 64) : EReal := (m ((d.tc : Thread nD τ).loc main_arg1) : FVec Ideal S4096x64 .f32) (ix2 b k)
/-- A row's own id. -/
def idw (d : Dev nD) (b : Fin 4096) : BitVec 32 := (m ((d.tc : Thread nD τ).loc main_arg2) : IVec S4096x1 32) (ix2 b 0)
/-- The drawn ids. -/
def drawn (d : Dev nD) : IVec S1000 32 := clipped (after (pre d) (V0 m d) (dr main_v15))

/-- The sampled ids before the SparseCore call. -/
theorem VH_v31 (d : Dev nD) : VH m pre d (dr main_v31) = pad S1024 ![0] ![24] ![0] (drawn m pre d) (constantI S_ 32 0#32) pads_S1000_S1024_0240 h_S_ :=
  tail_v31 (after (pre d) (V0 m d))
/-- The log probabilities before the SparseCore call. -/
theorem VH_v32 (d : Dev nD) : VH m pre d (dr main_v32)
    = pad S1024 ![0] ![24] ![0] (logqArr (drawn m pre d)) (sitofp .f32 (constantI S_ 32 0#32) : FVec Ideal S_ .f32) pads_S1000_S1024_0240 h_S_ :=
  tail_v32 (after (pre d) (V0 m d))

section
variable (hpre : ∀ d, Ok 4 (pre d))
include hpre

/-- Before the TensorCore call every argument is as at launch. -/
theorem V2r_arg (d : Dev nD) (b : Ref sig .tc) (hb : b.space = .hbm → b.idx.val < 4) (h0 : b ≠ main_v34_0) (h1 : b ≠ main_v34_1) :
    V2r m pre d b = m ((d.tc : Thread nD τ).loc b) := by
  unfold V2r V2
  rw [mid_ok.keep _ b fun e => lt_of_lt_of_le (hb e) (by decide), V1_ne _ _ _ _ (dr_ne h0) (dr_ne h1), arg_VH m pre hpre d b hb]

/-- The table's entry at a row number. -/
theorem tAt_eq (d : Dev nD) (w : BitVec 32) (k : Fin 64) : tAt (mC m pre) d w k = tbl m d ⟨w.toNat % 100000, Nat.mod_lt _ (by decide)⟩ k := by
  have e : VH m pre d (dr main_arg0) = m ((d.tc : Thread nD τ).loc main_arg0) := arg_VH m pre hpre d main_arg0 fun _ => by decide
  unfold tAt tbl
  show (VH m pre d (dr main_arg0) : FVec Ideal S100000x64 .f32) _ = _
  rw [e]
  refine congrArg (m ((d.tc : Thread nD τ).loc main_arg0) : FVec Ideal S100000x64 .f32) (funext fun a => ?_)
  match a with | ⟨0, _⟩ => rfl | ⟨1, _⟩ => rfl

/-- The true id of a row. -/
theorem iAt_eq (d : Dev nD) (b : Fin 4096) : iAt (mC m pre) d b.val = idw m d b := by
  unfold iAt
  rw [dif_pos b.isLt]
  have e : (mC m pre (iLoc d) : S4096.Idx → BitVec 32) = shapeCast S4096 (m ((d.tc : Thread nD τ).loc main_arg2) : IVec S4096x1 32) shapeCasts_S4096x1_S4096 :=
    (tail_v33 (after (pre d) (V0 m d))).trans (by rw [(hpre d).keep _ main_arg2 fun _ => (by decide)]; rfl)
  rw [e]
  refine (congrArg _ (funext fun a => ?_ : _ = ix1 b)).trans (col_row _ b)
  match a with | ⟨0, _⟩ => rfl

omit hpre in
/-- The sampled id of a column. -/
theorem sAt_eq (d : Dev nD) (j : Fin 1024) : sAt (mC m pre) d j.val = (VH m pre d (dr main_v31) : IVec S1024 32) (ix1 j) := by
  unfold sAt
  rw [dif_pos j.isLt]
  refine congrArg (VH m pre d (dr main_v31) : IVec S1024 32) (funext fun a => ?_ : _ = ix1 j)
  match a with | ⟨0, _⟩ => rfl

/-- The sampled rows, the true rows, the padded ids and log probabilities, as the pipeline finds them. -/
theorem at_v34_0 (d : Dev nD) (j : Fin 1024) (k : Fin 64) : (V2r m pre d main_v34_0 : FVec Ideal S1024x64 .f32) (ix2 j k)
    = tbl m d ⟨((VH m pre d (dr main_v31) : IVec S1024 32) (ix1 j) : BitVec 32).toNat % 100000, Nat.mod_lt _ (by decide)⟩ k := by
  have e : V2r m pre d main_v34_0 = gA (mC m pre) d := by
    unfold V2r V2
    rw [mid_ok.keep _ main_v34_0 fun _ => by decide, V1_a]
  rw [e, ← sAt_eq, ← tAt_eq m pre hpre]
  rfl
/-- The fetched true rows. -/
theorem at_v34_1 (d : Dev nD) (b : Fin 4096) (k : Fin 64) : (V2r m pre d main_v34_1 : FVec Ideal S4096x64 .f32) (ix2 b k)
    = tbl m d ⟨(idw m d b).toNat % 100000, Nat.mod_lt _ (by decide)⟩ k := by
  have e : V2r m pre d main_v34_1 = gB (mC m pre) d := by
    unfold V2r V2
    rw [mid_ok.keep _ main_v34_1 fun _ => by decide, V1_b]
  rw [e, ← iAt_eq m pre hpre, ← tAt_eq m pre hpre]
  rfl
omit hpre in
/-- The sampled ids before the TensorCore call. -/
theorem at_v35 (d : Dev nD) (j : Fin 1024) : (V2r m pre d main_v35 : IVec S1x1024 32) (ix2 0 j) = (VH m pre d (dr main_v31) : IVec S1024 32) (ix1 j) := by
  have e : V2r m pre d main_v35 = broadcastInDim S1x1024 ![1] bcast_S1024_S1x1024_1 (VH m pre d (dr main_v31) : IVec S1024 32) := by
    unfold V2r V2
    rw [mid_v35, V1_ne _ _ _ _ (dr_ne (by decide)) (dr_ne (by decide))]
  rw [e]
  exact lay_row _ j
omit hpre in
/-- The log probabilities before the TensorCore call. -/
theorem at_v36 (d : Dev nD) (j : Fin 1024) : (V2r m pre d main_v36 : FVec Ideal S1x1024 .f32) (ix2 0 j) = (VH m pre d (dr main_v32) : FVec Ideal S1024 .f32) (ix1 j) := by
  have e : V2r m pre d main_v36 = broadcastInDim S1x1024 ![1] bcast_S1024_S1x1024_1 (VH m pre d (dr main_v32) : FVec Ideal S1024 .f32) := by
    unfold V2r V2
    rw [mid_v36, V1_ne _ _ _ _ (dr_ne (by decide)) (dr_ne (by decide))]
  rw [e]
  exact lay_row _ j

/-! ## A row -/

/-- A row's loss: the drawn ids' scores in the first thousand columns, minus infinity in the rest, and the true logit. -/
theorem kernel_row (d : Dev nD) (b : Fin 4096) : ∃ K : Fin 1024 → EReal,
    (∀ j : Fin 1000, K (Fin.castLE (by decide) j) = score (tbl m d) (usr m d b) (idw m d b) (drawn m pre d (ix1 j)))
    ∧ (∀ j : Fin 1024, 1000 ≤ j.val → K j = ⊥)
    ∧ ∀ T mK : EReal, T = dot (tbl m d) (usr m d b) (idw m d b) - logqM (idw m d b) →
      mK = max ((Finset.univ : Finset (Fin 1024)).fold max (Ideal.ofBits .f32 0xFF800000#32) K) T →
      (lossArr (V2r m pre) d : FVec Ideal S4096x1 .f32) (ix2 b 0) = Ideal.log (∑ j : Fin 1024, Ideal.exp (K j - mK) + Ideal.exp (T - mK)) + mK - T := by
  obtain ⟨t, r, rfl⟩ := row_surj b
  have hu : ∀ k : Fin 64, (blk (V2r m pre) d 0 t : FVec Ideal S1024x64 .f32) (ix2 r k) = usr m d (row t r) k := fun k => by
    rw [blk_0, V2r_arg m pre hpre d main_arg1 (fun _ => by decide) (by decide) (by decide)]; rfl
  have ht : ∀ k : Fin 64, (blk (V2r m pre) d 1 t : FVec Ideal S1024x64 .f32) (ix2 r k) = tbl m d ⟨(idw m d (row t r)).toNat % 100000, Nat.mod_lt _ (by decide)⟩ k := fun k => by
    rw [blk_1]; exact at_v34_1 m pre hpre d (row t r) k
  have hi : (blk (V2r m pre) d 3 t : IVec S1024x1 32) (ix2 r 0) = idw m d (row t r) := by
    rw [blk_3, V2r_arg m pre hpre d main_arg2 (fun _ => by decide) (by decide) (by decide)]; rfl
  have hs : ∀ (j : Fin 1024) (k : Fin 64), (blk (V2r m pre) d 2 t : FVec Ideal S1024x64 .f32) (ix2 j k)
      = tbl m d ⟨((VH m pre d (dr main_v31) : IVec S1024 32) (ix1 j) : BitVec 32).toNat % 100000, Nat.mod_lt _ (by decide)⟩ k := fun j k => by
    rw [blk_2]; exact at_v34_0 m pre hpre d j k
  have hj : ∀ j : Fin 1024, (blk (V2r m pre) d 4 t : IVec S1x1024 32) (ix2 0 j) = (VH m pre d (dr main_v31) : IVec S1024 32) (ix1 j) := fun j => by
    rw [blk_4]; exact at_v35 m pre d j
  have hl : ∀ j : Fin 1024, (blk (V2r m pre) d 5 t : FVec Ideal S1x1024 .f32) (ix2 0 j) = (VH m pre d (dr main_v32) : FVec Ideal S1024 .f32) (ix1 j) := fun j => by
    rw [blk_5]; exact at_v36 m pre d j
  rw [lossArr_row]
  generalize blk (V2r m pre) d 0 t = u at hu
  generalize blk (V2r m pre) d 1 t = tr at ht
  generalize blk (V2r m pre) d 2 t = s at hs
  generalize blk (V2r m pre) d 3 t = i at hi
  generalize blk (V2r m pre) d 4 t = sid at hj
  generalize blk (V2r m pre) d 5 t = lq at hl
  refine ⟨fun j => k1_pay2 (F := Ideal) u s i sid lq (ix2 r j), fun j => ?_, fun j hj' => ?_, fun T mK hT hm => ?_⟩
  · have hlt : (Fin.castLE (by decide) j : Fin 1024).val < 1000 := j.isLt
    show k1_pay2 (F := Ideal) u s i sid lq (ix2 r (Fin.castLE (by decide) j)) = _
    rw [pay2_apply, if_pos hlt, hi, hj, hl]
    have e1 : (VH m pre d (dr main_v31) : IVec S1024 32) (ix1 (Fin.castLE (by decide) j)) = drawn m pre d (ix1 j) := by rw [VH_v31]; exact pad_low _ _ j
    have e2 : (VH m pre d (dr main_v32) : FVec Ideal S1024 .f32) (ix1 (Fin.castLE (by decide) j)) = logq (drawn m pre d (ix1 j)) := by
      rw [VH_v32]; exact (pad_low _ _ j).trans (logqArr_apply _ _)
    have e3 : (∑ k : Fin 64, @HMul.hMul EReal EReal EReal _ (u (ix2 r k)) (s (ix2 (Fin.castLE (by decide) j : Fin 1024) k))) = dot (tbl m d) (usr m d (row t r)) (drawn m pre d (ix1 j)) :=
      Finset.sum_congr rfl fun k _ => by rw [hu, hs, e1]
    rw [e1, e2, e3]
    rfl
  · show k1_pay2 (F := Ideal) u s i sid lq (ix2 r j) = _
    rw [pay2_apply, if_neg (by omega), EReal.sub_top, Lse.bot_sub]
    unfold Scalar.select
    split <;> rfl
  · have e4 : k1_pay4 (F := Ideal) u tr (ix2 r 0) = dot (tbl m d) (usr m d (row t r)) (idw m d (row t r)) :=
      (pay4_apply u tr r).trans (Finset.sum_congr rfl fun k _ => by rw [hu, ht])
    refine pay1_apply _ _ _ _ r T mK ?_ hm
    rw [hT, e4, pay3_apply, pay5_apply, hi]
    rfl

end

end Cert.Proof.RunKI

end
-- ==== Proof.Take.lean ====
/-
  The reference's lookups: at ids that are row numbers of the table, a lookup reads the row, and its range mask is all ones.
-/
module

public import Idealize.ShloMosaic.Lib.Routing.Ops
public import Idealize.ShloMosaic.Lib.Routing.OpsSet
public import Idealize.ShloMosaic.Lib.Pipeline.Value
public import Idealize.ShloMosaic.PureOps.Reduce
public import Idealize.ShloMosaic.PureOps.Ideal

@[expose] public section

noncomputable section

namespace Cert.Proof.Take

open Idealize.ShloMosaic Idealize.ShloMosaic.ValueIdx

/-- A row number, wrapped if negative, is itself. -/
theorem wrap_eq (w : BitVec 32) (h : w.toNat < 100000) : Scalar.select (IntOp.cmpi .slt w 0#32) (IntOp.addi w 100000#32) w = w := by
  have e : IntOp.cmpi .slt w 0#32 = 0#1 := by
    show BitVec.ofBool (w.slt 0#32) = 0#1
    rw [BitVec.slt_eq_decide, decide_eq_false]; · rfl
    simp only [BitVec.toInt_eq_toNat_cond]
    simp; omega
  rw [e]; rfl

/-- A row number passes the range check. -/
theorem check_eq (w : BitVec 32) (h : w.toNat < 100000) : IntOp.andi (IntOp.cmpi .sge w 0#32) (IntOp.cmpi .sle w 99999#32) = 1#1 := by
  have e1 : IntOp.cmpi .sge w 0#32 = 1#1 := by
    show BitVec.ofBool ((0#32).sle w) = 1#1
    rw [BitVec.sle_eq_decide, decide_eq_true]; · rfl
    simp only [BitVec.toInt_eq_toNat_cond]
    simp; omega
  have e2 : IntOp.cmpi .sle w 99999#32 = 1#1 := by
    show BitVec.ofBool (w.sle 99999#32) = 1#1
    rw [BitVec.sle_eq_decide, decide_eq_true]; · rfl
    simp only [BitVec.toInt_eq_toNat_cond]
    simp; omega
  rw [e1, e2]; rfl

/-- A conjunction of ones is one. -/
theorem fold_one {ι : Type} (s : Finset ι) (f : ι → BitVec 1) (h : ∀ j, f j = 1#1) : s.fold IntOp.andi 1#1 f = 1#1 := by
  classical
  induction s using Finset.induction_on with
  | empty => rfl
  | insert a s ha ih => rw [Finset.fold_insert ha, ih, h]; rfl

abbrev S0 : Shape := ⟨0, ![]⟩
abbrev S1 (n : ℕ) : Shape := ⟨1, ![n]⟩
abbrev S2 (a b : ℕ) : Shape := ⟨2, ![a, b]⟩

variable {n : ℕ} (i : IVec (S1 n) 32)
  (b0 : S0.BroadcastsInDim (S1 n) ![]) (b1 : (S1 n).BroadcastsInDim (S2 n 1) ![0]) (b2 : S0.BroadcastsInDim (S2 n 1) ![])
  (b3 : (S1 1).BroadcastsInDim (S2 1 1) ![1]) (b4 : (S2 1 1).BroadcastsInDim (S2 n 1) ![0, 1])
  (hr : (S2 n 1).ReducesTo [1] (S1 n)) (hu : 0 < S0.numel)

/-- The ids wrapped, as a column. -/
def wrapped : IVec (S2 n 1) 32 :=
  broadcastInDim (S2 n 1) ![0] b1 (select (cmpi .slt i (broadcastInDim (S1 n) ![] b0 (constantI S0 32 0#32))) (addi i (broadcastInDim (S1 n) ![] b0 (constantI S0 32 100000#32))) i)

/-- Which ids are in range. -/
def mask : IVec (S1 n) 1 :=
  Host.reduce IntOp.andi (andi (cmpi .sge (wrapped i b0 b1) (broadcastInDim (S2 n 1) ![] b2 (constantI S0 32 0#32)))
    (cmpi .sle (wrapped i b0 b1) (broadcastInDim (S2 n 1) ![0, 1] b4 (broadcastInDim (S2 1 1) ![1] b3 (constantI (S1 1) 32 99999#32))))) (constantI S0 1 1#1) hr hu

variable (hi : ∀ p, (i p).toNat < 100000)
include hi

/-- At ids in the table the wrapped column is the ids. -/
theorem wrapped_apply (p : Fin n) (u : Fin 1) : wrapped i b0 b1 (ix2 p u) = i (ix1 p) := by
  unfold wrapped
  refine (broadcastInDim_apply _ b1 _ (ix2 p u) (ix1 p) fun a => ?_).trans (wrap_eq _ (hi _))
  match a with
  | ⟨0, _⟩ => show p.val = if n = 1 then 0 else p.val
              split
              · have := p.isLt; omega
              · rfl

/-- At ids in the table the range mask is all ones. -/
theorem mask_apply (hr' : (S2 n 1).Reduces [1] (S1 n)) (p : (S1 n).Idx) : mask i b0 b1 b2 b3 b4 hr hu p = 1#1 := by
  unfold mask
  rw [Host.reduce_eq_fold_single IntOp.andi _ _ hr hr' hu p]
  refine fold_one _ _ fun k => ?_
  obtain ⟨q, v, e⟩ : ∃ q v, hr'.lift p k = ix2 q v := ⟨_, _, eq_ix2 _⟩
  have h := check_eq (i (ix1 q)) (hi _)
  show IntOp.andi (IntOp.cmpi .sge (wrapped i b0 b1 (hr'.lift p k)) 0#32) (IntOp.cmpi .sle (wrapped i b0 b1 (hr'.lift p k)) 99999#32) = 1#1
  rw [e, wrapped_apply i b0 b1 hi]
  exact h

/-- A lookup of rows, entries out of range filled. -/
theorem rows_apply (hr' : (S2 n 1).Reduces [1] (S1 n)) (x : FVec Ideal (S2 100000 64) .f32)
    (d : GatherDims (S2 100000 64) (S2 n 1) (S2 n 64)) (hoff : d.offsetDims = [1])
    (hcoll : d.collapsedSliceDims = [0]) (hob : d.operandBatchingDims = []) (hsim : d.startIndexMap = [0]) (hivd : d.indexVectorDim = 1)
    (b5 : (S1 n).BroadcastsInDim (S2 n 64) ![0]) (fill : FVec Ideal (S2 n 64) .f32) (p : Fin n) (k : Fin 64) :
    select (broadcastInDim (S2 n 64) ![0] b5 (mask i b0 b1 b2 b3 b4 hr hu)) (Host.gather d x (wrapped i b0 b1)) fill (ix2 p k)
      = x (ix2 ⟨(i (ix1 p)).toNat % 100000, Nat.mod_lt _ (by decide)⟩ k) := by
  rw [select_apply]
  have e : broadcastInDim (S2 n 64) ![0] b5 (mask i b0 b1 b2 b3 b4 hr hu) (ix2 p k) = 1#1 := by
    unfold broadcastInDim
    exact mask_apply i b0 b1 b2 b3 b4 hr hu hi hr' _
  rw [e, select_one]
  refine Routing.gather_row d hoff hcoll hob hsim hivd x _ p k _ ?_ (by decide)
  rw [wrapped_apply i b0 b1 hi]
  refine BitVec.eq_of_toNat_eq ?_
  have := hi (ix1 p)
  rw [BitVec.toNat_ofNat]
  show _ = ((i (ix1 p)).toNat % 100000) % 2 ^ 32
  omega

/-- A lookup of single entries. -/
theorem entries_apply (hr' : (S2 n 1).Reduces [1] (S1 n)) (x : FVec Ideal (S1 100000) .f32)
    (d : GatherDims (S1 100000) (S2 n 1) (S1 n)) (hcoll : d.collapsedSliceDims = [0]) (hob : d.operandBatchingDims = [])
    (hsim : d.startIndexMap = [0]) (hivd : d.indexVectorDim = 1) (fill : FVec Ideal (S1 n) .f32) (p : Fin n) :
    select (mask i b0 b1 b2 b3 b4 hr hu) (Host.gather d x (wrapped i b0 b1)) fill (ix1 p)
      = x (ix1 ⟨(i (ix1 p)).toNat % 100000, Nat.mod_lt _ (by decide)⟩) := by
  rw [select_apply, mask_apply i b0 b1 b2 b3 b4 hr hu hi hr', select_one]
  refine Routing.gather_take1 d hcoll hob hsim hivd x _ p _ ?_ (by decide)
  rw [wrapped_apply i b0 b1 hi]
  refine BitVec.eq_of_toNat_eq ?_
  have := hi (ix1 p)
  rw [BitVec.toNat_ofNat]
  show _ = ((i (ix1 p)).toNat % 100000) % 2 ^ 32
  omega

end Cert.Proof.Take

end
-- ==== Proof.StageR.lean ====
/-
  What the reference's host code leaves, operation by operation grouped into a few stages.
-/
module

public import proofs.«01_k».proof.Proof.RefRun
public import proofs.«01_k».proof.Proof.Take

@[expose] public section

set_option maxRecDepth 65536
set_option maxHeartbeats 8000000

noncomputable section

namespace Cert.Proof.RunR

open Cert.ReferenceIdeal Cert.ReferenceIdeal.Gen
open Idealize.ShloMosaic Idealize.ShloMosaic.StableHlo
open Cert.Proof.Line

/-- A reference as the TensorCore's. -/
abbrev dr (b : Ref sig .tc) : DevRef τ sig := Proc.devRef (.tc : Proc τ) b

/-- The drawn ids, clipped to the table. -/
def clipped (x : IVec S1000 32) : IVec S1000 32 :=
  minsi (broadcastInDim S1000 ![] bcast_S_S1000 (constantI S_ 32 99999#32)) (maxsi (broadcastInDim S1000 ![] bcast_S_S1000 (constantI S_ 32 0#32)) x)

/-- The lookup of 4096 rows. -/
def rows4096 (x : FVec Ideal S100000x64 .f32) (i : IVec S4096 32) : FVec Ideal S4096x64 .f32 :=
  select (broadcastInDim S4096x64 ![0] bcast_S4096_S4096x64_0 (Take.mask i bcast_S_S4096 bcast_S4096_S4096x1_0 bcast_S_S4096x1 bcast_S1_S1x1_1 bcast_S1x1_S4096x1_0_1 reducesTo_S4096x1_S4096_d1 h_S_))
    (Host.gather gather_S100000x64_S4096x1_S4096x64_1_0_n_n_0_1_164 x (Take.wrapped i bcast_S_S4096 bcast_S4096_S4096x1_0))
    (broadcastInDim S4096x64 ![] bcast_S_S4096x64 (constant S_ .f32 0x7FC00000#32))
/-- The lookup of 4096 entries. -/
def ents4096 (x : FVec Ideal S100000 .f32) (i : IVec S4096 32) : FVec Ideal S4096 .f32 :=
  select (Take.mask i bcast_S_S4096 bcast_S4096_S4096x1_0 bcast_S_S4096x1 bcast_S1_S1x1_1 bcast_S1x1_S4096x1_0_1 reducesTo_S4096x1_S4096_d1 h_S_)
    (Host.gather gather_S100000_S4096x1_S4096_n_0_n_n_0_1_1 x (Take.wrapped i bcast_S_S4096 bcast_S4096_S4096x1_0))
    (broadcastInDim S4096 ![] bcast_S_S4096 (constant S_ .f32 0x7FC00000#32))
/-- The ids' probabilities. -/
def prob4096 (i : IVec S4096 32) : FVec Ideal S4096 .f32 :=
  Host.divf (subf (Host.log (addf (sitofp .f32 i) (broadcastInDim S4096 ![] bcast_S_S4096 (constant S_ .f32 0x40000000#32))))
      (Host.log (addf (sitofp .f32 i) (broadcastInDim S4096 ![] bcast_S_S4096 (constant S_ .f32 0x3F800000#32)))))
    (broadcastInDim S4096 ![] bcast_S_S4096 (Host.log (constant S_ .f32 0x47C35080#32)))
/-- The lookup of 1000 rows. -/
def rows1000 (x : FVec Ideal S100000x64 .f32) (i : IVec S1000 32) : FVec Ideal S1000x64 .f32 :=
  select (broadcastInDim S1000x64 ![0] bcast_S1000_S1000x64_0 (Take.mask i bcast_S_S1000 bcast_S1000_S1000x1_0 bcast_S_S1000x1 bcast_S1_S1x1_1 bcast_S1x1_S1000x1_0_1 reducesTo_S1000x1_S1000_d1 h_S_))
    (Host.gather gather_S100000x64_S1000x1_S1000x64_1_0_n_n_0_1_164 x (Take.wrapped i bcast_S_S1000 bcast_S1000_S1000x1_0))
    (broadcastInDim S1000x64 ![] bcast_S_S1000x64 (constant S_ .f32 0x7FC00000#32))
/-- The lookup of 1000 entries. -/
def ents1000 (x : FVec Ideal S100000 .f32) (i : IVec S1000 32) : FVec Ideal S1000 .f32 :=
  select (Take.mask i bcast_S_S1000 bcast_S1000_S1000x1_0 bcast_S_S1000x1 bcast_S1_S1x1_1 bcast_S1x1_S1000x1_0_1 reducesTo_S1000x1_S1000_d1 h_S_)
    (Host.gather gather_S100000_S1000x1_S1000_n_0_n_n_0_1_1 x (Take.wrapped i bcast_S_S1000 bcast_S1000_S1000x1_0))
    (broadcastInDim S1000 ![] bcast_S_S1000 (constant S_ .f32 0x7FC00000#32))
/-- The ids' probabilities. -/
def prob1000 (i : IVec S1000 32) : FVec Ideal S1000 .f32 :=
  Host.divf (subf (Host.log (addf (sitofp .f32 i) (broadcastInDim S1000 ![] bcast_S_S1000 (constant S_ .f32 0x40000000#32))))
      (Host.log (addf (sitofp .f32 i) (broadcastInDim S1000 ![] bcast_S_S1000 (constant S_ .f32 0x3F800000#32)))))
    (broadcastInDim S1000 ![] bcast_S_S1000 (Host.log (constant S_ .f32 0x47C35080#32)))
/-- The true dot products with the bias added. -/
def truth (u t : FVec Ideal S4096x64 .f32) (b : FVec Ideal S4096 .f32) : FVec Ideal S4096 .f32 :=
  addf (Host.reduceAdd (mulf u t) (constant S_ .f32 0x00000000#32) reducesTo_S4096x64_S4096_d1 h_S_) b
/-- The true logits. -/
def logits0 (x p : FVec Ideal S4096 .f32) : FVec Ideal S4096 .f32 :=
  subf x (Host.log (mulf p (broadcastInDim S4096 ![] bcast_S_S4096 (constant S_ .f32 0x447A0000#32))))
/-- The drawn ids' logits. -/
def logits1 (u : FVec Ideal S4096x64 .f32) (s : FVec Ideal S1000x64 .f32) (b p : FVec Ideal S1000 .f32) : FVec Ideal S4096x1000 .f32 :=
  subf (addf (Host.dotGeneral dot_S4096x64_S64x1000_S4096x1000_1_0_0_1_n_n none u (transpose S64x1000 [1, 0] s transposes_S1000x64_S64x1000_1_0))
      (broadcastInDim S4096x1000 ![0, 1] bcast_S1x1000_S4096x1000_0_1 (broadcastInDim S1x1000 ![1] bcast_S1000_S1x1000_1 b)))
    (broadcastInDim S4096x1000 ![0, 1] bcast_S1x1000_S4096x1000_0_1 (broadcastInDim S1x1000 ![1] bcast_S1000_S1x1000_1
      (Host.log (mulf p (broadcastInDim S1000 ![] bcast_S_S1000 (constant S_ .f32 0x447A0000#32))))))
/-- The drawn ids' logits, less a billion where the id is the row's own. -/
def masked (t : IVec S4096 32) (s : IVec S1000 32) (x : FVec Ideal S4096x1000 .f32) : FVec Ideal S4096x1000 .f32 :=
  select (cmpi .eq (broadcastInDim S4096x1000 ![0, 1] bcast_S4096x1_S4096x1000_0_1 (broadcastInDim S4096x1 ![0] bcast_S4096_S4096x1_0 t))
      (broadcastInDim S4096x1000 ![0, 1] bcast_S1x1000_S4096x1000_0_1 (broadcastInDim S1x1000 ![1] bcast_S1000_S1x1000_1 s)))
    (subf x (broadcastInDim S4096x1000 ![] bcast_S_S4096x1000 (constant S_ .f32 0x4E6E6B28#32))) x
/-- All the logits, the true one first. -/
def joined (x : FVec Ideal S4096 .f32) (y : FVec Ideal S4096x1000 .f32) : FVec Ideal S4096x1001 .f32 :=
  concatenate S4096x1001 1 [⟨S4096x1, broadcastInDim S4096x1 ![0] bcast_S4096_S4096x1_0 x⟩, ⟨S4096x1000, y⟩] concatenates_S4096x1_S4096x1000_S4096x1001_d1
/-- The rows' greatest logits. -/
def rowMax (c : FVec Ideal S4096x1001 .f32) : FVec Ideal S4096x1 .f32 :=
  broadcastInDim S4096x1 ![0] bcast_S4096_S4096x1_0 (Host.reduce FloatOps.maximumf c (constant S_ .f32 0xFF800000#32) reducesTo_S4096x1001_S4096_d1 h_S_)
/-- The same, zero where not finite. -/
def top (m : FVec Ideal S4096x1 .f32) : FVec Ideal S4096x1 .f32 :=
  select (cmpf .olt (Host.absf m) (broadcastInDim S4096x1 ![] bcast_S_S4096x1 (constant S_ .f32 0x7F800000#32))) m
    (broadcastInDim S4096x1 ![] bcast_S_S4096x1 (constant S_ .f32 0x00000000#32))
/-- The losses. -/
def losses (c : FVec Ideal S4096x1001 .f32) (t : FVec Ideal S4096x1 .f32) : FVec Ideal S4096x1 .f32 :=
  broadcastInDim S4096x1 ![0] bcast_S4096_S4096x1_0
    (subf (addf (Host.log (Host.reduceAdd (Host.exp (subf c (broadcastInDim S4096x1001 ![0, 1] bcast_S4096x1_S4096x1001_0_1 t))) (constant S_ .f32 0x00000000#32) reducesTo_S4096x1001_S4096_d1 h_S_))
        (shapeCast S4096 t shapeCasts_S4096x1_S4096))
      (shapeCast S4096 (extractStridedSlice S4096x1 ![0, 0] c slices_S4096x1001_S4096x1_0_0) shapeCasts_S4096x1_S4096))

variable (V : Valuation τ sig (Elt Ideal))

/-! ## First half -/

/-- The drawn ids. -/
theorem r_v16 : after tail0 V (dr main_v16) = clipped (V (dr main_v15)) := by
  unfold tail0
  after_results_simp
  all_goals rfl
/-- The true ids as a row. -/
theorem r_v17 : after tail0 V (dr main_v17) = shapeCast S4096 (V (dr main_arg2) : IVec S4096x1 32) shapeCasts_S4096x1_S4096 := by
  unfold tail0
  after_results_simp
  all_goals rfl
/-- The true ids' probabilities. -/
theorem r_v28 : after tail0 V (dr main_v28) = prob4096 (after tail0 V (dr main_v17)) := by
  unfold tail0 prob4096
  after_results_simp
  all_goals rfl
/-- The drawn ids' probabilities. -/
theorem r_v38 : after tail0 V (dr main_v38) = prob1000 (after tail0 V (dr main_v16)) := by
  unfold tail0 prob1000
  after_results_simp
  all_goals rfl
/-- The true ids' rows. -/
theorem r_v39 : after tail0 V (dr main_v39) = rows4096 (V (dr main_arg0)) (after tail0 V (dr main_v17)) := by
  unfold tail0 rows4096 Take.mask Take.wrapped
  after_results_simp
  all_goals rfl
/-- The true ids' biases. -/
theorem r_v40 : after tail0 V (dr main_v40) = ents4096 (V (dr main_arg3)) (after tail0 V (dr main_v17)) := by
  unfold tail0 ents4096 Take.mask Take.wrapped
  after_results_simp
  all_goals rfl
/-- The true dot products with the bias. -/
theorem r_v43 : after tail0 V (dr main_v43) = truth (V (dr main_arg1)) (after tail0 V (dr main_v39)) (after tail0 V (dr main_v40)) := by
  unfold tail0 truth
  after_results_simp
  all_goals rfl
/-- The number of samples, a constant. -/
theorem r_c13 : after tail0 V (dr main_cst_13) = (constant S_ .f32 0x447A0000#32 : FVec Ideal S_ .f32) := by
  unfold tail0
  after_results_simp
  all_goals rfl

/-! ## Second half -/

/-- The true logits. -/
theorem s_v47 (h : V (dr main_cst_13) = (constant S_ .f32 0x447A0000#32 : FVec Ideal S_ .f32)) :
    after tail1 V (dr main_v47) = logits0 (V (dr main_v43)) (V (dr main_v28)) := by
  unfold tail1 logits0
  after_results_simp
  rw [h]
/-- The drawn ids' rows. -/
theorem s_v48 : after tail1 V (dr main_v48) = rows1000 (V (dr main_arg0)) (V (dr main_v16)) := by
  unfold tail1 rows1000 Take.mask Take.wrapped
  after_results_simp
  all_goals rfl
/-- The drawn ids' biases. -/
theorem s_v49 : after tail1 V (dr main_v49) = ents1000 (V (dr main_arg3)) (V (dr main_v16)) := by
  unfold tail1 ents1000 Take.mask Take.wrapped
  after_results_simp
  all_goals rfl
/-- The drawn ids' logits. -/
theorem s_v60 : after tail1 V (dr main_v60) = logits1 (V (dr main_arg1)) (after tail1 V (dr main_v48)) (after tail1 V (dr main_v49)) (V (dr main_v38)) := by
  unfold tail1 logits1
  after_results_simp
  all_goals rfl
/-- The same, masked. -/
theorem s_v68 : after tail1 V (dr main_v68) = masked (V (dr main_v17)) (V (dr main_v16)) (after tail1 V (dr main_v60)) := by
  unfold tail1 masked
  after_results_simp
  all_goals rfl
/-- All logits in one row. -/
theorem s_v70 : after tail1 V (dr main_v70) = joined (after tail1 V (dr main_v47)) (after tail1 V (dr main_v68)) := by
  unfold tail1 joined
  after_results_simp
  all_goals rfl
/-- The greatest of each row. -/
theorem s_v72 : after tail1 V (dr main_v72) = rowMax (after tail1 V (dr main_v70)) := by
  unfold tail1 rowMax
  after_results_simp
  all_goals rfl
/-- The same, zero where not finite. -/
theorem s_v76 : after tail1 V (dr main_v76) = top (after tail1 V (dr main_v72)) := by
  unfold tail1 top
  after_results_simp
  all_goals rfl
/-- The losses. -/
theorem s_v87 : after tail1 V (dr main_v87) = losses (after tail1 V (dr main_v70)) (after tail1 V (dr main_v76)) := by
  unfold tail1 losses
  after_results_simp
  all_goals rfl

end Cert.Proof.RunR

end
-- ==== Proof.ValR.lean ====
/-
  A row of the reference's losses, from its arguments and the ids it draws.
-/
module

public import proofs.«01_k».proof.Proof.StageR
public import proofs.«01_k».proof.Proof.Score
public import Idealize.ShloMosaic.PureOps.Ideal.Laws
public import Idealize.ShloMosaic.Lib.IdealHost
public import Idealize.ShloMosaic.Lib.MatmulPlain
public import Idealize.ShloMosaic.Lib.StackMember
public import Idealize.ShloMosaic.Lib.ValueLayoutCasts
public import Idealize.ShloMosaic.Lib.Pipeline.Value
public import Idealize.ShloMosaic.Lib.KernelVsHost

@[expose] public section

set_option maxRecDepth 65536
set_option maxHeartbeats 2000000

noncomputable section

namespace Cert.Proof.RunR

open Cert.ReferenceIdeal Cert.ReferenceIdeal.Gen
open Idealize.ShloMosaic Idealize.ShloMosaic.StableHlo Idealize.ShloMosaic.ValueIdx
open Cert.Proof.Line
open scoped BigOperators

/-! ## Layout -/

/-- A vector as a column. -/
theorem col {α : Type} (x : S4096.Idx → α) (b : Fin 4096) (u : Fin 1) : broadcastInDim S4096x1 ![0] bcast_S4096_S4096x1_0 x (ix2 b u) = x (ix1 b) :=
  broadcastInDim_apply _ _ x _ _ fun a => match a with | ⟨0, _⟩ => rfl
/-- A vector laid along every row. -/
theorem lay {α : Type} (x : S1000.Idx → α) (b : Fin 4096) (j : Fin 1000) :
    broadcastInDim S4096x1000 ![0, 1] bcast_S1x1000_S4096x1000_0_1 (broadcastInDim S1x1000 ![1] bcast_S1000_S1x1000_1 x) (ix2 b j) = x (ix1 j) :=
  (broadcastInDim_apply _ _ _ _ (ix2 0 j) fun a => match a with | ⟨0, _⟩ => rfl | ⟨1, _⟩ => rfl).trans
    (broadcastInDim_apply _ _ x _ _ fun a => match a with | ⟨0, _⟩ => rfl)
/-- A vector laid along every column. -/
theorem down {α : Type} (x : S4096.Idx → α) (b : Fin 4096) (j : Fin 1000) :
    broadcastInDim S4096x1000 ![0, 1] bcast_S4096x1_S4096x1000_0_1 (broadcastInDim S4096x1 ![0] bcast_S4096_S4096x1_0 x) (ix2 b j) = x (ix1 b) :=
  (broadcastInDim_apply _ _ _ _ (ix2 b 0) fun a => match a with | ⟨0, _⟩ => rfl | ⟨1, _⟩ => rfl).trans (col x b 0)
/-- A column laid along every column. -/
theorem down' {α : Type} (x : S4096x1.Idx → α) (b : Fin 4096) (j : Fin 1001) :
    broadcastInDim S4096x1001 ![0, 1] bcast_S4096x1_S4096x1001_0_1 x (ix2 b j) = x (ix2 b 0) :=
  broadcastInDim_apply _ _ _ _ _ fun a => match a with | ⟨0, _⟩ => rfl | ⟨1, _⟩ => rfl
/-- A column as a vector. -/
theorem col_row {α : Type} (x : S4096x1.Idx → α) (b : Fin 4096) : shapeCast S4096 x shapeCasts_S4096x1_S4096 (ix1 b) = x (ix2 b 0) :=
  shapeCast_apply x _ _ _ (by rw [Shape.rowMajor_val_two, Shape.rowMajor_val_one]; show b.val * 1 + 0 = b.val; omega)

/-! ## The stages, entry by entry -/

/-- An entry of a row of 64. -/
theorem lift64 (h : Shape.Reduces S4096x64 [1] S4096) (b : Fin 4096) (k : Fin 64) : h.lift (ix1 b) k = ix2 b k := by
  funext a; match a with | ⟨0, _⟩ => rfl | ⟨1, _⟩ => rfl
/-- An entry of a row of 1001. -/
theorem lift1001 (h : Shape.Reduces S4096x1001 [1] S4096) (b : Fin 4096) (j : Fin 1001) : h.lift (ix1 b) j = ix2 b j := by
  funext a; match a with | ⟨0, _⟩ => rfl | ⟨1, _⟩ => rfl

/-- A row of 64 reduces along its axis. -/
theorem reduces64 : Shape.Reduces S4096x64 [1] S4096 := by decide
/-- A row of 1001 reduces along its axis. -/
theorem reduces1001 : Shape.Reduces S4096x1001 [1] S4096 := by decide
/-- A column of 4096 reduces along its axis. -/
theorem reduces4096 : Shape.Reduces S4096x1 [1] S4096 := by decide
/-- A column of 1000 reduces along its axis. -/
theorem reduces1000 : Shape.Reduces S1000x1 [1] S1000 := by decide

/-- A sum along a row. -/
theorem sum64 (x : FVec Ideal S4096x64 .f32) (b : Fin 4096) :
    (Host.reduceAdd x (constant S_ .f32 0x00000000#32) reducesTo_S4096x64_S4096_d1 h_S_ : FVec Ideal S4096 .f32) (ix1 b) = ∑ k : Fin 64, x (ix2 b k) := by
  refine (hostReduceAdd_apply _ _ _ _ _).trans ((Ideal.hostReduceAdd_single _ reduces64 _ _ _).trans ?_)
  rw [constant_apply, Ideal.ofBits_zero_f32, zero_add]
  exact Finset.sum_congr rfl fun k _ => congrArg x (lift64 _ b k)
/-- A sum along a row of logits. -/
theorem sum1001 (x : FVec Ideal S4096x1001 .f32) (b : Fin 4096) :
    (Host.reduceAdd x (constant S_ .f32 0x00000000#32) reducesTo_S4096x1001_S4096_d1 h_S_ : FVec Ideal S4096 .f32) (ix1 b) = 0 + ∑ j : Fin 1001, x (ix2 b j) := by
  refine (hostReduceAdd_apply _ _ _ _ _).trans ((Ideal.hostReduceAdd_single _ reduces1001 _ _ _).trans ?_)
  rw [constant_apply, Ideal.ofBits_zero_f32]
  exact congrArg (0 + ·) (Finset.sum_congr rfl fun k _ => congrArg x (lift1001 _ b k))

/-- A true dot product with its bias. -/
theorem truth_apply (u t : FVec Ideal S4096x64 .f32) (w : FVec Ideal S4096 .f32) (b : Fin 4096) :
    truth u t w (ix1 b) = @HAdd.hAdd EReal EReal EReal _ (∑ k : Fin 64, @HMul.hMul EReal EReal EReal _ (u (ix2 b k)) (t (ix2 b k))) (w (ix1 b)) :=
  congrArg (fun z : EReal => z + w (ix1 b)) (sum64 (mulf u t) b)

/-- A true logit. -/
theorem logits0_apply (x p : FVec Ideal S4096 .f32) (b : S4096.Idx) :
    logits0 x p b = @HSub.hSub EReal EReal EReal _ (x b) (Ideal.log (@HMul.hMul EReal EReal EReal _ (p b) (Ideal.ofBits .f32 0x447A0000#32))) := rfl

/-- A true id's probability. -/
theorem prob4096_apply (i : IVec S4096 32) (b : S4096.Idx) :
    prob4096 i b = Ideal.div (Score.gap (i b)) (Ideal.log (Ideal.ofBits .f32 0x47C35080#32)) := rfl
/-- A drawn id's probability. -/
theorem prob1000_apply (i : IVec S1000 32) (b : S1000.Idx) :
    prob1000 i b = Ideal.div (Score.gap (i b)) (Ideal.log (Ideal.ofBits .f32 0x47C35080#32)) := rfl

/-- A drawn id's logit. -/
theorem logits1_apply (u : FVec Ideal S4096x64 .f32) (s : FVec Ideal S1000x64 .f32) (w p : FVec Ideal S1000 .f32) (b : Fin 4096) (j : Fin 1000) :
    logits1 u s w p (ix2 b j) = @HSub.hSub EReal EReal EReal _
      (@HAdd.hAdd EReal EReal EReal _ (∑ k : Fin 64, @HMul.hMul EReal EReal EReal _ (u (ix2 b k)) (s (ix2 j k))) (w (ix1 j)))
      (Ideal.log (@HMul.hMul EReal EReal EReal _ (p (ix1 j)) (Ideal.ofBits .f32 0x447A0000#32))) := by
  unfold logits1
  rw [subf_apply, addf_apply, lay, lay]
  have e : (Host.dotGeneral dot_S4096x64_S64x1000_S4096x1000_1_0_0_1_n_n none u (transpose S64x1000 [1, 0] s transposes_S1000x64_S64x1000_1_0) : FVec Ideal S4096x1000 .f32) (ix2 b j)
      = ∑ k : Fin 64, @HMul.hMul EReal EReal EReal _ (u (ix2 b k)) (s (ix2 j k)) := by
    refine (StackMember.dotGeneral_plain_apply none u (transpose S64x1000 [1, 0] s transposes_S1000x64_S64x1000_1_0) b j).trans ?_
    refine Finset.sum_congr rfl fun k _ => ?_
    refine congrArg (fun z : EReal => @HMul.hMul EReal EReal EReal _ (u (ix2 b k)) z) ?_
    exact transpose_apply _ s _ _ _ fun a => match a with | ⟨0, _⟩ => rfl | ⟨1, _⟩ => rfl
  rw [e]
  rfl

/-- A masked logit. -/
theorem masked_apply (t : IVec S4096 32) (s : IVec S1000 32) (x : FVec Ideal S4096x1000 .f32) (b : Fin 4096) (j : Fin 1000) :
    masked t s x (ix2 b j) = Score.masked (t (ix1 b)) (s (ix1 j)) (x (ix2 b j)) := by
  unfold masked
  rw [select_apply]
  show Scalar.select (IntOp.cmpi .eq _ _) _ _ = _
  rw [down, lay]
  rfl

/-- The first logit of a row is the true one. -/
theorem joined_zero (x : FVec Ideal S4096 .f32) (y : FVec Ideal S4096x1000 .f32) (b : Fin 4096) : joined x y (ix2 b 0) = x (ix1 b) := by
  unfold joined
  refine (concatenate_pair_apply_left (t := S4096x1001) (s₁ := S4096x1) (s₂ := S4096x1000) 1 _ y _ (ix2 b 0) rfl (ix2 b 0) fun a => ?_).trans (col x b 0)
  match a with | ⟨0, _⟩ => rfl | ⟨1, _⟩ => rfl
/-- The others are the drawn ids'. -/
theorem joined_succ (x : FVec Ideal S4096 .f32) (y : FVec Ideal S4096x1000 .f32) (b : Fin 4096) (j : Fin 1000) : joined x y (ix2 b j.succ) = y (ix2 b j) := by
  unfold joined
  refine concatenate_pair_apply_right (t := S4096x1001) (s₁ := S4096x1) (s₂ := S4096x1000) 1 _ y _ (ix2 b j.succ) rfl rfl (ix2 b j) (fun a h => ?_) rfl
  match a with
  | ⟨0, _⟩ => rfl
  | ⟨1, _⟩ => exact absurd rfl h

/-- The greatest logit of a row. -/
theorem rowMax_apply (c : FVec Ideal S4096x1001 .f32) (b : Fin 4096) :
    rowMax c (ix2 b 0) = (Finset.univ : Finset (Fin 1001)).fold max (Ideal.ofBits .f32 0xFF800000#32) fun j => (c (ix2 b j) : EReal) := by
  unfold rowMax
  rw [col]
  refine (Host.reduce_eq_fold_single FloatOps.maximumf _ _ _ reduces1001 _ _).trans ?_
  exact congrArg (Finset.fold max _ · _) (funext fun j => congrArg c (lift1001 _ b j))

/-- The same, zero where not finite. -/
theorem top_apply (m : FVec Ideal S4096x1 .f32) (b : Fin 4096) (v : EReal) (h : m (ix2 b 0) = v) :
    top m (ix2 b 0) = if max v (-v) < Ideal.ofBits .f32 0x7F800000#32 then v else 0 := by
  subst h
  unfold top
  rw [select_apply]
  show Scalar.select (Ideal.cmp .olt (max (m (ix2 b 0)) (-m (ix2 b 0)) : EReal) (Ideal.ofBits .f32 0x7F800000#32)) (m (ix2 b 0)) (Ideal.ofBits .f32 0x00000000#32) = _
  rw [Ideal.ofBits_zero_f32]
  unfold Ideal.cmp
  by_cases h : max (m (ix2 b 0) : EReal) (-m (ix2 b 0)) < Ideal.ofBits .f32 0x7F800000#32
  · rw [if_pos h]; simp only [h, decide_true]; rfl
  · rw [if_neg h]; simp only [h, decide_false]; rfl

/-- A loss from its row of logits. -/
theorem losses_apply (c : FVec Ideal S4096x1001 .f32) (t : FVec Ideal S4096x1 .f32) (b : Fin 4096) (C : Fin 1001 → EReal) (T : EReal)
    (hC : ∀ j, c (ix2 b j) = C j) (hT : t (ix2 b 0) = T) :
    losses c t (ix2 b 0) = Ideal.log (0 + ∑ j, Ideal.exp (C j - T)) + T - C 0 := by
  unfold losses
  rw [col, subf_apply, addf_apply, col_row, col_row]
  have e0 : (extractStridedSlice S4096x1 ![0, 0] c slices_S4096x1001_S4096x1_0_0 : FVec Ideal S4096x1 .f32) (ix2 b 0) = C 0 :=
    (extractStridedSlice_apply _ c _ _ (ix2 b 0) fun a => match a with | ⟨0, _⟩ => (Nat.zero_add _).symm | ⟨1, _⟩ => rfl).trans (hC 0)
  rw [e0, hT]
  refine congrArg (fun z : EReal => Ideal.log z + T - C 0) ((sum1001 _ b).trans (congrArg (0 + ·) (Finset.sum_congr rfl fun j _ => ?_)))
  show Ideal.exp (@HSub.hSub EReal EReal EReal _ (c (ix2 b j)) _) = _
  rw [down', hT, hC]

end Cert.Proof.RunR

end
-- ==== Proof.RRow.lean ====
/-
  A row of the reference's losses, from its arguments and the ids it draws.
-/
module

public import proofs.«01_k».proof.Proof.ValR
public import proofs.«01_k».proof.Proof.FrameKI

@[expose] public section

set_option maxRecDepth 65536
set_option maxHeartbeats 2000000

noncomputable section

namespace Cert.Proof.RunR

open Cert.ReferenceIdeal Cert.ReferenceIdeal.Gen
open Idealize.ShloMosaic Idealize.ShloMosaic.StableHlo Idealize.ShloMosaic.ValueIdx
open Idealize.ShloMosaic.TcCoe
open Cert.Proof.Line Cert.Proof.Score
open scoped BigOperators

/-! ## The lookups -/

/-- A looked-up row, at ids in the table. -/
theorem rows4096_apply (x : FVec Ideal S100000x64 .f32) (i : IVec S4096 32) (hi : ∀ p, (i p).toNat < 100000) (b : Fin 4096) (k : Fin 64) :
    rows4096 x i (ix2 b k) = x (ix2 ⟨(i (ix1 b)).toNat % 100000, Nat.mod_lt _ (by decide)⟩ k) :=
  Take.rows_apply i _ _ _ _ _ _ _ hi reduces4096 x _ rfl rfl rfl rfl rfl _ _ b k
/-- A looked-up entry, at ids in the table. -/
theorem ents4096_apply (x : FVec Ideal S100000 .f32) (i : IVec S4096 32) (hi : ∀ p, (i p).toNat < 100000) (b : Fin 4096) :
    ents4096 x i (ix1 b) = x (ix1 ⟨(i (ix1 b)).toNat % 100000, Nat.mod_lt _ (by decide)⟩) :=
  Take.entries_apply i _ _ _ _ _ _ _ hi reduces4096 x _ rfl rfl rfl rfl _ b
/-- A looked-up row of a drawn id. -/
theorem rows1000_apply (x : FVec Ideal S100000x64 .f32) (i : IVec S1000 32) (hi : ∀ p, (i p).toNat < 100000) (b : Fin 1000) (k : Fin 64) :
    rows1000 x i (ix2 b k) = x (ix2 ⟨(i (ix1 b)).toNat % 100000, Nat.mod_lt _ (by decide)⟩ k) :=
  Take.rows_apply i _ _ _ _ _ _ _ hi reduces1000 x _ rfl rfl rfl rfl rfl _ _ b k
/-- A looked-up entry of a drawn id. -/
theorem ents1000_apply (x : FVec Ideal S100000 .f32) (i : IVec S1000 32) (hi : ∀ p, (i p).toNat < 100000) (b : Fin 1000) :
    ents1000 x i (ix1 b) = x (ix1 ⟨(i (ix1 b)).toNat % 100000, Nat.mod_lt _ (by decide)⟩) :=
  Take.entries_apply i _ _ _ _ _ _ _ hi reduces1000 x _ rfl rfl rfl rfl _ b

/-! ## A row -/

variable (m : (ℓ : Loc nD τ sig) → Buf (Elt Ideal) ℓ) (pre : List (HloOp τ sig (Elt Ideal)))

/-- An entry of the table. -/
def tbl (d : Dev nD) (i : Fin 100000) (k : Fin 64) : EReal := (m ((d.tc : Thread nD τ).loc main_arg0) : FVec Ideal S100000x64 .f32) (ix2 i k)
/-- A user's row. -/
def usr (d : Dev nD) (b : Fin 4096) (k : Fin 64) : EReal := (m ((d.tc : Thread nD τ).loc main_arg1) : FVec Ideal S4096x64 .f32) (ix2 b k)
/-- A row's own id. -/
def idw (d : Dev nD) (b : Fin 4096) : BitVec 32 := (m ((d.tc : Thread nD τ).loc main_arg2) : IVec S4096x1 32) (ix2 b 0)
/-- An id's bias. -/
def bias (d : Dev nD) (i : Fin 100000) : EReal := (m ((d.tc : Thread nD τ).loc main_arg3) : FVec Ideal S100000 .f32) (ix1 i)
/-- The contents after the line before the clip, after the first half and after the second. -/
def W0 (d : Dev nD) : Valuation τ sig (Elt Ideal) := after pre (launchContents m d)
def W1 (d : Dev nD) : Valuation τ sig (Elt Ideal) := after tail0 (W0 m pre d)
/-- The drawn ids. -/
def drawn (d : Dev nD) : IVec S1000 32 := clipped (W0 m pre d (dr main_v15))
/-- The true ids, as a row. -/
def own (d : Dev nD) : IVec S4096 32 := W1 m pre d (dr main_v17)

/-- A drawn id lies in the table. -/
theorem drawn_lt (d : Dev nD) (j : S1000.Idx) : (drawn m pre d j).toNat < 100000 := RunKI.clip_lt _

variable (hpre : Ok 4 pre)
include hpre

/-- The line before the clip keeps the arguments. -/
theorem W0_arg (d : Dev nD) (b : Ref sig .tc) (hb : b.space = .hbm → b.idx.val < 4) : W0 m pre d (dr b) = m ((d.tc : Thread nD τ).loc b) :=
  hpre.keep _ b hb
/-- The first half keeps the arguments. -/
theorem W1_arg (d : Dev nD) (b : Ref sig .tc) (hb : b.space = .hbm → b.idx.val < 4) : W1 m pre d (dr b) = m ((d.tc : Thread nD τ).loc b) :=
  (tail0_ok.keep _ b fun e => lt_of_lt_of_le (hb e) (by decide)).trans (W0_arg m pre hpre d b hb)

/-- The true ids as a row are the argument's. -/
theorem own_eq (d : Dev nD) (b : Fin 4096) : own m pre d (ix1 b) = idw m d b := by
  unfold own W1
  rw [r_v17, W0_arg m pre hpre d main_arg2 fun _ => by decide]
  exact col_row _ b
/-- A true id lies in the table. -/
theorem own_lt (d : Dev nD) (h : ∀ b, (idw m d b).toNat < 100000) (p : S4096.Idx) : (own m pre d p).toNat < 100000 := by
  obtain ⟨b, rfl⟩ : ∃ b, p = ix1 b := ⟨_, eq_ix1 p⟩
  rw [own_eq m pre hpre]; exact h b

/-- The true dot products; the bias adds nothing. -/
theorem at_v43 (d : Dev nD) (h : ∀ b, (idw m d b).toNat < 100000) (hz : ∀ i, bias m d i = 0) (b : Fin 4096) :
    (W1 m pre d (dr main_v43) : FVec Ideal S4096 .f32) (ix1 b) = dot (tbl m d) (usr m d b) (idw m d b) := by
  have e : W1 m pre d (dr main_v43) = truth (m ((d.tc : Thread nD τ).loc main_arg1)) (rows4096 (m ((d.tc : Thread nD τ).loc main_arg0)) (own m pre d))
      (ents4096 (m ((d.tc : Thread nD τ).loc main_arg3)) (own m pre d)) := by
    unfold own W1
    rw [r_v43, r_v39, r_v40, W0_arg m pre hpre d main_arg0 fun _ => by decide, W0_arg m pre hpre d main_arg1 fun _ => by decide, W0_arg m pre hpre d main_arg3 fun _ => by decide]
  rw [e, truth_apply, ents4096_apply _ _ (own_lt m pre hpre d h)]
  refine (congrArg (fun z : EReal => @HAdd.hAdd EReal EReal EReal _ _ z) (hz _)).trans ((add_zero _).trans ?_)
  refine Finset.sum_congr rfl fun k _ => ?_
  rw [rows4096_apply _ _ (own_lt m pre hpre d h), own_eq m pre hpre]
  rfl
/-- The true logits. -/
theorem at_v47 (d : Dev nD) (h : ∀ b, (idw m d b).toNat < 100000) (hz : ∀ i, bias m d i = 0) (b : Fin 4096) :
    (after tail1 (W1 m pre d) (dr main_v47) : FVec Ideal S4096 .f32) (ix1 b) = dot (tbl m d) (usr m d b) (idw m d b) - logq (idw m d b) := by
  rw [s_v47 _ (by unfold W1; exact r_c13 _), logits0_apply, at_v43 m pre hpre d h hz]
  have e : W1 m pre d (dr main_v28) = prob4096 (own m pre d) := by unfold own W1; exact r_v28 _
  rw [e, prob4096_apply, own_eq m pre hpre]
  rfl
/-- The drawn ids' scores. -/
theorem at_v68 (d : Dev nD) (hz : ∀ i, bias m d i = 0) (b : Fin 4096) (j : Fin 1000) :
    (after tail1 (W1 m pre d) (dr main_v68) : FVec Ideal S4096x1000 .f32) (ix2 b j) = score (tbl m d) (usr m d b) (idw m d b) (drawn m pre d (ix1 j)) := by
  have e16 : W1 m pre d (dr main_v16) = drawn m pre d := by unfold drawn W1; exact r_v16 _
  have e38 : W1 m pre d (dr main_v38) = prob1000 (drawn m pre d) := by rw [← e16]; unfold W1; exact r_v38 _
  have e17 : W1 m pre d (dr main_v17) = own m pre d := rfl
  rw [s_v68, s_v60, s_v48, s_v49, e16, e38, e17, W1_arg m pre hpre d main_arg0 fun _ => by decide, W1_arg m pre hpre d main_arg1 fun _ => by decide, W1_arg m pre hpre d main_arg3 fun _ => by decide,
    masked_apply, own_eq m pre hpre, logits1_apply, ents1000_apply _ _ (drawn_lt m pre d), prob1000_apply]
  refine congrArg (Score.masked (idw m d b) (drawn m pre d (ix1 j))) ?_
  refine congrArg (fun z : EReal => @HSub.hSub EReal EReal EReal _ z (logq (drawn m pre d (ix1 j)))) ?_
  refine (congrArg (fun z : EReal => @HAdd.hAdd EReal EReal EReal _ _ z) (hz _)).trans ((add_zero _).trans ?_)
  refine Finset.sum_congr rfl fun k _ => ?_
  rw [rows1000_apply _ _ (drawn_lt m pre d)]
  rfl

/-- A row's loss: the true logit first and the drawn ids' scores behind it. -/
theorem ref_row (d : Dev nD) (h : ∀ b, (idw m d b).toNat < 100000) (hz : ∀ i, bias m d i = 0) (b : Fin 4096) : ∃ C : Fin 1001 → EReal,
    C 0 = dot (tbl m d) (usr m d b) (idw m d b) - logq (idw m d b)
    ∧ (∀ j : Fin 1000, C j.succ = score (tbl m d) (usr m d b) (idw m d b) (drawn m pre d (ix1 j)))
    ∧ ∀ mC tC : EReal, mC = (Finset.univ : Finset (Fin 1001)).fold max (Ideal.ofBits .f32 0xFF800000#32) C →
      tC = (if max mC (-mC) < Ideal.ofBits .f32 0x7F800000#32 then mC else 0) →
      (VR m pre d (dr main_v87) : FVec Ideal S4096x1 .f32) (ix2 b 0) = Ideal.log (0 + ∑ j, Ideal.exp (C j - tC)) + tC - C 0 := by
  refine ⟨fun j => (after tail1 (W1 m pre d) (dr main_v70) : FVec Ideal S4096x1001 .f32) (ix2 b j), ?_, fun j => ?_, fun mC tC hm ht => ?_⟩
  · show (after tail1 (W1 m pre d) (dr main_v70) : FVec Ideal S4096x1001 .f32) (ix2 b 0) = _
    rw [s_v70, joined_zero, at_v47 m pre hpre d h hz]
  · show (after tail1 (W1 m pre d) (dr main_v70) : FVec Ideal S4096x1001 .f32) (ix2 b j.succ) = _
    rw [s_v70, joined_succ, at_v68 m pre hpre d hz]
  · have e : VR m pre d (dr main_v87) = losses (after tail1 (W1 m pre d) (dr main_v70)) (after tail1 (W1 m pre d) (dr main_v76)) := s_v87 _
    rw [e]
    refine losses_apply _ _ b _ tC (fun _ => rfl) ?_
    rw [s_v76, s_v72, top_apply _ b mC ((rowMax_apply _ b).trans hm.symm), ht]

end Cert.Proof.RunR

end
-- ==== Proof.FramesOk.lean ====
/-
  What the value precondition says, and the frames under it.
-/
module

public import proofs.«01_k».proof.Proof.Frames
public import proofs.«01_k».proof.Proof.Lse
public import proofs.«01_k».proof.Proof.KRow
public import proofs.«01_k».proof.Proof.RRow

@[expose] public section

set_option maxRecDepth 65536

noncomputable section

namespace Cert.Proof

open Idealize.ShloMosaic Idealize.ShloMosaic.ValueIdx Idealize.ShloMosaic.TcCoe Idealize.SL.Sem

/-- The value precondition's stated facts. -/
instance facts_ok : Cert.Pre_inputs_ok.Facts := ⟨by decide, by decide, by decide, by decide⟩

variable (m : (ℓ : Loc Cert.KernelIdeal.nD Cert.KernelIdeal.τ Cert.KernelIdeal.sig) → Buf (Elt Ideal) ℓ)

/-- The value precondition puts every true id in the table. -/
theorem idx_ok (h : Cert.Pre_KernelIdeal_inputs_ok m) : RunKI.IdxOk (F := Ideal) m := by
  intro d i
  have e := congrFun (h d).1 i
  simp only [Pre_inputs_ok.fn, andi, cmpi, broadcastInDim, constantI] at e
  exact RunK.in_of_check _ e

/-- A check of a value's being finite, read back. -/
theorem fin_of_check (x : EReal) (e : Ideal.cmp .olt (max x (-x)) (Ideal.ofBits .f32 0x7F800000#32) = 1#1) : x ≠ ⊤ ∧ x ≠ ⊥ := by
  rw [Lse.ofBits_top] at e
  refine Lse.fin_of_abs ?_
  by_contra hn
  simp [Ideal.cmp, hn] at e

/-- Every entry of the table is finite. -/
theorem tbl_fin (h : Cert.Pre_KernelIdeal_inputs_ok m) (d : Dev Cert.KernelIdeal.nD) (i : Fin 100000) (k : Fin 64) :
    RunKI.tbl m d i k ≠ ⊤ ∧ RunKI.tbl m d i k ≠ ⊥ :=
  fin_of_check _ (congrFun (h d).2.2.1 (ix2 i k))
/-- Every entry of the users' rows is finite. -/
theorem usr_fin (h : Cert.Pre_KernelIdeal_inputs_ok m) (d : Dev Cert.KernelIdeal.nD) (b : Fin 4096) (k : Fin 64) :
    RunKI.usr m d b k ≠ ⊤ ∧ RunKI.usr m d b k ≠ ⊥ :=
  fin_of_check _ (congrFun (h d).2.2.2 (ix2 b k))
/-- Every bias is zero. -/
theorem bias_zero (h : Cert.Pre_KernelIdeal_inputs_ok m) (d : Dev Cert.KernelIdeal.nD) (i : Fin 100000) :
    (m ((d.tc : Thread Cert.KernelIdeal.nD Cert.KernelIdeal.τ).loc Cert.KernelIdeal.main_arg3) : FVec Ideal Cert.KernelIdeal.S100000 .f32) (ix1 i) = (0 : EReal) := by
  have e : Ideal.cmp .oeq ((m ((d.tc : Thread Cert.KernelIdeal.nD Cert.KernelIdeal.τ).loc Cert.KernelIdeal.main_arg3) : FVec Ideal Cert.KernelIdeal.S100000 .f32) (ix1 i))
      (Ideal.ofBits .f32 0x00000000#32) = 1#1 := congrFun (h d).2.1 (ix1 i)
  rw [Ideal.ofBits_zero_f32] at e
  by_contra hn
  simp only [Ideal.cmp, decide_eq_false hn] at e
  exact absurd e (by decide)

/-- The idealised kernel's frame under the value precondition. -/
theorem frame_ki_ok : Cert.quiescent_KernelIdeal_pre_inputs_ok := fun m g h =>
  (θ_run Cert.KernelIdeal.defs _ _).mono (fun _ h => h.1) (RunKI.run_args m preI g (fun d => (preI_spec d).2) (idx_ok m h) (fun d => (preI_spec d).1))

/-- The reference's frame under the value precondition. -/
theorem frame_ri_ok : Cert.quiescent_ReferenceIdeal_pre_inputs_ok := fun m g _ => frame_ri m g trivial

end Cert.Proof

end
-- ==== Proof.Value.lean ====
/-
  The two programs' losses are the same.
-/
module

public import proofs.«01_k».proof.Proof.FramesOk

@[expose] public section

set_option maxRecDepth 65536
set_option maxHeartbeats 1000000

noncomputable section

namespace Cert.Proof

open Idealize.ShloMosaic Idealize.ShloMosaic.StableHlo Idealize.ShloMosaic.ValueIdx Idealize.ShloMosaic.TcCoe Idealize.SL.Sem
open Cert.Proof.Line Cert.Proof.Score
open scoped BigOperators

/-! ## The scores are finite -/

/-- An id's log probability is a real number, and the same by division and by product. -/
theorem logq_real (w : BitVec 32) (h : w.toNat < 100000) : ∃ r : ℝ, logqM w = (r : EReal) ∧ logq w = (r : EReal) := by
  have e : ((w.toInt : ℝ) : EReal) = (((w.toNat : ℕ) : ℝ) : EReal) := by
    have : w.toInt = (w.toNat : ℤ) := by rw [BitVec.toInt_eq_toNat_cond]; simp; omega
    rw [this]; norm_num
  unfold logqM logq gap
  rw [e]
  exact Lse.logp_real w.toNat _ _ _ _ _ Lse.ofBits_two Lse.ofBits_one Lse.ofBits_range rfl Lse.ofBits_1000

/-- A dot product of finite rows less a log probability is a real number. -/
theorem logit_real (tbl : Fin 100000 → Fin 64 → EReal) (usr : Fin 64 → EReal) (ht : ∀ i k, tbl i k ≠ ⊤ ∧ tbl i k ≠ ⊥) (hu : ∀ k, usr k ≠ ⊤ ∧ usr k ≠ ⊥)
    (w : BitVec 32) (h : w.toNat < 100000) : ∃ r : ℝ, dot tbl usr w - logq w = (r : EReal) := by
  obtain ⟨a, ea⟩ := Lse.dot_fin usr (tbl ⟨w.toNat % 100000, Nat.mod_lt _ (by decide)⟩) hu (ht _)
  obtain ⟨b, _, eb⟩ := logq_real w h
  refine ⟨a - b, ?_⟩
  unfold dot
  rw [ea, eb, EReal.coe_sub]

/-- A drawn id's score is not plus infinity. -/
theorem score_ne_top (tbl : Fin 100000 → Fin 64 → EReal) (usr : Fin 64 → EReal) (ht : ∀ i k, tbl i k ≠ ⊤ ∧ tbl i k ≠ ⊥) (hu : ∀ k, usr k ≠ ⊤ ∧ usr k ≠ ⊥)
    (w s : BitVec 32) (h : s.toNat < 100000) : score tbl usr w s ≠ ⊤ := by
  obtain ⟨r, e⟩ := logit_real tbl usr ht hu s h
  unfold score masked
  rw [e, Lse.ofBits_billion, ← EReal.coe_sub]
  unfold Scalar.select
  split <;> exact EReal.coe_ne_top _

/-! ## The drawn ids are the same -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments. -/
def Same : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- Before either program runs, the arguments agree. -/
theorem agree_args (h : Same m m') : Agree 4 (RunKI.V0 m 0) (launchContents m' 0) := by
  intro r r' i hr hr' hi _
  obtain ⟨h0, h1, h2, h3⟩ := h 0
  match i, hi with
  | 0, _ =>
    obtain rfl := At.eq hr (y := Cert.KernelIdeal.main_arg0) ⟨rfl, rfl⟩
    obtain rfl := At.eq hr' (y := Cert.ReferenceIdeal.main_arg0) ⟨rfl, rfl⟩
    exact heq_of_eq h0.symm
  | 1, _ =>
    obtain rfl := At.eq hr (y := Cert.KernelIdeal.main_arg1) ⟨rfl, rfl⟩
    obtain rfl := At.eq hr' (y := Cert.ReferenceIdeal.main_arg1) ⟨rfl, rfl⟩
    exact heq_of_eq h1.symm
  | 2, _ =>
    obtain rfl := At.eq hr (y := Cert.KernelIdeal.main_arg2) ⟨rfl, rfl⟩
    obtain rfl := At.eq hr' (y := Cert.ReferenceIdeal.main_arg2) ⟨rfl, rfl⟩
    exact heq_of_eq h2.symm
  | 3, _ =>
    obtain rfl := At.eq hr (y := Cert.KernelIdeal.main_arg3) ⟨rfl, rfl⟩
    obtain rfl := At.eq hr' (y := Cert.ReferenceIdeal.main_arg3) ⟨rfl, rfl⟩
    exact heq_of_eq h3.symm

/-- Both programs draw the same ids. -/
theorem drawn_eq (h : Same m m') : RunR.drawn m' preR 0 = RunKI.drawn m preI 0 := by
  have e : (after (preI 0) (RunKI.V0 m 0) (RunKI.dr Cert.KernelIdeal.main_v15) : IVec Cert.KernelIdeal.S1000 32)
      = (after preR (launchContents m' 0) (RunR.dr Cert.ReferenceIdeal.main_v15) : IVec Cert.ReferenceIdeal.S1000 32) :=
    eq_of_heq (preR_spec.2.2 _ _ (agree_args m m' h) Cert.KernelIdeal.main_v15 Cert.ReferenceIdeal.main_v15 282 ⟨rfl, rfl⟩ ⟨rfl, rfl⟩ (by decide) rfl)
  exact congrArg RunR.clipped e.symm

/-! ## The losses are the same -/

/-- Row by row. -/
theorem row_eq (hok : Cert.Pre_KernelIdeal_inputs_ok m) (h : Same m m') (b : Fin 4096) :
    (RunR.VR m' preR 0 (RunR.dr Cert.ReferenceIdeal.main_v87) : FVec Ideal Cert.ReferenceIdeal.S4096x1 .f32) (ix2 b 0)
      = (RunKI.lossArr (RunKI.V2r m preI) 0 : FVec Ideal Cert.KernelIdeal.S4096x1 .f32) (ix2 b 0) := by
  obtain ⟨h0, h1, h2, h3⟩ := h 0
  have et : RunR.tbl m' 0 = RunKI.tbl m 0 := funext fun i => funext fun k => congrFun h0 (ix2 i k)
  have eu : RunR.usr m' 0 b = RunKI.usr m 0 b := funext fun k => congrFun h1 (ix2 b k)
  have ei : ∀ b, RunR.idw m' 0 b = RunKI.idw m 0 b := fun b => congrFun h2 (ix2 b 0)
  have hi : ∀ b, (RunKI.idw m 0 b).toNat < 100000 := fun b => idx_ok m hok 0 (ix2 b 0)
  have hz : ∀ i, RunR.bias m' 0 i = 0 := fun i => (congrFun h3 (ix1 i)).trans (bias_zero m hok 0 i)
  obtain ⟨K, hK, hp, hk⟩ := RunKI.kernel_row m preI (fun d => (preI_spec d).2) 0 b
  obtain ⟨C, hC0, hCs, hc⟩ := RunR.ref_row m' preR preR_spec.2.1 0 (fun b => by rw [ei]; exact hi b) hz b
  rw [et, eu, ei] at hC0
  rw [et, eu, ei, drawn_eq m m' h] at hCs
  obtain ⟨q, e1, e2⟩ := logq_real _ (hi b)
  obtain ⟨t, e3⟩ := logit_real _ _ (tbl_fin m hok 0) (usr_fin m hok 0 b) _ (hi b)
  have eT : dot (RunKI.tbl m 0) (RunKI.usr m 0 b) (RunKI.idw m 0 b) - logq (RunKI.idw m 0 b)
      = dot (RunKI.tbl m 0) (RunKI.usr m 0 b) (RunKI.idw m 0 b) - logqM (RunKI.idw m 0 b) := by rw [e1, e2]
  rw [hc _ _ rfl rfl, hk _ _ rfl rfl]
  rw [Lse.ofBits_bot, Lse.ofBits_top]
  refine (Lse.agree _ _ K C ?_ ?_ ?_ hK hp (hC0.trans eT) hCs _ _ _ rfl rfl rfl).symm
  · rw [← eT, e3]; exact EReal.coe_ne_top _
  · rw [← eT, e3]; exact EReal.coe_ne_bot _
  · exact fun j => score_ne_top _ _ (tbl_fin m hok 0) (usr_fin m hok 0 b) _ _ (RunKI.clip_lt _)

/-- The two arrays of losses. -/
theorem loss_eq (hok : Cert.Pre_KernelIdeal_inputs_ok m) (h : Same m m') :
    (RunR.VR m' preR 0 (RunR.dr Cert.ReferenceIdeal.main_v87) : FVec Ideal Cert.ReferenceIdeal.S4096x1 .f32)
      = (RunKI.lossArr (RunKI.V2r m preI) 0 : FVec Ideal Cert.KernelIdeal.S4096x1 .f32) := by
  funext p
  obtain ⟨b, u, rfl⟩ : ∃ b u, p = ix2 b u := ⟨_, _, eq_ix2 p⟩
  obtain rfl : u = 0 := Subsingleton.elim _ _
  exact row_eq m m' hok h b

/-- From equal arguments, in-range ids, zero bias and finite embeddings, both programs end with the same losses. -/
theorem algebraic : Cert.algebraic_KernelIdeal_ReferenceIdeal_pre_inputs_ok := fun m g m' g' hok h => by
  refine ⟨fun c => RunKI.lossArr (RunKI.V2r m preI) c, ?_, ?_⟩
  · exact (θ_run Cert.KernelIdeal.defs _ _).mono (fun _ r c => ⟨r.2 c, r.1.1 c⟩)
      (RunKI.run_args m preI g (fun d => (preI_spec d).2) (idx_ok m hok) (fun d => (preI_spec d).1))
  · refine (θ_run Cert.ReferenceIdeal.defs _ _).mono (fun _ r c => ?_) (RunR.run m' preR g' preR_spec.2.1 (fun _ => preR_spec.1))
    refine ⟨?_, (r.1 c _).trans (RunR.VR_arg m' preR preR_spec.2.1 c Cert.ReferenceIdeal.main_arg0 fun _ => by decide),
       (r.1 c _).trans (RunR.VR_arg m' preR preR_spec.2.1 c Cert.ReferenceIdeal.main_arg1 fun _ => by decide),
       (r.1 c _).trans (RunR.VR_arg m' preR preR_spec.2.1 c Cert.ReferenceIdeal.main_arg2 fun _ => by decide),
       (r.1 c _).trans (RunR.VR_arg m' preR preR_spec.2.1 c Cert.ReferenceIdeal.main_arg3 fun _ => by decide)⟩
    obtain rfl : c = (0 : Fin 1) := Subsingleton.elim (α := Fin 1) _ _
    exact (r.1 0 Cert.ReferenceIdeal.main_v87).trans (loss_eq m m' hok h)

end Cert.Proof

end
-- ==== Proof.lean ====
/-
  The proof of the claim: the stated facts of the three programs, and each conjunct from its module.
-/
module

public import proofs.«01_k».proof.Defs
public import proofs.«01_k».proof.Proof.Frames
public import proofs.«01_k».proof.Proof.FramesOk
public import proofs.«01_k».proof.Proof.Value

@[expose] public section

noncomputable section

namespace Cert.Proof

/-- The claim: the frames of the three programs, the named constants' statements, and the equality of the losses. -/
theorem claim : Cert.Claim :=
  ⟨Cert.Kernel.Gen.facts, Cert.KernelIdeal.Gen.facts, Cert.ReferenceIdeal.Gen.facts, facts_idx, facts_ok,
    frame_k, frame_ki, frame_ki_ok, frame_ri, frame_ri_ok, preserves, algebraic⟩

end Cert.Proof

end
